-- ==== Defs.lean ====
def Pre_Kernel2 [hPre_counts_ok : Cert.Pre_counts_ok.Facts] (m : (ℓ : Loc Cert.Kernel2.nD Cert.Kernel2.τ Cert.Kernel2.sig) → Buf (Elt Bits) ℓ) : Prop :=
  ∀ c : Dev Cert.Kernel2.nD,
    (Cert.Pre_counts_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_counts_ok : Cert.Pre_counts_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counts_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_counts_ok [hPre_counts_ok : Cert.Pre_counts_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counts_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def quiescent_Kernel2 [hKernel2 : Cert.Kernel2.Facts] [hPre_counts_ok : Cert.Pre_counts_ok.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_counts_ok : Cert.Pre_counts_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_counts_ok [hReference2Ideal : Cert.Reference2Ideal.Facts] [hPre_counts_ok : Cert.Pre_counts_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_counts_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] [hPre_counts_ok : Cert.Pre_counts_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v97)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v97) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel2 : Cert.Kernel2.Facts) (hKernel2Ideal : Cert.Kernel2Ideal.Facts) (hReference2Ideal : Cert.Reference2Ideal.Facts) (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hPre_counts_ok : Cert.Pre_counts_ok.Facts),
    quiescent_Kernel2 (hKernel2 := hKernel2) (hPre_counts_ok := hPre_counts_ok)
    ∧ quiescent_Kernel2Ideal (hKernel2Ideal := hKernel2Ideal) (hPre_counts_ok := hPre_counts_ok)
    ∧ quiescent_Reference2Ideal (hReference2Ideal := hReference2Ideal)
    ∧ quiescent_Reference2Ideal_pre_counts_ok (hReference2Ideal := hReference2Ideal) (hPre_counts_ok := hPre_counts_ok)
    ∧ quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ preserves_Kernel2_Kernel2Ideal
    ∧ algebraic_Kernel2Ideal_Reference2Ideal (hKernel2Ideal := hKernel2Ideal) (hReference2Ideal := hReference2Ideal) (hPre_counts_ok := hPre_counts_ok)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
-- ==== Pre_counts_ok.lean ====
abbrev S32 : Shape := ⟨1, ![32]⟩
abbrev S65536x512 : Shape := ⟨2, ![65536, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : IVec S65536x512 32) (main_arg2 : FVec F S32x1024x2048 .f32) (main_arg3 : FVec F S32x2048 .f32) (main_arg4 : FVec F S32x1024x1024 .f32) (main_arg5 : FVec F S32x1024 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 65536#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg0 main_c_2
  let main_c_3 : IVec S_ 32 := constantI S_ 32 65536#32
  let main_v7 : IVec S_ 1 := cmpi .eq main_v6 main_c_3
  let main_v8 : IVec S_ 1 := andi main_v5 main_v7
  main_v8
-- ==== Kernel2.lean ====
abbrev S32 : Shape := ⟨1, ![32]⟩
abbrev S65536x512 : Shape := ⟨2, ![65536, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S1 : Shape := ⟨1, ![1]⟩
abbrev S160 : Shape := ⟨1, ![160]⟩
abbrev S1x32 : Shape := ⟨2, ![1, 32]⟩
abbrev S160x1 : Shape := ⟨2, ![160, 1]⟩
abbrev S160x32 : Shape := ⟨2, ![160, 32]⟩
abbrev S159 : Shape := ⟨1, ![159]⟩
abbrev S32x1 : Shape := ⟨2, ![32, 1]⟩
abbrev S32x32 : Shape := ⟨2, ![32, 32]⟩
abbrev S32x1x2048 : Shape := ⟨3, ![32, 1, 2048]⟩
abbrev S32x1x1024 : Shape := ⟨3, ![32, 1, 1024]⟩
abbrev S65536x1024 : Shape := ⟨2, ![65536, 1024]⟩
abbrev S512x512 : Shape := ⟨2, ![512, 512]⟩
abbrev S1x1x2048 : Shape := ⟨3, ![1, 1, 2048]⟩
abbrev S1x1x1024 : Shape := ⟨3, ![1, 1, 1024]⟩
abbrev S512x1024 : Shape := ⟨2, ![512, 1024]⟩
abbrev S2x1024x2048 : Shape := ⟨3, ![2, 1024, 2048]⟩
abbrev S2x1024x1024 : Shape := ⟨3, ![2, 1024, 1024]⟩
abbrev S2x2 : Shape := ⟨2, ![2, 2]⟩
abbrev S1x1 : Shape := ⟨2, ![1, 1]⟩
abbrev S1x1024x2048 : Shape := ⟨3, ![1, 1024, 2048]⟩
abbrev S1024x2048 : Shape := ⟨2, ![1024, 2048]⟩
abbrev S1x1024x1024 : Shape := ⟨3, ![1, 1024, 1024]⟩
abbrev S1024x1024 : Shape := ⟨2, ![1024, 1024]⟩
abbrev S64x512 : Shape := ⟨2, ![64, 512]⟩
abbrev S64x1024 : Shape := ⟨2, ![64, 1024]⟩
abbrev S64x2048 : Shape := ⟨2, ![64, 2048]⟩
abbrev S1x2048 : Shape := ⟨2, ![1, 2048]⟩
abbrev S1x1024 : Shape := ⟨2, ![1, 1024]⟩
abbrev S64x1 : Shape := ⟨2, ![64, 1]⟩
abbrev S128x512 : Shape := ⟨2, ![128, 512]⟩
abbrev S128x1024 : Shape := ⟨2, ![128, 1024]⟩
abbrev S128x2048 : Shape := ⟨2, ![128, 2048]⟩
abbrev S128x1 : Shape := ⟨2, ![128, 1]⟩
abbrev S192x512 : Shape := ⟨2, ![192, 512]⟩
abbrev S192x1024 : Shape := ⟨2, ![192, 1024]⟩
abbrev S192x2048 : Shape := ⟨2, ![192, 2048]⟩
abbrev S192x1 : Shape := ⟨2, ![192, 1]⟩
abbrev S256x512 : Shape := ⟨2, ![256, 512]⟩
abbrev S256x1024 : Shape := ⟨2, ![256, 1024]⟩
abbrev S256x2048 : Shape := ⟨2, ![256, 2048]⟩
abbrev S256x1 : Shape := ⟨2, ![256, 1]⟩
abbrev S320x512 : Shape := ⟨2, ![320, 512]⟩
abbrev S320x1024 : Shape := ⟨2, ![320, 1024]⟩
abbrev S320x2048 : Shape := ⟨2, ![320, 2048]⟩
abbrev S320x1 : Shape := ⟨2, ![320, 1]⟩
abbrev S384x512 : Shape := ⟨2, ![384, 512]⟩
abbrev S384x1024 : Shape := ⟨2, ![384, 1024]⟩
abbrev S384x2048 : Shape := ⟨2, ![384, 2048]⟩
abbrev S384x1 : Shape := ⟨2, ![384, 1]⟩
abbrev S448x512 : Shape := ⟨2, ![448, 512]⟩
abbrev S448x1024 : Shape := ⟨2, ![448, 1024]⟩
abbrev S448x2048 : Shape := ⟨2, ![448, 2048]⟩
abbrev S448x1 : Shape := ⟨2, ![448, 1]⟩
abbrev S512x2048 : Shape := ⟨2, ![512, 2048]⟩
abbrev S512x1 : Shape := ⟨2, ![512, 1]⟩

abbrev nBuf : Space → Nat
  | .hbm => 219
  | .vmem => 10
  | .smem => 8
  | _ => 0

abbrev hbmTy0_0 (i : Nat) : BufTy := match i % 128 with
  | 0 => ⟨S32, .i32⟩
  | 1 => ⟨S65536x512, .i32⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S_, .i32⟩
  | 8 => ⟨S32, .i32⟩
  | 9 => ⟨S32, .i32⟩
  | 10 => ⟨S_, .i32⟩
  | 11 => ⟨S_, .i32⟩
  | 12 => ⟨S32, .i32⟩
  | 13 => ⟨S32, .i32⟩
  | 14 => ⟨S32, .i32⟩
  | 15 => ⟨S_, .i32⟩
  | 16 => ⟨S32, .i32⟩
  | 17 => ⟨S32, .i1⟩
  | 18 => ⟨S32, .i32⟩
  | 19 => ⟨S32, .i32⟩
  | 20 => ⟨S_, .i32⟩
  | 21 => ⟨S32, .i32⟩
  | 22 => ⟨S32, .i1⟩
  | 23 => ⟨S32, .i1⟩
  | 24 => ⟨S_, .i32⟩
  | 25 => ⟨S32, .i32⟩
  | 26 => ⟨S32, .i32⟩
  | 27 => ⟨S32, .i32⟩
  | 28 => ⟨S_, .i32⟩
  | 29 => ⟨S32, .i32⟩
  | 30 => ⟨S32, .i32⟩
  | 31 => ⟨S_, .i32⟩
  | 32 => ⟨S_, .i32⟩
  | 33 => ⟨S32, .i32⟩
  | 34 => ⟨S32, .i32⟩
  | 35 => ⟨S32, .i32⟩
  | 36 => ⟨S_, .i32⟩
  | 37 => ⟨S32, .i32⟩
  | 38 => ⟨S32, .i1⟩
  | 39 => ⟨S32, .i32⟩
  | 40 => ⟨S32, .i32⟩
  | 41 => ⟨S_, .i32⟩
  | 42 => ⟨S32, .i32⟩
  | 43 => ⟨S32, .i1⟩
  | 44 => ⟨S32, .i1⟩
  | 45 => ⟨S_, .i32⟩
  | 46 => ⟨S32, .i32⟩
  | 47 => ⟨S32, .i32⟩
  | 48 => ⟨S32, .i32⟩
  | 49 => ⟨S_, .i32⟩
  | 50 => ⟨S32, .i32⟩
  | 51 => ⟨S32, .i1⟩
  | 52 => ⟨S32, .i32⟩
  | 53 => ⟨S_, .i32⟩
  | 54 => ⟨S32, .i32⟩
  | 55 => ⟨S32, .i32⟩
  | 56 => ⟨S_, .i32⟩
  | 57 => ⟨S_, .i32⟩
  | 58 => ⟨S32, .i32⟩
  | 59 => ⟨S32, .i32⟩
  | 60 => ⟨S_, .i32⟩
  | 61 => ⟨S_, .i32⟩
  | 62 => ⟨S32, .i32⟩
  | 63 => ⟨S32, .i32⟩
  | 64 => ⟨S1, .i32⟩
  | 65 => ⟨S_, .i32⟩
  | 66 => ⟨S160, .i32⟩
  | 67 => ⟨S160, .i32⟩
  | 68 => ⟨S160, .i1⟩
  | 69 => ⟨S_, .i32⟩
  | 70 => ⟨S_, .i32⟩
  | 71 => ⟨S160, .i32⟩
  | 72 => ⟨S160, .i32⟩
  | 73 => ⟨S1x32, .i32⟩
  | 74 => ⟨S160x1, .i32⟩
  | 75 => ⟨S160x32, .i32⟩
  | 76 => ⟨S160x32, .i32⟩
  | 77 => ⟨S160x32, .i1⟩
  | 78 => ⟨S160x32, .i32⟩
  | 79 => ⟨S_, .i32⟩
  | 80 => ⟨S160x1, .i32⟩
  | 81 => ⟨S32, .i32⟩
  | 82 => ⟨S1x32, .i32⟩
  | 83 => ⟨S160x32, .i32⟩
  | 84 => ⟨S160x32, .i32⟩
  | 85 => ⟨S160x32, .i1⟩
  | 86 => ⟨S1x32, .i32⟩
  | 87 => ⟨S_, .i32⟩
  | 88 => ⟨S_, .i32⟩
  | 89 => ⟨S160x32, .i32⟩
  | 90 => ⟨S160x32, .i32⟩
  | 91 => ⟨S160x32, .i32⟩
  | 92 => ⟨S_, .i32⟩
  | 93 => ⟨S160, .i32⟩
  | 94 => ⟨S160, .i32⟩
  | 95 => ⟨S1x32, .i32⟩
  | 96 => ⟨S_, .i32⟩
  | 97 => ⟨S_, .i32⟩
  | 98 => ⟨S160x32, .i32⟩
  | 99 => ⟨S160x32, .i32⟩
  | 100 => ⟨S160x32, .i32⟩
  | 101 => ⟨S_, .i32⟩
  | 102 => ⟨S160, .i32⟩
  | 103 => ⟨S1x32, .i32⟩
  | 104 => ⟨S_, .i32⟩
  | 105 => ⟨S_, .i32⟩
  | 106 => ⟨S160x32, .i32⟩
  | 107 => ⟨S160x32, .i32⟩
  | 108 => ⟨S160x32, .i32⟩
  | 109 => ⟨S_, .i32⟩
  | 110 => ⟨S160, .i32⟩
  | 111 => ⟨S_, .i32⟩
  | 112 => ⟨S160, .i32⟩
  | 113 => ⟨S160, .i32⟩
  | 114 => ⟨S160, .i32⟩
  | 115 => ⟨S_, .i32⟩
  | 116 => ⟨S_, .i32⟩
  | 117 => ⟨S_, .i32⟩
  | 118 => ⟨S160, .i32⟩
  | 119 => ⟨S160, .i32⟩
  | 120 => ⟨S_, .i32⟩
  | 121 => ⟨S160, .i32⟩
  | 122 => ⟨S1x32, .i32⟩
  | 123 => ⟨S_, .i32⟩
  | 124 => ⟨S_, .i32⟩
  | 125 => ⟨S160x32, .i32⟩
  | 126 => ⟨S160x32, .i32⟩
  | 127 => ⟨S160x32, .i32⟩
  | _ => ⟨S32, .i32⟩

abbrev hbmTy0_1 (i : Nat) : BufTy := match i % 128 with
  | 0 => ⟨S_, .i32⟩
  | 1 => ⟨S160, .i32⟩
  | 2 => ⟨S_, .i32⟩
  | 3 => ⟨S160, .i32⟩
  | 4 => ⟨S160, .i32⟩
  | 5 => ⟨S160, .i32⟩
  | 6 => ⟨S_, .i32⟩
  | 7 => ⟨S_, .i32⟩
  | 8 => ⟨S_, .i32⟩
  | 9 => ⟨S160, .i32⟩
  | 10 => ⟨S160, .i32⟩
  | 11 => ⟨S_, .i32⟩
  | 12 => ⟨S160, .i32⟩
  | 13 => ⟨S160, .i32⟩
  | 14 => ⟨S_, .i32⟩
  | 15 => ⟨S1, .i32⟩
  | 16 => ⟨S159, .i32⟩
  | 17 => ⟨S160, .i32⟩
  | 18 => ⟨S_, .i32⟩
  | 19 => ⟨S1, .i32⟩
  | 20 => ⟨S159, .i32⟩
  | 21 => ⟨S160, .i32⟩
  | 22 => ⟨S160, .i1⟩
  | 23 => ⟨S160, .i1⟩
  | 24 => ⟨S160, .i1⟩
  | 25 => ⟨S160, .i1⟩
  | 26 => ⟨S160, .i32⟩
  | 27 => ⟨S_, .i32⟩
  | 28 => ⟨S_, .i32⟩
  | 29 => ⟨S160, .i32⟩
  | 30 => ⟨S_, .i32⟩
  | 31 => ⟨S160, .i32⟩
  | 32 => ⟨S160, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S160, .i32⟩
  | 40 => ⟨S160, .i32⟩
  | 41 => ⟨S_, .i32⟩
  | 42 => ⟨S160, .i32⟩
  | 43 => ⟨S160, .i1⟩
  | 44 => ⟨S_, .i32⟩
  | 45 => ⟨S160, .i32⟩
  | 46 => ⟨S160, .i1⟩
  | 47 => ⟨S_, .i32⟩
  | 48 => ⟨S_, .i1⟩
  | 49 => ⟨S160, .i1⟩
  | 50 => ⟨S160, .i1⟩
  | 51 => ⟨S160, .i1⟩
  | 52 => ⟨S160, .i32⟩
  | 53 => ⟨S160, .i32⟩
  | 54 => ⟨S32, .i32⟩
  | 55 => ⟨S1x32, .i32⟩
  | 56 => ⟨S_, .i32⟩
  | 57 => ⟨S1x32, .i32⟩
  | 58 => ⟨S1x32, .i1⟩
  | 59 => ⟨S1x32, .i32⟩
  | 60 => ⟨S32x1, .i32⟩
  | 61 => ⟨S32x32, .i32⟩
  | 62 => ⟨S32x32, .i32⟩
  | 63 => ⟨S32x32, .i1⟩
  | 64 => ⟨S32x32, .i1⟩
  | 65 => ⟨S32x32, .i1⟩
  | 66 => ⟨S1x32, .i32⟩
  | 67 => ⟨S_, .i32⟩
  | 68 => ⟨S_, .i32⟩
  | 69 => ⟨S32x32, .i32⟩
  | 70 => ⟨S32x32, .i32⟩
  | 71 => ⟨S32x32, .i32⟩
  | 72 => ⟨S_, .i32⟩
  | 73 => ⟨S32, .i32⟩
  | 74 => ⟨S_, .i32⟩
  | 75 => ⟨S32, .i32⟩
  | 76 => ⟨S32, .i1⟩
  | 77 => ⟨S_, .i32⟩
  | 78 => ⟨S_, .i32⟩
  | 79 => ⟨S32, .i32⟩
  | 80 => ⟨S32, .i32⟩
  | 81 => ⟨S1x32, .i32⟩
  | 82 => ⟨S_, .i32⟩
  | 83 => ⟨S_, .i32⟩
  | 84 => ⟨S160x32, .i32⟩
  | 85 => ⟨S160x32, .i32⟩
  | 86 => ⟨S160x32, .i32⟩
  | 87 => ⟨S_, .i32⟩
  | 88 => ⟨S32x1x2048, .f32⟩
  | 89 => ⟨S32x1x1024, .f32⟩
  | 90 => ⟨S65536x1024, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S512x512, .i32⟩
  | .local _ .vmem, ⟨1, _⟩ => ⟨S512x512, .i32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S2x1024x2048, .f32⟩
  | .local _ .vmem, ⟨9, _⟩ => ⟨S2x1024x1024, .f32⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S160, .i32⟩
  | .local _ .smem, ⟨4, _⟩ => ⟨S160, .i32⟩
  | .local _ .smem, ⟨5, _⟩ => ⟨S160, .i32⟩
  | .local _ .smem, ⟨6, _⟩ => ⟨S160, .i32⟩
  | .local _ .smem, ⟨7, _⟩ => ⟨S160, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_c : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_0 : Ref sig .tc := ⟨.hbm, 24, rfl⟩
abbrev main_call1_v12 : Ref sig .tc := ⟨.hbm, 25, rfl⟩
abbrev main_call1_v13 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_c : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_0 : Ref sig .tc := ⟨.hbm, 45, rfl⟩
abbrev main_call2_v12 : Ref sig .tc := ⟨.hbm, 46, rfl⟩
abbrev main_call2_v13 : Ref sig .tc := ⟨.hbm, 47, rfl⟩
abbrev main_v5 : Ref sig .tc := ⟨.hbm, 48, rfl⟩
abbrev main_c_2 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_c_3 : Ref sig .tc := ⟨.hbm, 53, rfl⟩
abbrev main_v9 : Ref sig .tc := ⟨.hbm, 54, rfl⟩
abbrev main_v10 : Ref sig .tc := ⟨.hbm, 55, rfl⟩
abbrev main_c_4 : Ref sig .tc := ⟨.hbm, 56, rfl⟩
abbrev main_call3_v0 : Ref sig .tc := ⟨.hbm, 57, rfl⟩
abbrev main_call3_v1 : Ref sig .tc := ⟨.hbm, 58, rfl⟩
abbrev main_v11 : Ref sig .tc := ⟨.hbm, 59, rfl⟩
abbrev main_call4_call0_c : Ref sig .tc := ⟨.hbm, 60, rfl⟩
abbrev main_call4_call0_v0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_c_5 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_c_6 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_c_7 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_v36 : Ref sig .tc := ⟨.hbm, 91, rfl⟩
abbrev main_c_8 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_c_9 : Ref sig .tc := ⟨.hbm, 96, rfl⟩
abbrev main_call6_v0 : Ref sig .tc := ⟨.hbm, 97, rfl⟩
abbrev main_call6_v1 : Ref sig .tc := ⟨.hbm, 98, rfl⟩
abbrev main_call6_v2 : Ref sig .tc := ⟨.hbm, 99, rfl⟩
abbrev main_v40 : Ref sig .tc := ⟨.hbm, 100, rfl⟩
abbrev main_c_10 : Ref sig .tc := ⟨.hbm, 101, rfl⟩
abbrev main_v41 : Ref sig .tc := ⟨.hbm, 102, rfl⟩
abbrev main_v43 : Ref sig .tc := ⟨.hbm, 103, rfl⟩
abbrev main_c_11 : Ref sig .tc := ⟨.hbm, 104, rfl⟩
abbrev main_call7_v0 : Ref sig .tc := ⟨.hbm, 105, rfl⟩
abbrev main_call7_v1 : Ref sig .tc := ⟨.hbm, 106, rfl⟩
abbrev main_call7_v2 : Ref sig .tc := ⟨.hbm, 107, rfl⟩
abbrev main_v44 : Ref sig .tc := ⟨.hbm, 108, rfl⟩
abbrev main_c_12 : Ref sig .tc := ⟨.hbm, 109, rfl⟩
abbrev main_v45 : Ref sig .tc := ⟨.hbm, 110, rfl⟩
abbrev main_c_13 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_c_14 : Ref sig .tc := ⟨.hbm, 115, rfl⟩
abbrev main_c_15 : Ref sig .tc := ⟨.hbm, 116, rfl⟩
abbrev main_call8_v0 : Ref sig .tc := ⟨.hbm, 117, rfl⟩
abbrev main_call8_v1 : Ref sig .tc := ⟨.hbm, 118, rfl⟩
abbrev main_call8_v2 : Ref sig .tc := ⟨.hbm, 119, rfl⟩
abbrev main_call8_v3 : Ref sig .tc := ⟨.hbm, 120, rfl⟩
abbrev main_call8_v4 : Ref sig .tc := ⟨.hbm, 121, rfl⟩
abbrev main_v50 : Ref sig .tc := ⟨.hbm, 122, rfl⟩
abbrev main_c_16 : Ref sig .tc := ⟨.hbm, 123, rfl⟩
abbrev main_call9_v0 : Ref sig .tc := ⟨.hbm, 124, rfl⟩
abbrev main_call9_v1 : Ref sig .tc := ⟨.hbm, 125, rfl⟩
abbrev main_call9_v2 : Ref sig .tc := ⟨.hbm, 126, rfl⟩
abbrev main_v51 : Ref sig .tc := ⟨.hbm, 127, rfl⟩
abbrev main_c_17 : Ref sig .tc := ⟨.hbm, 128, rfl⟩
abbrev main_v52 : Ref sig .tc := ⟨.hbm, 129, rfl⟩
abbrev main_c_18 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_c_19 : Ref sig .tc := ⟨.hbm, 134, rfl⟩
abbrev main_c_20 : Ref sig .tc := ⟨.hbm, 135, rfl⟩
abbrev main_call10_v0 : Ref sig .tc := ⟨.hbm, 136, rfl⟩
abbrev main_call10_v1 : Ref sig .tc := ⟨.hbm, 137, rfl⟩
abbrev main_call10_v2 : Ref sig .tc := ⟨.hbm, 138, rfl⟩
abbrev main_call10_v3 : Ref sig .tc := ⟨.hbm, 139, rfl⟩
abbrev main_call10_v4 : Ref sig .tc := ⟨.hbm, 140, rfl⟩
abbrev main_v56 : Ref sig .tc := ⟨.hbm, 141, rfl⟩
abbrev main_c_21 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_c_22 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_call12_call0_c : Ref sig .tc := ⟨.hbm, 155, rfl⟩
abbrev main_call12_call0_v0 : Ref sig .tc := ⟨.hbm, 156, rfl⟩
abbrev main_v69 : Ref sig .tc := ⟨.hbm, 157, rfl⟩
abbrev main_c_23 : Ref sig .tc := ⟨.hbm, 158, rfl⟩
abbrev main_v70 : Ref sig .tc := ⟨.hbm, 159, rfl⟩
abbrev main_v71 : Ref sig .tc := ⟨.hbm, 160, rfl⟩
abbrev main_c_24 : Ref sig .tc := ⟨.hbm, 161, rfl⟩
abbrev main_call13_v0 : Ref sig .tc := ⟨.hbm, 162, rfl⟩
abbrev main_call13_c : Ref sig .tc := ⟨.hbm, 163, rfl⟩
abbrev main_call13_v1 : Ref sig .tc := ⟨.hbm, 164, rfl⟩
abbrev main_call13_c_0 : Ref sig .tc := ⟨.hbm, 165, rfl⟩
abbrev main_call13_v2 : Ref sig .tc := ⟨.hbm, 166, rfl⟩
abbrev main_call13_v3 : Ref sig .tc := ⟨.hbm, 167, rfl⟩
abbrev main_call13_v4 : Ref sig .tc := ⟨.hbm, 168, rfl⟩
abbrev main_call13_c_1 : Ref sig .tc := ⟨.hbm, 169, rfl⟩
abbrev main_call13_v5 : Ref sig .tc := ⟨.hbm, 170, rfl⟩
abbrev main_call13_v6 : Ref sig .tc := ⟨.hbm, 171, rfl⟩
abbrev main_call13_c_2 : Ref sig .tc := ⟨.hbm, 172, rfl⟩
abbrev main_call13_v7 : Ref sig .tc := ⟨.hbm, 173, rfl⟩
abbrev main_call13_v8 : Ref sig .tc := ⟨.hbm, 174, rfl⟩
abbrev main_call13_c_3 : Ref sig .tc := ⟨.hbm, 175, rfl⟩
abbrev main_call13_v9 : Ref sig .tc := ⟨.hbm, 176, rfl⟩
abbrev main_call13_v10 : Ref sig .tc := ⟨.hbm, 177, rfl⟩
abbrev main_call13_v11 : Ref sig .tc := ⟨.hbm, 178, rfl⟩
abbrev main_call13_v12 : Ref sig .tc := ⟨.hbm, 179, rfl⟩
abbrev main_call13_v13 : Ref sig .tc := ⟨.hbm, 180, rfl⟩
abbrev main_call13_v14 : Ref sig .tc := ⟨.hbm, 181, rfl⟩
abbrev main_v73 : Ref sig .tc := ⟨.hbm, 182, rfl⟩
abbrev main_v74 : Ref sig .tc := ⟨.hbm, 183, rfl⟩
abbrev main_c_25 : Ref sig .tc := ⟨.hbm, 184, rfl⟩
abbrev main_v75 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_c_26 : Ref sig .tc := ⟨.hbm, 195, rfl⟩
abbrev main_call14_v0 : Ref sig .tc := ⟨.hbm, 196, rfl⟩
abbrev main_call14_v1 : Ref sig .tc := ⟨.hbm, 197, rfl⟩
abbrev main_call14_v2 : Ref sig .tc := ⟨.hbm, 198, rfl⟩
abbrev main_v85 : Ref sig .tc := ⟨.hbm, 199, rfl⟩
abbrev main_c_27 : Ref sig .tc := ⟨.hbm, 200, rfl⟩
abbrev main_v86 : Ref sig .tc := ⟨.hbm, 201, rfl⟩
abbrev main_c_28 : Ref sig .tc := ⟨.hbm, 202, rfl⟩
abbrev main_v87 : Ref sig .tc := ⟨.hbm, 203, rfl⟩
abbrev main_v88 : Ref sig .tc := ⟨.hbm, 204, rfl⟩
abbrev main_c_29 : Ref sig .tc := ⟨.hbm, 205, rfl⟩
abbrev main_call15_v0 : Ref sig .tc := ⟨.hbm, 206, rfl⟩
abbrev main_call15_v1 : Ref sig .tc := ⟨.hbm, 207, rfl⟩
abbrev main_v89 : Ref sig .tc := ⟨.hbm, 208, rfl⟩
abbrev main_v90 : Ref sig .tc := ⟨.hbm, 209, rfl⟩
abbrev main_c_30 : Ref sig .tc := ⟨.hbm, 210, rfl⟩
abbrev main_call16_v0 : Ref sig .tc := ⟨.hbm, 211, rfl⟩
abbrev main_call16_v1 : Ref sig .tc := ⟨.hbm, 212, rfl⟩
abbrev main_call16_v2 : Ref sig .tc := ⟨.hbm, 213, rfl⟩
abbrev main_v91 : Ref sig .tc := ⟨.hbm, 214, rfl⟩
abbrev main_c_31 : Ref sig .tc := ⟨.hbm, 215, rfl⟩
abbrev main_v95 : Ref sig .tc := ⟨.hbm, 216, rfl⟩
abbrev main_v96 : Ref sig .tc := ⟨.hbm, 217, rfl⟩
abbrev main_v97 : Ref sig .tc := ⟨.hbm, 218, rfl⟩
abbrev main_v42 : Ref sig .tc := ⟨.smem, 0, rfl⟩
abbrev main_v28 : Ref sig .tc := ⟨.smem, 1, rfl⟩
abbrev main_v49 : Ref sig .tc := ⟨.smem, 2, rfl⟩
abbrev main_v57 : Ref sig .tc := ⟨.smem, 3, rfl⟩
abbrev main_v93 : Ref sig .tc := ⟨.smem, 4, rfl⟩
abbrev main_v94 : Ref sig .tc := ⟨.smem, 5, rfl⟩
abbrev main_v92 : Ref sig .tc := ⟨.smem, 6, rfl⟩
abbrev main_v72 : Ref sig .tc := ⟨.smem, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨8, ![main_v42.idx, main_v28.idx, main_v49.idx, main_v57.idx, main_v93.idx, main_v94.idx, main_v92.idx, main_v72.idx], fun | 0 => main_v42.names | 1 => main_v28.names | 2 => main_v49.names | 3 => main_v57.names | 4 => main_v93.names | 5 => main_v94.names | 6 => main_v92.names | 7 => main_v72.names | ⟨_ + 8, h⟩ => absurd h (Nat.not_lt.2 (Nat.le_add_left _ _)), fun | 0 => rfl | 1 => rfl | 2 => rfl | 3 => rfl | 4 => rfl | 5 => rfl | 6 => rfl | 7 => rfl | ⟨_ + 8, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off2 (v1 : BitVec 32) : Fin 2 → Nat :=
  let c0_i32_29 : BitVec 32 := 0#32
  ![v1.toNat, 0]

def k0_off3 (v1 : BitVec 32) : Fin 3 → Nat :=
  let c0_i32_30 : BitVec 32 := 0#32
  let c0_i32_31 : BitVec 32 := 0#32
  ![v1.toNat, 0, 0]
def k0_off4 (v82 : BitVec 32) : Fin 3 → Nat :=
  let c0_i32_32 : BitVec 32 := 0#32
  let c0_i32_33 : BitVec 32 := 0#32
  ![v82.toNat, 0, 0]

def k0_off5 (v1 : BitVec 32) : Fin 2 → Nat :=
  let c1_i32_34 : BitVec 32 := 1#32
  ![v1.toNat, 1]
def k0_off6 (v1 : BitVec 32) : Fin 3 → Nat :=
  let c0_i32_35 : BitVec 32 := 0#32
  let c0_i32_36 : BitVec 32 := 0#32
  ![v1.toNat, 0, 0]

def k0_chk1 (i : grid0.Coords) (v1 : BitVec 32) : Prop :=
  (∀ (k0_h1 : k0_cond1 i = 1#1), ∀ a, (k0_off2 v1) a + S1x1.size a ≤ S2x2.size a) ∧
  (∀ (k0_h1 : k0_cond1 i = 1#1), ∀ a, (k0_off3 v1) a + S1x1024x2048.size a ≤ S2x1024x2048.size a) ∧
  (∀ (k0_h1 : k0_cond1 i = 1#1), ∀ a, (k0_off5 v1) a + S1x1.size a ≤ S2x2.size a) ∧
  (∀ (k0_h1 : k0_cond1 i = 1#1), ∀ a, (k0_off6 v1) a + S1x1024x1024.size a ≤ S2x1024x1024.size a)
theorem k0_off2_inb : ∀ (i : grid0.Coords) (v1 : BitVec 32) (k0_hw1 : k0_chk1 i v1), ∀ (k0_h1 : k0_cond1 i = 1#1), ∀ a, (k0_off2 v1) a + S1x1.size a ≤ S2x2.size a := fun i v1 k0_hw1 k0_h1 => k0_hw1.1 k0_h1
theorem k0_off3_inb : ∀ (i : grid0.Coords) (v1 : BitVec 32) (k0_hw1 : k0_chk1 i v1), ∀ (k0_h1 : k0_cond1 i = 1#1), ∀ a, (k0_off3 v1) a + S1x1024x2048.size a ≤ S2x1024x2048.size a := fun i v1 k0_hw1 k0_h1 => k0_hw1.2.1 k0_h1
theorem k0_off5_inb : ∀ (i : grid0.Coords) (v1 : BitVec 32) (k0_hw1 : k0_chk1 i v1), ∀ (k0_h1 : k0_cond1 i = 1#1), ∀ a, (k0_off5 v1) a + S1x1.size a ≤ S2x2.size a := fun i v1 k0_hw1 k0_h1 => k0_hw1.2.2.1 k0_h1
theorem k0_off6_inb : ∀ (i : grid0.Coords) (v1 : BitVec 32) (k0_hw1 : k0_chk1 i v1), ∀ (k0_h1 : k0_cond1 i = 1#1), ∀ a, (k0_off6 v1) a + S1x1024x1024.size a ≤ S2x1024x1024.size a := fun i v1 k0_hw1 k0_h1 => k0_hw1.2.2.2 k0_h1

def k0_off7 (v82 : BitVec 32) : Fin 3 → Nat :=
  let c0_i32_37 : BitVec 32 := 0#32
  let c0_i32_38 : BitVec 32 := 0#32
  ![v82.toNat, 0, 0]

def k0_chk2 (i : grid0.Coords) (v82 : BitVec 32) : Prop :=
  (∀ (k0_h1 : k0_cond1 i = 1#1), ∀ a, (k0_off4 v82) a + S1x1024x2048.size a ≤ S32x1024x2048.size a) ∧
  (∀ (k0_h1 : k0_cond1 i = 1#1), ∀ a, (k0_off7 v82) a + S1x1024x1024.size a ≤ S32x1024x1024.size a)
theorem k0_off4_inb : ∀ (i : grid0.Coords) (v82 : BitVec 32) (k0_hw2 : k0_chk2 i v82), ∀ (k0_h1 : k0_cond1 i = 1#1), ∀ a, (k0_off4 v82) a + S1x1024x2048.size a ≤ S32x1024x2048.size a := fun i v82 k0_hw2 k0_h1 => k0_hw2.1 k0_h1
theorem k0_off7_inb : ∀ (i : grid0.Coords) (v82 : BitVec 32) (k0_hw2 : k0_chk2 i v82), ∀ (k0_h1 : k0_cond1 i = 1#1), ∀ a, (k0_off7 v82) a + S1x1024x1024.size a ≤ S32x1024x1024.size a := fun i v82 k0_hw2 k0_h1 => k0_hw2.2 k0_h1

def k0_off8 (i : grid0.Coords) : Fin 1 → Nat :=
  let arg0 : BitVec 32 := BitVec.ofNat 32 (i 0).val
  let v5 : Index := Scalar.indexCast arg0
  ![v5.toNat]
def k0_off9 (i : grid0.Coords) : Fin 1 → Nat :=
  let arg0 : BitVec 32 := BitVec.ofNat 32 (i 0).val
  let v82 : Index := Scalar.indexCast arg0
  ![v82.toNat]
def k0_off10 (v1 : BitVec 32) : Fin 2 → Nat :=
  let c0_i32_29 : BitVec 32 := 0#32
  ![v1.toNat, 0]
def k0_cond2 (v6 : BitVec 32) : BitVec 1 :=
  let c1_i32 : BitVec 32 := 1#32
  let v7 : BitVec 1 := Scalar.cmpi .eq v6 c1_i32
  let v8 : BitVec 32 := Scalar.extui v7
  let c0_i32_1 : BitVec 32 := 0#32
  let v9 : BitVec 1 := Scalar.cmpi .ne v8 c0_i32_1
  v9

def k0_off11 (v1 : BitVec 32) : Fin 3 → Nat :=
  let c0_i32_30 : BitVec 32 := 0#32
  let c0_i32_31 : BitVec 32 := 0#32
  ![v1.toNat, 0, 0]
def k0_off12 (v83 : BitVec 32) : Fin 3 → Nat :=
  let c0_i32_32 : BitVec 32 := 0#32
  let c0_i32_33 : BitVec 32 := 0#32
  ![v83.toNat, 0, 0]

def k0_off13 (v1 : BitVec 32) : Fin 2 → Nat :=
  let c1_i32_34 : BitVec 32 := 1#32
  ![v1.toNat, 1]
def k0_off14 (v1 : BitVec 32) : Fin 3 → Nat :=
  let c0_i32_35 : BitVec 32 := 0#32
  let c0_i32_36 : BitVec 32 := 0#32
  ![v1.toNat, 0, 0]

def k0_chk3 (v1 : BitVec 32) (v6 : BitVec 32) : Prop :=
  (∀ (k0_h2 : k0_cond2 v6 = 1#1), ∀ a, (k0_off10 v1) a + S1x1.size a ≤ S2x2.size a) ∧
  (∀ (k0_h2 : k0_cond2 v6 = 1#1), ∀ a, (k0_off11 v1) a + S1x1024x2048.size a ≤ S2x1024x2048.size a) ∧
  (∀ (k0_h2 : k0_cond2 v6 = 1#1), ∀ a, (k0_off13 v1) a + S1x1.size a ≤ S2x2.size a) ∧
  (∀ (k0_h2 : k0_cond2 v6 = 1#1), ∀ a, (k0_off14 v1) a + S1x1024x1024.size a ≤ S2x1024x1024.size a)
theorem k0_off10_inb : ∀ (v1 : BitVec 32) (v6 : BitVec 32) (k0_hw3 : k0_chk3 v1 v6), ∀ (k0_h2 : k0_cond2 v6 = 1#1), ∀ a, (k0_off10 v1) a + S1x1.size a ≤ S2x2.size a := fun v1 v6 k0_hw3 k0_h2 => k0_hw3.1 k0_h2
theorem k0_off11_inb : ∀ (v1 : BitVec 32) (v6 : BitVec 32) (k0_hw3 : k0_chk3 v1 v6), ∀ (k0_h2 : k0_cond2 v6 = 1#1), ∀ a, (k0_off11 v1) a + S1x1024x2048.size a ≤ S2x1024x2048.size a := fun v1 v6 k0_hw3 k0_h2 => k0_hw3.2.1 k0_h2
theorem k0_off13_inb : ∀ (v1 : BitVec 32) (v6 : BitVec 32) (k0_hw3 : k0_chk3 v1 v6), ∀ (k0_h2 : k0_cond2 v6 = 1#1), ∀ a, (k0_off13 v1) a + S1x1.size a ≤ S2x2.size a := fun v1 v6 k0_hw3 k0_h2 => k0_hw3.2.2.1 k0_h2
theorem k0_off14_inb : ∀ (v1 : BitVec 32) (v6 : BitVec 32) (k0_hw3 : k0_chk3 v1 v6), ∀ (k0_h2 : k0_cond2 v6 = 1#1), ∀ a, (k0_off14 v1) a + S1x1024x1024.size a ≤ S2x1024x1024.size a := fun v1 v6 k0_hw3 k0_h2 => k0_hw3.2.2.2 k0_h2

def k0_off15 (v83 : BitVec 32) : Fin 3 → Nat :=
  let c0_i32_37 : BitVec 32 := 0#32
  let c0_i32_38 : BitVec 32 := 0#32
  ![v83.toNat, 0, 0]

def k0_chk4 (v6 : BitVec 32) (v83 : BitVec 32) : Prop :=
  (∀ (k0_h2 : k0_cond2 v6 = 1#1), ∀ a, (k0_off12 v83) a + S1x1024x2048.size a ≤ S32x1024x2048.size a) ∧
  (∀ (k0_h2 : k0_cond2 v6 = 1#1), ∀ a, (k0_off15 v83) a + S1x1024x1024.size a ≤ S32x1024x1024.size a)
theorem k0_off12_inb : ∀ (v6 : BitVec 32) (v83 : BitVec 32) (k0_hw4 : k0_chk4 v6 v83), ∀ (k0_h2 : k0_cond2 v6 = 1#1), ∀ a, (k0_off12 v83) a + S1x1024x2048.size a ≤ S32x1024x2048.size a := fun v6 v83 k0_hw4 k0_h2 => k0_hw4.1 k0_h2
theorem k0_off15_inb : ∀ (v6 : BitVec 32) (v83 : BitVec 32) (k0_hw4 : k0_chk4 v6 v83), ∀ (k0_h2 : k0_cond2 v6 = 1#1), ∀ a, (k0_off15 v83) a + S1x1024x1024.size a ≤ S32x1024x1024.size a := fun v6 v83 k0_hw4 k0_h2 => k0_hw4.2 k0_h2

def k0_off16 (i : grid0.Coords) : Fin 1 → Nat :=
  let arg0 : BitVec 32 := BitVec.ofNat 32 (i 0).val
  let v96 : Index := Scalar.indexCast arg0
  ![v96.toNat]
def k0_off17 (i : grid0.Coords) : Fin 1 → Nat :=
  let arg0 : BitVec 32 := BitVec.ofNat 32 (i 0).val
  let v101 : Index := Scalar.indexCast arg0
  ![v101.toNat]
def k0_off18 (v1 : BitVec 32) : Fin 2 → Nat :=
  let c1_i32_41 : BitVec 32 := 1#32
  let v103 : BitVec 32 := Scalar.subi c1_i32_41 v1
  let c0_i32_42 : BitVec 32 := 0#32
  ![v103.toNat, 0]
def k0_cond3 (v97 : BitVec 32) : BitVec 1 :=
  let c0_i32_39 : BitVec 32 := 0#32
  let v98 : BitVec 1 := Scalar.cmpi .sge v97 c0_i32_39
  let v99 : BitVec 32 := Scalar.extui v98
  let c0_i32_40 : BitVec 32 := 0#32
  let v100 : BitVec 1 := Scalar.cmpi .ne v99 c0_i32_40
  v100

def k0_off19 (v1 : BitVec 32) : Fin 3 → Nat :=
  let c1_i32_41 : BitVec 32 := 1#32
  let v103 : BitVec 32 := Scalar.subi c1_i32_41 v1
  let c0_i32_43 : BitVec 32 := 0#32
  let c0_i32_44 : BitVec 32 := 0#32
  ![v103.toNat, 0, 0]
def k0_off20 (v102 : BitVec 32) : Fin 3 → Nat :=
  let c0_i32_45 : BitVec 32 := 0#32
  let c0_i32_46 : BitVec 32 := 0#32
  ![v102.toNat, 0, 0]

def k0_off21 (v1 : BitVec 32) : Fin 2 → Nat :=
  let c1_i32_41 : BitVec 32 := 1#32
  let v103 : BitVec 32 := Scalar.subi c1_i32_41 v1
  let c1_i32_47 : BitVec 32 := 1#32
  ![v103.toNat, 1]
def k0_off22 (v1 : BitVec 32) : Fin 3 → Nat :=
  let c1_i32_41 : BitVec 32 := 1#32
  let v103 : BitVec 32 := Scalar.subi c1_i32_41 v1
  let c0_i32_48 : BitVec 32 := 0#32
  let c0_i32_49 : BitVec 32 := 0#32
  ![v103.toNat, 0, 0]

def k0_chk5 (v1 : BitVec 32) (v6 : BitVec 32) (v97 : BitVec 32) : Prop :=
  (∀ (k0_h2 : k0_cond2 v6 = 1#1), ∀ (k0_h3 : k0_cond3 v97 = 1#1), ∀ a, (k0_off18 v1) a + S1x1.size a ≤ S2x2.size a) ∧
  (∀ (k0_h2 : k0_cond2 v6 = 1#1), ∀ (k0_h3 : k0_cond3 v97 = 1#1), ∀ a, (k0_off19 v1) a + S1x1024x2048.size a ≤ S2x1024x2048.size a) ∧
  (∀ (k0_h2 : k0_cond2 v6 = 1#1), ∀ (k0_h3 : k0_cond3 v97 = 1#1), ∀ a, (k0_off21 v1) a + S1x1.size a ≤ S2x2.size a) ∧
  (∀ (k0_h2 : k0_cond2 v6 = 1#1), ∀ (k0_h3 : k0_cond3 v97 = 1#1), ∀ a, (k0_off22 v1) a + S1x1024x1024.size a ≤ S2x1024x1024.size a)
theorem k0_off18_inb : ∀ (v1 : BitVec 32) (v6 : BitVec 32) (v97 : BitVec 32) (k0_hw5 : k0_chk5 v1 v6 v97), ∀ (k0_h2 : k0_cond2 v6 = 1#1), ∀ (k0_h3 : k0_cond3 v97 = 1#1), ∀ a, (k0_off18 v1) a + S1x1.size a ≤ S2x2.size a := fun v1 v6 v97 k0_hw5 k0_h2 k0_h3 => k0_hw5.1 k0_h2 k0_h3
theorem k0_off19_inb : ∀ (v1 : BitVec 32) (v6 : BitVec 32) (v97 : BitVec 32) (k0_hw5 : k0_chk5 v1 v6 v97), ∀ (k0_h2 : k0_cond2 v6 = 1#1), ∀ (k0_h3 : k0_cond3 v97 = 1#1), ∀ a, (k0_off19 v1) a + S1x1024x2048.size a ≤ S2x1024x2048.size a := fun v1 v6 v97 k0_hw5 k0_h2 k0_h3 => k0_hw5.2.1 k0_h2 k0_h3
theorem k0_off21_inb : ∀ (v1 : BitVec 32) (v6 : BitVec 32) (v97 : BitVec 32) (k0_hw5 : k0_chk5 v1 v6 v97), ∀ (k0_h2 : k0_cond2 v6 = 1#1), ∀ (k0_h3 : k0_cond3 v97 = 1#1), ∀ a, (k0_off21 v1) a + S1x1.size a ≤ S2x2.size a := fun v1 v6 v97 k0_hw5 k0_h2 k0_h3 => k0_hw5.2.2.1 k0_h2 k0_h3
theorem k0_off22_inb : ∀ (v1 : BitVec 32) (v6 : BitVec 32) (v97 : BitVec 32) (k0_hw5 : k0_chk5 v1 v6 v97), ∀ (k0_h2 : k0_cond2 v6 = 1#1), ∀ (k0_h3 : k0_cond3 v97 = 1#1), ∀ a, (k0_off22 v1) a + S1x1024x1024.size a ≤ S2x1024x1024.size a := fun v1 v6 v97 k0_hw5 k0_h2 k0_h3 => k0_hw5.2.2.2 k0_h2 k0_h3

def k0_off23 (v102 : BitVec 32) : Fin 3 → Nat :=
  let c0_i32_50 : BitVec 32 := 0#32
  let c0_i32_51 : BitVec 32 := 0#32
  ![v102.toNat, 0, 0]

def k0_chk6 (v6 : BitVec 32) (v97 : BitVec 32) (v102 : BitVec 32) : Prop :=
  (∀ (k0_h2 : k0_cond2 v6 = 1#1), ∀ (k0_h3 : k0_cond3 v97 = 1#1), ∀ a, (k0_off20 v102) a + S1x1024x2048.size a ≤ S32x1024x2048.size a) ∧
  (∀ (k0_h2 : k0_cond2 v6 = 1#1), ∀ (k0_h3 : k0_cond3 v97 = 1#1), ∀ a, (k0_off23 v102) a + S1x1024x1024.size a ≤ S32x1024x1024.size a)
theorem k0_off20_inb : ∀ (v6 : BitVec 32) (v97 : BitVec 32) (v102 : BitVec 32) (k0_hw6 : k0_chk6 v6 v97 v102), ∀ (k0_h2 : k0_cond2 v6 = 1#1), ∀ (k0_h3 : k0_cond3 v97 = 1#1), ∀ a, (k0_off20 v102) a + S1x1024x2048.size a ≤ S32x1024x2048.size a := fun v6 v97 v102 k0_hw6 k0_h2 k0_h3 => k0_hw6.1 k0_h2 k0_h3
theorem k0_off23_inb : ∀ (v6 : BitVec 32) (v97 : BitVec 32) (v102 : BitVec 32) (k0_hw6 : k0_chk6 v6 v97 v102), ∀ (k0_h2 : k0_cond2 v6 = 1#1), ∀ (k0_h3 : k0_cond3 v97 = 1#1), ∀ a, (k0_off23 v102) a + S1x1024x1024.size a ≤ S32x1024x1024.size a := fun v6 v97 v102 k0_hw6 k0_h2 k0_h3 => k0_hw6.2 k0_h2 k0_h3

def k0_off24 (i : grid0.Coords) : Fin 1 → Nat :=
  let arg0 : BitVec 32 := BitVec.ofNat 32 (i 0).val
  let v10 : Index := Scalar.indexCast arg0
  ![v10.toNat]
def k0_off25 (i : grid0.Coords) : Fin 1 → Nat :=
  let arg0 : BitVec 32 := BitVec.ofNat 32 (i 0).val
  let v15 : Index := Scalar.indexCast arg0
  ![v15.toNat]
def k0_mult1 (v16 : BitVec 32) : BitVec 32 :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  v82
def k0_cond5 (v16 : BitVec 32) (v18 : BitVec 32) : BitVec 1 :=
  let v36 : BitVec 1 := Scalar.cmpi .sgt v18 v16
  let c64_i32_10 : BitVec 32 := 64#32
  let v37 : BitVec 32 := Scalar.addi v18 c64_i32_10
  let c1_i32_11 : BitVec 32 := 1#32
  let v38 : BitVec 32 := Scalar.subi v37 c1_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let v56 : BitVec 32 := Scalar.subi v55 v35
  let c0_i32_19 : BitVec 32 := 0#32
  let v57 : BitVec 32 := Scalar.select v36 v56 c0_i32_19
  let c1_i32_20 : BitVec 32 := 1#32
  let v58 : BitVec 1 := Scalar.cmpi .eq v57 c1_i32_20
  let v59 : BitVec 32 := Scalar.extui v58
  let c0_i32_21 : BitVec 32 := 0#32
  let v60 : BitVec 1 := Scalar.cmpi .ne v59 c0_i32_21
  v60

def k0_off26 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v84 : Index := Scalar.indexCast v83
  let c0 : Index := 0#32
  ![v84.toNat, 0]
def k0_off27 (v1 : BitVec 32) : Fin 3 → Nat :=
  let v89 : Index := Scalar.indexCast v1
  let c0_30 : Index := 0#32
  let c0_31 : Index := 0#32
  ![v89.toNat, 0, 0]
def k0_off28 (v1 : BitVec 32) : Fin 3 → Nat :=
  let v114 : Index := Scalar.indexCast v1
  let c0_41 : Index := 0#32
  let c0_42 : Index := 0#32
  ![v114.toNat, 0, 0]
def k0_off29 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v131 : Index := Scalar.indexCast v83
  let c0_47 : Index := 0#32
  ![v131.toNat, 0]
def k0_mult2 (v16 : BitVec 32) : BitVec 32 :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  v82
def k0_cond6 (v16 : BitVec 32) (v18 : BitVec 32) : BitVec 1 :=
  let v36 : BitVec 1 := Scalar.cmpi .sgt v18 v16
  let c64_i32_10 : BitVec 32 := 64#32
  let v37 : BitVec 32 := Scalar.addi v18 c64_i32_10
  let c1_i32_11 : BitVec 32 := 1#32
  let v38 : BitVec 32 := Scalar.subi v37 c1_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let v56 : BitVec 32 := Scalar.subi v55 v35
  let c0_i32_19 : BitVec 32 := 0#32
  let v57 : BitVec 32 := Scalar.select v36 v56 c0_i32_19
  let c2_i32 : BitVec 32 := 2#32
  let v61 : BitVec 1 := Scalar.cmpi .eq v57 c2_i32
  let v62 : BitVec 32 := Scalar.extui v61
  let c0_i32_22 : BitVec 32 := 0#32
  let v63 : BitVec 1 := Scalar.cmpi .ne v62 c0_i32_22
  v63

def k0_off30 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v84 : Index := Scalar.indexCast v83
  let c0 : Index := 0#32
  ![v84.toNat, 0]
def k0_off31 (v1 : BitVec 32) : Fin 3 → Nat :=
  let v89 : Index := Scalar.indexCast v1
  let c0_30 : Index := 0#32
  let c0_31 : Index := 0#32
  ![v89.toNat, 0, 0]
def k0_off32 (v1 : BitVec 32) : Fin 3 → Nat :=
  let v114 : Index := Scalar.indexCast v1
  let c0_41 : Index := 0#32
  let c0_42 : Index := 0#32
  ![v114.toNat, 0, 0]
def k0_off33 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v131 : Index := Scalar.indexCast v83
  let c0_47 : Index := 0#32
  ![v131.toNat, 0]
def k0_mult3 (v16 : BitVec 32) : BitVec 32 :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  v82
def k0_cond7 (v16 : BitVec 32) (v18 : BitVec 32) : BitVec 1 :=
  let v36 : BitVec 1 := Scalar.cmpi .sgt v18 v16
  let c64_i32_10 : BitVec 32 := 64#32
  let v37 : BitVec 32 := Scalar.addi v18 c64_i32_10
  let c1_i32_11 : BitVec 32 := 1#32
  let v38 : BitVec 32 := Scalar.subi v37 c1_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let v56 : BitVec 32 := Scalar.subi v55 v35
  let c0_i32_19 : BitVec 32 := 0#32
  let v57 : BitVec 32 := Scalar.select v36 v56 c0_i32_19
  let c3_i32 : BitVec 32 := 3#32
  let v64 : BitVec 1 := Scalar.cmpi .eq v57 c3_i32
  let v65 : BitVec 32 := Scalar.extui v64
  let c0_i32_23 : BitVec 32 := 0#32
  let v66 : BitVec 1 := Scalar.cmpi .ne v65 c0_i32_23
  v66

def k0_off34 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v84 : Index := Scalar.indexCast v83
  let c0 : Index := 0#32
  ![v84.toNat, 0]
def k0_off35 (v1 : BitVec 32) : Fin 3 → Nat :=
  let v89 : Index := Scalar.indexCast v1
  let c0_30 : Index := 0#32
  let c0_31 : Index := 0#32
  ![v89.toNat, 0, 0]
def k0_off36 (v1 : BitVec 32) : Fin 3 → Nat :=
  let v114 : Index := Scalar.indexCast v1
  let c0_41 : Index := 0#32
  let c0_42 : Index := 0#32
  ![v114.toNat, 0, 0]
def k0_off37 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v131 : Index := Scalar.indexCast v83
  let c0_47 : Index := 0#32
  ![v131.toNat, 0]
def k0_mult4 (v16 : BitVec 32) : BitVec 32 :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  v82
def k0_cond8 (v16 : BitVec 32) (v18 : BitVec 32) : BitVec 1 :=
  let v36 : BitVec 1 := Scalar.cmpi .sgt v18 v16
  let c64_i32_10 : BitVec 32 := 64#32
  let v37 : BitVec 32 := Scalar.addi v18 c64_i32_10
  let c1_i32_11 : BitVec 32 := 1#32
  let v38 : BitVec 32 := Scalar.subi v37 c1_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let v56 : BitVec 32 := Scalar.subi v55 v35
  let c0_i32_19 : BitVec 32 := 0#32
  let v57 : BitVec 32 := Scalar.select v36 v56 c0_i32_19
  let c4_i32 : BitVec 32 := 4#32
  let v67 : BitVec 1 := Scalar.cmpi .eq v57 c4_i32
  let v68 : BitVec 32 := Scalar.extui v67
  let c0_i32_24 : BitVec 32 := 0#32
  let v69 : BitVec 1 := Scalar.cmpi .ne v68 c0_i32_24
  v69

def k0_off38 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v84 : Index := Scalar.indexCast v83
  let c0 : Index := 0#32
  ![v84.toNat, 0]
def k0_off39 (v1 : BitVec 32) : Fin 3 → Nat :=
  let v89 : Index := Scalar.indexCast v1
  let c0_30 : Index := 0#32
  let c0_31 : Index := 0#32
  ![v89.toNat, 0, 0]
def k0_off40 (v1 : BitVec 32) : Fin 3 → Nat :=
  let v114 : Index := Scalar.indexCast v1
  let c0_41 : Index := 0#32
  let c0_42 : Index := 0#32
  ![v114.toNat, 0, 0]
def k0_off41 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v131 : Index := Scalar.indexCast v83
  let c0_47 : Index := 0#32
  ![v131.toNat, 0]
def k0_mult5 (v16 : BitVec 32) : BitVec 32 :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  v82
def k0_cond9 (v16 : BitVec 32) (v18 : BitVec 32) : BitVec 1 :=
  let v36 : BitVec 1 := Scalar.cmpi .sgt v18 v16
  let c64_i32_10 : BitVec 32 := 64#32
  let v37 : BitVec 32 := Scalar.addi v18 c64_i32_10
  let c1_i32_11 : BitVec 32 := 1#32
  let v38 : BitVec 32 := Scalar.subi v37 c1_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let v56 : BitVec 32 := Scalar.subi v55 v35
  let c0_i32_19 : BitVec 32 := 0#32
  let v57 : BitVec 32 := Scalar.select v36 v56 c0_i32_19
  let c5_i32 : BitVec 32 := 5#32
  let v70 : BitVec 1 := Scalar.cmpi .eq v57 c5_i32
  let v71 : BitVec 32 := Scalar.extui v70
  let c0_i32_25 : BitVec 32 := 0#32
  let v72 : BitVec 1 := Scalar.cmpi .ne v71 c0_i32_25
  v72

def k0_off42 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v84 : Index := Scalar.indexCast v83
  let c0 : Index := 0#32
  ![v84.toNat, 0]
def k0_off43 (v1 : BitVec 32) : Fin 3 → Nat :=
  let v89 : Index := Scalar.indexCast v1
  let c0_30 : Index := 0#32
  let c0_31 : Index := 0#32
  ![v89.toNat, 0, 0]
def k0_off44 (v1 : BitVec 32) : Fin 3 → Nat :=
  let v114 : Index := Scalar.indexCast v1
  let c0_41 : Index := 0#32
  let c0_42 : Index := 0#32
  ![v114.toNat, 0, 0]
def k0_off45 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v131 : Index := Scalar.indexCast v83
  let c0_47 : Index := 0#32
  ![v131.toNat, 0]
def k0_mult6 (v16 : BitVec 32) : BitVec 32 :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  v82
def k0_cond10 (v16 : BitVec 32) (v18 : BitVec 32) : BitVec 1 :=
  let v36 : BitVec 1 := Scalar.cmpi .sgt v18 v16
  let c64_i32_10 : BitVec 32 := 64#32
  let v37 : BitVec 32 := Scalar.addi v18 c64_i32_10
  let c1_i32_11 : BitVec 32 := 1#32
  let v38 : BitVec 32 := Scalar.subi v37 c1_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let v56 : BitVec 32 := Scalar.subi v55 v35
  let c0_i32_19 : BitVec 32 := 0#32
  let v57 : BitVec 32 := Scalar.select v36 v56 c0_i32_19
  let c6_i32 : BitVec 32 := 6#32
  let v73 : BitVec 1 := Scalar.cmpi .eq v57 c6_i32
  let v74 : BitVec 32 := Scalar.extui v73
  let c0_i32_26 : BitVec 32 := 0#32
  let v75 : BitVec 1 := Scalar.cmpi .ne v74 c0_i32_26
  v75

def k0_off46 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v84 : Index := Scalar.indexCast v83
  let c0 : Index := 0#32
  ![v84.toNat, 0]
def k0_off47 (v1 : BitVec 32) : Fin 3 → Nat :=
  let v89 : Index := Scalar.indexCast v1
  let c0_30 : Index := 0#32
  let c0_31 : Index := 0#32
  ![v89.toNat, 0, 0]
def k0_off48 (v1 : BitVec 32) : Fin 3 → Nat :=
  let v114 : Index := Scalar.indexCast v1
  let c0_41 : Index := 0#32
  let c0_42 : Index := 0#32
  ![v114.toNat, 0, 0]
def k0_off49 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v131 : Index := Scalar.indexCast v83
  let c0_47 : Index := 0#32
  ![v131.toNat, 0]
def k0_mult7 (v16 : BitVec 32) : BitVec 32 :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  v82
def k0_cond11 (v16 : BitVec 32) (v18 : BitVec 32) : BitVec 1 :=
  let v36 : BitVec 1 := Scalar.cmpi .sgt v18 v16
  let c64_i32_10 : BitVec 32 := 64#32
  let v37 : BitVec 32 := Scalar.addi v18 c64_i32_10
  let c1_i32_11 : BitVec 32 := 1#32
  let v38 : BitVec 32 := Scalar.subi v37 c1_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let v56 : BitVec 32 := Scalar.subi v55 v35
  let c0_i32_19 : BitVec 32 := 0#32
  let v57 : BitVec 32 := Scalar.select v36 v56 c0_i32_19
  let c7_i32 : BitVec 32 := 7#32
  let v76 : BitVec 1 := Scalar.cmpi .eq v57 c7_i32
  let v77 : BitVec 32 := Scalar.extui v76
  let c0_i32_27 : BitVec 32 := 0#32
  let v78 : BitVec 1 := Scalar.cmpi .ne v77 c0_i32_27
  v78

def k0_off50 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v84 : Index := Scalar.indexCast v83
  let c0 : Index := 0#32
  ![v84.toNat, 0]
def k0_off51 (v1 : BitVec 32) : Fin 3 → Nat :=
  let v89 : Index := Scalar.indexCast v1
  let c0_30 : Index := 0#32
  let c0_31 : Index := 0#32
  ![v89.toNat, 0, 0]
def k0_off52 (v1 : BitVec 32) : Fin 3 → Nat :=
  let v114 : Index := Scalar.indexCast v1
  let c0_41 : Index := 0#32
  let c0_42 : Index := 0#32
  ![v114.toNat, 0, 0]
def k0_off53 (v16 : BitVec 32) : Fin 2 → Nat :=
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let c64_i32_29 : BitVec 32 := 64#32
  let v82 : BitVec 32 := Scalar.muli v35 c64_i32_29
  let v83 : BitVec 32 := v82
  let v131 : Index := Scalar.indexCast v83
  let c0_47 : Index := 0#32
  ![v131.toNat, 0]
def k0_off54 (v1 : BitVec 32) : Fin 3 → Nat :=
  let v86 : Index := Scalar.indexCast v1
  let c0_30 : Index := 0#32
  let c0_31 : Index := 0#32
  ![v86.toNat, 0, 0]
def k0_cond12 (v16 : BitVec 32) (v18 : BitVec 32) : BitVec 1 :=
  let v36 : BitVec 1 := Scalar.cmpi .sgt v18 v16
  let c64_i32_10 : BitVec 32 := 64#32
  let v37 : BitVec 32 := Scalar.addi v18 c64_i32_10
  let c1_i32_11 : BitVec 32 := 1#32
  let v38 : BitVec 32 := Scalar.subi v37 c1_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let c0_i32_4 : BitVec 32 := 0#32
  let v20 : BitVec 1 := Scalar.cmpi .sgt v16 c0_i32_4
  let v21 : BitVec 32 := Scalar.extui v20
  let c0_i32_5 : BitVec 32 := 0#32
  let v22 : BitVec 1 := Scalar.cmpi .slt v16 c0_i32_5
  let v23 : BitVec 32 := Scalar.extui v22
  let v24 : BitVec 32 := Scalar.subi v21 v23
  let c64_i32 : BitVec 32 := 64#32
  let c0_i32_6 : BitVec 32 := 0#32
  let v25 : BitVec 1 := Scalar.cmpi .sgt c64_i32 c0_i32_6
  let v26 : BitVec 32 := Scalar.extui v25
  let c0_i32_7 : BitVec 32 := 0#32
  let v27 : BitVec 1 := Scalar.cmpi .slt c64_i32 c0_i32_7
  let v28 : BitVec 32 := Scalar.extui v27
  let v29 : BitVec 32 := Scalar.subi v26 v28
  let v30 : BitVec 1 := Scalar.cmpi .ne v24 v29
  let v31 : BitVec 32 := Scalar.remsi v16 c64_i32
  let c0_i32_8 : BitVec 32 := 0#32
  let v32 : BitVec 1 := Scalar.cmpi .ne v31 c0_i32_8
  let v33 : BitVec 1 := Scalar.andi v30 v32
  let v19 : BitVec 32 := Scalar.divsi v16 c64_i32
  let c1_i32_9 : BitVec 32 := 1#32
  let v34 : BitVec 32 := Scalar.subi v19 c1_i32_9
  let v35 : BitVec 32 := Scalar.select v33 v34 v19
  let v56 : BitVec 32 := Scalar.subi v55 v35
  let c0_i32_19 : BitVec 32 := 0#32
  let v57 : BitVec 32 := Scalar.select v36 v56 c0_i32_19
  let c8_i32 : BitVec 32 := 8#32
  let v79 : BitVec 1 := Scalar.cmpi .eq v57 c8_i32
  let v80 : BitVec 32 := Scalar.extui v79
  let c0_i32_28 : BitVec 32 := 0#32
  let v81 : BitVec 1 := Scalar.cmpi .ne v80 c0_i32_28
  v81

def k0_off55 (v1 : BitVec 32) : Fin 3 → Nat :=
  let v111 : Index := Scalar.indexCast v1
  let c0_41 : Index := 0#32
  let c0_42 : Index := 0#32
  ![v111.toNat, 0, 0]

def k0_chk7_0 (v1 : BitVec 32) (v16 : BitVec 32) (v18 : BitVec 32) : Prop :=
  (∀ (k0_h5 : k0_cond5 v16 v18 = 1#1), 64 ∣ (k0_mult1 v16).toNat) ∧
  (∀ (k0_h5 : k0_cond5 v16 v18 = 1#1), ∀ a, (k0_off26 v16) a + S64x512.size a ≤ S512x512.size a) ∧
  (∀ (k0_h5 : k0_cond5 v16 v18 = 1#1), ∀ a, (k0_off27 v1) a + S1x1024x2048.size a ≤ S2x1024x2048.size a) ∧
  (∀ (k0_h5 : k0_cond5 v16 v18 = 1#1), ∀ a, (k0_off28 v1) a + S1x1024x1024.size a ≤ S2x1024x1024.size a) ∧
  (∀ (k0_h5 : k0_cond5 v16 v18 = 1#1), ∀ a, (k0_off29 v16) a + S64x1024.size a ≤ S512x1024.size a) ∧
  (∀ (k0_h5 : k0_cond5 v16 v18 = 1#1), ∀ (hinb : ∀ a, (k0_off29 v16) a + S64x1024.size a ≤ S512x1024.size a), (Rect.unit (s := S512x1024) (k0_off29 v16) S64x1024.size hinb).PackedRows (EltTy.packing .bf16)) ∧
  (∀ (k0_h6 : k0_cond6 v16 v18 = 1#1), 64 ∣ (k0_mult2 v16).toNat) ∧
  (∀ (k0_h6 : k0_cond6 v16 v18 = 1#1), ∀ a, (k0_off30 v16) a + S128x512.size a ≤ S512x512.size a) ∧
  (∀ (k0_h6 : k0_cond6 v16 v18 = 1#1), ∀ a, (k0_off31 v1) a + S1x1024x2048.size a ≤ S2x1024x2048.size a) ∧
  (∀ (k0_h6 : k0_cond6 v16 v18 = 1#1), ∀ a, (k0_off32 v1) a + S1x1024x1024.size a ≤ S2x1024x1024.size a) ∧
  (∀ (k0_h6 : k0_cond6 v16 v18 = 1#1), ∀ a, (k0_off33 v16) a + S128x1024.size a ≤ S512x1024.size a) ∧
  (∀ (k0_h6 : k0_cond6 v16 v18 = 1#1), ∀ (hinb : ∀ a, (k0_off33 v16) a + S128x1024.size a ≤ S512x1024.size a), (Rect.unit (s := S512x1024) (k0_off33 v16) S128x1024.size hinb).PackedRows (EltTy.packing .bf16)) ∧
  (∀ (k0_h7 : k0_cond7 v16 v18 = 1#1), 64 ∣ (k0_mult3 v16).toNat) ∧
  (∀ (k0_h7 : k0_cond7 v16 v18 = 1#1), ∀ a, (k0_off34 v16) a + S192x512.size a ≤ S512x512.size a) ∧
  (∀ (k0_h7 : k0_cond7 v16 v18 = 1#1), ∀ a, (k0_off35 v1) a + S1x1024x2048.size a ≤ S2x1024x2048.size a) ∧
  (∀ (k0_h7 : k0_cond7 v16 v18 = 1#1), ∀ a, (k0_off36 v1) a + S1x1024x1024.size a ≤ S2x1024x1024.size a) ∧
  (∀ (k0_h7 : k0_cond7 v16 v18 = 1#1), ∀ a, (k0_off37 v16) a + S192x1024.size a ≤ S512x1024.size a) ∧
  (∀ (k0_h7 : k0_cond7 v16 v18 = 1#1), ∀ (hinb : ∀ a, (k0_off37 v16) a + S192x1024.size a ≤ S512x1024.size a), (Rect.unit (s := S512x1024) (k0_off37 v16) S192x1024.size hinb).PackedRows (EltTy.packing .bf16)) ∧
  (∀ (k0_h8 : k0_cond8 v16 v18 = 1#1), 64 ∣ (k0_mult4 v16).toNat) ∧
  (∀ (k0_h8 : k0_cond8 v16 v18 = 1#1), ∀ a, (k0_off38 v16) a + S256x512.size a ≤ S512x512.size a) ∧
  (∀ (k0_h8 : k0_cond8 v16 v18 = 1#1), ∀ a, (k0_off39 v1) a + S1x1024x2048.size a ≤ S2x1024x2048.size a) ∧
  (∀ (k0_h8 : k0_cond8 v16 v18 = 1#1), ∀ a, (k0_off40 v1) a + S1x1024x1024.size a ≤ S2x1024x1024.size a) ∧
  (∀ (k0_h8 : k0_cond8 v16 v18 = 1#1), ∀ a, (k0_off41 v16) a + S256x1024.size a ≤ S512x1024.size a) ∧
  (∀ (k0_h8 : k0_cond8 v16 v18 = 1#1), ∀ (hinb : ∀ a, (k0_off41 v16) a + S256x1024.size a ≤ S512x1024.size a), (Rect.unit (s := S512x1024) (k0_off41 v16) S256x1024.size hinb).PackedRows (EltTy.packing .bf16)) ∧
  (∀ (k0_h9 : k0_cond9 v16 v18 = 1#1), 64 ∣ (k0_mult5 v16).toNat) ∧
  (∀ (k0_h9 : k0_cond9 v16 v18 = 1#1), ∀ a, (k0_off42 v16) a + S320x512.size a ≤ S512x512.size a) ∧
  (∀ (k0_h9 : k0_cond9 v16 v18 = 1#1), ∀ a, (k0_off43 v1) a + S1x1024x2048.size a ≤ S2x1024x2048.size a) ∧
  (∀ (k0_h9 : k0_cond9 v16 v18 = 1#1), ∀ a, (k0_off44 v1) a + S1x1024x1024.size a ≤ S2x1024x1024.size a) ∧
  (∀ (k0_h9 : k0_cond9 v16 v18 = 1#1), ∀ a, (k0_off45 v16) a + S320x1024.size a ≤ S512x1024.size a) ∧
  (∀ (k0_h9 : k0_cond9 v16 v18 = 1#1), ∀ (hinb : ∀ a, (k0_off45 v16) a + S320x1024.size a ≤ S512x1024.size a), (Rect.unit (s := S512x1024) (k0_off45 v16) S320x1024.size hinb).PackedRows (EltTy.packing .bf16)) ∧
  (∀ (k0_h10 : k0_cond10 v16 v18 = 1#1), 64 ∣ (k0_mult6 v16).toNat) ∧
  (∀ (k0_h10 : k0_cond10 v16 v18 = 1#1), ∀ a, (k0_off46 v16) a + S384x512.size a ≤ S512x512.size a)
def k0_chk7_1 (v1 : BitVec 32) (v16 : BitVec 32) (v18 : BitVec 32) : Prop :=
  (∀ (k0_h10 : k0_cond10 v16 v18 = 1#1), ∀ a, (k0_off47 v1) a + S1x1024x2048.size a ≤ S2x1024x2048.size a) ∧
  (∀ (k0_h10 : k0_cond10 v16 v18 = 1#1), ∀ a, (k0_off48 v1) a + S1x1024x1024.size a ≤ S2x1024x1024.size a) ∧
  (∀ (k0_h10 : k0_cond10 v16 v18 = 1#1), ∀ a, (k0_off49 v16) a + S384x1024.size a ≤ S512x1024.size a) ∧
  (∀ (k0_h10 : k0_cond10 v16 v18 = 1#1), ∀ (hinb : ∀ a, (k0_off49 v16) a + S384x1024.size a ≤ S512x1024.size a), (Rect.unit (s := S512x1024) (k0_off49 v16) S384x1024.size hinb).PackedRows (EltTy.packing .bf16)) ∧
  (∀ (k0_h11 : k0_cond11 v16 v18 = 1#1), 64 ∣ (k0_mult7 v16).toNat) ∧
  (∀ (k0_h11 : k0_cond11 v16 v18 = 1#1), ∀ a, (k0_off50 v16) a + S448x512.size a ≤ S512x512.size a) ∧
  (∀ (k0_h11 : k0_cond11 v16 v18 = 1#1), ∀ a, (k0_off51 v1) a + S1x1024x2048.size a ≤ S2x1024x2048.size a) ∧
  (∀ (k0_h11 : k0_cond11 v16 v18 = 1#1), ∀ a, (k0_off52 v1) a + S1x1024x1024.size a ≤ S2x1024x1024.size a) ∧
  (∀ (k0_h11 : k0_cond11 v16 v18 = 1#1), ∀ a, (k0_off53 v16) a + S448x1024.size a ≤ S512x1024.size a) ∧
  (∀ (k0_h11 : k0_cond11 v16 v18 = 1#1), ∀ (hinb : ∀ a, (k0_off53 v16) a + S448x1024.size a ≤ S512x1024.size a), (Rect.unit (s := S512x1024) (k0_off53 v16) S448x1024.size hinb).PackedRows (EltTy.packing .bf16)) ∧
  (∀ (k0_h12 : k0_cond12 v16 v18 = 1#1), ∀ a, (k0_off54 v1) a + S1x1024x2048.size a ≤ S2x1024x2048.size a) ∧
  (∀ (k0_h12 : k0_cond12 v16 v18 = 1#1), ∀ a, (k0_off55 v1) a + S1x1024x1024.size a ≤ S2x1024x1024.size a)
def k0_chk7 (v1 : BitVec 32) (v16 : BitVec 32) (v18 : BitVec 32) : Prop :=
  k0_chk7_0 v1 v16 v18 ∧
  k0_chk7_1 v1 v16 v18
theorem k0_mult1_dvd : ∀ (v1 : BitVec 32) (v16 : BitVec 32) (v18 : BitVec 32) (k0_hw7 : k0_chk7 v1 v16 v18), ∀ (k0_h5 : k0_cond5 v16 v18 = 1#1), 64 ∣ (k0_mult1 v16).toNat := fun v1 v16 v18 k0_hw7 k0_h5 => k0_hw7.1.1 k0_h5
theorem k0_off26_inb : ∀ (v1 : BitVec 32) (v16 : BitVec 32) (v18 : BitVec 32) (k0_hw7 : k0_chk7 v1 v16 v18), ∀ (k0_h5 : k0_cond5 v16 v18 = 1#1), ∀ a, (k0_off26 v16) a + S64x512.size a ≤ S512x512.size a := fun v1 v16 v18 k0_hw7 k0_h5 => k0_hw7.1.2.1 k0_h5
theorem k0_off27_inb : ∀ (v1 : BitVec 32) (v16 : BitVec 32) (v18 : BitVec 32) (k0_hw7 : k0_chk7 v1 v16 v18), ∀ (k0_h5 : k0_cond5 v16 v18 = 1#1), ∀ a, (k0_off27 v1) a + S1x1024x2048.size a ≤ S2x1024x2048.size a := fun v1 v16 v18 k0_hw7 k0_h5 => k0_hw7.1.2.2.1 k0_h5
theorem k0_off28_inb : ∀ (v1 : BitVec 32) (v16 : BitVec 32) (v18 : BitVec 32) (k0_hw7 : k0_chk7 v1 v16 v18), ∀ (k0_h5 : k0_cond5 v16 v18 = 1#1), ∀ a, (k0_off28 v1) a + S1x1024x1024.size a ≤ S2x1024x1024.size a := fun v1 v16 v18 k0_hw7 k0_h5 => k0_hw7.1.2.2.2.1 k0_h5
theorem k0_off29_inb : ∀ (v1 : BitVec 32) (v16 : BitVec 32) (v18 : BitVec 32) (k0_hw7 : k0_chk7 v1 v16 v18), ∀ (k0_h5 : k0_cond5 v16 v18 = 1#1), ∀ a, (k0_off29 v16) a + S64x1024.size a ≤ S512x1024.size a := fun v1 v16 v18 k0_hw7 k0_h5 => k0_hw7.1.2.2.2.2.1 k0_h5
theorem k0_off29_packedbf16 : ∀ (v1 : BitVec 32) (v16 : BitVec 32) (v18 : BitVec 32) (k0_hw7 : k0_chk7 v1 v16 v18), ∀ (k0_h5 : k0_cond5 v16 v18 = 1#1), (Rect.unit (s := S512x1024) (k0_off29 v16) S64x1024.size (k0_off29_inb v1 v16 v18 k0_hw7 k0_h5)).PackedRows (EltTy.packing .bf16) := fun v1 v16 v18 k0_hw7 k0_h5 => k0_hw7.1.2.2.2.2.2.1 k0_h5 (k0_off29_inb v1 v16 v18 k0_hw7 k0_h5)
theorem k0_mult2_dvd : ∀ (v1 : BitVec 32) (v16 : BitVec 32) (v18 : BitVec 32) (k0_hw7 : k0_chk7 v1 v16 v18), ∀ (k0_h6 : k0_cond6 v16 v18 = 1#1), 64 ∣ (k0_mult2 v16).toNat := fun v1 v16 v18 k0_hw7 k0_h6 => k0_hw7.1.2.2.2.2.2.2.1 k0_h6
theorem k0_off30_inb : ∀ (v1 : BitVec 32) (v16 : BitVec 32) (v18 : BitVec 32) (k0_hw7 : k0_chk7 v1 v16 v18), ∀ (k0_h6 : k0_cond6 v16 v18 = 1#1), ∀ a, (k0_off30 v16) a + S128x512.size a ≤ S512x512.size a := fun v1 v16 v18 k0_hw7 k0_h6 => k0_hw7.1.2.2.2.2.2.2.2.1 k0_h6
theorem k0_off31_inb : ∀ (v1 : BitVec 32) (v16 : BitVec 32) (v18 : BitVec 32) (k0_hw7 : k0_chk7 v1 v16 v18), ∀ (k0_h6 : k0_cond6 v16 v18 = 1#1), ∀ a, (k0_off31 v1) a + S1x1024x2048.size a ≤ S2x1024x2048.size a := fun v1 v16 v18 k0_hw7 k0_h6 => k0_hw7.1.2.2.2.2.2.2.2.2.1 k0_h6
theorem k0_off32_inb : ∀ (v1 : BitVec 32) (v16 : BitVec 32) (v18 : BitVec 32) (k0_hw7 : k0_chk7 v1 v16 v18), ∀ (k0_h6 : k0_cond6 v16 v18 = 1#1), ∀ a, (k0_off32 v1) a + S1x1024x1024.size a ≤ S2x1024x1024.size a := fun v1 v16 v18 k0_hw7 k0_h6 => k0_hw7.1.2.2.2.2.2.2.2.2.2.1 k0_h6
theorem k0_off33_inb : ∀ (v1 : BitVec 32) (v16 : BitVec 32) (v18 : BitVec 32) (k0_hw7 : k0_chk7 v1 v16 v18), ∀ (k0_h6 : k0_cond6 v16 v18 = 1#1), ∀ a, (k0_off33 v16) a + S128x1024.size a ≤ S512x1024.size a := fun v1 v16 v18 k0_hw7 k0_h6 => k0_hw7.1.2.2.2.2.2.2.2.2.2.2.1 k0_h6
theorem k0_off33_packedbf16 : ∀ (v1 : BitVec 32) (v16 : BitVec 32) (v18 : BitVec 32) (k0_hw7 : k0_chk7 v1 v16 v18), ∀ (k0_h6 : k0_cond6 v16 v18 = 1#1), (Rect.unit (s := S512x1024) (k0_off33 v16) S128x1024.size (k0_off33_inb v1 v16 v18 k0_hw7 k0_h6)).PackedRows (EltTy.packing .bf16) := fun v1 v16 v18 k0_hw7 k0_h6 => k0_hw7.1.2.2.2.2.2.2.2.2.2.2.2.1 k0_h6 (k0_off33_inb v1 v16 v18 k0_hw7 k0_h6)
theorem k0_mult3_dvd : ∀ (v1 : BitVec 32) (v16 : BitVec 32) (v18 : BitVec 32) (k0_hw7 : k0_chk7 v1 v16 v18), ∀ (k0_h7 : k0_cond7 v16 v18 = 1#1), 64 ∣ (k0_mult3 v16).toNat := fun v1 v16 v18 k0_hw7 k0_h7 => k0_hw7.1.2.2.2.2.2.2.2.2.2.2.2.2.1 k0_h7
theorem k0_off34_inb : ∀ (v1 : BitVec 32) (v16 : BitVec 32) (v18 : BitVec 32) (k0_hw7 : k0_chk7 v1 v16 v18), ∀ (k0_h7 : k0_cond7 v16 v18 = 1#1), ∀ a, (k0_off34 v16) a + S192x512.size a ≤ S512x512.size a := fun v1 v16 v18 k0_hw7 k0_h7 => k0_hw7.1.2.2.2.2.2.2.2.2.2.2.2.2.2.1 k0_h7
theorem k0_off35_inb : ∀ (v1 : BitVec 32) (v16 : BitVec 32) (v18 : BitVec 32) (k0_hw7 : k0_chk7 v1 v16 v18), ∀ (k0_h7 : k0_cond7 v16 v18 = 1#1), ∀ a, (k0_off35 v1) a + S1x1024x2048.size a ≤ S2x1024x2048.size a := fun v1 v16 v18 k0_hw7 k0_h7 => k0_hw7.1.2.2.2.2.2.2.2.2.2.2.2.2.2.2.1 k0_h7
theorem k0_off36_inb : ∀ (v1 : BitVec 32) (v16 : BitVec 32) (v18 : BitVec 32) (k0_hw7 : k0_chk7 v1 v16 v18), ∀ (k0_h7 : k0_cond7 v16 v18 = 1#1), ∀ a, (k0_off36 v1) a + S1x1024x1024.size a ≤ S2x1024x1024.size a := fun v1 v16 v18 k0_hw7 k0_h7 => k0_hw7.1.2.2.2.2.2.2.2.2.2.2.2.2.2.2.2.1 k0_h7
theorem k0_off37_inb : ∀ (v1 : BitVec 32) (v16 : BitVec 32) (v18 : BitVec 32) (k0_hw7 : k0_chk7 v1 v16 v18), ∀ (k0_h7 : k0_cond7 v16 v18 = 1#1), ∀ a, (k0_off37 v16) a + S192x1024.size a ≤ S512x1024.size a := fun v1 v16 v18 k0_hw7 k0_h7 => k0_hw7.1.2.2.2.2.2.2.2.2.2.2.2.2.2.2.2.2.1 k0_h7
theorem k0_off37_packedbf16 : ∀ (v1 : BitVec 32) (v16 : BitVec 32) (v18 : BitVec 32) (k0_hw7 : k0_chk7 v1 v16 v18), ∀ (k0_h7 : k0_cond7 v16 v18 = 1#1), (Rect.unit (s := S512x1024) (k0_off37 v16) S192x1024.size (k0_off37_inb v1 v16 v18 k0_hw7 k0_h7)).PackedRows (EltTy.packing .bf16) := fun v1 v16 v18 k0_hw7 k0_h7 => k0_hw7.1.2.2.2.2.2.2.2.2.2.2.2.2.2.2.2.2.2.1 k0_h7 (k0_off37_inb v1 v16 v18 k0_hw7 k0_h7)
theorem k0_mult4_dvd : ∀ (v1 : BitVec 32) (v16 : BitVec 32) (v18 : BitVec 32) (k0_hw7 : k0_chk7 v1 v16 v18), ∀ (k0_h8 : k0_cond8 v16 v18 = 1#1), 64 ∣ (k0_mult4 v16).toNat := fun v1 v16 v18 k0_hw7 k0_h8 => k0_hw7.1.2.2.2.2.2.2.2.2.2.2.2.2.2.2.2.2.2.2.1 k0_h8
theorem k0_off38_inb : ∀ (v1 : BitVec 32) (v16 : BitVec 32) (v18 : BitVec 32) (k0_hw7 : k0_chk7 v1 v16 v18), ∀ (k0_h8 : k0_cond8 v16 v18 = 1#1), ∀ a, (k0_off38 v16) a + S256x512.size a ≤ S512x512.size a := fun v1 v16 v18 k0_hw7 k0_h8 => k0_hw7.1.2.2.2.2.2.2.2.2.2.2.2.2.2.2.2.2.2.2.2.1 k0_h8
theorem k0_off39_inb : ∀ (v1 : BitVec 32) (v16 : BitVec 32) (v18 : BitVec 32) (k0_hw7 : k0_chk7 v1 v16 v18), ∀ (k0_h8 : k0_cond8 v16 v18 = 1#1), ∀ a, (k0_off39 v1) a + S1x1024x2048.size a ≤ S2x1024x2048.size a := fun v1 v16 v18 k0_hw7 k0_h8 => k0_hw7.1.2.2.2.2.2.2.2.2.2.2.2.2.2.2.2.2.2.2.2.2.1 k0_h8
theorem k0_off40_inb : ∀ (v1 : BitVec 32) (v16 : BitVec 32) (v18 : BitVec 32) (k0_hw7 : k0_chk7 v1 v16 v18), ∀ (k0_h8 : k0_cond8 v16 v18 = 1#1), ∀ a, (k0_off40 v1) a + S1x1024x1024.size a ≤ S2x1024x1024.size a := fun v1 v16 v18 k0_hw7 k0_h8 => k0_hw7.1.2.2.2.2.2.2.2.2.2.2.2.2.2.2.2.2.2.2.2.2.2.1 k0_h8
theorem k0_off41_inb : ∀ (v1 : BitVec 32) (v16 : BitVec 32) (v18 : BitVec 32) (k0_hw7 : k0_chk7 v1 v16 v18), ∀ (k0_h8 : k0_cond8 v16 v18 = 1#1), ∀ a, (k0_off41 v16) a + S256x1024.size a ≤ S512x1024.size a := fun v1 v16 v18 k0_hw7 k0_h8 => k0_hw7.1.2.2.2.2.2.2.2.2.2.2.2.2.2.2.2.2.2.2.2.2.2.2.1 k0_h8
theorem k0_off41_packedbf16 : ∀ (v1 : BitVec 32) (v16 : BitVec 32) (v18 : BitVec 32) (k0_hw7 : k0_chk7 v1 v16 v18), ∀ (k0_h8 : k0_cond8 v16 v18 = 1#1), (Rect.unit (s := S512x1024) (k0_off41 v16) S256x1024.size (k0_off41_inb v1 v16 v18 k0_hw7 k0_h8)).PackedRows (EltTy.packing .bf16) := fun v1 v16 v18 k0_hw7 k0_h8 => k0_hw7.1.2.2.2.2.2.2.2.2.2.2.2.2.2.2.2.2.2.2.2.2.2.2.2.1 k0_h8 (k0_off41_inb v1 v16 v18 k0_hw7 k0_h8)
theorem k0_mult5_dvd : ∀ (v1 : BitVec 32) (v16 : BitVec 32) (v18 : BitVec 32) (k0_hw7 : k0_chk7 v1 v16 v18), ∀ (k0_h9 : k0_cond9 v16 v18 = 1#1), 64 ∣ (k0_mult5 v16).toNat := fun v1 v16 v18 k0_hw7 k0_h9 => k0_hw7.1.2.2.2.2.2.2.2.2.2.2.2.2.2.2.2.2.2.2.2.2.2.2.2.2.1 k0_h9
theorem k0_off42_inb : ∀ (v1 : BitVec 32) (v16 : BitVec 32) (v18 : BitVec 32) (k0_hw7 : k0_chk7 v1 v16 v18), ∀ (k0_h9 : k0_cond9 v16 v18 = 1#1), ∀ a, (k0_off42 v16) a + S320x512.size a ≤ S512x512.size a := fun v1 v16 v18 k0_hw7 k0_h9 => k0_hw7.1.2.2.2.2.2.2.2.2.2.2.2.2.2.2.2.2.2.2.2.2.2.2.2.2.2.1 k0_h9
theorem k0_off43_inb : ∀ (v1 : BitVec 32) (v16 : BitVec 32) (v18 : BitVec 32) (k0_hw7 : k0_chk7 v1 v16 v18), ∀ (k0_h9 : k0_cond9 v16 v18 = 1#1), ∀ a, (k0_off43 v1) a + S1x1024x2048.size a ≤ S2x1024x2048.size a := fun v1 v16 v18 k0_hw7 k0_h9 => k0_hw7.1.2.2.2.2.2.2.2.2.2.2.2.2.2.2.2.2.2.2.2.2.2.2.2.2.2.2.1 k0_h9
theorem k0_off44_inb : ∀ (v1 : BitVec 32) (v16 : BitVec 32) (v18 : BitVec 32) (k0_hw7 : k0_chk7 v1 v16 v18), ∀ (k0_h9 : k0_cond9 v16 v18 = 1#1), ∀ a, (k0_off44 v1) a + S1x1024x1024.size a ≤ S2x1024x1024.size a := fun v1 v16 v18 k0_hw7 k0_h9 => k0_hw7.1.2.2.2.2.2.2.2.2.2.2.2.2.2.2.2.2.2.2.2.2.2.2.2.2.2.2.2.1 k0_h9
theorem k0_off45_inb : ∀ (v1 : BitVec 32) (v16 : BitVec 32) (v18 : BitVec 32) (k0_hw7 : k0_chk7 v1 v16 v18), ∀ (k0_h9 : k0_cond9 v16 v18 = 1#1), ∀ a, (k0_off45 v16) a + S320x1024.size a ≤ S512x1024.size a := fun v1 v16 v18 k0_hw7 k0_h9 => k0_hw7.1.2.2.2.2.2.2.2.2.2.2.2.2.2.2.2.2.2.2.2.2.2.2.2.2.2.2.2.2.1 k0_h9
theorem k0_off45_packedbf16 : ∀ (v1 : BitVec 32) (v16 : BitVec 32) (v18 : BitVec 32) (k0_hw7 : k0_chk7 v1 v16 v18), ∀ (k0_h9 : k0_cond9 v16 v18 = 1#1), (Rect.unit (s := S512x1024) (k0_off45 v16) S320x1024.size (k0_off45_inb v1 v16 v18 k0_hw7 k0_h9)).PackedRows (EltTy.packing .bf16) := fun v1 v16 v18 k0_hw7 k0_h9 => k0_hw7.1.2.2.2.2.2.2.2.2.2.2.2.2.2.2.2.2.2.2.2.2.2.2.2.2.2.2.2.2.2.1 k0_h9 (k0_off45_inb v1 v16 v18 k0_hw7 k0_h9)
theorem k0_mult6_dvd : ∀ (v1 : BitVec 32) (v16 : BitVec 32) (v18 : BitVec 32) (k0_hw7 : k0_chk7 v1 v16 v18), ∀ (k0_h10 : k0_cond10 v16 v18 = 1#1), 64 ∣ (k0_mult6 v16).toNat := fun v1 v16 v18 k0_hw7 k0_h10 => k0_hw7.1.2.2.2.2.2.2.2.2.2.2.2.2.2.2.2.2.2.2.2.2.2.2.2.2.2.2.2.2.2.2.1 k0_h10
theorem k0_off46_inb : ∀ (v1 : BitVec 32) (v16 : BitVec 32) (v18 : BitVec 32) (k0_hw7 : k0_chk7 v1 v16 v18), ∀ (k0_h10 : k0_cond10 v16 v18 = 1#1), ∀ a, (k0_off46 v16) a + S384x512.size a ≤ S512x512.size a := fun v1 v16 v18 k0_hw7 k0_h10 => k0_hw7.1.2.2.2.2.2.2.2.2.2.2.2.2.2.2.2.2.2.2.2.2.2.2.2.2.2.2.2.2.2.2.2 k0_h10
theorem k0_off47_inb : ∀ (v1 : BitVec 32) (v16 : BitVec 32) (v18 : BitVec 32) (k0_hw7 : k0_chk7 v1 v16 v18), ∀ (k0_h10 : k0_cond10 v16 v18 = 1#1), ∀ a, (k0_off47 v1) a + S1x1024x2048.size a ≤ S2x1024x2048.size a := fun v1 v16 v18 k0_hw7 k0_h10 => k0_hw7.2.1 k0_h10
theorem k0_off48_inb : ∀ (v1 : BitVec 32) (v16 : BitVec 32) (v18 : BitVec 32) (k0_hw7 : k0_chk7 v1 v16 v18), ∀ (k0_h10 : k0_cond10 v16 v18 = 1#1), ∀ a, (k0_off48 v1) a + S1x1024x1024.size a ≤ S2x1024x1024.size a := fun v1 v16 v18 k0_hw7 k0_h10 => k0_hw7.2.2.1 k0_h10
theorem k0_off49_inb : ∀ (v1 : BitVec 32) (v16 : BitVec 32) (v18 : BitVec 32) (k0_hw7 : k0_chk7 v1 v16 v18), ∀ (k0_h10 : k0_cond10 v16 v18 = 1#1), ∀ a, (k0_off49 v16) a + S384x1024.size a ≤ S512x1024.size a := fun v1 v16 v18 k0_hw7 k0_h10 => k0_hw7.2.2.2.1 k0_h10
theorem k0_off49_packedbf16 : ∀ (v1 : BitVec 32) (v16 : BitVec 32) (v18 : BitVec 32) (k0_hw7 : k0_chk7 v1 v16 v18), ∀ (k0_h10 : k0_cond10 v16 v18 = 1#1), (Rect.unit (s := S512x1024) (k0_off49 v16) S384x1024.size (k0_off49_inb v1 v16 v18 k0_hw7 k0_h10)).PackedRows (EltTy.packing .bf16) := fun v1 v16 v18 k0_hw7 k0_h10 => k0_hw7.2.2.2.2.1 k0_h10 (k0_off49_inb v1 v16 v18 k0_hw7 k0_h10)
theorem k0_mult7_dvd : ∀ (v1 : BitVec 32) (v16 : BitVec 32) (v18 : BitVec 32) (k0_hw7 : k0_chk7 v1 v16 v18), ∀ (k0_h11 : k0_cond11 v16 v18 = 1#1), 64 ∣ (k0_mult7 v16).toNat := fun v1 v16 v18 k0_hw7 k0_h11 => k0_hw7.2.2.2.2.2.1 k0_h11
theorem k0_off50_inb : ∀ (v1 : BitVec 32) (v16 : BitVec 32) (v18 : BitVec 32) (k0_hw7 : k0_chk7 v1 v16 v18), ∀ (k0_h11 : k0_cond11 v16 v18 = 1#1), ∀ a, (k0_off50 v16) a + S448x512.size a ≤ S512x512.size a := fun v1 v16 v18 k0_hw7 k0_h11 => k0_hw7.2.2.2.2.2.2.1 k0_h11
theorem k0_off51_inb : ∀ (v1 : BitVec 32) (v16 : BitVec 32) (v18 : BitVec 32) (k0_hw7 : k0_chk7 v1 v16 v18), ∀ (k0_h11 : k0_cond11 v16 v18 = 1#1), ∀ a, (k0_off51 v1) a + S1x1024x2048.size a ≤ S2x1024x2048.size a := fun v1 v16 v18 k0_hw7 k0_h11 => k0_hw7.2.2.2.2.2.2.2.1 k0_h11
theorem k0_off52_inb : ∀ (v1 : BitVec 32) (v16 : BitVec 32) (v18 : BitVec 32) (k0_hw7 : k0_chk7 v1 v16 v18), ∀ (k0_h11 : k0_cond11 v16 v18 = 1#1), ∀ a, (k0_off52 v1) a + S1x1024x1024.size a ≤ S2x1024x1024.size a := fun v1 v16 v18 k0_hw7 k0_h11 => k0_hw7.2.2.2.2.2.2.2.2.1 k0_h11
theorem k0_off53_inb : ∀ (v1 : BitVec 32) (v16 : BitVec 32) (v18 : BitVec 32) (k0_hw7 : k0_chk7 v1 v16 v18), ∀ (k0_h11 : k0_cond11 v16 v18 = 1#1), ∀ a, (k0_off53 v16) a + S448x1024.size a ≤ S512x1024.size a := fun v1 v16 v18 k0_hw7 k0_h11 => k0_hw7.2.2.2.2.2.2.2.2.2.1 k0_h11
theorem k0_off53_packedbf16 : ∀ (v1 : BitVec 32) (v16 : BitVec 32) (v18 : BitVec 32) (k0_hw7 : k0_chk7 v1 v16 v18), ∀ (k0_h11 : k0_cond11 v16 v18 = 1#1), (Rect.unit (s := S512x1024) (k0_off53 v16) S448x1024.size (k0_off53_inb v1 v16 v18 k0_hw7 k0_h11)).PackedRows (EltTy.packing .bf16) := fun v1 v16 v18 k0_hw7 k0_h11 => k0_hw7.2.2.2.2.2.2.2.2.2.2.1 k0_h11 (k0_off53_inb v1 v16 v18 k0_hw7 k0_h11)
theorem k0_off54_inb : ∀ (v1 : BitVec 32) (v16 : BitVec 32) (v18 : BitVec 32) (k0_hw7 : k0_chk7 v1 v16 v18), ∀ (k0_h12 : k0_cond12 v16 v18 = 1#1), ∀ a, (k0_off54 v1) a + S1x1024x2048.size a ≤ S2x1024x2048.size a := fun v1 v16 v18 k0_hw7 k0_h12 => k0_hw7.2.2.2.2.2.2.2.2.2.2.2.1 k0_h12
theorem k0_off55_inb : ∀ (v1 : BitVec 32) (v16 : BitVec 32) (v18 : BitVec 32) (k0_hw7 : k0_chk7 v1 v16 v18), ∀ (k0_h12 : k0_cond12 v16 v18 = 1#1), ∀ a, (k0_off55 v1) a + S1x1024x1024.size a ≤ S2x1024x1024.size a := fun v1 v16 v18 k0_hw7 k0_h12 => k0_hw7.2.2.2.2.2.2.2.2.2.2.2.2 k0_h12

def k0_cond4 (v11 : BitVec 32) : BitVec 1 :=
  let c1_i32_2 : BitVec 32 := 1#32
  let v12 : BitVec 1 := Scalar.cmpi .eq v11 c1_i32_2
  let v13 : BitVec 32 := Scalar.extui v12
  let c0_i32_3 : BitVec 32 := 0#32
  let v14 : BitVec 1 := Scalar.cmpi .ne v13 c0_i32_3
  v14

def cc0_transform_0 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32 : Shape := ⟨1, ![32]⟩
abbrev S65536x512 : Shape := ⟨2, ![65536, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S32x1 : Shape := ⟨2, ![32, 1]⟩
abbrev S65536 : Shape := ⟨1, ![65536]⟩
abbrev S1x65536 : Shape := ⟨2, ![1, 65536]⟩
abbrev S32x65536 : Shape := ⟨2, ![32, 65536]⟩
abbrev S65536x1024 : Shape := ⟨2, ![65536, 1024]⟩
abbrev S65536x32x2048 : Shape := ⟨3, ![65536, 32, 2048]⟩
abbrev S1x32x2048 : Shape := ⟨3, ![1, 32, 2048]⟩
abbrev S65536x32x1024 : Shape := ⟨3, ![65536, 32, 1024]⟩
abbrev S32x65536x1024 : Shape := ⟨3, ![32, 65536, 1024]⟩
abbrev S32x1x1024 : Shape := ⟨3, ![32, 1, 1024]⟩
abbrev S32x65536x1 : Shape := ⟨3, ![32, 65536, 1]⟩

abbrev nBuf : Space → Nat
  | .hbm => 76
  | .vmem => 0
  | .smem => 0
  | _ => 0

abbrev bufTy : (tb : Table) → Fin (tcTables nBuf tb) → BufTy
  | .hbm, ⟨0, _⟩ => ⟨S32, .i32⟩
  | .hbm, ⟨1, _⟩ => ⟨S65536x512, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S_, .i32⟩
  | .hbm, ⟨8, _⟩ => ⟨S32, .i32⟩
  | .hbm, ⟨9, _⟩ => ⟨S32x1, .i32⟩
  | .hbm, ⟨10, _⟩ => ⟨S65536, .i32⟩
  | .hbm, ⟨11, _⟩ => ⟨S1x65536, .i32⟩
  | .hbm, ⟨12, _⟩ => ⟨S32x1, .i32⟩
  | .hbm, ⟨13, _⟩ => ⟨S32x1, .i32⟩
  | .hbm, ⟨14, _⟩ => ⟨S32x65536, .i32⟩
  | .hbm, ⟨15, _⟩ => ⟨S32x65536, .i32⟩
  | .hbm, ⟨16, _⟩ => ⟨S32x65536, .i1⟩
  | .hbm, ⟨17, _⟩ => ⟨S32x65536, .i32⟩
  | .hbm, ⟨18, _⟩ => ⟨S32x65536, .i32⟩
  | .hbm, ⟨19, _⟩ => ⟨S32x65536, .i1⟩
  | .hbm, ⟨20, _⟩ => ⟨S32x65536, .i1⟩
  | .hbm, ⟨21, _⟩ => ⟨S_, .i32⟩
  | .hbm, ⟨22, _⟩ => ⟨S65536x512, .i32⟩
  | .hbm, ⟨23, _⟩ => ⟨S65536x512, .i32⟩
  | .hbm, ⟨24, _⟩ => ⟨S65536x512, .f32⟩
  | .hbm, ⟨25, _⟩ => ⟨S_, .i32⟩
  | .hbm, ⟨26, _⟩ => ⟨S65536x512, .i32⟩
  | .hbm, ⟨27, _⟩ => ⟨S65536x512, .i32⟩
  | .hbm, ⟨28, _⟩ => ⟨S65536x512, .f32⟩
  | .hbm, ⟨29, _⟩ => ⟨S65536x1024, .f32⟩
  | .hbm, ⟨30, _⟩ => ⟨S65536x32x2048, .f32⟩
  | .hbm, ⟨31, _⟩ => ⟨S1x32x2048, .f32⟩
  | .hbm, ⟨32, _⟩ => ⟨S65536x32x2048, .f32⟩
  | .hbm, ⟨33, _⟩ => ⟨S65536x32x2048, .f32⟩
  | .hbm, ⟨34, _⟩ => ⟨S65536x32x1024, .f32⟩
  | .hbm, ⟨35, _⟩ => ⟨S65536x32x1024, .f32⟩
  | .hbm, ⟨36, _⟩ => ⟨S_, .f32⟩
  | .hbm, ⟨37, _⟩ => ⟨S65536x32x1024, .f32⟩
  | .hbm, ⟨38, _⟩ => ⟨S65536x32x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S65536x32x1024, .f32⟩
  | .hbm, ⟨43, _⟩ => ⟨S65536x32x1024, .f32⟩
  | .hbm, ⟨44, _⟩ => ⟨S_, .f32⟩
  | .hbm, ⟨45, _⟩ => ⟨S65536x32x1024, .f32⟩
  | .hbm, ⟨46, _⟩ => ⟨S65536x32x1024, .f32⟩
  | .hbm, ⟨47, _⟩ => ⟨S_, .f32⟩
  | .hbm, ⟨48, _⟩ => ⟨S65536x32x1024, .f32⟩
  | .hbm, ⟨49, _⟩ => ⟨S65536x32x1024, .f32⟩
  | .hbm, ⟨50, _⟩ => ⟨S65536x32x1024, .f32⟩
  | .hbm, ⟨51, _⟩ => ⟨S65536x32x1024, .f32⟩
  | .hbm, ⟨52, _⟩ => ⟨S_, .f32⟩
  | .hbm, ⟨53, _⟩ => ⟨S65536x32x1024, .f32⟩
  | .hbm, ⟨54, _⟩ => ⟨S65536x32x1024, .f32⟩
  | .hbm, ⟨55, _⟩ => ⟨S_, .f32⟩
  | .hbm, ⟨56, _⟩ => ⟨S65536x32x1024, .f32⟩
  | .hbm, ⟨57, _⟩ => ⟨S65536x32x1024, .f32⟩
  | .hbm, ⟨58, _⟩ => ⟨S65536x32x1024, .f32⟩
  | .hbm, ⟨59, _⟩ => ⟨S_, .f32⟩
  | .hbm, ⟨60, _⟩ => ⟨S65536x32x1024, .f32⟩
  | .hbm, ⟨61, _⟩ => ⟨S65536x32x1024, .f32⟩
  | .hbm, ⟨62, _⟩ => ⟨S65536x32x1024, .f32⟩
  | .hbm, ⟨63, _⟩ => ⟨S32x65536x1024, .f32⟩
  | .hbm, ⟨64, _⟩ => ⟨S32x1x1024, .f32⟩
  | .hbm, ⟨65, _⟩ => ⟨S32x65536x1024, .f32⟩
  | .hbm, ⟨66, _⟩ => ⟨S32x65536x1024, .f32⟩
  | .hbm, ⟨67, _⟩ => ⟨S32x65536x1, .i1⟩
  | .hbm, ⟨68, _⟩ => ⟨S_, .f32⟩
  | .hbm, ⟨69, _⟩ => ⟨S_, .f32⟩
  | .hbm, ⟨70, _⟩ => ⟨S32x65536x1024, .i1⟩
  | .hbm, ⟨71, _⟩ => ⟨S32x65536x1024, .f32⟩
  | .hbm, ⟨72, _⟩ => ⟨S32x65536x1024, .f32⟩
  | .hbm, ⟨73, _⟩ => ⟨S_, .f32⟩
  | .hbm, ⟨74, _⟩ => ⟨S65536x1024, .f32⟩
  | .hbm, ⟨75, _⟩ => ⟨S65536x1024, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]
-- ==== Kernel.lean ====
abbrev S8192x512 : Shape := ⟨2, ![8192, 512]⟩
abbrev S16384x1024 : Shape := ⟨2, ![16384, 1024]⟩
abbrev S8x16384 : Shape := ⟨2, ![8, 16384]⟩
abbrev S4x6x1024 : Shape := ⟨3, ![4, 6, 1024]⟩
abbrev S1x1024 : Shape := ⟨2, ![1, 1024]⟩
abbrev S512x512 : Shape := ⟨2, ![512, 512]⟩
abbrev S512x1024 : Shape := ⟨2, ![512, 1024]⟩
abbrev S8x512 : Shape := ⟨2, ![8, 512]⟩
abbrev S1x6x1024 : Shape := ⟨3, ![1, 6, 1024]⟩
abbrev S120x512 : Shape := ⟨2, ![120, 512]⟩
abbrev S128x512 : Shape := ⟨2, ![128, 512]⟩
abbrev S512x128 : Shape := ⟨2, ![512, 128]⟩
abbrev S512x1 : Shape := ⟨2, ![512, 1]⟩
abbrev S6x1024 : Shape := ⟨2, ![6, 1024]⟩
abbrev S512 : Shape := ⟨1, ![512]⟩

abbrev nBuf : Space → Nat
  | .hbm => 6
  | .vmem => 17
  | .smem => 0
  | _ => 0

abbrev bufTy : (tb : Table) → Fin (tcTables nBuf tb) → BufTy
  | .hbm, ⟨0, _⟩ => ⟨S8192x512, .i32⟩
  | .hbm, ⟨1, _⟩ => ⟨S16384x1024, .f32⟩
  | .hbm, ⟨2, _⟩ => ⟨S8x16384, .f32⟩
  | .hbm, ⟨3, _⟩ => ⟨S4x6x1024, .f32⟩
  | .hbm, ⟨4, _⟩ => ⟨S1x1024, .f32⟩
  | .hbm, ⟨5, _⟩ => ⟨S16384x1024, .f32⟩
  | .local _ .vmem, ⟨0, _⟩ => ⟨S512x512, .i32⟩
  | .local _ .vmem, ⟨1, _⟩ => ⟨S512x512, .i32⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S512x512, .i32⟩
  | .local _ .vmem, ⟨7, _⟩ => ⟨S512x512, .i32⟩
  | .local _ .vmem, ⟨8, _⟩ => ⟨S512x1024, .f32⟩
  | .local _ .vmem, ⟨9, _⟩ => ⟨S512x1024, .f32⟩
  | .local _ .vmem, ⟨10, _⟩ => ⟨S8x512, .f32⟩
  | .local _ .vmem, ⟨11, _⟩ => ⟨S8x512, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S8192x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 3 → Nat :=
  let arg0 : BitVec 32 := BitVec.ofNat 32 (i 0).val
  let c0_i32 : BitVec 32 := 0#32
  let v0 : BitVec 32 := Scalar.addi c0_i32 arg0
  let c8_i32 : BitVec 32 := 8#32
  let v1 : BitVec 32 := Scalar.divsi v0 c8_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c8_i32 c0_i32_2
  let v8 : BitVec 32 := Scalar.extui v7
  let c0_i32_3 : BitVec 32 := 0#32
  let v9 : BitVec 1 := Scalar.cmpi .slt c8_i32 c0_i32_3
  let v10 : BitVec 32 := Scalar.extui v9
  let v11 : BitVec 32 := Scalar.subi v8 v10
  let v12 : BitVec 1 := Scalar.cmpi .ne v6 v11
  let v13 : BitVec 32 := Scalar.remsi v0 c8_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8192x512 : Shape := ⟨2, ![8192, 512]⟩
abbrev S16384x1024 : Shape := ⟨2, ![16384, 1024]⟩
abbrev S8x16384 : Shape := ⟨2, ![8, 16384]⟩
abbrev S4x6x1024 : Shape := ⟨3, ![4, 6, 1024]⟩
abbrev S1x1024 : Shape := ⟨2, ![1, 1024]⟩
abbrev S4x2048x512 : Shape := ⟨3, ![4, 2048, 512]⟩
abbrev S_ : Shape := ⟨0, ![]⟩
abbrev S4x2048x1024 : Shape := ⟨3, ![4, 2048, 1024]⟩
abbrev S4x2048 : Shape := ⟨2, ![4, 2048]⟩
abbrev S4x2048x1 : Shape := ⟨3, ![4, 2048, 1]⟩
abbrev S2048x1024 : Shape := ⟨2, ![2048, 1024]⟩
abbrev S1x1x1024 : Shape := ⟨3, ![1, 1, 1024]⟩
abbrev S1024 : Shape := ⟨1, ![1024]⟩
abbrev S2048 : Shape := ⟨1, ![2048]⟩
abbrev S2048x1 : Shape := ⟨2, ![2048, 1]⟩
abbrev S14336x1024 : Shape := ⟨2, ![14336, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x512, .i32⟩
  | .hbm, ⟨1, _⟩ => ⟨S16384x1024, .f32⟩
  | .hbm, ⟨2, _⟩ => ⟨S8x16384, .f32⟩
  | .hbm, ⟨3, _⟩ => ⟨S4x6x1024, .f32⟩
  | .hbm, ⟨4, _⟩ => ⟨S1x1024, .f32⟩
  | .hbm, ⟨5, _⟩ => ⟨S4x2048x512, .i32⟩
  | .hbm, ⟨6, _⟩ => ⟨S_, .i32⟩
  | .hbm, ⟨7, _⟩ => ⟨S4x2048x512, .i32⟩
  | .hbm, ⟨8, _⟩ => ⟨S4x2048x512, .i32⟩
  | .hbm, ⟨9, _⟩ => ⟨S4x2048x512, .f32⟩
  | .hbm, ⟨10, _⟩ => ⟨S_, .i32⟩
  | .hbm, ⟨11, _⟩ => ⟨S4x2048x512, .i32⟩
  | .hbm, ⟨12, _⟩ => ⟨S4x2048x512, .i32⟩
  | .hbm, ⟨13, _⟩ => ⟨S4x2048x512, .f32⟩
  | .hbm, ⟨14, _⟩ => ⟨S4x2048x1024, .f32⟩
  | .hbm, ⟨15, _⟩ => ⟨S4x2048, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S1x1x1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S14336x1024, .f32⟩
  | .hbm, ⟨44, _⟩ => ⟨S16384x1024, .f32⟩
  | _, _ => ⟨S8192x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel3.lean ====
abbrev S4x1024 : Shape := ⟨2, ![4, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1024x6144, .f32⟩
  | .hbm, ⟨9, _⟩ => ⟨S6144, .f32⟩
  | .hbm, ⟨10, _⟩ => ⟨S1x6144, .f32⟩
  | .hbm, ⟨11, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4x1024 : Shape := ⟨2, ![4, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 23
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1024x6144, .f32⟩
  | .hbm, ⟨18, _⟩ => ⟨S8x6144, .f32⟩
  | .hbm, ⟨19, _⟩ => ⟨S6144, .f32⟩
  | .hbm, ⟨20, _⟩ => ⟨S1x6144, .f32⟩
  | .hbm, ⟨21, _⟩ => ⟨S8x6144, .f32⟩
  | .hbm, ⟨22, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel4.lean ====
abbrev S4x4x4096x128 : Shape := ⟨4, ![4, 4, 4096, 128]⟩
abbrev S4x4096x512 : Shape := ⟨3, ![4, 4096, 512]⟩
abbrev S4x4096x1024 : Shape := ⟨3, ![4, 4096, 1024]⟩
abbrev S4x6x1024 : Shape := ⟨3, ![4, 6, 1024]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S1x128 : Shape := ⟨2, ![1, 128]⟩
abbrev S1x512 : Shape := ⟨2, ![1, 512]⟩
abbrev S1x1024 : Shape := ⟨2, ![1, 1024]⟩
abbrev S8x16384 : Shape := ⟨2, ![8, 16384]⟩
abbrev S8x128 : Shape := ⟨2, ![8, 128]⟩
abbrev S1x4x512x128 : Shape := ⟨4, ![1, 4, 512, 128]⟩
abbrev S1x512x512 : Shape := ⟨3, ![1, 512, 512]⟩
abbrev S1x8x512 : Shape := ⟨3, ![1, 8, 512]⟩
abbrev S1x512x1024 : Shape := ⟨3, ![1, 512, 1024]⟩
abbrev S1x6x1024 : Shape := ⟨3, ![1, 6, 1024]⟩
abbrev S8x512 : Shape := ⟨2, ![8, 512]⟩
abbrev S528x512 : Shape := ⟨2, ![528, 512]⟩
abbrev S512x512 : Shape := ⟨2, ![512, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x1x512x128 : Shape := ⟨4, ![1, 1, 512, 128]⟩
abbrev S512x1024 : Shape := ⟨2, ![512, 1024]⟩
abbrev S6x1024 : Shape := ⟨2, ![6, 1024]⟩
abbrev S512x256 : Shape := ⟨2, ![512, 256]⟩
abbrev S1024x128 : Shape := ⟨2, ![1024, 128]⟩
abbrev S128 : Shape := ⟨1, ![128]⟩
abbrev S128x512 : Shape := ⟨2, ![128, 512]⟩

abbrev nBuf : Space → Nat
  | .hbm => 19
  | .vmem => 29
  | .smem => 0
  | _ => 0

abbrev bufTy : (tb : Table) → Fin (tcTables nBuf tb) → BufTy
  | .hbm, ⟨0, _⟩ => ⟨S4x4x4096x128, .bf16⟩
  | .hbm, ⟨1, _⟩ => ⟨S4x4096x512, .f32⟩
  | .hbm, ⟨2, _⟩ => ⟨S4x4096x1024, .f32⟩
  | .hbm, ⟨3, _⟩ => ⟨S4x6x1024, .f32⟩
  | .hbm, ⟨4, _⟩ => ⟨S4x128x128, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x256, .bf16⟩
  | .hbm, ⟨9, _⟩ => ⟨S1x128, .f32⟩
  | .hbm, ⟨10, _⟩ => ⟨S4x128x128, .bf16⟩
  | .hbm, ⟨11, _⟩ => ⟨S1x512, .f32⟩
  | .hbm, ⟨12, _⟩ => ⟨S1024x1024, .bf16⟩
  | .hbm, ⟨13, _⟩ => ⟨S1x1024, .f32⟩
  | .hbm, ⟨14, _⟩ => ⟨S4x4096x1024, .f32⟩
  | .hbm, ⟨15, _⟩ => ⟨S4x4096x512, .i32⟩
  | .hbm, ⟨16, _⟩ => ⟨S8x16384, .f32⟩
  | .hbm, ⟨17, _⟩ => ⟨S8x16384, .i32⟩
  | .hbm, ⟨18, _⟩ => ⟨S8x128, .f32⟩
  | .local _ .vmem, ⟨0, _⟩ => ⟨S1x4x512x128, .bf16⟩
  | .local _ .vmem, ⟨1, _⟩ => ⟨S1x4x512x128, .bf16⟩
  | .local _ .vmem, ⟨2, _⟩ => ⟨S1x512x512, .f32⟩
  | .local _ .vmem, ⟨3, _⟩ => ⟨S1x512x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S1x512x1024, .f32⟩
  | .local _ .vmem, ⟨9, _⟩ => ⟨S1x512x1024, .f32⟩
  | .local _ .vmem, ⟨10, _⟩ => ⟨S1x6x1024, .f32⟩
  | .local _ .vmem, ⟨11, _⟩ => ⟨S1x6x1024, .f32⟩
  | .local _ .vmem, ⟨12, _⟩ => ⟨S4x128x128, .bf16⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1024x256, .bf16⟩
  | .local _ .vmem, ⟨17, _⟩ => ⟨S1x128, .f32⟩
  | .local _ .vmem, ⟨18, _⟩ => ⟨S1x512x1024, .f32⟩
  | .local _ .vmem, ⟨19, _⟩ => ⟨S1x512x1024, .f32⟩
  | .local _ .vmem, ⟨20, _⟩ => ⟨S1x512x512, .i32⟩
  | .local _ .vmem, ⟨21, _⟩ => ⟨S1x512x512, .i32⟩
  | .local _ .vmem, ⟨22, _⟩ => ⟨S8x512, .f32⟩
  | .local _ .vmem, ⟨23, _⟩ => ⟨S8x512, .f32⟩
  | .local _ .vmem, ⟨24, _⟩ => ⟨S8x512, .i32⟩
  | .local _ .vmem, ⟨25, _⟩ => ⟨S8x512, .i32⟩
  | .local _ .vmem, ⟨26, _⟩ => ⟨S8x128, .f32⟩
  | .local _ .vmem, ⟨27, _⟩ => ⟨S528x512, .f32⟩
  | .local _ .vmem, ⟨28, _⟩ => ⟨S8x128, .f32⟩
  | _, _ => ⟨S4x4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26

abbrev nD : Nat := 1
abbrev τ : Topo := Topo.v7x

variable {F : FTy → Type} [BitOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== Proof.MoeTab.lean ====
module

public import proofs.«01_k».proof.Proof.MoeSched
public import Idealize.ShloMosaic.Lib.Routing.OpsSearch
public import Idealize.ShloMosaic.Lib.Routing.Words

@[expose] public section

set_option maxRecDepth 16384

noncomputable section

namespace Cert.Kernel2.Moe

open Cert.Kernel2 Cert.Kernel2.Gen
open Idealize.ShloMosaic Idealize.ShloMosaic.TcCoe
open Idealize.ShloMosaic.Routing (pyDiv pyRem)

/-! ## The schedule's tables as functions of the counts -/

section Tables
variable (C : IVec S32 32)

/-- A word at every expert, at every item. -/
abbrev b32 (w : BitVec 32) : IVec S32 32 := broadcastInDim S32 ![] bcast_S_S32 (constantI S_ 32 w)
abbrev b160 (w : BitVec 32) : IVec S160 32 := broadcastInDim S160 ![] bcast_S_S160 (constantI S_ 32 w)
/-- An expert's word along each row of the items' rectangle; an item's word down each column. -/
abbrev alongE {α : Type} (x : S32.Idx → α) : S160x32.Idx → α := broadcastInDim S160x32 ![0, 1] bcast_S1x32_S160x32_0_1 (broadcastInDim S1x32 ![1] bcast_S32_S1x32_1 x)
abbrev alongI {α : Type} (x : S160.Idx → α) : S160x32.Idx → α := broadcastInDim S160x32 ![0, 1] bcast_S160x1_S160x32_0_1 (broadcastInDim S160x1 ![0] bcast_S160_S160x1_0 x)
/-- The running sum over the experts, over the items. -/
abbrev run32 (x : IVec S32 32) : IVec S32 32 := Host.reduceWindow IntOp.addi ![32] ![1] ![31] ![0] x (broadcastInDim S_ ![] bcast_S_S_ (constantI S_ 32 0#32)) reduceWindows_S32_S32_w32s1p31_0 h_S_
abbrev run160 (x : IVec S160 32) : IVec S160 32 := Host.reduceWindow IntOp.addi ![160] ![1] ![159] ![0] x (broadcastInDim S_ ![] bcast_S_S_ (constantI S_ 32 0#32)) reduceWindows_S160_S160_w160s1p159_0 h_S_

def tEnds : IVec S32 32 := run32 C
def tStarts : IVec S32 32 := subi (tEnds C) C
def tFirst : IVec S32 32 := pyDiv bcast_S_S32 (tStarts C) (constantI S_ 32 512#32)
def tLast : IVec S32 32 := pyDiv bcast_S_S32 (subi (tEnds C) (b32 1#32)) (constantI S_ 32 512#32)
def tPer : IVec S32 32 := select (cmpi .sgt C (b32 0#32)) (addi (subi (tLast C) (tFirst C)) (b32 1#32)) (b32 0#32)
def tIEnds : IVec S32 32 := run32 (tPer C)
def tIStarts : IVec S32 32 := subi (tIEnds C) (tPer C)
def tTotal : IVec S_ 32 := shapeCast S_ (extractStridedSlice S1 ![31] (tIEnds C) slices_S32_S1_31) shapeCasts_S1_S_
def tLive : IVec S160 1 := cmpi .slt (iotaInDim S160 32 0) (broadcastInDim S160 ![] bcast_S_S160 (tTotal C))
def tItc : IVec S160 32 := minsi (iotaInDim S160 32 0) (broadcastInDim S160 ![] bcast_S_S160 (subi (tTotal C) (constantI S_ 32 1#32)))
def tExp : IVec S160 32 := Host.reduce IntOp.addi (extui 32 (cmpi .sle (alongE (tIEnds C)) (alongI (tItc C))) natLt_1_32) (constantI S_ 32 0#32) reducesTo_S160x32_S160_d1 h_S_
def tIs : IVec S160x32 1 := cmpi .eq (alongI (tExp C)) (alongE (iotaInDim S32 32 0))
def tPick (t : IVec S32 32) : IVec S160 32 := Host.reduce IntOp.addi (select (tIs C) (alongE t) (broadcastInDim S160x32 ![] bcast_S_S160x32 (constantI S_ 32 0#32))) (constantI S_ 32 0#32) reducesTo_S160x32_S160_d1 h_S_
def tBlk : IVec S160 32 := subi (addi (tPick C (tFirst C)) (tItc C)) (tPick C (tIStarts C))
def tClip (x : IVec S160 32) : IVec S160 32 := minsi (b160 512#32) (maxsi (b160 0#32) x)
def tLo : IVec S160 32 := tClip (subi (tPick C (tStarts C)) (muli (tBlk C) (b160 512#32)))
def tHi : IVec S160 32 := select (tLive C) (tClip (subi (tPick C (tEnds C)) (muli (tBlk C) (b160 512#32)))) (tLo C)
def tPrev (x : IVec S160 32) : IVec S160 32 :=
  concatenate S160 0 [⟨S1, broadcastInDim S1 ![] bcast_S_S1 (constantI S_ 32 4294967295#32)⟩, ⟨S159, extractStridedSlice S159 ![0] x slices_S160_S159_0⟩] concatenates_S1_S159_S160_d0
def tNewB : IVec S160 1 := andi (tLive C) (cmpi .ne (tExp C) (tPrev (tExp C)))
def tInitB : IVec S160 1 := andi (tLive C) (cmpi .ne (tBlk C) (tPrev (tBlk C)))
def tNew : IVec S160 32 := extui 32 (tNewB C) natLt_1_32
def tInit : IVec S160 32 := extui 32 (tInitB C) natLt_1_32
def tSlot : IVec S160 32 := pyRem bcast_S_S160 (subi (run160 (tNew C)) (b160 1#32)) (constantI S_ 32 2#32)
/-- The expert's number along each row, down each column, of the experts' square. -/
abbrev sqC {α : Type} (x : S32.Idx → α) : S32x32.Idx → α := broadcastInDim S32x32 ![0, 1] bcast_S1x32_S32x32_0_1 (broadcastInDim S1x32 ![1] bcast_S32_S1x32_1 x)
abbrev sqR {α : Type} (x : S32.Idx → α) : S32x32.Idx → α := broadcastInDim S32x32 ![0, 1] bcast_S32x1_S32x32_0_1 (broadcastInDim S32x1 ![0] bcast_S32_S32x1_0 x)
def tLater : IVec S32x32 1 :=
  andi (broadcastInDim S32x32 ![0, 1] bcast_S1x32_S32x32_0_1 (cmpi .sgt (broadcastInDim S1x32 ![1] bcast_S32_S1x32_1 C) (broadcastInDim S1x32 ![] bcast_S_S1x32 (constantI S_ 32 0#32))))
    (cmpi .sgt (sqC (iotaInDim S32 32 0)) (sqR (iotaInDim S32 32 0)))
def tMin : IVec S32 32 := Host.reduce IntOp.minsi (select (tLater C) (sqC (iotaInDim S32 32 0)) (broadcastInDim S32x32 ![] bcast_S_S32x32 (constantI S_ 32 32#32))) (constantI S_ 32 2147483647#32) reducesTo_S32x32_S32_d1 h_S_
def tNxt : IVec S32 32 := select (cmpi .eq (tMin C) (b32 32#32)) (b32 4294967295#32) (tMin C)
def tNext : IVec S160 32 := tPick C (tNxt C)

end Tables

end Cert.Kernel2.Moe
-- ==== Proof.MoeNat.lean ====
module

public import Idealize.ShloMosaic.Lib.Routing.Count

@[expose] public section

namespace Cert.MoeNat

/-! # The schedule over the natural numbers

The rows are sorted by expert; expert `e` has `c e` of them. Blocks have 512 rows. Every expert visits each block that holds
one of its rows, in order, and an item is one such visit. -/

/-- The sum of the first `e` values. -/
def ps (f : ℕ → ℕ) (e : ℕ) : ℕ := ((List.range e).map f).sum

theorem ps_zero (f : ℕ → ℕ) : ps f 0 = 0 := rfl

theorem ps_succ (f : ℕ → ℕ) (e : ℕ) : ps f (e + 1) = ps f e + f e := by
  unfold ps
  rw [List.range_succ, List.map_append, List.sum_append]
  simp

theorem ps_mono (f : ℕ → ℕ) {a b : ℕ} (h : a ≤ b) : ps f a ≤ ps f b := by
  induction b, h using Nat.le_induction with
  | base => exact le_rfl
  | succ n _ ih => rw [ps_succ]; omega

/-- Where a value lies among the partial sums. -/
theorem ps_find (f : ℕ → ℕ) (N x : ℕ) (h : x < ps f N) : ∃ e, e < N ∧ ps f e ≤ x ∧ x < ps f (e + 1) := by
  induction N with
  | zero => exact absurd h (by rw [ps_zero]; omega)
  | succ n ih =>
    by_cases hx : x < ps f n
    · obtain ⟨e, he, h1⟩ := ih hx
      exact ⟨e, by omega, h1⟩
    · exact ⟨n, by omega, by omega, h⟩

theorem ps_unique (f : ℕ → ℕ) {x e e' : ℕ} (h1 : ps f e ≤ x) (h2 : x < ps f (e + 1)) (h1' : ps f e' ≤ x) (h2' : x < ps f (e' + 1)) : e = e' := by
  rcases Nat.lt_trichotomy e e' with h | h | h
  · have := ps_mono f (show e + 1 ≤ e' from h); omega
  · exact h
  · have := ps_mono f (show e' + 1 ≤ e from h); omega

variable (c : ℕ → ℕ)

/-- The first row of expert `e`; the end of its rows is the first row of the next. -/
abbrev S (e : ℕ) : ℕ := ps c e
/-- How many items expert `e` has. -/
def p (e : ℕ) : ℕ := if 0 < c e then (S c (e + 1) - 1) / 512 - S c e / 512 + 1 else 0
/-- The first item of expert `e`. -/
abbrev P (e : ℕ) : ℕ := ps (p c) e
/-- How many items there are. -/
abbrev tot : ℕ := P c 32
/-- The item that position `k` stands for: itself, or the last one. -/
def kc (k : ℕ) : ℕ := min k (tot c - 1)
/-- The expert of item `k`. -/
def ex (k : ℕ) : ℕ := Nat.count (fun e => P c (e + 1) ≤ kc c k) 32
/-- The block of item `k`. -/
def bk (k : ℕ) : ℕ := S c (ex c k) / 512 + kc c k - P c (ex c k)
/-- The first row of the item inside its block, and the end of its rows. -/
def lo (k : ℕ) : ℕ := min (S c (ex c k) - bk c k * 512) 512
def hiL (k : ℕ) : ℕ := min (S c (ex c k + 1) - bk c k * 512) 512
def hi (k : ℕ) : ℕ := if k < tot c then hiL c k else lo c k
/-- Whether item `k` begins an expert, a block. -/
def nw (k : ℕ) : Prop := k < tot c ∧ (k = 0 ∨ ex c k ≠ ex c (k - 1))
def nb (k : ℕ) : Prop := k < tot c ∧ (k = 0 ∨ bk c k ≠ bk c (k - 1))
instance (k : ℕ) : Decidable (nw c k) := by unfold nw; infer_instance
instance (k : ℕ) : Decidable (nb c k) := by unfold nb; infer_instance
/-- How many of the positions up to `k` begin an expert. -/
def nn (k : ℕ) : ℕ := ps (fun i => if nw c i then 1 else 0) (k + 1)

theorem P_mono {a b : ℕ} (h : a ≤ b) : P c a ≤ P c b := ps_mono _ h
theorem S_mono {a b : ℕ} (h : a ≤ b) : S c a ≤ S c b := ps_mono _ h

theorem S_le (hs : S c 32 = 65536) {e : ℕ} (he : e ≤ 32) : S c e ≤ 65536 := hs ▸ ps_mono c he

theorem P_bounds (e : ℕ) : (S c e + 511) / 512 ≤ P c e ∧ P c e ≤ (S c e + 511) / 512 + e := by
  induction e with
  | zero => exact ⟨by simp [S, P, ps_zero], by simp [P, ps_zero]⟩
  | succ n ih =>
    have h1 : S c (n + 1) = S c n + c n := ps_succ c n
    have h2 : P c (n + 1) = P c n + p c n := ps_succ (p c) n
    have h3 : p c n = if 0 < c n then (S c (n + 1) - 1) / 512 - S c n / 512 + 1 else 0 := rfl
    split at h3 <;> omega

theorem tot_pos (hs : S c 32 = 65536) : 128 ≤ tot c ∧ tot c ≤ 160 := by
  have := P_bounds c 32
  rw [hs] at this
  constructor
  · exact this.1
  · exact this.2

theorem kc_lt (hs : S c 32 = 65536) (k : ℕ) : kc c k < tot c := by
  have := tot_pos c hs
  unfold kc
  omega

theorem ex_spec (hs : S c 32 = 65536) (k : ℕ) : ex c k < 32 ∧ P c (ex c k) ≤ kc c k ∧ kc c k < P c (ex c k + 1) := by
  obtain ⟨e, he, h1, h2⟩ := ps_find (p c) 32 (kc c k) (kc_lt c hs k)
  have : ex c k = e := by
    have hQ : ∀ a b, a ≤ b → b < 32 → P c (b + 1) ≤ kc c k → P c (a + 1) ≤ kc c k := fun a b hab _ h =>
      le_trans (P_mono c (by omega)) h
    rcases Nat.lt_trichotomy (ex c k) e with h | h | h
    · exact absurd ((Idealize.ShloMosaic.Routing.lt_count_iff (Q := fun e => P c (e + 1) ≤ kc c k) hQ (show ex c k < 32 by omega)).1
        (le_trans (P_mono c (show ex c k + 1 ≤ e from h)) h1)) (lt_irrefl _)
    · exact h
    · exact absurd ((Idealize.ShloMosaic.Routing.lt_count_iff (Q := fun e => P c (e + 1) ≤ kc c k) hQ he).2 h) (by show ¬ P c (e + 1) ≤ kc c k; have h2' : kc c k < P c (e + 1) := h2; omega)
  rw [this]
  exact ⟨he, h1, h2⟩

theorem ex_eq (hs : S c 32 = 65536) {k e : ℕ} (h1 : P c e ≤ kc c k) (h2 : kc c k < P c (e + 1)) : ex c k = e :=
  ps_unique (p c) (ex_spec c hs k).2.1 (ex_spec c hs k).2.2 h1 h2

/-- What item `k` is: its expert has rows, its block lies within the expert's blocks. -/
theorem item (hs : S c 32 = 65536) (k : ℕ) :
    0 < c (ex c k) ∧ S c (ex c k + 1) = S c (ex c k) + c (ex c k) ∧ bk c k + P c (ex c k) = S c (ex c k) / 512 + kc c k ∧ S c (ex c k) / 512 ≤ bk c k
      ∧ bk c k ≤ (S c (ex c k + 1) - 1) / 512 ∧ S c (ex c k + 1) ≤ 65536 := by
  obtain ⟨he, h1, h2⟩ := ex_spec c hs k
  have h3 : P c (ex c k + 1) = P c (ex c k) + p c (ex c k) := ps_succ (p c) _
  have h4 : p c (ex c k) = if 0 < c (ex c k) then (S c (ex c k + 1) - 1) / 512 - S c (ex c k) / 512 + 1 else 0 := rfl
  have h5 : S c (ex c k + 1) = S c (ex c k) + c (ex c k) := ps_succ c _
  have h6 := S_le c hs (show ex c k + 1 ≤ 32 by omega)
  have h7 : bk c k = S c (ex c k) / 512 + kc c k - P c (ex c k) := rfl
  split at h4
  · refine ⟨by assumption, h5, by omega, by omega, by omega, h6⟩
  · omega

theorem bk_lt (hs : S c 32 = 65536) (k : ℕ) : bk c k < 128 := by
  have := item c hs k
  omega

theorem lo_le (hs : S c 32 = 65536) (k : ℕ) : lo c k ≤ hi c k ∧ hi c k ≤ 512 := by
  have := item c hs k
  unfold hi hiL lo
  split <;> omega

theorem kc_live {k : ℕ} (h : k < tot c) : kc c k = k := by unfold kc; omega

theorem kc_succ_dead {k : ℕ} (h : ¬ k + 1 < tot c) : kc c (k + 1) = kc c k := by unfold kc; omega

theorem ex_dead {k : ℕ} (h : ¬ k + 1 < tot c) : ex c (k + 1) = ex c k := by unfold ex; rw [kc_succ_dead c h]

theorem bk_dead {k : ℕ} (h : ¬ k + 1 < tot c) : bk c (k + 1) = bk c k := by unfold bk; rw [ex_dead c h, kc_succ_dead c h]

theorem ex_old {k : ℕ} (h : ¬ nw c (k + 1)) : ex c (k + 1) = ex c k := by
  by_cases hk : k + 1 < tot c
  · by_contra hne
    exact h ⟨hk, Or.inr hne⟩
  · exact ex_dead c hk

theorem bk_old {k : ℕ} (h : ¬ nb c (k + 1)) : bk c (k + 1) = bk c k := by
  by_cases hk : k + 1 < tot c
  · by_contra hne
    exact h ⟨hk, Or.inr hne⟩
  · exact bk_dead c hk

/-- The expert after a change: the next one that has rows. -/
theorem ex_new (hs : S c 32 = 65536) {k : ℕ} (h : nw c (k + 1)) :
    ex c k < ex c (k + 1) ∧ k + 1 = P c (ex c k + 1) ∧ ∀ i, ex c k < i → i < ex c (k + 1) → c i = 0 := by
  obtain ⟨hk, hne⟩ := h
  have hne : ex c (k + 1) ≠ ex c k := by rcases hne with h | h; · omega
                                         · exact h
  have e1 := ex_spec c hs k
  have e2 := ex_spec c hs (k + 1)
  rw [kc_live c hk] at e2
  rw [kc_live c (show k < tot c by omega)] at e1
  have hlt : ex c k < ex c (k + 1) := by
    rcases Nat.lt_trichotomy (ex c k) (ex c (k + 1)) with h | h | h
    · exact h
    · exact absurd h.symm hne
    · have := P_mono c (show ex c (k + 1) + 1 ≤ ex c k from h); omega
  have hm := P_mono c (show ex c k + 1 ≤ ex c (k + 1) from hlt)
  refine ⟨hlt, by omega, fun i h1 h2 => ?_⟩
  have h3 := P_mono c (show ex c k + 1 ≤ i from h1)
  have h4 := P_mono c (show i + 1 ≤ ex c (k + 1) from h2)
  have h5 : P c (i + 1) = P c i + p c i := ps_succ (p c) i
  have h6 : p c i = 0 := by omega
  unfold p at h6
  split at h6
  · omega
  · omega

/-- No expert after the last item's has rows. -/
theorem ex_last (hs : S c 32 = 65536) (i : ℕ) (hi : ex c 159 < i) (h32 : i < 32) : c i = 0 := by
  have e1 := ex_spec c hs 159
  have ht := tot_pos c hs
  have hk : kc c 159 = tot c - 1 := by unfold kc; omega
  have h1 := P_mono c (show ex c 159 + 1 ≤ i from hi)
  have h2 := P_mono c (show i + 1 ≤ 32 from h32)
  have h5 : P c (i + 1) = P c i + p c i := ps_succ (p c) i
  have h6 : p c i = 0 := by
    have : tot c = P c 32 := rfl
    omega
  unfold p at h6
  split at h6 <;> omega

/-- The blocks come in order. -/
theorem bk_mono (hs : S c 32 = 65536) (k : ℕ) : bk c k ≤ bk c (k + 1) := by
  by_cases hk : k + 1 < tot c
  · have i1 := item c hs k
    have i2 := item c hs (k + 1)
    rw [kc_live c hk] at i2
    rw [kc_live c (show k < tot c by omega)] at i1
    by_cases hn : nw c (k + 1)
    · obtain ⟨h1, h2, _⟩ := ex_new c hs hn
      have h3 : S c (ex c k + 1) ≤ S c (ex c (k + 1)) := S_mono c h1
      omega
    · have h := ex_old c hn
      rw [h] at i2
      omega
  · rw [bk_dead c hk]

theorem nn_zero (hs : S c 32 = 65536) : nn c 0 = 1 := by
  have ht := tot_pos c hs
  unfold nn
  rw [ps_succ, ps_zero, if_pos ⟨by omega, Or.inl rfl⟩]

theorem nn_succ (k : ℕ) : nn c (k + 1) = nn c k + if nw c (k + 1) then 1 else 0 := ps_succ _ _

theorem nn_pos (hs : S c 32 = 65536) (k : ℕ) : 1 ≤ nn c k ∧ nn c k ≤ k + 1 := by
  induction k with
  | zero => rw [nn_zero c hs]; omega
  | succ n ih => rw [nn_succ]; split <;> omega

/-- The item of row `R`: every row of every block is computed by exactly one item, that of the row's expert. -/
theorem row_item (hs : S c 32 = 65536) {R e : ℕ} (hR : R < 65536) (he : e < 32) (h1 : S c e ≤ R) (h2 : R < S c (e + 1)) :
    ∃ k, k < 160 ∧ k < tot c ∧ ex c k = e ∧ bk c k = R / 512 ∧ lo c k ≤ R % 512 ∧ R % 512 < hi c k := by
  have hse : S c (e + 1) = S c e + c e := ps_succ c e
  have hce : 0 < c e := by omega
  have hP : P c (e + 1) = P c e + p c e := ps_succ (p c) e
  have hp : p c e = (S c (e + 1) - 1) / 512 - S c e / 512 + 1 := by unfold p; rw [if_pos hce]
  have ht := tot_pos c hs
  have hPm : P c (e + 1) ≤ tot c := P_mono c he
  have hk : P c e + (R / 512 - S c e / 512) < tot c := by omega
  have hex : ex c (P c e + (R / 512 - S c e / 512)) = e := ex_eq c hs (by rw [kc_live c hk]; omega) (by rw [kc_live c hk]; omega)
  have hbk : bk c (P c e + (R / 512 - S c e / 512)) = R / 512 := by
    unfold bk
    rw [hex, kc_live c hk]
    omega
  refine ⟨P c e + (R / 512 - S c e / 512), by omega, hk, hex, hbk, ?_, ?_⟩
  · unfold lo
    rw [hex, hbk]
    omega
  · unfold hi hiL
    rw [if_pos hk, hex, hbk]
    omega

/-- An item whose rows include row `R % 512` of block `R / 512` is an item of the expert of row `R`. -/
theorem item_row (hs : S c 32 = 65536) {R k : ℕ} (hb : bk c k = R / 512) (h1 : lo c k ≤ R % 512) (h2 : R % 512 < hi c k) :
    S c (ex c k) ≤ R ∧ R < S c (ex c k + 1) := by
  have i1 := item c hs k
  unfold hi hiL at h2
  unfold lo at h1
  unfold lo at h2
  rw [hb] at h1 h2
  split at h2 <;> omega

end Cert.MoeNat
-- ==== Proof.MoeWords.lean ====
module

public import proofs.«01_k».proof.Proof.MoeTab
public import proofs.«01_k».proof.Proof.MoeNat

@[expose] public section

set_option maxRecDepth 16384

noncomputable section

namespace Cert.Kernel2.Moe

open Cert.Kernel2 Cert.Kernel2.Gen Cert.MoeNat
open Idealize.ShloMosaic hiding ix1 ix2
open Idealize.ShloMosaic.ValueIdx Idealize.ShloMosaic.WordCmp Idealize.ShloMosaic.Routing

/-! ## Folds over a row -/

theorem fold_zero {ι : Type} [DecidableEq ι] (s : Finset ι) (f : ι → BitVec 32) (h : ∀ i ∈ s, f i = 0#32) : s.fold IntOp.addi 0#32 f = 0#32 := by
  induction s using Finset.induction_on with
  | empty => rfl
  | insert a s ha ih =>
    rw [Finset.fold_insert ha, ih fun i hi => h i (Finset.mem_insert_of_mem hi), h a (Finset.mem_insert_self _ _)]
    rfl

/-- A sum with one term that may differ from zero is that term. -/
theorem fold_one {ι : Type} [DecidableEq ι] (s : Finset ι) (f : ι → BitVec 32) (a : ι) (ha : a ∈ s) (h : ∀ i ∈ s, i ≠ a → f i = 0#32) :
    s.fold IntOp.addi 0#32 f = f a := by
  rw [← Finset.insert_erase ha, Finset.fold_insert (Finset.notMem_erase a s),
    fold_zero _ _ fun i hi => h i (Finset.mem_of_mem_erase hi) (Finset.ne_of_mem_erase hi)]
  exact BitVec.add_zero _

/-- A least word of small naturals: one of them, or the first one, and no greater than any. -/
theorem fold_min {ι : Type} [DecidableEq ι] (s : Finset ι) (b : ℕ) (hb : b < 2 ^ 31) (f : ι → BitVec 32) (g : ι → ℕ) (hg : ∀ i ∈ s, f i = BitVec.ofNat 32 (g i) ∧ g i < 2 ^ 31) :
    ∃ r, s.fold IntOp.minsi (BitVec.ofNat 32 b) f = BitVec.ofNat 32 r ∧ r < 2 ^ 31 ∧ (r = b ∨ ∃ i ∈ s, r = g i) ∧ r ≤ b ∧ ∀ i ∈ s, r ≤ g i := by
  induction s using Finset.induction_on with
  | empty => exact ⟨b, rfl, hb, Or.inl rfl, le_rfl, by simp⟩
  | insert a s ha ih =>
    obtain ⟨r, h1, h2, h3, h4, h5⟩ := ih fun i hi => hg i (Finset.mem_insert_of_mem hi)
    obtain ⟨e1, e2⟩ := hg a (Finset.mem_insert_self _ _)
    rw [Finset.fold_insert ha, h1, e1]
    unfold IntOp.minsi
    rw [slt_ofNat32 e2 h2]
    by_cases h : g a < r
    · rw [if_pos (decide_eq_true h)]
      refine ⟨g a, rfl, e2, Or.inr ⟨a, Finset.mem_insert_self _ _, rfl⟩, by omega, fun i hi => ?_⟩
      rcases Finset.mem_insert.1 hi with rfl | hi
      · exact le_rfl
      · have := h5 i hi; omega
    · rw [if_neg (fun e => h (of_decide_eq_true e))]
      refine ⟨r, rfl, h2, ?_, h4, fun i hi => ?_⟩
      · rcases h3 with h3 | ⟨i, hi, h3⟩
        · exact Or.inl h3
        · exact Or.inr ⟨i, Finset.mem_insert_of_mem hi, h3⟩
      · rcases Finset.mem_insert.1 hi with rfl | hi
        · omega
        · exact h5 i hi

theorem drop_row {n m : ℕ} (h : (shape2 n m).ReducesTo [1] (shape1 n)) (i : (shape2 n m).Idx) (q : Fin n) : h.drop i = ix1 q ↔ i 0 = q := by
  have hv : (h.drop i 0 : ℕ) = i 0 := Shape.ReducesTo.drop_apply_val h i 0
  constructor
  · intro e
    rw [e] at hv
    exact Fin.ext hv.symm
  · intro e
    funext b
    obtain rfl : b = 0 := Subsingleton.elim _ _
    exact Fin.ext (hv.trans (congrArg Fin.val e))

theorem idx2_eq {n m : ℕ} (i : (shape2 n m).Idx) : i = ix2 (i 0) (i 1) := by
  funext b
  match b with
  | ⟨0, _⟩ => rfl
  | ⟨1, _⟩ => rfl

/-- The sum of a row whose entries vanish outside one column. -/
theorem row_one {n m : ℕ} (x : IVec (shape2 n m) 32) (h : (shape2 n m).ReducesTo [1] (shape1 n)) (hu : 0 < shape0.numel) (k : Fin n) (e : Fin m)
    (hx : ∀ q : Fin m, q ≠ e → x (ix2 k q) = 0#32) : Host.reduce IntOp.addi x (constantI shape0 32 0#32) h hu (ix1 k) = x (ix2 k e) := by
  classical
  rw [Host.reduce_eq_fold]
  refine fold_one _ x (ix2 k e) (Finset.mem_filter.2 ⟨Finset.mem_univ _, (drop_row h _ _).2 rfl⟩) fun i hi hne => ?_
  have h0 : i 0 = k := (drop_row h i k).1 (Finset.mem_filter.1 hi).2
  have h1 : i 1 ≠ e := fun h1 => hne ((idx2_eq i).trans (congrArg₂ (fun (a : Fin n) (b : Fin m) => ix2 a b) h0 h1))
  exact (congrArg x ((idx2_eq i).trans (congrArg (fun a : Fin n => ix2 a (i 1 : Fin m)) h0))).trans (hx _ h1)

/-- The least word of a row of small naturals. -/
theorem row_min {n m : ℕ} (x : IVec (shape2 n m) 32) (b : ℕ) (hb : b < 2 ^ 31) (h : (shape2 n m).ReducesTo [1] (shape1 n)) (hu : 0 < shape0.numel) (k : Fin n) (g : Fin m → ℕ)
    (hx : ∀ q : Fin m, x (ix2 k q) = BitVec.ofNat 32 (g q) ∧ g q < 2 ^ 31) :
    ∃ r, Host.reduce IntOp.minsi x (constantI shape0 32 (BitVec.ofNat 32 b)) h hu (ix1 k) = BitVec.ofNat 32 r ∧ r < 2 ^ 31 ∧ (r = b ∨ ∃ q, r = g q) ∧ r ≤ b ∧ ∀ q, r ≤ g q := by
  classical
  rw [Host.reduce_eq_fold]
  obtain ⟨r, h1, h2, h3, h4, h5⟩ := fold_min (Finset.univ.filter fun i => h.drop i = ix1 k) b hb x (fun i => g (i 1)) fun i hi => by
    have h0 : i 0 = k := (drop_row h i k).1 (Finset.mem_filter.1 hi).2
    exact ⟨(congrArg x ((idx2_eq i).trans (congrArg (fun a : Fin n => ix2 a (i 1 : Fin m)) h0))).trans (hx (i 1)).1, (hx (i 1)).2⟩
  refine ⟨r, h1, h2, ?_, h4, fun q => h5 (ix2 k q) (Finset.mem_filter.2 ⟨Finset.mem_univ _, (drop_row h _ _).2 rfl⟩)⟩
  rcases h3 with h3 | ⟨i, _, h3⟩
  · exact Or.inl h3
  · exact Or.inr ⟨_, h3⟩

/-! ## The tables hold the schedule -/

/-- The words `jnp.clip` gives of a difference of small naturals. -/
theorem clip_sub {a b h : ℕ} (ha : a < 2 ^ 30) (hb : b < 2 ^ 30) (hh : h < 2 ^ 30) :
    IntOp.minsi (BitVec.ofNat 32 h) (IntOp.maxsi 0#32 (BitVec.ofNat 32 a - BitVec.ofNat 32 b)) = BitVec.ofNat 32 (min (a - b) h) := by
  by_cases hab : b ≤ a
  · rw [ofNat32_sub hab, show (0#32 : BitVec 32) = BitVec.ofNat 32 0 from rfl, clip_word (by omega) (by decide) (by omega), Nat.max_eq_left (Nat.zero_le _)]
  · have : IntOp.maxsi 0#32 (BitVec.ofNat 32 a - BitVec.ofNat 32 b) = BitVec.ofNat 32 0 := by
      unfold IntOp.maxsi
      rw [if_pos]
      have h1 : (BitVec.ofNat 32 a - BitVec.ofNat 32 b).toNat = 2 ^ 32 - (b - a) := by
        rw [BitVec.toNat_sub, BitVec.toNat_ofNat, BitVec.toNat_ofNat]
        omega
      rw [BitVec.slt_iff_toInt_lt, BitVec.toInt_eq_toNat_cond, h1]
      simp only [BitVec.toInt_zero]
      split <;> omega
    rw [this]
    unfold IntOp.minsi
    rw [slt_ofNat32 (by omega) (by decide), show a - b = 0 by omega, Nat.zero_min]
    by_cases h0 : h < 0
    · omega
    · rw [if_neg (fun e => h0 (of_decide_eq_true e))]

theorem min_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left (by omega)]
  · rw [if_neg (fun e => h (of_decide_eq_true e)), Nat.min_eq_right (by omega)]

theorem sel_dec {α : Type} (P : Prop) [Decidable P] (a b : α) : Scalar.select (BitVec.ofBool (decide P)) a b = if P then a else b := by
  by_cases h : P <;> simp [h, Scalar.select]

theorem and_dec (P Q : Prop) [Decidable P] [Decidable Q] : BitVec.ofBool (decide P) &&& BitVec.ofBool (decide Q) = BitVec.ofBool (decide (P ∧ Q)) := by
  by_cases h : P <;> by_cases h' : Q <;> simp [h, h']

theorem w_prev0 (x : IVec S160 32) : tPrev x (ix1 ⟨0, by decide⟩) = 4294967295#32 := by
  unfold tPrev
  refine (concatenate_pair_apply_left (s₁ := S1) (s₂ := S159) 0 _ _ _ (ix1 (⟨0, by decide⟩ : Fin 160)) rfl (ix1 (0 : Fin 1)) fun b => ?_).trans ?_
  · obtain rfl : b = 0 := Subsingleton.elim _ _
    rfl
  · exact bc0 _ _ _

theorem w_prev (x : IVec S160 32) (k : ℕ) (hk : k + 1 < 160) : tPrev x (ix1 ⟨k + 1, hk⟩) = x (ix1 ⟨k, by omega⟩) := by
  unfold tPrev
  refine (concatenate_pair_apply_right (s₁ := S1) (s₂ := S159) 0 _ _ _ (ix1 (⟨k + 1, hk⟩ : Fin 160)) rfl rfl (ix1 (⟨k, by omega⟩ : Fin 159)) (fun b hb => ?_) ?_).trans ?_
  · obtain rfl : b = 0 := Subsingleton.elim _ _
    exact absurd rfl hb
  · rfl
  · refine (slice1 (m := 160) (n := 159) 0 x slices_S160_S159_0 ⟨k, by omega⟩ (by show 0 + k < 160; omega)).trans ?_
    congr 2
    exact Fin.ext (Nat.zero_add _)

theorem big_ne {a : ℕ} (h : a < 2 ^ 30) : a ≠ 4294967295 := by omega

section Words
variable (C : IVec S32 32)

/-- The counts as naturals. -/
def cC (e : ℕ) : ℕ := if h : e < 32 then (C (ix1 ⟨e, h⟩)).toNat else 0

variable (hs : S (cC C) 32 = 65536)
include hs

theorem c_le {e : ℕ} (he : e < 32) : cC C e ≤ 65536 := by
  have h1 : S (cC C) (e + 1) = S (cC C) e + cC C e := ps_succ _ _
  have := S_le (cC C) hs (show e + 1 ≤ 32 by omega)
  omega

theorem w_c (e : Fin 32) : C (ix1 e) = BitVec.ofNat 32 (cC C e.val) := by
  have : cC C e.val = (C (ix1 e)).toNat := dif_pos e.isLt
  rw [this, BitVec.ofNat_toNat, BitVec.setWidth_eq]

theorem S_lt (e : ℕ) (he : e ≤ 32) : S (cC C) e < 2 ^ 30 := lt_of_le_of_lt (S_le _ hs he) (by decide)

theorem w_ends (e : Fin 32) : tEnds C (ix1 e) = BitVec.ofNat 32 (S (cC C) (e.val + 1)) := by
  have h := cumsum1 (N := 32) (Nm1 := 31) rfl C (cC C) (w_c C hs) (broadcastInDim S_ ![] bcast_S_S_ (constantI S_ 32 0#32)) rfl reduceWindows_S32_S32_w32s1p31_0 h_S_ e
  exact h

theorem w_starts (e : Fin 32) : tStarts C (ix1 e) = BitVec.ofNat 32 (S (cC C) e.val) := by
  have h : S (cC C) (e.val + 1) = S (cC C) e.val + cC C e.val := ps_succ _ _
  unfold tStarts
  rw [subi_ap, w_ends C hs, w_c C hs, ofNat32_sub (by omega), h, Nat.add_sub_cancel]

theorem w_first (e : Fin 32) : tFirst C (ix1 e) = BitVec.ofNat 32 (S (cC C) e.val / 512) :=
  pyDiv_ap (s := S32) bcast_S_S32 (tStarts C) _ (ix1 e) (w_starts C hs e) rfl (by have := S_lt C hs e.val (by omega); omega) (by decide) (by decide)

theorem w_last (e : Fin 32) (h0 : 0 < S (cC C) (e.val + 1)) : tLast C (ix1 e) = BitVec.ofNat 32 ((S (cC C) (e.val + 1) - 1) / 512) :=
  pyDiv_ap (s := S32) bcast_S_S32 (subi (tEnds C) (b32 1#32)) _ (ix1 e)
    ((subi_ap _ _ _).trans ((congrArg (· - 1#32) (w_ends C hs e)).trans (ofNat32_sub (b := 1) (by omega))))
    rfl (by have := S_lt C hs (e.val + 1) (by omega); omega) (by decide) (by decide)

theorem w_per (e : Fin 32) : tPer C (ix1 e) = BitVec.ofNat 32 (p (cC C) e.val) := by
  have hc := c_le C hs e.isLt
  have h1 : S (cC C) (e.val + 1) = S (cC C) e.val + cC C e.val := ps_succ _ _
  have h2 := S_lt C hs (e.val + 1) (by omega)
  have e0 : tPer C (ix1 e) = Scalar.select (IntOp.cmpi .sgt (C (ix1 e)) (BitVec.ofNat 32 0)) (tLast C (ix1 e) - tFirst C (ix1 e) + BitVec.ofNat 32 1) 0#32 := rfl
  rw [e0, w_c C hs, cmpi_sgt_ofNat (w := 32) (by omega) (by decide), sel_dec]
  unfold p
  split
  · rw [w_last C hs e (by omega), w_first C hs, ofNat32_sub (Nat.div_le_div_right (by omega)), ← BitVec.ofNat_add]
  · rfl

theorem P_lt (e : ℕ) (he : e ≤ 32) : P (cC C) e < 2 ^ 30 := by
  have h1 := P_bounds (cC C) e
  have h2 := S_lt C hs e he
  omega

theorem w_iends (e : Fin 32) : tIEnds C (ix1 e) = BitVec.ofNat 32 (P (cC C) (e.val + 1)) := by
  have h := cumsum1 (N := 32) (Nm1 := 31) rfl (tPer C) (p (cC C)) (w_per C hs) (broadcastInDim S_ ![] bcast_S_S_ (constantI S_ 32 0#32)) rfl reduceWindows_S32_S32_w32s1p31_0 h_S_ e
  exact h

theorem w_istarts (e : Fin 32) : tIStarts C (ix1 e) = BitVec.ofNat 32 (P (cC C) e.val) := by
  have h : P (cC C) (e.val + 1) = P (cC C) e.val + p (cC C) e.val := ps_succ _ _
  unfold tIStarts
  rw [subi_ap, w_iends C hs, w_per C hs, ofNat32_sub (by omega), h, Nat.add_sub_cancel]

theorem w_total : tTotal C ValueIdx.ix0 = BitVec.ofNat 32 (tot (cC C)) := by
  unfold tTotal
  refine (shapeCast_apply _ _ ValueIdx.ix0 (ix1 (0 : Fin 1)) rfl).trans ?_
  exact (slice1 (m := 32) (n := 1) 31 (tIEnds C) slices_S32_S1_31 0 (by decide)).trans (w_iends C hs ⟨31, by decide⟩)

theorem w_live (k : Fin 160) : tLive C (ix1 k) = BitVec.ofBool (decide (k.val < tot (cC C))) := by
  have ht := tot_pos (cC C) hs
  have e0 : tLive C (ix1 k) = IntOp.cmpi .slt (BitVec.ofNat 32 k.val) (broadcastInDim S160 ![] bcast_S_S160 (tTotal C) (ix1 k)) := rfl
  rw [e0, bc0, w_total C hs, cmpi_slt_ofNat (w := 32) (by omega) (by omega)]

theorem w_itc (k : Fin 160) : tItc C (ix1 k) = BitVec.ofNat 32 (kc (cC C) k.val) := by
  have ht := tot_pos (cC C) hs
  have e0 : tItc C (ix1 k) = IntOp.minsi (BitVec.ofNat 32 k.val) (broadcastInDim S160 ![] bcast_S_S160 (subi (tTotal C) (constantI S_ 32 1#32)) (ix1 k)) := rfl
  rw [e0, bc0, subi_ap, w_total C hs, show constantI S_ 32 1#32 ValueIdx.ix0 = BitVec.ofNat 32 1 from rfl, ofNat32_sub (by omega), min_word (by omega) (by omega)]
  rfl

theorem kc_lt' (k : ℕ) : kc (cC C) k < 160 := by
  have ht := tot_pos (cC C) hs
  have := kc_lt (cC C) hs k
  omega

theorem w_exp (k : Fin 160) : tExp C (ix1 k) = BitVec.ofNat 32 (ex (cC C) k.val) := by
  refine reduce_count (n := 160) (m := 32) (by decide) _ natLt_1_32 reducesTo_S160x32_S160_d1 h_S_ k (fun e => P (cC C) (e + 1) ≤ kc (cC C) k.val) fun q => ?_
  have e0 : cmpi .sle (alongE (tIEnds C)) (alongI (tItc C)) (ix2 k q) = IntOp.cmpi .sle (alongE (tIEnds C) (ix2 k q)) (alongI (tItc C) (ix2 k q)) := rfl
  have h1 := P_lt C hs (q.val + 1) (by omega)
  have h2 := kc_lt' C hs k.val
  rw [e0, show alongE (tIEnds C) (ix2 k q) = tIEnds C (ix1 q) from bcCols _ _ _ _ _, show alongI (tItc C) (ix2 k q) = tItc C (ix1 k) from bcRows _ _ _ _ _,
    w_iends C hs, w_itc C hs, cmpi_sle_ofNat_eq_one_iff (w := 32) (by omega) (by omega)]

theorem ex_lt (k : ℕ) : ex (cC C) k < 32 := (ex_spec _ hs k).1

theorem w_is (k : Fin 160) (q : Fin 32) : tIs C (ix2 k q) = BitVec.ofBool (decide (ex (cC C) k.val = q.val)) := by
  have e0 : tIs C (ix2 k q) = IntOp.cmpi .eq (alongI (tExp C) (ix2 k q)) (alongE (iotaInDim S32 32 0) (ix2 k q)) := rfl
  have := ex_lt C hs k.val
  rw [e0, show alongI (tExp C) (ix2 k q) = tExp C (ix1 k) from bcRows _ _ _ _ _, show alongE (iotaInDim S32 32 0) (ix2 k q) = BitVec.ofNat 32 q.val from bcCols _ _ _ _ _,
    w_exp C hs, cmpi_eq_ofNat (w := 32) (by omega) (by omega)]

/-- The word of an expert's table at an item's expert. -/
theorem w_pick (t : IVec S32 32) (k : Fin 160) : tPick C t (ix1 k) = t (ix1 ⟨ex (cC C) k.val, ex_lt C hs k.val⟩) := by
  have e1 : ∀ q : Fin 32, select (tIs C) (alongE t) (broadcastInDim S160x32 ![] bcast_S_S160x32 (constantI S_ 32 0#32)) (ix2 k q)
      = if ex (cC C) k.val = q.val then t (ix1 q) else 0#32 := fun q => by
    refine Eq.trans (b := Scalar.select (tIs C (ix2 k q)) (alongE t (ix2 k q)) 0#32) rfl ?_
    rw [w_is C hs, sel_dec, show alongE t (ix2 k q) = t (ix1 q) from bcCols _ _ _ _ _]
  refine (row_one (n := 160) (m := 32) _ reducesTo_S160x32_S160_d1 h_S_ k ⟨ex (cC C) k.val, ex_lt C hs k.val⟩ fun q hq => ?_).trans ?_
  · rw [e1, if_neg]
    exact fun h => hq (Fin.ext h.symm)
  · rw [e1, if_pos rfl]

theorem w_blk (k : Fin 160) : tBlk C (ix1 k) = BitVec.ofNat 32 (bk (cC C) k.val) := by
  have e0 : tBlk C (ix1 k) = tPick C (tFirst C) (ix1 k) + tItc C (ix1 k) - tPick C (tIStarts C) (ix1 k) := rfl
  have h := (ex_spec (cC C) hs k.val).2.1
  rw [e0, w_pick C hs, w_pick C hs, w_itc C hs, w_first C hs, w_istarts C hs, ← BitVec.ofNat_add, ofNat32_sub (le_trans h (Nat.le_add_left _ _))]
  rfl

theorem w_clip (t : IVec S32 32) (k : Fin 160) (a : ℕ) (ha : a < 2 ^ 30) (ht : t (ix1 ⟨ex (cC C) k.val, ex_lt C hs k.val⟩) = BitVec.ofNat 32 a) :
    tClip (subi (tPick C t) (muli (tBlk C) (b160 512#32))) (ix1 k) = BitVec.ofNat 32 (min (a - bk (cC C) k.val * 512) 512) := by
  have e0 : tClip (subi (tPick C t) (muli (tBlk C) (b160 512#32))) (ix1 k)
      = IntOp.minsi (BitVec.ofNat 32 512) (IntOp.maxsi 0#32 (tPick C t (ix1 k) - tBlk C (ix1 k) * BitVec.ofNat 32 512)) := rfl
  have hb := bk_lt (cC C) hs k.val
  rw [e0, w_pick C hs, ht, w_blk C hs, ← BitVec.ofNat_mul, clip_sub ha (by omega) (by decide)]

theorem w_lo (k : Fin 160) : tLo C (ix1 k) = BitVec.ofNat 32 (lo (cC C) k.val) :=
  w_clip C hs (tStarts C) k _ (S_lt C hs _ (Nat.le_of_lt (ex_lt C hs k.val))) (w_starts C hs _)

theorem w_hi (k : Fin 160) : tHi C (ix1 k) = BitVec.ofNat 32 (hi (cC C) k.val) := by
  refine Eq.trans (b := Scalar.select (tLive C (ix1 k)) (tClip (subi (tPick C (tEnds C)) (muli (tBlk C) (b160 512#32))) (ix1 k)) (tLo C (ix1 k))) rfl ?_
  rw [w_live C hs, sel_dec, w_lo C hs, w_clip C hs (tEnds C) k _ (S_lt C hs _ (ex_lt C hs k.val)) (w_ends C hs _)]
  unfold hi
  split <;> rfl

/-- The flag of a change, from the words before and after. -/
theorem w_change (x : IVec S160 32) (f : ℕ → ℕ) (hf : ∀ k : Fin 160, x (ix1 k) = BitVec.ofNat 32 (f k.val)) (hl : ∀ k, f k < 2 ^ 30) (k : Fin 160) :
    andi (tLive C) (cmpi .ne x (tPrev x)) (ix1 k) = BitVec.ofBool (decide (k.val < tot (cC C) ∧ (k.val = 0 ∨ f k.val ≠ f (k.val - 1)))) := by
  refine Eq.trans (b := tLive C (ix1 k) &&& IntOp.cmpi .ne (x (ix1 k)) (tPrev x (ix1 k))) rfl ?_
  have h2 : IntOp.cmpi .ne (x (ix1 k)) (tPrev x (ix1 k)) = BitVec.ofBool (decide (k.val = 0 ∨ f k.val ≠ f (k.val - 1))) := by
    obtain ⟨k, hk⟩ := k
    cases k with
    | zero =>
      rw [w_prev0, hf, show (4294967295#32 : BitVec 32) = BitVec.ofNat 32 4294967295 from rfl, cmpi_ne_ofNat (w := 32) (lt_trans (hl 0) (by decide)) (by decide)]
      exact congrArg BitVec.ofBool (decide_eq_decide.2 ⟨fun _ => Or.inl rfl, fun _ => big_ne (hl 0)⟩)
    | succ n =>
      rw [w_prev x n hk, hf, hf, cmpi_ne_ofNat (w := 32) (lt_trans (hl (n + 1)) (by decide)) (lt_trans (hl n) (by decide))]
      exact congrArg BitVec.ofBool (decide_eq_decide.2 ⟨fun h => Or.inr h, fun h => h.resolve_left (Nat.succ_ne_zero n)⟩)
  rw [w_live C hs, h2, and_dec]

theorem w_new (k : Fin 160) : tNew C (ix1 k) = BitVec.ofNat 32 (if nw (cC C) k.val then 1 else 0) := by
  have e := w_change C hs (tExp C) (ex (cC C)) (w_exp C hs) (fun k => lt_trans (ex_lt C hs k) (by decide)) k
  refine Eq.trans (b := (tNewB C (ix1 k)).setWidth 32) rfl ?_
  by_cases h : nw (cC C) k.val
  · rw [if_pos h]
    exact congrArg (fun b : BitVec 1 => b.setWidth 32) (e.trans (congrArg BitVec.ofBool (decide_eq_true (p := k.val < tot (cC C) ∧ (k.val = 0 ∨ ex (cC C) k.val ≠ ex (cC C) (k.val - 1))) h)))
  · rw [if_neg h]
    exact congrArg (fun b : BitVec 1 => b.setWidth 32) (e.trans (congrArg BitVec.ofBool (decide_eq_false (p := k.val < tot (cC C) ∧ (k.val = 0 ∨ ex (cC C) k.val ≠ ex (cC C) (k.val - 1))) h)))

theorem w_init (k : Fin 160) : tInit C (ix1 k) = BitVec.ofNat 32 (if nb (cC C) k.val then 1 else 0) := by
  have e := w_change C hs (tBlk C) (bk (cC C)) (w_blk C hs) (fun k => lt_trans (bk_lt (cC C) hs k) (by decide)) k
  refine Eq.trans (b := (tInitB C (ix1 k)).setWidth 32) rfl ?_
  by_cases h : nb (cC C) k.val
  · rw [if_pos h]
    exact congrArg (fun b : BitVec 1 => b.setWidth 32) (e.trans (congrArg BitVec.ofBool (decide_eq_true (p := k.val < tot (cC C) ∧ (k.val = 0 ∨ bk (cC C) k.val ≠ bk (cC C) (k.val - 1))) h)))
  · rw [if_neg h]
    exact congrArg (fun b : BitVec 1 => b.setWidth 32) (e.trans (congrArg BitVec.ofBool (decide_eq_false (p := k.val < tot (cC C) ∧ (k.val = 0 ∨ bk (cC C) k.val ≠ bk (cC C) (k.val - 1))) h)))

theorem w_slot (k : Fin 160) : tSlot C (ix1 k) = BitVec.ofNat 32 ((nn (cC C) k.val - 1) % 2) := by
  have hn := nn_pos (cC C) hs k.val
  refine pyRem_ap (s := S160) bcast_S_S160 _ _ (ix1 k) (?_ : _ = BitVec.ofNat 32 (nn (cC C) k.val - 1)) rfl (by omega) (by decide) (by decide)
  refine (subi_ap _ _ _).trans ((congrArg (· - 1#32) (cumsum1 (Nm1 := 159) rfl (tNew C) (fun i => if nw (cC C) i then 1 else 0) (w_new C hs) _ rfl _ _ k)).trans ?_)
  exact ofNat32_sub (b := 1) hn.1

theorem w_min (e : Fin 32) : ∃ r, tMin C (ix1 e) = BitVec.ofNat 32 r ∧ r < 2 ^ 31
    ∧ (r = 2147483647 ∨ ∃ q : Fin 32, r = if 0 < cC C q.val ∧ e.val < q.val then q.val else 32) ∧ r ≤ 2147483647
    ∧ ∀ q : Fin 32, r ≤ if 0 < cC C q.val ∧ e.val < q.val then q.val else 32 := by
  refine row_min (n := 32) (m := 32) _ 2147483647 (by decide) reducesTo_S32x32_S32_d1 h_S_ e (fun q => if 0 < cC C q.val ∧ e.val < q.val then q.val else 32) fun q => ⟨?_, ?_⟩
  · have e2 : tLater C (ix2 e q) = BitVec.ofBool (decide (0 < cC C q.val ∧ e.val < q.val)) := by
      refine Eq.trans (b := broadcastInDim S32x32 ![0, 1] bcast_S1x32_S32x32_0_1 (cmpi .sgt (broadcastInDim S1x32 ![1] bcast_S32_S1x32_1 C) (broadcastInDim S1x32 ![] bcast_S_S1x32 (constantI S_ 32 0#32))) (ix2 e q)
        &&& IntOp.cmpi .sgt (sqC (iotaInDim S32 32 0) (ix2 e q)) (sqR (iotaInDim S32 32 0) (ix2 e q))) rfl ?_
      have e3 : broadcastInDim S32x32 ![0, 1] bcast_S1x32_S32x32_0_1 (cmpi .sgt (broadcastInDim S1x32 ![1] bcast_S32_S1x32_1 C) (broadcastInDim S1x32 ![] bcast_S_S1x32 (constantI S_ 32 0#32))) (ix2 e q)
          = cmpi .sgt C (b32 0#32) (ix1 q) := by
        have : cmpi .sgt (broadcastInDim S1x32 ![1] bcast_S32_S1x32_1 C) (broadcastInDim S1x32 ![] bcast_S_S1x32 (constantI S_ 32 0#32))
            = broadcastInDim S1x32 ![1] bcast_S32_S1x32_1 (cmpi .sgt C (b32 0#32)) := rfl
        rw [this]
        exact bcCols (n := 32) (m := 32) _ _ _ _ _
      rw [e3, show sqC (iotaInDim S32 32 0) (ix2 e q) = BitVec.ofNat 32 q.val from bcCols _ _ _ _ _, show sqR (iotaInDim S32 32 0) (ix2 e q) = BitVec.ofNat 32 e.val from bcRows _ _ _ _ _,
        show cmpi .sgt C (b32 0#32) (ix1 q) = IntOp.cmpi .sgt (C (ix1 q)) (BitVec.ofNat 32 0) from rfl, w_c C hs,
        cmpi_sgt_ofNat (w := 32) (by have := c_le C hs q.isLt; omega) (by decide), cmpi_sgt_ofNat (w := 32) (by omega) (by omega), and_dec]
    refine Eq.trans (b := Scalar.select (tLater C (ix2 e q)) (sqC (iotaInDim S32 32 0) (ix2 e q)) (BitVec.ofNat 32 32)) rfl ?_
    rw [e2, sel_dec, show sqC (iotaInDim S32 32 0) (ix2 e q) = BitVec.ofNat 32 q.val from bcCols _ _ _ _ _]
    split <;> rfl
  · show (if _ then _ else _) < _
    split <;> omega

/-- The next expert that has rows, where there is one. -/
theorem w_nxt (e e' : Fin 32) (h1 : e.val < e'.val) (h2 : 0 < cC C e'.val) (h3 : ∀ i, e.val < i → i < e'.val → cC C i = 0) : tNxt C (ix1 e) = BitVec.ofNat 32 e'.val := by
  obtain ⟨r, e1, e2, e3, e4, e5⟩ := w_min C hs e
  have hr : r = e'.val := by
    have h5 := e5 e'
    rw [if_pos ⟨h2, h1⟩] at h5
    rcases e3 with e3 | ⟨q, e3⟩
    · omega
    · split at e3
      · next h =>
        by_contra hne
        have := h3 q.val h.2 (by omega)
        omega
      · omega
  refine Eq.trans (b := Scalar.select (IntOp.cmpi .eq (tMin C (ix1 e)) (BitVec.ofNat 32 32)) (BitVec.ofNat 32 4294967295) (tMin C (ix1 e))) rfl ?_
  rw [e1, cmpi_eq_ofNat (w := 32) (by omega) (by decide), sel_dec, if_neg (by omega), hr]

/-- No expert after has rows: the word is minus one. -/
theorem w_none (e : Fin 32) (h3 : ∀ i, e.val < i → i < 32 → cC C i = 0) : tNxt C (ix1 e) = 4294967295#32 := by
  obtain ⟨r, e1, e2, e3, e4, e5⟩ := w_min C hs e
  have hr : r = 32 := by
    rcases e3 with e3 | ⟨q, e3⟩
    · have := e5 e
      split at this <;> omega
    · split at e3
      · next h =>
        have := h3 q.val h.2 q.isLt
        omega
      · omega
  refine Eq.trans (b := Scalar.select (IntOp.cmpi .eq (tMin C (ix1 e)) (BitVec.ofNat 32 32)) (BitVec.ofNat 32 4294967295) (tMin C (ix1 e))) rfl ?_
  rw [e1, cmpi_eq_ofNat (w := 32) (by omega) (by decide), sel_dec, if_pos hr]

end Words

end Cert.Kernel2.Moe
-- ==== Proof.MoeSchedOk.lean ====
module

public import proofs.«01_k».proof.Proof.MoeWords
public import proofs.«01_k».proof.Pre_counts_ok
public import Idealize.ShloMosaic.Lib.ReduceAll

@[expose] public section

set_option maxRecDepth 16384

noncomputable section

namespace Cert.Kernel2.Moe

open Cert.Kernel2 Cert.Kernel2.Gen Cert.MoeNat
open Idealize.ShloMosaic hiding ix1 ix2
open Idealize.ShloMosaic.ValueIdx Idealize.ShloMosaic.WordCmp Idealize.ShloMosaic.Routing

/-! ## The tables computed from counts that sum to the rows are a schedule -/

theorem pt_eq (k : ℕ) (hk : k < 160) : pt k = ix1 (⟨k, hk⟩ : Fin 160) := by
  funext a
  obtain rfl : a = 0 := Subsingleton.elim _ _
  exact Fin.ext (Nat.mod_eq_of_lt hk)

theorem one_of_if {P : Prop} [Decidable P] (h : BitVec.ofNat 32 (if P then 1 else 0) = 1#32) : P := by
  by_contra hn
  rw [if_neg hn] at h
  exact absurd h (by decide)

theorem not_of_if {P : Prop} [Decidable P] (h : BitVec.ofNat 32 (if P then 1 else 0) ≠ 1#32) : ¬ P := fun hp => h (by rw [if_pos hp])

theorem minus_one_dead : k0_cond3 4294967295#32 ≠ 1#1 := by decide

theorem nat_live {a : ℕ} (h : a < 32) : k0_cond3 (BitVec.ofNat 32 a) = 1#1 := by
  revert h a
  decide

section Ok
variable (C : IVec S32 32) (hs : S (cC C) 32 = 65536)
include hs

theorem c_pos (k : ℕ) : 0 < cC C (ex (cC C) k) := by
  obtain ⟨h0, h1, h2⟩ := ex_spec (cC C) hs k
  have h3 : P (cC C) (ex (cC C) k + 1) = P (cC C) (ex (cC C) k) + p (cC C) (ex (cC C) k) := ps_succ (p (cC C)) _
  have h4 : 0 < p (cC C) (ex (cC C) k) := by omega
  unfold p at h4
  split at h4
  · assumption
  · omega

theorem nxt_cases (e : Fin 32) : (∃ e' : Fin 32, tNxt C (ix1 e) = BitVec.ofNat 32 e'.val) ∨ tNxt C (ix1 e) = 4294967295#32 := by
  classical
  by_cases h : ∃ i, e.val < i ∧ i < 32 ∧ 0 < cC C i
  · obtain ⟨a1, a2, a3⟩ := Nat.find_spec h
    refine Or.inl ⟨⟨Nat.find h, a2⟩, w_nxt C hs e ⟨Nat.find h, a2⟩ a1 a3 fun i h1 h2 => ?_⟩
    by_contra hne
    have h2' : i < Nat.find h := h2
    exact Nat.find_min h h2' ⟨h1, by omega, Nat.pos_of_ne_zero hne⟩
  · exact Or.inr (w_none C hs e fun i h1 h2 => by
      by_contra hne
      exact h ⟨i, h1, h2, Nat.pos_of_ne_zero hne⟩)

theorem w_next (k : Fin 160) : tNext C (ix1 k) = tNxt C (ix1 ⟨ex (cC C) k.val, ex_lt C hs k.val⟩) := w_pick C hs (tNxt C) k

theorem toNat_small {a b : ℕ} (h : a < b) (hb : b ≤ 4294967296) : (BitVec.ofNat 32 a).toNat = a := by
  rw [BitVec.toNat_ofNat]
  exact Nat.mod_eq_of_lt (lt_of_lt_of_le h hb)

theorem sched_of : Sched (tBlk C) (tExp C) (tLo C) (tHi C) (tNew C) (tInit C) (tNext C) (tSlot C) where
  blk k hk := by
    rw [pt_eq k hk, w_blk C hs, toNat_small C hs (bk_lt _ hs k) (by decide)]
    exact bk_lt _ hs k
  exp k hk := by
    rw [pt_eq k hk, w_exp C hs, toNat_small C hs (ex_lt C hs k) (by decide)]
    exact ex_lt C hs k
  lo_hi k hk := by
    have h := lo_le (cC C) hs k
    rw [pt_eq k hk, w_lo C hs, w_hi C hs, toNat_small C hs (show lo (cC C) k < 513 by omega) (by decide), toNat_small C hs (show hi (cC C) k < 513 by omega) (by decide)]
    exact h.1
  hi k hk := by
    have h := lo_le (cC C) hs k
    rw [pt_eq k hk, w_hi C hs, toNat_small C hs (show hi (cC C) k < 513 by omega) (by decide)]
    exact h.2
  slot k hk := by
    rw [pt_eq k hk, w_slot C hs, toNat_small C hs (Nat.mod_lt _ (by decide : 0 < 2)) (by decide)]
    exact Nat.mod_lt _ (by decide)
  new0 := by
    have ht := tot_pos (cC C) hs
    have h : nw (cC C) 0 := ⟨by omega, Or.inl rfl⟩
    rw [pt_eq 0 (by decide), w_new C hs, if_pos h]
  init0 := by
    have ht := tot_pos (cC C) hs
    have h : nb (cC C) 0 := ⟨by omega, Or.inl rfl⟩
    rw [pt_eq 0 (by decide), w_init C hs, if_pos h]
  next k hk h := by
    rw [pt_eq k hk, w_next C hs] at h ⊢
    rcases nxt_cases C hs ⟨ex (cC C) k, ex_lt C hs k⟩ with ⟨e', he⟩ | he
    · rw [he, toNat_small C hs e'.isLt (by decide)]
      exact e'.isLt
    · rw [he] at h
      exact absurd h minus_one_dead
  step_new k hk h := by
    rw [pt_eq (k + 1) hk, w_new C hs] at h
    have hn := one_of_if h
    obtain ⟨h1, h2, h3⟩ := ex_new (cC C) hs hn
    have e1 := w_nxt C hs ⟨ex (cC C) k, ex_lt C hs k⟩ ⟨ex (cC C) (k + 1), ex_lt C hs (k + 1)⟩ h1 (c_pos C hs (k + 1)) h3
    have n1 := nn_succ (cC C) k
    rw [if_pos hn] at n1
    have n2 := (nn_pos (cC C) hs k).1
    rw [pt_eq k (by omega), pt_eq (k + 1) hk, w_next C hs, e1, w_exp C hs, w_slot C hs, w_slot C hs,
      toNat_small C hs (Nat.mod_lt _ (by decide : 0 < 2)) (by decide), toNat_small C hs (Nat.mod_lt _ (by decide : 0 < 2)) (by decide)]
    refine ⟨nat_live (ex_lt C hs (k + 1)), rfl, ?_⟩
    show (nn (cC C) (k + 1) - 1) % 2 = 1 - (nn (cC C) k - 1) % 2
    omega
  step_old k hk h := by
    rw [pt_eq (k + 1) hk, w_new C hs] at h
    have hn := not_of_if h
    have e1 := ex_old (cC C) hn
    have n1 := nn_succ (cC C) k
    rw [if_neg hn, Nat.add_zero] at n1
    have e2 : (⟨ex (cC C) (k + 1), ex_lt C hs (k + 1)⟩ : Fin 32) = ⟨ex (cC C) k, ex_lt C hs k⟩ := Fin.ext e1
    rw [pt_eq k (by omega), pt_eq (k + 1) hk, w_next C hs, w_next C hs, w_exp C hs, w_exp C hs, w_slot C hs, w_slot C hs]
    refine ⟨congrArg (BitVec.ofNat 32) e1, congrArg (fun n => BitVec.ofNat 32 ((n - 1) % 2)) n1, congrArg (fun e => tNxt C (ix1 e)) e2⟩
  last := by
    rw [pt_eq 159 (by decide), w_next C hs, w_none C hs _ fun i h1 h2 => ex_last (cC C) hs i h1 h2]
    exact minus_one_dead
  same k hk h := by
    rw [pt_eq (k + 1) hk, w_init C hs] at h
    rw [pt_eq k (by omega), pt_eq (k + 1) hk, w_blk C hs, w_blk C hs]
    exact congrArg (BitVec.ofNat 32) (bk_old (cC C) (not_of_if h))

end Ok

/-! ## The precondition is that sum -/

theorem word_le {x : BitVec 32} (h1 : IntOp.cmpi .sge x 0#32 = 1#1) (h2 : IntOp.cmpi .sle x 65536#32 = 1#1) : x.toNat ≤ 65536 := by
  have a1 := IntOp.cmpi_sge.1 h1
  have a2 := IntOp.cmpi_sle.1 h2
  have e := BitVec.toInt_eq_toNat_cond (x := x)
  rw [show (0#32 : BitVec 32).toInt = 0 from rfl] at a1
  rw [show (65536#32 : BitVec 32).toInt = 65536 from rfl] at a2
  have := x.isLt
  split at e <;> omega

theorem ps_bound (f : ℕ → ℕ) (n b : ℕ) (h : ∀ i, i < n → f i ≤ b) : ps f n ≤ n * b := by
  induction n with
  | zero => rw [ps_zero]; omega
  | succ k ih =>
    have h1 := ih fun i hi => h i (by omega)
    have h2 := h k (by omega)
    rw [ps_succ, Nat.succ_mul]
    omega

theorem sum_of_pre {F : FTy → Type} [FloatOps F] [Cert.Pre_counts_ok.Facts] (C : IVec S32 32) (a1 : IVec Cert.Pre_counts_ok.S65536x512 32) (a2 : FVec F Cert.Pre_counts_ok.S32x1024x2048 .f32)
    (a3 : FVec F Cert.Pre_counts_ok.S32x2048 .f32) (a4 : FVec F Cert.Pre_counts_ok.S32x1024x1024 .f32) (a5 : FVec F Cert.Pre_counts_ok.S32x1024 .f32)
    (h : Cert.Pre_counts_ok.fn (F := F) C a1 a2 a3 a4 a5 = fun _ => 1#1) : S (cC C) 32 = 65536 := by
  have h0 := congrFun h ValueIdx.ix0
  obtain ⟨h1, h2⟩ := IntOp.andi_eq_one.1 (show IntOp.andi _ _ = 1#1 from h0)
  have hle : ∀ i : Fin 32, (C (ix1 i)).toNat ≤ 65536 := fun i => by
    have h3 := Host.reduce_andi_all _ _ _ _ _ h1 (ix1 i)
    obtain ⟨h4, h5⟩ := IntOp.andi_eq_one.1 (show IntOp.andi _ _ = 1#1 from h3)
    exact word_le h4 h5
  have hc : ∀ i, i < 32 → cC C i ≤ 65536 := fun i hi => by
    rw [show cC C i = (C (ix1 ⟨i, hi⟩)).toNat from dif_pos hi]
    exact hle _
  have hw : ∀ e : Fin 32, C (ix1 e) = BitVec.ofNat 32 (cC C e.val) := fun e => by
    have : cC C e.val = (C (ix1 e)).toNat := dif_pos e.isLt
    rw [this, BitVec.ofNat_toNat, BitVec.setWidth_eq]
  have h6 := IntOp.cmpi_eq.1 (show IntOp.cmpi .eq _ _ = 1#1 from h2)
  have h7 := reduce_sum (N := 32) C (cC C) hw Cert.Pre_counts_ok.Facts.reducesTo_S32_S_d0 Cert.Pre_counts_ok.Facts.h_S_
  have h8 : BitVec.ofNat 32 (S (cC C) 32) = 65536#32 := h7.symm.trans h6
  have h9 := congrArg BitVec.toNat h8
  have hb : S (cC C) 32 ≤ 32 * 65536 := ps_bound (cC C) 32 65536 hc
  rw [BitVec.toNat_ofNat, Nat.mod_eq_of_lt (by omega)] at h9
  exact h9

end Cert.Kernel2.Moe

end
-- ==== Proof.MoePre.lean ====
module

public import proofs.«01_k».proof.Proof.MoeTables
public import proofs.«01_k».proof.Proof.MoeSchedOk

@[expose] public section

set_option maxRecDepth 16384

noncomputable section

namespace Cert.Kernel2.Moe

open Cert.Kernel2 Cert.Kernel2.Gen Cert.MoeNat
open Idealize.ShloMosaic Idealize.ShloMosaic.TcCoe

variable {F : FTy → Type} [FloatOps F]

/-- The tables the call reads are a schedule when the counts of the first core sum to the rows. -/
theorem schedM_of (m : (ℓ : Loc nD τ sig) → Buf (Elt F) ℓ) (hs : S (cC (cnts m 0)) 32 = 65536) : SchedM m := by
  have h := sched_of (cnts m 0) hs
  rw [← V_tBlk m 0, ← V_tExp m 0, ← V_tLo m 0, ← V_tHi m 0, ← V_tNew m 0, ← V_tInit m 0, ← V_tNext m 0, ← V_tSlot m 0] at h
  exact h

end Cert.Kernel2.Moe

end
-- ==== Proof.IMoeBody.lean ====
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Tactic
public import Idealize.ShloMosaic.Lib.WholeRead
public import Idealize.ShloMosaic.Lib.Pointwise

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources a proof of this program speaks of. -/
abbrev MM (F : FTy → Type) [FloatOps F] := MT nD τ sig Unit (Elt F) ℕ (Pipeline.UD sig nD τ) ℕ

/-- The weakest precondition of a piece of the body on core `c`. -/
abbrev WP (c : Dev nD) {α : Type} (p : Prog (TpuEff nD τ sig (Elt F) Λ₀ .tc) α) (Q : α → sProp (MM F)) : sProp (MM F) :=
  wp frame (wpE (defs₀ (F := F)) Variants.none (c : Thread nD τ) none) Set.univ p Q

/-! ## What a load reads and what a store leaves -/

/-- What a load through a rectangle reads of contents `X`. -/
def ld {s : Shape} {A : Type} (X : s.Idx → A) (r : LoadRect s) : r.shape.Idx → A := fun x => X (r.idx x)

/-- `O` with the rectangle `r` overwritten by `w`. -/
def upd {s : Shape} {A : Type} (O : s.Idx → A) (r : Rect s) (w : r.shape.Idx → A) : s.Idx → A := fun i =>
  open Classical in if h : ∃ x, r.emb x = i then w h.choose else O i

theorem upd_emb {s : Shape} {A : Type} (O : s.Idx → A) (r : Rect s) (w : r.shape.Idx → A) (x : r.shape.Idx) :
    upd O r w (r.emb x) = w x := by
  unfold upd
  have h : ∃ y, r.emb y = r.emb x := ⟨x, rfl⟩
  rw [dif_pos h]
  exact congrArg w (r.emb.injective h.choose_spec)

theorem upd_of_not {s : Shape} {A : Type} (O : s.Idx → A) (r : Rect s) (w : r.shape.Idx → A) (i : s.Idx) (h : ¬ ∃ x, r.emb x = i) :
    upd O r w i = O i := by
  unfold upd; rw [dif_neg h]

theorem read_store {m : Memref sig .tc .vmem S512x1024 .bf16} (hm : m.IsWhole) (O : S512x1024.Idx → Elt F .bf16) (r : Rect S512x1024)
    (w : r.shape.Idx → Elt F .bf16) :
    m.view.read (Elt F) ((m.access r).write (Elt F) (hm.unread O) w Finset.univ) = upd O r w := by
  funext y
  by_cases h : ∃ x, r.emb x = y
  · obtain ⟨x, rfl⟩ := h
    rw [upd_emb]
    exact View.read_slice_write_emb r _ w (Finset.mem_univ x)
  · rw [upd_of_not _ _ _ _ h]
    refine (View.read_slice_write_of_not_mem r _ w _ ?_).trans (congrFun (hm.read_unread O) y)
    intro hy
    obtain ⟨x, -, hx⟩ := Finset.mem_map.mp hy
    exact h ⟨x, hx⟩

theorem load_win (c : Dev nD) {sp : CoreSpace} {s : Shape} {e : EltTy} {m : Memref sig .tc sp s e} (hm : m.IsWhole) (X : s.Idx → Elt F e)
    {r : LoadRect s} {hl : m.view.LoadsAt r} {α : Type} {k : (r.shape.Idx → Elt F e) → Prog (TpuEff nD τ sig (Elt F) Λ₀ .tc) α}
    {Q : α → sProp (MM F)} :
    (owns (c : Thread nD τ) m fullShare X : sProp (MM F))
      ⊢ iprop((owns (c : Thread nD τ) m fullShare X -∗ WP c (k (ld X r)) Q) -∗ WP c (.op (.load m r hl) k) Q) := by
  unfold owns
  iintro ⟨%f, %hf, H⟩ Hk
  obtain rfl := hm.eq_unread hf
  iapply (wp_load Variants.none (c : Thread nD τ) none Set.univ (r := r) (View.setOn_subset_set _ _)) $$ H
  iintro H
  rw [show m.view.readAt (Elt F) r (hm.unread X) = ld X r from funext fun x => hm.readAt_unread X r x]
  iapply Hk
  iexists _
  isplitr
  · ipureintro; exact hf
  iexact H

theorem store_win (c : Dev nD) {m : Memref sig .tc .vmem S512x1024 .bf16} (hm : m.IsWhole) (O : S512x1024.Idx → Elt F .bf16)
    {r : Rect S512x1024} {w : r.shape.Idx → Elt F .bf16} {hx : (m.access r).Stores Finset.univ}
    {hs : Finset.univ = Finset.univ ∨ ∀ a, r.stride a = 1} {α : Type} {k : PUnit → Prog (TpuEff nD τ sig (Elt F) Λ₀ .tc) α}
    {Q : α → sProp (MM F)} :
    (owns (c : Thread nD τ) m fullShare O : sProp (MM F))
      ⊢ iprop((owns (c : Thread nD τ) m fullShare (upd O r w) -∗ WP c (k ⟨⟩) Q) -∗ WP c (.op (.store m r w Finset.univ hx hs) k) Q) := by
  unfold owns
  iintro ⟨%f, %hf, H⟩ Hk
  obtain rfl := hm.eq_unread hf
  iapply (wp_store Variants.none (c : Thread nD τ) none Set.univ (m := m) (r := r) (View.set_slice_subset m.view r)) $$ H
  iintro H
  iapply Hk
  iexists _
  isplitr
  · ipureintro; exact read_store hm O r w
  iexact H

/-! ## The resources the row pieces run on -/

/-- The two weight buffers. -/
abbrev bufG : Memref sig .tc .vmem S2x1024x2048 .f32 := Memref.whole cc0_scratch0
abbrev bufD : Memref sig .tc .vmem S2x1024x1024 .f32 := Memref.whole cc0_scratch1

/-- The elements of slot `n` of each weight buffer. -/
def setG (n : ℕ) : Finset S2x1024x2048.Idx := Finset.univ.filter fun i => (i 0).val = n
def setD (n : ℕ) : Finset S2x1024x1024.Idx := Finset.univ.filter fun i => (i 0).val = n

/-- Expert `e`'s slab of a weight array, as one slot of its buffer holds it. -/
def slotG (W : S32x1024x2048.Idx → Elt F .f32) (e : Fin 32) : S2x1024x2048.Idx → Elt F .f32 := fun i => W (ix3 e (i 1) (i 2))
def slotD (W : S32x1024x1024.Idx → Elt F .f32) (e : Fin 32) : S2x1024x1024.Idx → Elt F .f32 := fun i => W (ix3 e (i 1) (i 2))
def slabG (W : S32x1024x2048.Idx → Elt F .f32) (e : Fin 32) : Vec F S1x1024x2048 .f32 := fun i => W (ix3 e (i 1) (i 2))
def slabD (W : S32x1024x1024.Idx → Elt F .f32) (e : Fin 32) : Vec F S1x1024x1024 .f32 := fun i => W (ix3 e (i 1) (i 2))

theorem setG_rect (n : ℕ) (h : ∀ a, (![n, 0, 0] : Fin 3 → ℕ) a + S1x1024x2048.size a ≤ S2x1024x2048.size a) :
    (Rect.unit (s := S2x1024x2048) ![n, 0, 0] S1x1024x2048.size h).set = setG n := by
  ext i
  unfold setG
  simp only [Finset.mem_filter, Finset.mem_univ, true_and, LoadRect.mem_set]
  constructor
  · intro hi
    obtain ⟨j, hj, hij⟩ := hi 0
    have h0 : j < 1 := hj
    have h1 : (i 0).val = n + 1 * j := hij
    omega
  · intro hi a
    match a with
    | ⟨0, _⟩ => exact ⟨0, Nat.one_pos, by show (i 0).val = n + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩
theorem setD_rect (n : ℕ) (h : ∀ a, (![n, 0, 0] : Fin 3 → ℕ) a + S1x1024x1024.size a ≤ S2x1024x1024.size a) :
    (Rect.unit (s := S2x1024x1024) ![n, 0, 0] S1x1024x1024.size h).set = setD n := by
  ext i
  unfold setD
  simp only [Finset.mem_filter, Finset.mem_univ, true_and, LoadRect.mem_set]
  constructor
  · intro hi
    obtain ⟨j, hj, hij⟩ := hi 0
    have h0 : j < 1 := hj
    have h1 : (i 0).val = n + 1 * j := hij
    omega
  · intro hi a
    match a with
    | ⟨0, _⟩ => exact ⟨0, Nat.one_pos, by show (i 0).val = n + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩

/-- The windows of the rows, the two biases and the output, and the slot `n` of the two weight buffers holding expert `e`. -/
def Res (c : Dev nD) (a9 : Memref sig .tc .vmem S512x512 .i32) (a11 : Memref sig .tc .vmem S1x1x2048 .f32) (a13 : Memref sig .tc .vmem S1x1x1024 .f32)
    (a14 : Memref sig .tc .vmem S512x1024 .bf16) (X : Vec F S512x512 .i32) (bg : Vec F S1x1x2048 .f32) (bd : Vec F S1x1x1024 .f32)
    (n : ℕ) (f15 : S2x1024x2048.Idx → Elt F .f32) (f16 : S2x1024x1024.Idx → Elt F .f32) (O : Vec F S512x1024 .bf16) : sProp (MM F) :=
  iprop(owns (c : Thread nD τ) a9 fullShare X ∗ owns (c : Thread nD τ) a11 fullShare bg ∗ owns (c : Thread nD τ) a13 fullShare bd
    ∗ (bufG.view.loc (c : Thread nD τ) ↦[setG n]{fullShare} f15) ∗ (bufD.view.loc (c : Thread nD τ) ↦[setD n]{fullShare} f16)
    ∗ owns (c : Thread nD τ) a14 fullShare O)

theorem off3_congr {s : Shape} {A : Type} (X : s.Idx → A) {o o' : Fin s.rank → ℕ} (he : o = o') (size : Fin s.rank → ℕ)
    (h : ∀ a, o a + size a ≤ s.size a) (h' : ∀ a, o' a + size a ≤ s.size a) :
    ld X (Rect.unit o size h).toLoadRect = ld X (Rect.unit o' size h').toLoadRect := by subst he; rfl

theorem ld_slotG (W : S32x1024x2048.Idx → Elt F .f32) (e : Fin 32) (n : ℕ) (h : ∀ a, (![n, 0, 0] : Fin 3 → ℕ) a + S1x1024x2048.size a ≤ S2x1024x2048.size a) :
    ld (slotG W e) (Rect.unit (s := S2x1024x2048) ![n, 0, 0] S1x1024x2048.size h).toLoadRect = slabG W e := by
  funext x
  unfold ld slotG slabG
  congr 1
  have h1 : (Rect.unit (s := S2x1024x2048) ![n, 0, 0] S1x1024x2048.size h).toLoadRect.idx x 1 = x 1 := by
    apply Fin.ext; show 0 + 1 * (x 1).val = (x 1).val; omega
  have h2 : (Rect.unit (s := S2x1024x2048) ![n, 0, 0] S1x1024x2048.size h).toLoadRect.idx x 2 = x 2 := by
    apply Fin.ext; show 0 + 1 * (x 2).val = (x 2).val; omega
  rw [h1, h2]

theorem ld_slotD (W : S32x1024x1024.Idx → Elt F .f32) (e : Fin 32) (n : ℕ) (h : ∀ a, (![n, 0, 0] : Fin 3 → ℕ) a + S1x1024x1024.size a ≤ S2x1024x1024.size a) :
    ld (slotD W e) (Rect.unit (s := S2x1024x1024) ![n, 0, 0] S1x1024x1024.size h).toLoadRect = slabD W e := by
  funext x
  unfold ld slotD slabD
  congr 1
  have h1 : (Rect.unit (s := S2x1024x1024) ![n, 0, 0] S1x1024x1024.size h).toLoadRect.idx x 1 = x 1 := by
    apply Fin.ext; show 0 + 1 * (x 1).val = (x 1).val; omega
  have h2 : (Rect.unit (s := S2x1024x1024) ![n, 0, 0] S1x1024x1024.size h).toLoadRect.idx x 2 = x 2 := by
    apply Fin.ext; show 0 + 1 * (x 2).val = (x 2).val; omega
  rw [h1, h2]

/-! ## One row piece -/

/-- A row piece: the rows, the expert's weights and biases and the output rows are read, and the output rows are stored back. -/
theorem piece (c : Dev nD) {a9 : Memref sig .tc .vmem S512x512 .i32} (h9 : a9.IsWhole) {a11 : Memref sig .tc .vmem S1x1x2048 .f32} (h11 : a11.IsWhole)
    {a13 : Memref sig .tc .vmem S1x1x1024 .f32} (h13 : a13.IsWhole) {a14 : Memref sig .tc .vmem S512x1024 .bf16} (h14 : a14.IsWhole)
    (X : Vec F S512x512 .i32) (bg : Vec F S1x1x2048 .f32) (bd : Vec F S1x1x1024 .f32)
    (n : ℕ) (f15 : S2x1024x2048.Idx → Elt F .f32) (f16 : S2x1024x1024.Idx → Elt F .f32) (O : Vec F S512x1024 .bf16)
    {r9 : Rect S512x512} {r11 : Rect S1x1x2048} {r13 : Rect S1x1x1024} {r14 : Rect S512x1024} {o15 o16 : Fin 3 → ℕ}
    (e15 : o15 = ![n, 0, 0]) (e16 : o16 = ![n, 0, 0])
    {i15 : ∀ a, o15 a + S1x1024x2048.size a ≤ S2x1024x2048.size a} {i16 : ∀ a, o16 a + S1x1024x1024.size a ≤ S2x1024x1024.size a}
    {wg : Vec F S1x1024x2048 .f32} {wd : Vec F S1x1024x1024 .f32}
    (hwg : ∀ h, ld f15 (Rect.unit (s := S2x1024x2048) ![n, 0, 0] S1x1024x2048.size h).toLoadRect = wg)
    (hwd : ∀ h, ld f16 (Rect.unit (s := S2x1024x1024) ![n, 0, 0] S1x1024x1024.size h).toLoadRect = wd)
    (pay : (r9.shape.Idx → Elt F .i32) → Vec F S1x1024x2048 .f32 → (r11.shape.Idx → Elt F .f32) → Vec F S1x1024x1024 .f32 → (r13.shape.Idx → Elt F .f32)
      → (r14.shape.Idx → Elt F .bf16) → (r14.shape.Idx → Elt F .bf16))
    {l9 l15 l11 l16 l13 l14 l14'} {hx hs} {α : Type} {kk : Prog (TpuEff nD τ sig (Elt F) Λ₀ .tc) α} {Q : α → sProp (MM F)} :
    (Res c a9 a11 a13 a14 X bg bd n f15 f16 O : sProp (MM F))
      ⊢ iprop((Res c a9 a11 a13 a14 X bg bd n f15 f16
            (upd O r14 (pay (ld X r9.toLoadRect) wg (ld bg r11.toLoadRect) wd (ld bd r13.toLoadRect) (ld O r14.toLoadRect))) -∗ WP c kk Q)
        -∗ WP c (.op (.load a9 r9.toLoadRect l9) fun x =>
          .op (.load bufG (Rect.unit (s := S2x1024x2048) o15 S1x1024x2048.size i15).toLoadRect l15) fun w =>
          .op (.load a11 r11.toLoadRect l11) fun b =>
          .op (.load bufD (Rect.unit (s := S2x1024x1024) o16 S1x1024x1024.size i16).toLoadRect l16) fun d =>
          .op (.load a13 r13.toLoadRect l13) fun e =>
          .op (.load a14 r14.toLoadRect l14) fun o =>
          .op (.load a14 r14.toLoadRect l14') fun _ =>
          .op (.store a14 r14 (pay x w b d e o) Finset.univ hx hs) fun _ => kk) Q) := by
  subst e15 e16
  unfold Res
  iintro ⟨H9, H11, H13, H15, H16, H14⟩ Hk
  iapply (load_win c h9 X) $$ H9
  iintro H9
  unfold WP
  iapply (wp_load Variants.none (c : Thread nD τ) none Set.univ (by
    rw [show bufG.view.setOn (Rect.unit (s := S2x1024x2048) ![n, 0, 0] S1x1024x2048.size i15).toLoadRect.set = _ from Finset.map_refl, setG_rect])) $$ H15
  iintro H15
  rw [show bufG.view.readAt (Elt F) (Rect.unit (s := S2x1024x2048) ![n, 0, 0] S1x1024x2048.size i15).toLoadRect f15 = wg from hwg i15]
  iapply (load_win c h11 bg) $$ H11
  iintro H11
  unfold WP
  iapply (wp_load Variants.none (c : Thread nD τ) none Set.univ (by
    rw [show bufD.view.setOn (Rect.unit (s := S2x1024x1024) ![n, 0, 0] S1x1024x1024.size i16).toLoadRect.set = _ from Finset.map_refl, setD_rect])) $$ H16
  iintro H16
  rw [show bufD.view.readAt (Elt F) (Rect.unit (s := S2x1024x1024) ![n, 0, 0] S1x1024x1024.size i16).toLoadRect f16 = wd from hwd i16]
  iapply (load_win c h13 bd) $$ H13
  iintro H13
  iapply (load_win c h14 O) $$ H14
  iintro H14
  iapply (load_win c h14 O) $$ H14
  iintro H14
  iapply (store_win c h14 O) $$ H14
  iintro H14
  iapply Hk
  isplitl [H9]; · iexact H9
  isplitl [H11]; · iexact H11
  isplitl [H13]; · iexact H13
  isplitl [H15]; · iexact H15
  isplitl [H16]; · iexact H16
  iexact H14

/-! ## The eight row pieces -/

/-- The tile a row piece begins at, by its first row. -/
def tile (lo : BitVec 32) : BitVec 32 :=
  Scalar.select (Scalar.andi (Scalar.cmpi .ne (Scalar.subi (Scalar.extui (Scalar.cmpi .sgt lo 0#32)) (Scalar.extui (Scalar.cmpi .slt lo 0#32)))
      (Scalar.subi (Scalar.extui (Scalar.cmpi .sgt 64#32 0#32)) (Scalar.extui (Scalar.cmpi .slt 64#32 0#32)))) (Scalar.cmpi .ne (Scalar.remsi lo 64#32) 0#32))
    (Scalar.subi (Scalar.divsi lo 64#32) 1#32) (Scalar.divsi lo 64#32)

/-- What the row piece of 64 rows leaves of the output rows `O`. -/
def st5 (t v1 lo hi : BitVec 32) (hw : k0_chk7 v1 lo hi) (X : Vec F S512x512 .i32) (bg : Vec F S1x1x2048 .f32) (bd : Vec F S1x1x1024 .f32)
    (wg : Vec F S1x1024x2048 .f32) (wd : Vec F S1x1024x1024 .f32) (O : Vec F S512x1024 .bf16) : Vec F S512x1024 .bf16 :=
  if h : k0_cond5 lo hi = 1#1 then
    upd O (Rect.unit (s := S512x1024) (k0_off29 lo) S64x1024.size (k0_off29_inb v1 lo hi hw h)) (k0_pay14 lo hi (Scalar.muli t 64#32)
      (k0_pay4 (ld X (Rect.unit (s := S512x512) (k0_off26 lo) S64x512.size (k0_off26_inb v1 lo hi hw h)).toLoadRect) wg
        (ld bg (Rect.unit (s := S1x1x2048) ![0, 0, 0] S1x1x2048.size inb_S1x1x2048_S1x1x2048_0_0_0).toLoadRect) wd
        (ld bd (Rect.unit (s := S1x1x1024) ![0, 0, 0] S1x1x1024.size inb_S1x1x1024_S1x1x1024_0_0_0).toLoadRect))
      (ld O (Rect.unit (s := S512x1024) (k0_off29 lo) S64x1024.size (k0_off29_inb v1 lo hi hw h)).toLoadRect))
  else O

/-- What the row piece of 128 rows leaves of the output rows `O`. -/
def st6 (t v1 lo hi : BitVec 32) (hw : k0_chk7 v1 lo hi) (X : Vec F S512x512 .i32) (bg : Vec F S1x1x2048 .f32) (bd : Vec F S1x1x1024 .f32)
    (wg : Vec F S1x1024x2048 .f32) (wd : Vec F S1x1024x1024 .f32) (O : Vec F S512x1024 .bf16) : Vec F S512x1024 .bf16 :=
  if h : k0_cond6 lo hi = 1#1 then
    upd O (Rect.unit (s := S512x1024) (k0_off33 lo) S128x1024.size (k0_off33_inb v1 lo hi hw h)) (k0_pay15 lo hi (Scalar.muli t 64#32)
      (k0_pay5 (ld X (Rect.unit (s := S512x512) (k0_off30 lo) S128x512.size (k0_off30_inb v1 lo hi hw h)).toLoadRect) wg
        (ld bg (Rect.unit (s := S1x1x2048) ![0, 0, 0] S1x1x2048.size inb_S1x1x2048_S1x1x2048_0_0_0).toLoadRect) wd
        (ld bd (Rect.unit (s := S1x1x1024) ![0, 0, 0] S1x1x1024.size inb_S1x1x1024_S1x1x1024_0_0_0).toLoadRect))
      (ld O (Rect.unit (s := S512x1024) (k0_off33 lo) S128x1024.size (k0_off33_inb v1 lo hi hw h)).toLoadRect))
  else O

/-- What the row piece of 192 rows leaves of the output rows `O`. -/
def st7 (t v1 lo hi : BitVec 32) (hw : k0_chk7 v1 lo hi) (X : Vec F S512x512 .i32) (bg : Vec F S1x1x2048 .f32) (bd : Vec F S1x1x1024 .f32)
    (wg : Vec F S1x1024x2048 .f32) (wd : Vec F S1x1024x1024 .f32) (O : Vec F S512x1024 .bf16) : Vec F S512x1024 .bf16 :=
  if h : k0_cond7 lo hi = 1#1 then
    upd O (Rect.unit (s := S512x1024) (k0_off37 lo) S192x1024.size (k0_off37_inb v1 lo hi hw h)) (k0_pay16 lo hi (Scalar.muli t 64#32)
      (k0_pay6 (ld X (Rect.unit (s := S512x512) (k0_off34 lo) S192x512.size (k0_off34_inb v1 lo hi hw h)).toLoadRect) wg
        (ld bg (Rect.unit (s := S1x1x2048) ![0, 0, 0] S1x1x2048.size inb_S1x1x2048_S1x1x2048_0_0_0).toLoadRect) wd
        (ld bd (Rect.unit (s := S1x1x1024) ![0, 0, 0] S1x1x1024.size inb_S1x1x1024_S1x1x1024_0_0_0).toLoadRect))
      (ld O (Rect.unit (s := S512x1024) (k0_off37 lo) S192x1024.size (k0_off37_inb v1 lo hi hw h)).toLoadRect))
  else O

/-- What the row piece of 256 rows leaves of the output rows `O`. -/
def st8 (t v1 lo hi : BitVec 32) (hw : k0_chk7 v1 lo hi) (X : Vec F S512x512 .i32) (bg : Vec F S1x1x2048 .f32) (bd : Vec F S1x1x1024 .f32)
    (wg : Vec F S1x1024x2048 .f32) (wd : Vec F S1x1024x1024 .f32) (O : Vec F S512x1024 .bf16) : Vec F S512x1024 .bf16 :=
  if h : k0_cond8 lo hi = 1#1 then
    upd O (Rect.unit (s := S512x1024) (k0_off41 lo) S256x1024.size (k0_off41_inb v1 lo hi hw h)) (k0_pay17 lo hi (Scalar.muli t 64#32)
      (k0_pay7 (ld X (Rect.unit (s := S512x512) (k0_off38 lo) S256x512.size (k0_off38_inb v1 lo hi hw h)).toLoadRect) wg
        (ld bg (Rect.unit (s := S1x1x2048) ![0, 0, 0] S1x1x2048.size inb_S1x1x2048_S1x1x2048_0_0_0).toLoadRect) wd
        (ld bd (Rect.unit (s := S1x1x1024) ![0, 0, 0] S1x1x1024.size inb_S1x1x1024_S1x1x1024_0_0_0).toLoadRect))
      (ld O (Rect.unit (s := S512x1024) (k0_off41 lo) S256x1024.size (k0_off41_inb v1 lo hi hw h)).toLoadRect))
  else O

/-- What the row piece of 320 rows leaves of the output rows `O`. -/
def st9 (t v1 lo hi : BitVec 32) (hw : k0_chk7 v1 lo hi) (X : Vec F S512x512 .i32) (bg : Vec F S1x1x2048 .f32) (bd : Vec F S1x1x1024 .f32)
    (wg : Vec F S1x1024x2048 .f32) (wd : Vec F S1x1024x1024 .f32) (O : Vec F S512x1024 .bf16) : Vec F S512x1024 .bf16 :=
  if h : k0_cond9 lo hi = 1#1 then
    upd O (Rect.unit (s := S512x1024) (k0_off45 lo) S320x1024.size (k0_off45_inb v1 lo hi hw h)) (k0_pay18 lo hi (Scalar.muli t 64#32)
      (k0_pay8 (ld X (Rect.unit (s := S512x512) (k0_off42 lo) S320x512.size (k0_off42_inb v1 lo hi hw h)).toLoadRect) wg
        (ld bg (Rect.unit (s := S1x1x2048) ![0, 0, 0] S1x1x2048.size inb_S1x1x2048_S1x1x2048_0_0_0).toLoadRect) wd
        (ld bd (Rect.unit (s := S1x1x1024) ![0, 0, 0] S1x1x1024.size inb_S1x1x1024_S1x1x1024_0_0_0).toLoadRect))
      (ld O (Rect.unit (s := S512x1024) (k0_off45 lo) S320x1024.size (k0_off45_inb v1 lo hi hw h)).toLoadRect))
  else O

/-- What the row piece of 384 rows leaves of the output rows `O`. -/
def st10 (t v1 lo hi : BitVec 32) (hw : k0_chk7 v1 lo hi) (X : Vec F S512x512 .i32) (bg : Vec F S1x1x2048 .f32) (bd : Vec F S1x1x1024 .f32)
    (wg : Vec F S1x1024x2048 .f32) (wd : Vec F S1x1024x1024 .f32) (O : Vec F S512x1024 .bf16) : Vec F S512x1024 .bf16 :=
  if h : k0_cond10 lo hi = 1#1 then
    upd O (Rect.unit (s := S512x1024) (k0_off49 lo) S384x1024.size (k0_off49_inb v1 lo hi hw h)) (k0_pay1 lo hi (Scalar.muli t 64#32)
      (k0_pay9 (ld X (Rect.unit (s := S512x512) (k0_off46 lo) S384x512.size (k0_off46_inb v1 lo hi hw h)).toLoadRect) wg
        (ld bg (Rect.unit (s := S1x1x2048) ![0, 0, 0] S1x1x2048.size inb_S1x1x2048_S1x1x2048_0_0_0).toLoadRect) wd
        (ld bd (Rect.unit (s := S1x1x1024) ![0, 0, 0] S1x1x1024.size inb_S1x1x1024_S1x1x1024_0_0_0).toLoadRect))
      (ld O (Rect.unit (s := S512x1024) (k0_off49 lo) S384x1024.size (k0_off49_inb v1 lo hi hw h)).toLoadRect))
  else O

/-- What the row piece of 448 rows leaves of the output rows `O`. -/
def st11 (t v1 lo hi : BitVec 32) (hw : k0_chk7 v1 lo hi) (X : Vec F S512x512 .i32) (bg : Vec F S1x1x2048 .f32) (bd : Vec F S1x1x1024 .f32)
    (wg : Vec F S1x1024x2048 .f32) (wd : Vec F S1x1024x1024 .f32) (O : Vec F S512x1024 .bf16) : Vec F S512x1024 .bf16 :=
  if h : k0_cond11 lo hi = 1#1 then
    upd O (Rect.unit (s := S512x1024) (k0_off53 lo) S448x1024.size (k0_off53_inb v1 lo hi hw h)) (k0_pay2 lo hi (Scalar.muli t 64#32)
      (k0_pay10 (ld X (Rect.unit (s := S512x512) (k0_off50 lo) S448x512.size (k0_off50_inb v1 lo hi hw h)).toLoadRect) wg
        (ld bg (Rect.unit (s := S1x1x2048) ![0, 0, 0] S1x1x2048.size inb_S1x1x2048_S1x1x2048_0_0_0).toLoadRect) wd
        (ld bd (Rect.unit (s := S1x1x1024) ![0, 0, 0] S1x1x1024.size inb_S1x1x1024_S1x1x1024_0_0_0).toLoadRect))
      (ld O (Rect.unit (s := S512x1024) (k0_off53 lo) S448x1024.size (k0_off53_inb v1 lo hi hw h)).toLoadRect))
  else O

/-- What the row piece of all 512 rows leaves of the output rows `O`. -/
def st12 (t v1 lo hi : BitVec 32) (hw : k0_chk7 v1 lo hi) (X : Vec F S512x512 .i32) (bg : Vec F S1x1x2048 .f32) (bd : Vec F S1x1x1024 .f32)
    (wg : Vec F S1x1024x2048 .f32) (wd : Vec F S1x1024x1024 .f32) (O : Vec F S512x1024 .bf16) : Vec F S512x1024 .bf16 :=
  if h : k0_cond12 lo hi = 1#1 then
    upd O (Rect.unit (s := S512x1024) ![0, 0] S512x1024.size inb_S512x1024_S512x1024_0_0) (k0_pay3 lo hi
      (k0_pay11 (ld X (Rect.unit (s := S512x512) ![0, 0] S512x512.size inb_S512x512_S512x512_0_0).toLoadRect) wg
        (ld bg (Rect.unit (s := S1x1x2048) ![0, 0, 0] S1x1x2048.size inb_S1x1x2048_S1x1x2048_0_0_0).toLoadRect) wd
        (ld bd (Rect.unit (s := S1x1x1024) ![0, 0, 0] S1x1x1024.size inb_S1x1x1024_S1x1x1024_0_0_0).toLoadRect))
      (iota .tc S512x1 32 [0] iota_S512x1_d0_w32) k0_pay12
      (ld O (Rect.unit (s := S512x1024) ![0, 0] S512x1024.size inb_S512x1024_S512x1024_0_0).toLoadRect))
  else O

/-- What one item leaves of the output rows, from what it finds there. -/
def stAll (v1 lo hi : BitVec 32) (hw : k0_chk7 v1 lo hi) (X : Vec F S512x512 .i32) (bg : Vec F S1x1x2048 .f32) (bd : Vec F S1x1x1024 .f32)
    (wg : Vec F S1x1024x2048 .f32) (wd : Vec F S1x1024x1024 .f32) (O : Vec F S512x1024 .bf16) : Vec F S512x1024 .bf16 :=
  st12 (tile lo) v1 lo hi hw X bg bd wg wd <| st11 (tile lo) v1 lo hi hw X bg bd wg wd <| st10 (tile lo) v1 lo hi hw X bg bd wg wd <| st9 (tile lo) v1 lo hi hw X bg bd wg wd <| st8 (tile lo) v1 lo hi hw X bg bd wg wd <| st7 (tile lo) v1 lo hi hw X bg bd wg wd <| st6 (tile lo) v1 lo hi hw X bg bd wg wd <| st5 (tile lo) v1 lo hi hw X bg bd wg wd O

theorem if5 (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole) (arg17 : DmaSems sig S2x2)
    (X : Vec F S512x512 .i32) (bg : Vec F S1x1x2048 .f32) (bd : Vec F S1x1x1024 .f32) (n : ℕ)
    (f15 : S2x1024x2048.Idx → Elt F .f32) (f16 : S2x1024x1024.Idx → Elt F .f32) (O : Vec F S512x1024 .bf16)
    {wg : Vec F S1x1024x2048 .f32} {wd : Vec F S1x1024x1024 .f32}
    (hwg : ∀ h, ld f15 (Rect.unit (s := S2x1024x2048) ![n, 0, 0] S1x1024x2048.size h).toLoadRect = wg)
    (hwd : ∀ h, ld f16 (Rect.unit (s := S2x1024x1024) ![n, 0, 0] S1x1024x1024.size h).toLoadRect = wd)
    (t v1 lo hi : BitVec 32) (hw : k0_chk7 v1 lo hi) (hn : n = v1.toNat)
    {α : Type} {kk : Prog (TpuEff nD τ sig (Elt F) Λ₀ .tc) α} {Q : α → sProp (MM F)} :
    (Res c arg9 arg11 arg13 arg14 X bg bd n f15 f16 O : sProp (MM F))
      ⊢ iprop((Res c arg9 arg11 arg13 arg14 X bg bd n f15 f16 (st5 t v1 lo hi hw X bg bd wg wd O) -∗ WP c kk Q)
        -∗ WP (F := F) c (do
          if k0_h5 : k0_cond5 lo hi = 1#1 then do
            let x : Σ' (v83 : BitVec 32), FVec F S64x1024 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw t k0_h5
            let v132 : Vec F S64x1024 .bf16 ← Prog.lift (.load arg14 (Rect.unit (s := S512x1024) (k0_off29 lo) S64x1024.size (k0_off29_inb v1 lo hi hw k0_h5)).toLoadRect (View.loadsAt_vmem h_S64x1024))
            let v138 : Vec F S64x1024 .bf16 ← Prog.lift (.load arg14 (Rect.unit (s := S512x1024) (k0_off29 lo) S64x1024.size (k0_off29_inb v1 lo hi hw k0_h5)).toLoadRect (View.loadsAt_vmem h_S64x1024))
            Prog.lift (.store arg14 (Rect.unit (s := S512x1024) (k0_off29 lo) S64x1024.size (k0_off29_inb v1 lo hi hw k0_h5)) (k0_pay14 lo hi x.1 x.2 v132) Finset.univ (View.stores_vmem h_S64x1024 (harg14.storeExact_slice rfl _ (k0_off29_packedbf16 v1 lo hi hw k0_h5)) (fun _ => rfl)) (.inl rfl))
            kk
          else do
            kk) Q) := by
  unfold st5
  by_cases h : k0_cond5 lo hi = 1#1
  · rw [dif_pos h, dif_pos h, k0_part1_eq_skeleton]
    unfold k0_part1_skel
    exact piece c harg9 harg11 harg13 harg14 X bg bd n f15 f16 O
      (r9 := Rect.unit (s := S512x512) (k0_off26 lo) S64x512.size (k0_off26_inb v1 lo hi hw h))
      (r11 := Rect.unit (s := S1x1x2048) ![0, 0, 0] S1x1x2048.size inb_S1x1x2048_S1x1x2048_0_0_0)
      (r13 := Rect.unit (s := S1x1x1024) ![0, 0, 0] S1x1x1024.size inb_S1x1x1024_S1x1x1024_0_0_0)
      (r14 := Rect.unit (s := S512x1024) (k0_off29 lo) S64x1024.size (k0_off29_inb v1 lo hi hw h))
      (o15 := k0_off27 v1) (o16 := k0_off28 v1) (wg := wg) (wd := wd)
      (show k0_off27 v1 = ![n, 0, 0] by rw [hn]; rfl)
      (show k0_off28 v1 = ![n, 0, 0] by rw [hn]; rfl) hwg hwd
      (fun x w b d e o => k0_pay14 lo hi (Scalar.muli t 64#32) (k0_pay4 x w b d e) o)
  · rw [dif_neg h, dif_neg h]
    iintro H Hk
    iapply Hk
    iexact H

theorem if6 (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole) (arg17 : DmaSems sig S2x2)
    (X : Vec F S512x512 .i32) (bg : Vec F S1x1x2048 .f32) (bd : Vec F S1x1x1024 .f32) (n : ℕ)
    (f15 : S2x1024x2048.Idx → Elt F .f32) (f16 : S2x1024x1024.Idx → Elt F .f32) (O : Vec F S512x1024 .bf16)
    {wg : Vec F S1x1024x2048 .f32} {wd : Vec F S1x1024x1024 .f32}
    (hwg : ∀ h, ld f15 (Rect.unit (s := S2x1024x2048) ![n, 0, 0] S1x1024x2048.size h).toLoadRect = wg)
    (hwd : ∀ h, ld f16 (Rect.unit (s := S2x1024x1024) ![n, 0, 0] S1x1024x1024.size h).toLoadRect = wd)
    (t v1 lo hi : BitVec 32) (hw : k0_chk7 v1 lo hi) (hn : n = v1.toNat)
    {α : Type} {kk : Prog (TpuEff nD τ sig (Elt F) Λ₀ .tc) α} {Q : α → sProp (MM F)} :
    (Res c arg9 arg11 arg13 arg14 X bg bd n f15 f16 O : sProp (MM F))
      ⊢ iprop((Res c arg9 arg11 arg13 arg14 X bg bd n f15 f16 (st6 t v1 lo hi hw X bg bd wg wd O) -∗ WP c kk Q)
        -∗ WP (F := F) c (do
          if k0_h6 : k0_cond6 lo hi = 1#1 then do
            let x : Σ' (v83 : BitVec 32), FVec F S128x1024 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw t k0_h6
            let v132 : Vec F S128x1024 .bf16 ← Prog.lift (.load arg14 (Rect.unit (s := S512x1024) (k0_off33 lo) S128x1024.size (k0_off33_inb v1 lo hi hw k0_h6)).toLoadRect (View.loadsAt_vmem h_S128x1024))
            let v138 : Vec F S128x1024 .bf16 ← Prog.lift (.load arg14 (Rect.unit (s := S512x1024) (k0_off33 lo) S128x1024.size (k0_off33_inb v1 lo hi hw k0_h6)).toLoadRect (View.loadsAt_vmem h_S128x1024))
            Prog.lift (.store arg14 (Rect.unit (s := S512x1024) (k0_off33 lo) S128x1024.size (k0_off33_inb v1 lo hi hw k0_h6)) (k0_pay15 lo hi x.1 x.2 v132) Finset.univ (View.stores_vmem h_S128x1024 (harg14.storeExact_slice rfl _ (k0_off33_packedbf16 v1 lo hi hw k0_h6)) (fun _ => rfl)) (.inl rfl))
            kk
          else do
            kk) Q) := by
  unfold st6
  by_cases h : k0_cond6 lo hi = 1#1
  · rw [dif_pos h, dif_pos h, k0_part2_eq_skeleton]
    unfold k0_part2_skel
    exact piece c harg9 harg11 harg13 harg14 X bg bd n f15 f16 O
      (r9 := Rect.unit (s := S512x512) (k0_off30 lo) S128x512.size (k0_off30_inb v1 lo hi hw h))
      (r11 := Rect.unit (s := S1x1x2048) ![0, 0, 0] S1x1x2048.size inb_S1x1x2048_S1x1x2048_0_0_0)
      (r13 := Rect.unit (s := S1x1x1024) ![0, 0, 0] S1x1x1024.size inb_S1x1x1024_S1x1x1024_0_0_0)
      (r14 := Rect.unit (s := S512x1024) (k0_off33 lo) S128x1024.size (k0_off33_inb v1 lo hi hw h))
      (o15 := k0_off31 v1) (o16 := k0_off32 v1) (wg := wg) (wd := wd)
      (show k0_off31 v1 = ![n, 0, 0] by rw [hn]; rfl)
      (show k0_off32 v1 = ![n, 0, 0] by rw [hn]; rfl) hwg hwd
      (fun x w b d e o => k0_pay15 lo hi (Scalar.muli t 64#32) (k0_pay5 x w b d e) o)
  · rw [dif_neg h, dif_neg h]
    iintro H Hk
    iapply Hk
    iexact H

theorem if7 (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole) (arg17 : DmaSems sig S2x2)
    (X : Vec F S512x512 .i32) (bg : Vec F S1x1x2048 .f32) (bd : Vec F S1x1x1024 .f32) (n : ℕ)
    (f15 : S2x1024x2048.Idx → Elt F .f32) (f16 : S2x1024x1024.Idx → Elt F .f32) (O : Vec F S512x1024 .bf16)
    {wg : Vec F S1x1024x2048 .f32} {wd : Vec F S1x1024x1024 .f32}
    (hwg : ∀ h, ld f15 (Rect.unit (s := S2x1024x2048) ![n, 0, 0] S1x1024x2048.size h).toLoadRect = wg)
    (hwd : ∀ h, ld f16 (Rect.unit (s := S2x1024x1024) ![n, 0, 0] S1x1024x1024.size h).toLoadRect = wd)
    (t v1 lo hi : BitVec 32) (hw : k0_chk7 v1 lo hi) (hn : n = v1.toNat)
    {α : Type} {kk : Prog (TpuEff nD τ sig (Elt F) Λ₀ .tc) α} {Q : α → sProp (MM F)} :
    (Res c arg9 arg11 arg13 arg14 X bg bd n f15 f16 O : sProp (MM F))
      ⊢ iprop((Res c arg9 arg11 arg13 arg14 X bg bd n f15 f16 (st7 t v1 lo hi hw X bg bd wg wd O) -∗ WP c kk Q)
        -∗ WP (F := F) c (do
          if k0_h7 : k0_cond7 lo hi = 1#1 then do
            let x : Σ' (v83 : BitVec 32), FVec F S192x1024 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw t k0_h7
            let v132 : Vec F S192x1024 .bf16 ← Prog.lift (.load arg14 (Rect.unit (s := S512x1024) (k0_off37 lo) S192x1024.size (k0_off37_inb v1 lo hi hw k0_h7)).toLoadRect (View.loadsAt_vmem h_S192x1024))
            let v138 : Vec F S192x1024 .bf16 ← Prog.lift (.load arg14 (Rect.unit (s := S512x1024) (k0_off37 lo) S192x1024.size (k0_off37_inb v1 lo hi hw k0_h7)).toLoadRect (View.loadsAt_vmem h_S192x1024))
            Prog.lift (.store arg14 (Rect.unit (s := S512x1024) (k0_off37 lo) S192x1024.size (k0_off37_inb v1 lo hi hw k0_h7)) (k0_pay16 lo hi x.1 x.2 v132) Finset.univ (View.stores_vmem h_S192x1024 (harg14.storeExact_slice rfl _ (k0_off37_packedbf16 v1 lo hi hw k0_h7)) (fun _ => rfl)) (.inl rfl))
            kk
          else do
            kk) Q) := by
  unfold st7
  by_cases h : k0_cond7 lo hi = 1#1
  · rw [dif_pos h, dif_pos h, k0_part3_eq_skeleton]
    unfold k0_part3_skel
    exact piece c harg9 harg11 harg13 harg14 X bg bd n f15 f16 O
      (r9 := Rect.unit (s := S512x512) (k0_off34 lo) S192x512.size (k0_off34_inb v1 lo hi hw h))
      (r11 := Rect.unit (s := S1x1x2048) ![0, 0, 0] S1x1x2048.size inb_S1x1x2048_S1x1x2048_0_0_0)
      (r13 := Rect.unit (s := S1x1x1024) ![0, 0, 0] S1x1x1024.size inb_S1x1x1024_S1x1x1024_0_0_0)
      (r14 := Rect.unit (s := S512x1024) (k0_off37 lo) S192x1024.size (k0_off37_inb v1 lo hi hw h))
      (o15 := k0_off35 v1) (o16 := k0_off36 v1) (wg := wg) (wd := wd)
      (show k0_off35 v1 = ![n, 0, 0] by rw [hn]; rfl)
      (show k0_off36 v1 = ![n, 0, 0] by rw [hn]; rfl) hwg hwd
      (fun x w b d e o => k0_pay16 lo hi (Scalar.muli t 64#32) (k0_pay6 x w b d e) o)
  · rw [dif_neg h, dif_neg h]
    iintro H Hk
    iapply Hk
    iexact H

theorem if8 (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole) (arg17 : DmaSems sig S2x2)
    (X : Vec F S512x512 .i32) (bg : Vec F S1x1x2048 .f32) (bd : Vec F S1x1x1024 .f32) (n : ℕ)
    (f15 : S2x1024x2048.Idx → Elt F .f32) (f16 : S2x1024x1024.Idx → Elt F .f32) (O : Vec F S512x1024 .bf16)
    {wg : Vec F S1x1024x2048 .f32} {wd : Vec F S1x1024x1024 .f32}
    (hwg : ∀ h, ld f15 (Rect.unit (s := S2x1024x2048) ![n, 0, 0] S1x1024x2048.size h).toLoadRect = wg)
    (hwd : ∀ h, ld f16 (Rect.unit (s := S2x1024x1024) ![n, 0, 0] S1x1024x1024.size h).toLoadRect = wd)
    (t v1 lo hi : BitVec 32) (hw : k0_chk7 v1 lo hi) (hn : n = v1.toNat)
    {α : Type} {kk : Prog (TpuEff nD τ sig (Elt F) Λ₀ .tc) α} {Q : α → sProp (MM F)} :
    (Res c arg9 arg11 arg13 arg14 X bg bd n f15 f16 O : sProp (MM F))
      ⊢ iprop((Res c arg9 arg11 arg13 arg14 X bg bd n f15 f16 (st8 t v1 lo hi hw X bg bd wg wd O) -∗ WP c kk Q)
        -∗ WP (F := F) c (do
          if k0_h8 : k0_cond8 lo hi = 1#1 then do
            let x : Σ' (v83 : BitVec 32), FVec F S256x1024 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw t k0_h8
            let v132 : Vec F S256x1024 .bf16 ← Prog.lift (.load arg14 (Rect.unit (s := S512x1024) (k0_off41 lo) S256x1024.size (k0_off41_inb v1 lo hi hw k0_h8)).toLoadRect (View.loadsAt_vmem h_S256x1024))
            let v138 : Vec F S256x1024 .bf16 ← Prog.lift (.load arg14 (Rect.unit (s := S512x1024) (k0_off41 lo) S256x1024.size (k0_off41_inb v1 lo hi hw k0_h8)).toLoadRect (View.loadsAt_vmem h_S256x1024))
            Prog.lift (.store arg14 (Rect.unit (s := S512x1024) (k0_off41 lo) S256x1024.size (k0_off41_inb v1 lo hi hw k0_h8)) (k0_pay17 lo hi x.1 x.2 v132) Finset.univ (View.stores_vmem h_S256x1024 (harg14.storeExact_slice rfl _ (k0_off41_packedbf16 v1 lo hi hw k0_h8)) (fun _ => rfl)) (.inl rfl))
            kk
          else do
            kk) Q) := by
  unfold st8
  by_cases h : k0_cond8 lo hi = 1#1
  · rw [dif_pos h, dif_pos h, k0_part4_eq_skeleton]
    unfold k0_part4_skel
    exact piece c harg9 harg11 harg13 harg14 X bg bd n f15 f16 O
      (r9 := Rect.unit (s := S512x512) (k0_off38 lo) S256x512.size (k0_off38_inb v1 lo hi hw h))
      (r11 := Rect.unit (s := S1x1x2048) ![0, 0, 0] S1x1x2048.size inb_S1x1x2048_S1x1x2048_0_0_0)
      (r13 := Rect.unit (s := S1x1x1024) ![0, 0, 0] S1x1x1024.size inb_S1x1x1024_S1x1x1024_0_0_0)
      (r14 := Rect.unit (s := S512x1024) (k0_off41 lo) S256x1024.size (k0_off41_inb v1 lo hi hw h))
      (o15 := k0_off39 v1) (o16 := k0_off40 v1) (wg := wg) (wd := wd)
      (show k0_off39 v1 = ![n, 0, 0] by rw [hn]; rfl)
      (show k0_off40 v1 = ![n, 0, 0] by rw [hn]; rfl) hwg hwd
      (fun x w b d e o => k0_pay17 lo hi (Scalar.muli t 64#32) (k0_pay7 x w b d e) o)
  · rw [dif_neg h, dif_neg h]
    iintro H Hk
    iapply Hk
    iexact H

theorem if9 (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole) (arg17 : DmaSems sig S2x2)
    (X : Vec F S512x512 .i32) (bg : Vec F S1x1x2048 .f32) (bd : Vec F S1x1x1024 .f32) (n : ℕ)
    (f15 : S2x1024x2048.Idx → Elt F .f32) (f16 : S2x1024x1024.Idx → Elt F .f32) (O : Vec F S512x1024 .bf16)
    {wg : Vec F S1x1024x2048 .f32} {wd : Vec F S1x1024x1024 .f32}
    (hwg : ∀ h, ld f15 (Rect.unit (s := S2x1024x2048) ![n, 0, 0] S1x1024x2048.size h).toLoadRect = wg)
    (hwd : ∀ h, ld f16 (Rect.unit (s := S2x1024x1024) ![n, 0, 0] S1x1024x1024.size h).toLoadRect = wd)
    (t v1 lo hi : BitVec 32) (hw : k0_chk7 v1 lo hi) (hn : n = v1.toNat)
    {α : Type} {kk : Prog (TpuEff nD τ sig (Elt F) Λ₀ .tc) α} {Q : α → sProp (MM F)} :
    (Res c arg9 arg11 arg13 arg14 X bg bd n f15 f16 O : sProp (MM F))
      ⊢ iprop((Res c arg9 arg11 arg13 arg14 X bg bd n f15 f16 (st9 t v1 lo hi hw X bg bd wg wd O) -∗ WP c kk Q)
        -∗ WP (F := F) c (do
          if k0_h9 : k0_cond9 lo hi = 1#1 then do
            let x : Σ' (v83 : BitVec 32), FVec F S320x1024 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw t k0_h9
            let v132 : Vec F S320x1024 .bf16 ← Prog.lift (.load arg14 (Rect.unit (s := S512x1024) (k0_off45 lo) S320x1024.size (k0_off45_inb v1 lo hi hw k0_h9)).toLoadRect (View.loadsAt_vmem h_S320x1024))
            let v138 : Vec F S320x1024 .bf16 ← Prog.lift (.load arg14 (Rect.unit (s := S512x1024) (k0_off45 lo) S320x1024.size (k0_off45_inb v1 lo hi hw k0_h9)).toLoadRect (View.loadsAt_vmem h_S320x1024))
            Prog.lift (.store arg14 (Rect.unit (s := S512x1024) (k0_off45 lo) S320x1024.size (k0_off45_inb v1 lo hi hw k0_h9)) (k0_pay18 lo hi x.1 x.2 v132) Finset.univ (View.stores_vmem h_S320x1024 (harg14.storeExact_slice rfl _ (k0_off45_packedbf16 v1 lo hi hw k0_h9)) (fun _ => rfl)) (.inl rfl))
            kk
          else do
            kk) Q) := by
  unfold st9
  by_cases h : k0_cond9 lo hi = 1#1
  · rw [dif_pos h, dif_pos h, k0_part5_eq_skeleton]
    unfold k0_part5_skel
    exact piece c harg9 harg11 harg13 harg14 X bg bd n f15 f16 O
      (r9 := Rect.unit (s := S512x512) (k0_off42 lo) S320x512.size (k0_off42_inb v1 lo hi hw h))
      (r11 := Rect.unit (s := S1x1x2048) ![0, 0, 0] S1x1x2048.size inb_S1x1x2048_S1x1x2048_0_0_0)
      (r13 := Rect.unit (s := S1x1x1024) ![0, 0, 0] S1x1x1024.size inb_S1x1x1024_S1x1x1024_0_0_0)
      (r14 := Rect.unit (s := S512x1024) (k0_off45 lo) S320x1024.size (k0_off45_inb v1 lo hi hw h))
      (o15 := k0_off43 v1) (o16 := k0_off44 v1) (wg := wg) (wd := wd)
      (show k0_off43 v1 = ![n, 0, 0] by rw [hn]; rfl)
      (show k0_off44 v1 = ![n, 0, 0] by rw [hn]; rfl) hwg hwd
      (fun x w b d e o => k0_pay18 lo hi (Scalar.muli t 64#32) (k0_pay8 x w b d e) o)
  · rw [dif_neg h, dif_neg h]
    iintro H Hk
    iapply Hk
    iexact H

theorem if10 (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole) (arg17 : DmaSems sig S2x2)
    (X : Vec F S512x512 .i32) (bg : Vec F S1x1x2048 .f32) (bd : Vec F S1x1x1024 .f32) (n : ℕ)
    (f15 : S2x1024x2048.Idx → Elt F .f32) (f16 : S2x1024x1024.Idx → Elt F .f32) (O : Vec F S512x1024 .bf16)
    {wg : Vec F S1x1024x2048 .f32} {wd : Vec F S1x1024x1024 .f32}
    (hwg : ∀ h, ld f15 (Rect.unit (s := S2x1024x2048) ![n, 0, 0] S1x1024x2048.size h).toLoadRect = wg)
    (hwd : ∀ h, ld f16 (Rect.unit (s := S2x1024x1024) ![n, 0, 0] S1x1024x1024.size h).toLoadRect = wd)
    (t v1 lo hi : BitVec 32) (hw : k0_chk7 v1 lo hi) (hn : n = v1.toNat)
    {α : Type} {kk : Prog (TpuEff nD τ sig (Elt F) Λ₀ .tc) α} {Q : α → sProp (MM F)} :
    (Res c arg9 arg11 arg13 arg14 X bg bd n f15 f16 O : sProp (MM F))
      ⊢ iprop((Res c arg9 arg11 arg13 arg14 X bg bd n f15 f16 (st10 t v1 lo hi hw X bg bd wg wd O) -∗ WP c kk Q)
        -∗ WP (F := F) c (do
          if k0_h10 : k0_cond10 lo hi = 1#1 then do
            let x : Σ' (v83 : BitVec 32), FVec F S384x1024 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw t k0_h10
            let v132 : Vec F S384x1024 .bf16 ← Prog.lift (.load arg14 (Rect.unit (s := S512x1024) (k0_off49 lo) S384x1024.size (k0_off49_inb v1 lo hi hw k0_h10)).toLoadRect (View.loadsAt_vmem h_S384x1024))
            let v138 : Vec F S384x1024 .bf16 ← Prog.lift (.load arg14 (Rect.unit (s := S512x1024) (k0_off49 lo) S384x1024.size (k0_off49_inb v1 lo hi hw k0_h10)).toLoadRect (View.loadsAt_vmem h_S384x1024))
            Prog.lift (.store arg14 (Rect.unit (s := S512x1024) (k0_off49 lo) S384x1024.size (k0_off49_inb v1 lo hi hw k0_h10)) (k0_pay1 lo hi x.1 x.2 v132) Finset.univ (View.stores_vmem h_S384x1024 (harg14.storeExact_slice rfl _ (k0_off49_packedbf16 v1 lo hi hw k0_h10)) (fun _ => rfl)) (.inl rfl))
            kk
          else do
            kk) Q) := by
  unfold st10
  by_cases h : k0_cond10 lo hi = 1#1
  · rw [dif_pos h, dif_pos h, k0_part6_eq_skeleton]
    unfold k0_part6_skel
    exact piece c harg9 harg11 harg13 harg14 X bg bd n f15 f16 O
      (r9 := Rect.unit (s := S512x512) (k0_off46 lo) S384x512.size (k0_off46_inb v1 lo hi hw h))
      (r11 := Rect.unit (s := S1x1x2048) ![0, 0, 0] S1x1x2048.size inb_S1x1x2048_S1x1x2048_0_0_0)
      (r13 := Rect.unit (s := S1x1x1024) ![0, 0, 0] S1x1x1024.size inb_S1x1x1024_S1x1x1024_0_0_0)
      (r14 := Rect.unit (s := S512x1024) (k0_off49 lo) S384x1024.size (k0_off49_inb v1 lo hi hw h))
      (o15 := k0_off47 v1) (o16 := k0_off48 v1) (wg := wg) (wd := wd)
      (show k0_off47 v1 = ![n, 0, 0] by rw [hn]; rfl)
      (show k0_off48 v1 = ![n, 0, 0] by rw [hn]; rfl) hwg hwd
      (fun x w b d e o => k0_pay1 lo hi (Scalar.muli t 64#32) (k0_pay9 x w b d e) o)
  · rw [dif_neg h, dif_neg h]
    iintro H Hk
    iapply Hk
    iexact H

theorem if11 (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole) (arg17 : DmaSems sig S2x2)
    (X : Vec F S512x512 .i32) (bg : Vec F S1x1x2048 .f32) (bd : Vec F S1x1x1024 .f32) (n : ℕ)
    (f15 : S2x1024x2048.Idx → Elt F .f32) (f16 : S2x1024x1024.Idx → Elt F .f32) (O : Vec F S512x1024 .bf16)
    {wg : Vec F S1x1024x2048 .f32} {wd : Vec F S1x1024x1024 .f32}
    (hwg : ∀ h, ld f15 (Rect.unit (s := S2x1024x2048) ![n, 0, 0] S1x1024x2048.size h).toLoadRect = wg)
    (hwd : ∀ h, ld f16 (Rect.unit (s := S2x1024x1024) ![n, 0, 0] S1x1024x1024.size h).toLoadRect = wd)
    (t v1 lo hi : BitVec 32) (hw : k0_chk7 v1 lo hi) (hn : n = v1.toNat)
    {α : Type} {kk : Prog (TpuEff nD τ sig (Elt F) Λ₀ .tc) α} {Q : α → sProp (MM F)} :
    (Res c arg9 arg11 arg13 arg14 X bg bd n f15 f16 O : sProp (MM F))
      ⊢ iprop((Res c arg9 arg11 arg13 arg14 X bg bd n f15 f16 (st11 t v1 lo hi hw X bg bd wg wd O) -∗ WP c kk Q)
        -∗ WP (F := F) c (do
          if k0_h11 : k0_cond11 lo hi = 1#1 then do
            let x : Σ' (v83 : BitVec 32), FVec F S448x1024 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw t k0_h11
            let v132 : Vec F S448x1024 .bf16 ← Prog.lift (.load arg14 (Rect.unit (s := S512x1024) (k0_off53 lo) S448x1024.size (k0_off53_inb v1 lo hi hw k0_h11)).toLoadRect (View.loadsAt_vmem h_S448x1024))
            let v138 : Vec F S448x1024 .bf16 ← Prog.lift (.load arg14 (Rect.unit (s := S512x1024) (k0_off53 lo) S448x1024.size (k0_off53_inb v1 lo hi hw k0_h11)).toLoadRect (View.loadsAt_vmem h_S448x1024))
            Prog.lift (.store arg14 (Rect.unit (s := S512x1024) (k0_off53 lo) S448x1024.size (k0_off53_inb v1 lo hi hw k0_h11)) (k0_pay2 lo hi x.1 x.2 v132) Finset.univ (View.stores_vmem h_S448x1024 (harg14.storeExact_slice rfl _ (k0_off53_packedbf16 v1 lo hi hw k0_h11)) (fun _ => rfl)) (.inl rfl))
            kk
          else do
            kk) Q) := by
  unfold st11
  by_cases h : k0_cond11 lo hi = 1#1
  · rw [dif_pos h, dif_pos h, k0_part7_eq_skeleton]
    unfold k0_part7_skel
    exact piece c harg9 harg11 harg13 harg14 X bg bd n f15 f16 O
      (r9 := Rect.unit (s := S512x512) (k0_off50 lo) S448x512.size (k0_off50_inb v1 lo hi hw h))
      (r11 := Rect.unit (s := S1x1x2048) ![0, 0, 0] S1x1x2048.size inb_S1x1x2048_S1x1x2048_0_0_0)
      (r13 := Rect.unit (s := S1x1x1024) ![0, 0, 0] S1x1x1024.size inb_S1x1x1024_S1x1x1024_0_0_0)
      (r14 := Rect.unit (s := S512x1024) (k0_off53 lo) S448x1024.size (k0_off53_inb v1 lo hi hw h))
      (o15 := k0_off51 v1) (o16 := k0_off52 v1) (wg := wg) (wd := wd)
      (show k0_off51 v1 = ![n, 0, 0] by rw [hn]; rfl)
      (show k0_off52 v1 = ![n, 0, 0] by rw [hn]; rfl) hwg hwd
      (fun x w b d e o => k0_pay2 lo hi (Scalar.muli t 64#32) (k0_pay10 x w b d e) o)
  · rw [dif_neg h, dif_neg h]
    iintro H Hk
    iapply Hk
    iexact H

theorem if12 (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole) (arg17 : DmaSems sig S2x2)
    (X : Vec F S512x512 .i32) (bg : Vec F S1x1x2048 .f32) (bd : Vec F S1x1x1024 .f32) (n : ℕ)
    (f15 : S2x1024x2048.Idx → Elt F .f32) (f16 : S2x1024x1024.Idx → Elt F .f32) (O : Vec F S512x1024 .bf16)
    {wg : Vec F S1x1024x2048 .f32} {wd : Vec F S1x1024x1024 .f32}
    (hwg : ∀ h, ld f15 (Rect.unit (s := S2x1024x2048) ![n, 0, 0] S1x1024x2048.size h).toLoadRect = wg)
    (hwd : ∀ h, ld f16 (Rect.unit (s := S2x1024x1024) ![n, 0, 0] S1x1024x1024.size h).toLoadRect = wd)
    (t v1 lo hi : BitVec 32) (hw : k0_chk7 v1 lo hi) (hn : n = v1.toNat)
    {α : Type} {kk : Prog (TpuEff nD τ sig (Elt F) Λ₀ .tc) α} {Q : α → sProp (MM F)} :
    (Res c arg9 arg11 arg13 arg14 X bg bd n f15 f16 O : sProp (MM F))
      ⊢ iprop((Res c arg9 arg11 arg13 arg14 X bg bd n f15 f16 (st12 t v1 lo hi hw X bg bd wg wd O) -∗ WP c kk Q)
        -∗ WP (F := F) c (do
          if k0_h12 : k0_cond12 lo hi = 1#1 then do
            let x : Σ' (v118 : FVec F S512x1024 .f32) (v119 : IVec S512x1 32), IVec S512x1 32 ← k0_part8 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw k0_h12
            let v128 : Vec F S512x1024 .bf16 ← Prog.lift (.load arg14 (Rect.unit (s := S512x1024) ![0, 0] S512x1024.size inb_S512x1024_S512x1024_0_0).toLoadRect (View.loadsAt_vmem h_S512x1024))
            let v133 : Vec F S512x1024 .bf16 ← Prog.lift (.load arg14 (Rect.unit (s := S512x1024) ![0, 0] S512x1024.size inb_S512x1024_S512x1024_0_0).toLoadRect (View.loadsAt_vmem h_S512x1024))
            Prog.lift (.store arg14 (Rect.unit (s := S512x1024) ![0, 0] S512x1024.size inb_S512x1024_S512x1024_0_0) (k0_pay3 lo hi x.1 x.2.1 x.2.2 v128) Finset.univ (View.stores_vmem h_S512x1024 (harg14.storeExact_slice rfl _ packedbf16_S512x1024_S512x1024_0_0) (fun _ => rfl)) (.inl rfl))
            kk
          else do
            kk) Q) := by
  unfold st12
  by_cases h : k0_cond12 lo hi = 1#1
  · rw [dif_pos h, dif_pos h, k0_part8_eq_skeleton]
    unfold k0_part8_skel
    exact piece c harg9 harg11 harg13 harg14 X bg bd n f15 f16 O
      (r9 := Rect.unit (s := S512x512) ![0, 0] S512x512.size inb_S512x512_S512x512_0_0)
      (r11 := Rect.unit (s := S1x1x2048) ![0, 0, 0] S1x1x2048.size inb_S1x1x2048_S1x1x2048_0_0_0)
      (r13 := Rect.unit (s := S1x1x1024) ![0, 0, 0] S1x1x1024.size inb_S1x1x1024_S1x1x1024_0_0_0)
      (r14 := Rect.unit (s := S512x1024) ![0, 0] S512x1024.size inb_S512x1024_S512x1024_0_0)
      (o15 := k0_off54 v1) (o16 := k0_off55 v1) (wg := wg) (wd := wd)
      (show k0_off54 v1 = ![n, 0, 0] by rw [hn]; rfl)
      (show k0_off55 v1 = ![n, 0, 0] by rw [hn]; rfl) hwg hwd
      (fun x w b d e o => k0_pay3 lo hi (k0_pay11 x w b d e) (iota .tc S512x1 32 [0] iota_S512x1_d0_w32) k0_pay12 o)
  · rw [dif_neg h, dif_neg h]
    iintro H Hk
    iapply Hk
    iexact H

/-- The second half of the body: the eight row pieces, one after another. -/
theorem pieces (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole) (arg17 : DmaSems sig S2x2)
    (X : Vec F S512x512 .i32) (bg : Vec F S1x1x2048 .f32) (bd : Vec F S1x1x1024 .f32) (n : ℕ)
    (f15 : S2x1024x2048.Idx → Elt F .f32) (f16 : S2x1024x1024.Idx → Elt F .f32) (O : Vec F S512x1024 .bf16)
    {wg : Vec F S1x1024x2048 .f32} {wd : Vec F S1x1024x1024 .f32}
    (hwg : ∀ h, ld f15 (Rect.unit (s := S2x1024x2048) ![n, 0, 0] S1x1024x2048.size h).toLoadRect = wg)
    (hwd : ∀ h, ld f16 (Rect.unit (s := S2x1024x1024) ![n, 0, 0] S1x1024x1024.size h).toLoadRect = wd)
    (t v1 lo hi v37 cc : BitVec 32) (ht : t = tile lo) (v36 : BitVec 1) (hw : k0_chk7 v1 lo hi) (hn : n = v1.toNat) {Q : PUnit → sProp (MM F)} :
    (Res c arg9 arg11 arg13 arg14 X bg bd n f15 f16 O : sProp (MM F))
      ⊢ iprop((Res c arg9 arg11 arg13 arg14 X bg bd n f15 f16 (stAll v1 lo hi hw X bg bd wg wd O) -∗ Q ⟨⟩)
        -∗ WP (F := F) c (do
        let _ ← k0_part10 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw t v36 v37 cc
          if k0_h10 : k0_cond10 lo hi = 1#1 then do
            let ⟨v83, v121⟩ : Σ' (v83 : BitVec 32), FVec F S384x1024 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw t k0_h10
            let v132 : Vec F S384x1024 .bf16 ← Prog.lift (.load arg14 (Rect.unit (s := S512x1024) (k0_off49 lo) S384x1024.size (k0_off49_inb v1 lo hi hw k0_h10)).toLoadRect (View.loadsAt_vmem h_S384x1024))
            let v138 : Vec F S384x1024 .bf16 ← Prog.lift (.load arg14 (Rect.unit (s := S512x1024) (k0_off49 lo) S384x1024.size (k0_off49_inb v1 lo hi hw k0_h10)).toLoadRect (View.loadsAt_vmem h_S384x1024))
            Prog.lift (.store arg14 (Rect.unit (s := S512x1024) (k0_off49 lo) S384x1024.size (k0_off49_inb v1 lo hi hw k0_h10)) (k0_pay1 lo hi v83 v121 v132) Finset.univ (View.stores_vmem h_S384x1024 (harg14.storeExact_slice rfl _ (k0_off49_packedbf16 v1 lo hi hw k0_h10)) (fun _ => rfl)) (.inl rfl))
            pure ⟨⟩
          else do
            pure ⟨⟩
          if k0_h11 : k0_cond11 lo hi = 1#1 then do
            let ⟨v83, v121⟩ : Σ' (v83 : BitVec 32), FVec F S448x1024 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw t k0_h11
            let v132 : Vec F S448x1024 .bf16 ← Prog.lift (.load arg14 (Rect.unit (s := S512x1024) (k0_off53 lo) S448x1024.size (k0_off53_inb v1 lo hi hw k0_h11)).toLoadRect (View.loadsAt_vmem h_S448x1024))
            let v138 : Vec F S448x1024 .bf16 ← Prog.lift (.load arg14 (Rect.unit (s := S512x1024) (k0_off53 lo) S448x1024.size (k0_off53_inb v1 lo hi hw k0_h11)).toLoadRect (View.loadsAt_vmem h_S448x1024))
            Prog.lift (.store arg14 (Rect.unit (s := S512x1024) (k0_off53 lo) S448x1024.size (k0_off53_inb v1 lo hi hw k0_h11)) (k0_pay2 lo hi v83 v121 v132) Finset.univ (View.stores_vmem h_S448x1024 (harg14.storeExact_slice rfl _ (k0_off53_packedbf16 v1 lo hi hw k0_h11)) (fun _ => rfl)) (.inl rfl))
            pure ⟨⟩
          else do
            pure ⟨⟩
          if k0_h12 : k0_cond12 lo hi = 1#1 then do
            let ⟨v118, v119, v120⟩ : Σ' (v118 : FVec F S512x1024 .f32) (v119 : IVec S512x1 32), IVec S512x1 32 ← k0_part8 i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) arg17 v1 lo hi hw k0_h12
            let v128 : Vec F S512x1024 .bf16 ← Prog.lift (.load arg14 (Rect.unit (s := S512x1024) ![0, 0] S512x1024.size inb_S512x1024_S512x1024_0_0).toLoadRect (View.loadsAt_vmem h_S512x1024))
            let v133 : Vec F S512x1024 .bf16 ← Prog.lift (.load arg14 (Rect.unit (s := S512x1024) ![0, 0] S512x1024.size inb_S512x1024_S512x1024_0_0).toLoadRect (View.loadsAt_vmem h_S512x1024))
            Prog.lift (.store arg14 (Rect.unit (s := S512x1024) ![0, 0] S512x1024.size inb_S512x1024_S512x1024_0_0) (k0_pay3 lo hi v118 v119 v120 v128) Finset.univ (View.stores_vmem h_S512x1024 (harg14.storeExact_slice rfl _ packedbf16_S512x1024_S512x1024_0_0) (fun _ => rfl)) (.inl rfl))
            pure ⟨⟩
          else do
            pure ⟨⟩
        pure ⟨⟩) Q) := by
  subst ht
  iintro H Hk
  unfold WP
  rw [wp_bind, k0_part10_eq_skeleton]
  unfold k0_part10_skel
  dsimp only
  iapply (if5 c i arg1 harg1 arg2 harg2 arg3 harg3 arg4 harg4 arg5 harg5 arg6 harg6 arg7 harg7 arg8 harg8 arg9 harg9 arg10 harg10 arg11 harg11 arg12 harg12
    arg13 harg13 arg14 harg14 arg17 X bg bd n f15 f16 _ hwg hwd (tile lo) v1 lo hi hw hn) $$ H
  iintro H
  iapply (if6 c i arg1 harg1 arg2 harg2 arg3 harg3 arg4 harg4 arg5 harg5 arg6 harg6 arg7 harg7 arg8 harg8 arg9 harg9 arg10 harg10 arg11 harg11 arg12 harg12
    arg13 harg13 arg14 harg14 arg17 X bg bd n f15 f16 _ hwg hwd (tile lo) v1 lo hi hw hn) $$ H
  iintro H
  iapply (if7 c i arg1 harg1 arg2 harg2 arg3 harg3 arg4 harg4 arg5 harg5 arg6 harg6 arg7 harg7 arg8 harg8 arg9 harg9 arg10 harg10 arg11 harg11 arg12 harg12
    arg13 harg13 arg14 harg14 arg17 X bg bd n f15 f16 _ hwg hwd (tile lo) v1 lo hi hw hn) $$ H
  iintro H
  iapply (if8 c i arg1 harg1 arg2 harg2 arg3 harg3 arg4 harg4 arg5 harg5 arg6 harg6 arg7 harg7 arg8 harg8 arg9 harg9 arg10 harg10 arg11 harg11 arg12 harg12
    arg13 harg13 arg14 harg14 arg17 X bg bd n f15 f16 _ hwg hwd (tile lo) v1 lo hi hw hn) $$ H
  iintro H
  iapply (if9 c i arg1 harg1 arg2 harg2 arg3 harg3 arg4 harg4 arg5 harg5 arg6 harg6 arg7 harg7 arg8 harg8 arg9 harg9 arg10 harg10 arg11 harg11 arg12 harg12
    arg13 harg13 arg14 harg14 arg17 X bg bd n f15 f16 _ hwg hwd (tile lo) v1 lo hi hw hn) $$ H
  iintro H
  unfold WP
  rw [show ∀ x, (pure x : Prog (TpuEff nD τ sig (Elt F) Λ₀ .tc) (Σ' (v57 : BitVec 32), BitVec 1)) = .ret x from fun _ => rfl, wp_ret]
  imodintro
  iapply (if10 c i arg1 harg1 arg2 harg2 arg3 harg3 arg4 harg4 arg5 harg5 arg6 harg6 arg7 harg7 arg8 harg8 arg9 harg9 arg10 harg10 arg11 harg11 arg12 harg12
    arg13 harg13 arg14 harg14 arg17 X bg bd n f15 f16 _ hwg hwd (tile lo) v1 lo hi hw hn) $$ H
  iintro H
  iapply (if11 c i arg1 harg1 arg2 harg2 arg3 harg3 arg4 harg4 arg5 harg5 arg6 harg6 arg7 harg7 arg8 harg8 arg9 harg9 arg10 harg10 arg11 harg11 arg12 harg12
    arg13 harg13 arg14 harg14 arg17 X bg bd n f15 f16 _ hwg hwd (tile lo) v1 lo hi hw hn) $$ H
  iintro H
  iapply (if12 c i arg1 harg1 arg2 harg2 arg3 harg3 arg4 harg4 arg5 harg5 arg6 harg6 arg7 harg7 arg8 harg8 arg9 harg9 arg10 harg10 arg11 harg11 arg12 harg12
    arg13 harg13 arg14 harg14 arg17 X bg bd n f15 f16 _ hwg hwd (tile lo) v1 lo hi hw hn) $$ H
  iintro H
  unfold WP
  rw [show (pure ⟨⟩ : Prog (TpuEff nD τ sig (Elt F) Λ₀ .tc) PUnit) = .ret ⟨⟩ from rfl, wp_ret]
  imodintro
  iapply Hk
  iexact H

end Cert.Kernel2Ideal.Moe

end
-- ==== Proof.IMoeDma.lean ====
module

public import proofs.«01_k».proof.Proof.IMoeBody
public import Idealize.ShloMosaic.Lib.Transfers

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono wp_dmaLocal wp_waitLocal)

variable {F : FTy → Type} [FloatOps F]

/-! ## The transfers of an expert's weights into a slot -/

/-- A transfer in flight delivers, with what it delivers, whatever is set beside it. -/
theorem Flight_frame (c : Dev nD) {sm : SemLoc sig} {N : ℕ} {D X : sProp (MM F)} :
    iprop(Flight countersEmb (c : Thread nD τ) sm () N D ∗ X) ⊢ Flight countersEmb (c : Thread nD τ) sm () N iprop(D ∗ X) := by
  unfold Flight
  iintro ⟨⟨⟨%R, HR, %hcap, %hpeek⟩, Hcred⟩, HX⟩
  isplitl [HR HX]
  · iexists iprop(R ∗ X)
    isplitl [HR HX]
    · isplitl [HR]; · iexact HR
      iexact HX
    isplit
    · ipureintro
      intro K
      iintro ⟨⟨HR, HX⟩, HK⟩
      iapply (hcap K)
      isplitl [HR]; · iexact HR
      iintro ⟨Hv, HD⟩
      iapply HK
      isplitl [Hv]; · iexact Hv
      isplitl [HD]; · iexact HD
      iexact HX
    · ipureintro
      intro K
      iintro ⟨⟨HR, HX⟩, HK⟩
      iapply (hpeek K)
      isplitl [HR]; · iexact HR
      iintro HR
      iapply HK
      isplitl [HR]; · iexact HR
      iexact HX
  · iexact Hcred

/-- The completion counter an offset into the semaphore array names. -/
abbrev semAt (o : Fin 2 → ℕ) (h : ∀ a, o a + S1x1.size a ≤ S2x2.size a) : DmaSem sig :=
  ((cc0_scratch2.slice (Rect.unit (s := S2x2) o S1x1.size h)).squeeze S_ squeezes_S1x1_S_).sem

/-- The counter of slot `n` for the gate-and-up weights (`k = 0`) or the down weights (`k = 1`). -/
abbrev semQ (n k : Fin 2) : DmaSem sig := semAt ![n.val, k.val] (by
  intro a
  match a with
  | ⟨0, _⟩ => exact n.isLt
  | ⟨1, _⟩ => exact k.isLt)

/-- The amounts the two transfers credit. -/
abbrev creditG : ℕ := bufG.view.ref.dmaCredit S1024x2048 .f32
abbrev creditD : ℕ := bufD.view.ref.dmaCredit S1024x1024 .f32

/-- Expert `e`'s slab on its way into slot `n`: it delivers the slot holding the slab, and the weights back. -/
abbrev FlyG (c : Dev nD) (hb : Memref sig .tc .hbm S32x1024x2048 .f32) (n : Fin 2) (e : Fin 32) (q : PosShare TreeShare)
    (W : S32x1024x2048.Idx → Elt F .f32) : sProp (MM F) :=
  Flight countersEmb (c : Thread nD τ) (.dma (semQ n 0)) () creditG
    iprop((bufG.view.loc (c : Thread nD τ) ↦[setG n.val]{fullShare} slotG W e) ∗ owns (c : Thread nD τ) hb q W)

theorem landG {hb : Memref sig .tc .hbm S32x1024x2048 .f32} (hhb : hb.IsWhole) (n : ℕ) (e : Fin 32)
    (id : ∀ a, (![n, 0, 0] : Fin 3 → ℕ) a + S1x1024x2048.size a ≤ S2x1024x2048.size a)
    (is : ∀ a, (![e.val, 0, 0] : Fin 3 → ℕ) a + S1x1024x2048.size a ≤ S32x1024x2048.size a)
    (W : S32x1024x2048.Idx → Elt F .f32) (f : S2x1024x2048.Idx → Elt F .f32) (i : S2x1024x2048.Idx) (hi : i ∈ setG n) :
    ((bufG.slice (Rect.unit (s := S2x1024x2048) ![n, 0, 0] S1x1024x2048.size id) (fun _ => rfl)).squeeze S1024x2048 squeezes_S1x1024x2048_S1024x2048).view.write (Elt F) f
      (ReadAs.same.apply (((hb.slice (Rect.unit (s := S32x1024x2048) ![e.val, 0, 0] S1x1024x2048.size is) (fun _ => rfl)).squeeze S1024x2048 squeezes_S1x1024x2048_S1024x2048).view.read (Elt F) (hhb.unread W))) Finset.univ i = slotG W e i := by
  have hs : ((bufG.slice (Rect.unit (s := S2x1024x2048) ![n, 0, 0] S1x1024x2048.size id) (fun _ => rfl)).squeeze S1024x2048 squeezes_S1x1024x2048_S1024x2048).view.set = setG n := by
    rw [← setG_rect n id]
    show ((bufG.view.slice _).reshape _ _).set = _
    rw [View.set_reshape]
    exact View.set_slice_whole _ _
  rw [← hs] at hi
  obtain ⟨y, -, rfl⟩ := Finset.mem_map.mp hi
  rw [View.write_emb_of_mem _ _ (Finset.mem_univ y)]
  obtain ⟨x, hx, hx'⟩ : ∃ x : S1x1024x2048.Idx, ((bufG.slice (Rect.unit (s := S2x1024x2048) ![n, 0, 0] S1x1024x2048.size id) (fun _ => rfl)).squeeze S1024x2048 squeezes_S1x1024x2048_S1024x2048).view.emb y = (Rect.unit (s := S2x1024x2048) ![n, 0, 0] S1x1024x2048.size id).emb x
      ∧ ((hb.slice (Rect.unit (s := S32x1024x2048) ![e.val, 0, 0] S1x1024x2048.size is) (fun _ => rfl)).squeeze S1024x2048 squeezes_S1x1024x2048_S1024x2048).view.emb y = hb.view.emb ((Rect.unit (s := S32x1024x2048) ![e.val, 0, 0] S1x1024x2048.size is).emb x) := ⟨_, rfl, rfl⟩
  refine Eq.trans (b := hb.view.read (Elt F) (hhb.unread W) ((Rect.unit (s := S32x1024x2048) ![e.val, 0, 0] S1x1024x2048.size is).emb x)) ?_ ?_
  · show cast _ (cast _ (hhb.unread W _)) = cast _ (hhb.unread W _)
    rw [hx']; rfl
  rw [hhb.read_unread]
  unfold slotG
  refine congrArg W ?_
  rw [hx]
  funext a
  apply Fin.ext
  match a with
  | ⟨0, _⟩ =>
    show e.val + 1 * (x 0).val = e.val
    rw [Nat.lt_one_iff.mp (x 0).isLt]; rfl
  | ⟨1, _⟩ => rfl
  | ⟨2, _⟩ => rfl

theorem issueG (c : Dev nD) {hb : Memref sig .tc .hbm S32x1024x2048 .f32} (hhb : hb.IsWhole) (n : Fin 2) (e : Fin 32) (q : PosShare TreeShare)
    (W : S32x1024x2048.Idx → Elt F .f32) {oq : Fin 2 → ℕ} {od os : Fin 3 → ℕ}
    (eq : oq = ![n.val, 0]) (ed : od = ![n.val, 0, 0]) (es : os = ![e.val, 0, 0])
    {iq : ∀ a, oq a + S1x1.size a ≤ S2x2.size a}
    {id : ∀ a, od a + S1x1024x2048.size a ≤ S2x1024x2048.size a} {is : ∀ a, os a + S1x1024x2048.size a ≤ S32x1024x2048.size a} {hsrc hdst hsem}
    {α : Type} {k : PUnit → Prog (TpuEff nD τ sig (Elt F) Λ₀ .tc) α} {Q : α → sProp (MM F)} :
    iprop((∃ f, (bufG.view.loc (c : Thread nD τ) ↦[setG n.val]{fullShare} f)) ∗ owns (c : Thread nD τ) hb q W
        ∗ semVal ((c : Thread nD τ), SemLoc.dma (semQ n 0)) 0)
      ⊢ iprop((FlyG c hb n e q W -∗ WP (F := F) c (k ⟨⟩) Q)
        -∗ WP (F := F) c (.op (.enqueueDmaAs ((hb.slice (Rect.unit (s := S32x1024x2048) os S1x1024x2048.size is) (fun _ => rfl)).squeeze S1024x2048 squeezes_S1x1024x2048_S1024x2048) (.here ((bufG.slice (Rect.unit (s := S2x1024x2048) od S1x1024x2048.size id) (fun _ => rfl)).squeeze S1024x2048 squeezes_S1x1024x2048_S1024x2048)) ReadAs.same (.dma (semAt oq iq)) hsrc hdst hsem) k) Q) := by
  subst eq ed es
  have hset : ((bufG.slice (Rect.unit (s := S2x1024x2048) ![n.val, 0, 0] S1x1024x2048.size id) (fun _ => rfl)).squeeze S1024x2048 squeezes_S1x1024x2048_S1024x2048).view.set = setG n.val := by
    rw [← setG_rect n.val id]
    show ((bufG.view.slice _).reshape _ _).set = _
    rw [View.set_reshape]
    exact View.set_slice_whole _ _
  have hsub : ((hb.slice (Rect.unit (s := S32x1024x2048) ![e.val, 0, 0] S1x1024x2048.size is) (fun _ => rfl)).squeeze S1024x2048 squeezes_S1x1024x2048_S1024x2048).view.set ⊆ hb.view.set := by
    show ((hb.view.slice _).reshape _ _).set ⊆ _
    rw [View.set_reshape]
    exact View.set_slice_subset _ _
  unfold owns
  iintro ⟨⟨%f, Hd⟩, ⟨%fw, %hfw, Hs⟩, Hv⟩ Hk
  obtain rfl := hhb.eq_unread hfw
  ihave Hs2 := (pointsTo_split_subset hsub).1 $$ Hs
  icases Hs2 with ⟨Hs, Hrest⟩
  iapply (wp_dmaLocal countersEmb Variants.none (c : Thread nD τ) none () creditG rfl (show 0 < ((bufG.slice (Rect.unit (s := S2x1024x2048) ![n.val, 0, 0] S1x1024x2048.size id) (fun _ => rfl)).squeeze S1024x2048 squeezes_S1x1024x2048_S1024x2048).view.dmaCredit from View.dmaCredit_pos _ (show 0 < S1024x2048.numel by decide)) (subset_of_eq hset)) $$ [Hs Hd Hv]
  · isplitl [Hs]; · iexact Hs
    isplitl [Hd]; · iexact Hd
    iexact Hv
  iintro HF
  iapply Hk
  ihave HF := Flight_frame c $$ [HF Hrest]
  · isplitl [HF]; · iexact HF
    iexact Hrest
  iapply (Flight_mono countersEmb (c : Thread nD τ) ?_) $$ HF
  iintro ⟨⟨Hd, Hs⟩, Hrest⟩
  isplitl [Hd]
  · rw [pointsTo_congr (landG hhb n.val e id is W f)]
    exact Entails.refl _
  · unfold owns
    iexists _
    isplitr
    · ipureintro; exact hfw
    iapply (pointsTo_split_subset hsub).2
    isplitl [Hs]; · iexact Hs
    iexact Hrest

theorem collectG (c : Dev nD) {hb : Memref sig .tc .hbm S32x1024x2048 .f32} (n : Fin 2) (e : Fin 32) (q : PosShare TreeShare)
    (W : S32x1024x2048.Idx → Elt F .f32) {oq : Fin 2 → ℕ} {od os : Fin 3 → ℕ}
    (eq : oq = ![n.val, 0])
    {iq : ∀ a, oq a + S1x1.size a ≤ S2x2.size a}
    {id : ∀ a, od a + S1x1024x2048.size a ≤ S2x1024x2048.size a} {is : ∀ a, os a + S1x1024x2048.size a ≤ S32x1024x2048.size a} {hsrc hdst} {wt : Waits sig Unit}
    {α : Type} {k : PUnit → Prog (TpuEff nD τ sig (Elt F) Λ₀ .tc) α} {Q : α → sProp (MM F)} :
    iprop(FlyG c hb n e q W ∗ owes (c : Thread nD τ) 0 wt)
      ⊢ iprop((iprop((bufG.view.loc (c : Thread nD τ) ↦[setG n.val]{fullShare} slotG W e) ∗ owns (c : Thread nD τ) hb q W
            ∗ semVal ((c : Thread nD τ), SemLoc.dma (semQ n 0)) 0 ∗ (∃ wt', owes (c : Thread nD τ) 0 wt')) -∗ WP (F := F) c (k ⟨⟩) Q)
        -∗ WP (F := F) c (.op (.waitDma2 (semAt oq iq) ((hb.slice (Rect.unit (s := S32x1024x2048) os S1x1024x2048.size is) (fun _ => rfl)).squeeze S1024x2048 squeezes_S1x1024x2048_S1024x2048) ((bufG.slice (Rect.unit (s := S2x1024x2048) od S1x1024x2048.size id) (fun _ => rfl)).squeeze S1024x2048 squeezes_S1x1024x2048_S1024x2048) hsrc hdst) k) Q) := by
  subst eq
  iintro ⟨HF, HO⟩ Hk
  iapply (wp_waitLocal countersEmb Variants.none (c : Thread nD τ) none () (N := creditG) rfl) $$ [HF HO]
  · isplitl [HF]; · iexact HF
    iexact HO
  iintro ⟨⟨Hd, Hs⟩, Hv, HO⟩
  iapply Hk
  isplitl [Hd]; · iexact Hd
  isplitl [Hs]; · iexact Hs
  isplitl [Hv]; · iexact Hv
  iexists _
  iexact HO

/-- Expert `e`'s slab on its way into slot `n`: it delivers the slot holding the slab, and the weights back. -/
abbrev FlyD (c : Dev nD) (hb : Memref sig .tc .hbm S32x1024x1024 .f32) (n : Fin 2) (e : Fin 32) (q : PosShare TreeShare)
    (W : S32x1024x1024.Idx → Elt F .f32) : sProp (MM F) :=
  Flight countersEmb (c : Thread nD τ) (.dma (semQ n 1)) () creditD
    iprop((bufD.view.loc (c : Thread nD τ) ↦[setD n.val]{fullShare} slotD W e) ∗ owns (c : Thread nD τ) hb q W)

theorem landD {hb : Memref sig .tc .hbm S32x1024x1024 .f32} (hhb : hb.IsWhole) (n : ℕ) (e : Fin 32)
    (id : ∀ a, (![n, 0, 0] : Fin 3 → ℕ) a + S1x1024x1024.size a ≤ S2x1024x1024.size a)
    (is : ∀ a, (![e.val, 0, 0] : Fin 3 → ℕ) a + S1x1024x1024.size a ≤ S32x1024x1024.size a)
    (W : S32x1024x1024.Idx → Elt F .f32) (f : S2x1024x1024.Idx → Elt F .f32) (i : S2x1024x1024.Idx) (hi : i ∈ setD n) :
    ((bufD.slice (Rect.unit (s := S2x1024x1024) ![n, 0, 0] S1x1024x1024.size id) (fun _ => rfl)).squeeze S1024x1024 squeezes_S1x1024x1024_S1024x1024).view.write (Elt F) f
      (ReadAs.same.apply (((hb.slice (Rect.unit (s := S32x1024x1024) ![e.val, 0, 0] S1x1024x1024.size is) (fun _ => rfl)).squeeze S1024x1024 squeezes_S1x1024x1024_S1024x1024).view.read (Elt F) (hhb.unread W))) Finset.univ i = slotD W e i := by
  have hs : ((bufD.slice (Rect.unit (s := S2x1024x1024) ![n, 0, 0] S1x1024x1024.size id) (fun _ => rfl)).squeeze S1024x1024 squeezes_S1x1024x1024_S1024x1024).view.set = setD n := by
    rw [← setD_rect n id]
    show ((bufD.view.slice _).reshape _ _).set = _
    rw [View.set_reshape]
    exact View.set_slice_whole _ _
  rw [← hs] at hi
  obtain ⟨y, -, rfl⟩ := Finset.mem_map.mp hi
  rw [View.write_emb_of_mem _ _ (Finset.mem_univ y)]
  obtain ⟨x, hx, hx'⟩ : ∃ x : S1x1024x1024.Idx, ((bufD.slice (Rect.unit (s := S2x1024x1024) ![n, 0, 0] S1x1024x1024.size id) (fun _ => rfl)).squeeze S1024x1024 squeezes_S1x1024x1024_S1024x1024).view.emb y = (Rect.unit (s := S2x1024x1024) ![n, 0, 0] S1x1024x1024.size id).emb x
      ∧ ((hb.slice (Rect.unit (s := S32x1024x1024) ![e.val, 0, 0] S1x1024x1024.size is) (fun _ => rfl)).squeeze S1024x1024 squeezes_S1x1024x1024_S1024x1024).view.emb y = hb.view.emb ((Rect.unit (s := S32x1024x1024) ![e.val, 0, 0] S1x1024x1024.size is).emb x) := ⟨_, rfl, rfl⟩
  refine Eq.trans (b := hb.view.read (Elt F) (hhb.unread W) ((Rect.unit (s := S32x1024x1024) ![e.val, 0, 0] S1x1024x1024.size is).emb x)) ?_ ?_
  · show cast _ (cast _ (hhb.unread W _)) = cast _ (hhb.unread W _)
    rw [hx']; rfl
  rw [hhb.read_unread]
  unfold slotD
  refine congrArg W ?_
  rw [hx]
  funext a
  apply Fin.ext
  match a with
  | ⟨0, _⟩ =>
    show e.val + 1 * (x 0).val = e.val
    rw [Nat.lt_one_iff.mp (x 0).isLt]; rfl
  | ⟨1, _⟩ => rfl
  | ⟨2, _⟩ => rfl

theorem issueD (c : Dev nD) {hb : Memref sig .tc .hbm S32x1024x1024 .f32} (hhb : hb.IsWhole) (n : Fin 2) (e : Fin 32) (q : PosShare TreeShare)
    (W : S32x1024x1024.Idx → Elt F .f32) {oq : Fin 2 → ℕ} {od os : Fin 3 → ℕ}
    (eq : oq = ![n.val, 1]) (ed : od = ![n.val, 0, 0]) (es : os = ![e.val, 0, 0])
    {iq : ∀ a, oq a + S1x1.size a ≤ S2x2.size a}
    {id : ∀ a, od a + S1x1024x1024.size a ≤ S2x1024x1024.size a} {is : ∀ a, os a + S1x1024x1024.size a ≤ S32x1024x1024.size a} {hsrc hdst hsem}
    {α : Type} {k : PUnit → Prog (TpuEff nD τ sig (Elt F) Λ₀ .tc) α} {Q : α → sProp (MM F)} :
    iprop((∃ f, (bufD.view.loc (c : Thread nD τ) ↦[setD n.val]{fullShare} f)) ∗ owns (c : Thread nD τ) hb q W
        ∗ semVal ((c : Thread nD τ), SemLoc.dma (semQ n 1)) 0)
      ⊢ iprop((FlyD c hb n e q W -∗ WP (F := F) c (k ⟨⟩) Q)
        -∗ WP (F := F) c (.op (.enqueueDmaAs ((hb.slice (Rect.unit (s := S32x1024x1024) os S1x1024x1024.size is) (fun _ => rfl)).squeeze S1024x1024 squeezes_S1x1024x1024_S1024x1024) (.here ((bufD.slice (Rect.unit (s := S2x1024x1024) od S1x1024x1024.size id) (fun _ => rfl)).squeeze S1024x1024 squeezes_S1x1024x1024_S1024x1024)) ReadAs.same (.dma (semAt oq iq)) hsrc hdst hsem) k) Q) := by
  subst eq ed es
  have hset : ((bufD.slice (Rect.unit (s := S2x1024x1024) ![n.val, 0, 0] S1x1024x1024.size id) (fun _ => rfl)).squeeze S1024x1024 squeezes_S1x1024x1024_S1024x1024).view.set = setD n.val := by
    rw [← setD_rect n.val id]
    show ((bufD.view.slice _).reshape _ _).set = _
    rw [View.set_reshape]
    exact View.set_slice_whole _ _
  have hsub : ((hb.slice (Rect.unit (s := S32x1024x1024) ![e.val, 0, 0] S1x1024x1024.size is) (fun _ => rfl)).squeeze S1024x1024 squeezes_S1x1024x1024_S1024x1024).view.set ⊆ hb.view.set := by
    show ((hb.view.slice _).reshape _ _).set ⊆ _
    rw [View.set_reshape]
    exact View.set_slice_subset _ _
  unfold owns
  iintro ⟨⟨%f, Hd⟩, ⟨%fw, %hfw, Hs⟩, Hv⟩ Hk
  obtain rfl := hhb.eq_unread hfw
  ihave Hs2 := (pointsTo_split_subset hsub).1 $$ Hs
  icases Hs2 with ⟨Hs, Hrest⟩
  iapply (wp_dmaLocal countersEmb Variants.none (c : Thread nD τ) none () creditD rfl (show 0 < ((bufD.slice (Rect.unit (s := S2x1024x1024) ![n.val, 0, 0] S1x1024x1024.size id) (fun _ => rfl)).squeeze S1024x1024 squeezes_S1x1024x1024_S1024x1024).view.dmaCredit from View.dmaCredit_pos _ (show 0 < S1024x1024.numel by decide)) (subset_of_eq hset)) $$ [Hs Hd Hv]
  · isplitl [Hs]; · iexact Hs
    isplitl [Hd]; · iexact Hd
    iexact Hv
  iintro HF
  iapply Hk
  ihave HF := Flight_frame c $$ [HF Hrest]
  · isplitl [HF]; · iexact HF
    iexact Hrest
  iapply (Flight_mono countersEmb (c : Thread nD τ) ?_) $$ HF
  iintro ⟨⟨Hd, Hs⟩, Hrest⟩
  isplitl [Hd]
  · rw [pointsTo_congr (landD hhb n.val e id is W f)]
    exact Entails.refl _
  · unfold owns
    iexists _
    isplitr
    · ipureintro; exact hfw
    iapply (pointsTo_split_subset hsub).2
    isplitl [Hs]; · iexact Hs
    iexact Hrest

theorem collectD (c : Dev nD) {hb : Memref sig .tc .hbm S32x1024x1024 .f32} (n : Fin 2) (e : Fin 32) (q : PosShare TreeShare)
    (W : S32x1024x1024.Idx → Elt F .f32) {oq : Fin 2 → ℕ} {od os : Fin 3 → ℕ}
    (eq : oq = ![n.val, 1])
    {iq : ∀ a, oq a + S1x1.size a ≤ S2x2.size a}
    {id : ∀ a, od a + S1x1024x1024.size a ≤ S2x1024x1024.size a} {is : ∀ a, os a + S1x1024x1024.size a ≤ S32x1024x1024.size a} {hsrc hdst} {wt : Waits sig Unit}
    {α : Type} {k : PUnit → Prog (TpuEff nD τ sig (Elt F) Λ₀ .tc) α} {Q : α → sProp (MM F)} :
    iprop(FlyD c hb n e q W ∗ owes (c : Thread nD τ) 0 wt)
      ⊢ iprop((iprop((bufD.view.loc (c : Thread nD τ) ↦[setD n.val]{fullShare} slotD W e) ∗ owns (c : Thread nD τ) hb q W
            ∗ semVal ((c : Thread nD τ), SemLoc.dma (semQ n 1)) 0 ∗ (∃ wt', owes (c : Thread nD τ) 0 wt')) -∗ WP (F := F) c (k ⟨⟩) Q)
        -∗ WP (F := F) c (.op (.waitDma2 (semAt oq iq) ((hb.slice (Rect.unit (s := S32x1024x1024) os S1x1024x1024.size is) (fun _ => rfl)).squeeze S1024x1024 squeezes_S1x1024x1024_S1024x1024) ((bufD.slice (Rect.unit (s := S2x1024x1024) od S1x1024x1024.size id) (fun _ => rfl)).squeeze S1024x1024 squeezes_S1x1024x1024_S1024x1024) hsrc hdst) k) Q) := by
  subst eq
  iintro ⟨HF, HO⟩ Hk
  iapply (wp_waitLocal countersEmb Variants.none (c : Thread nD τ) none () (N := creditD) rfl) $$ [HF HO]
  · isplitl [HF]; · iexact HF
    iexact HO
  iintro ⟨⟨Hd, Hs⟩, Hv, HO⟩
  iapply Hk
  isplitl [Hd]; · iexact Hd
  isplitl [Hs]; · iexact Hs
  isplitl [Hv]; · iexact Hv
  iexists _
  iexact HO

/-! ## Reading a table's word -/

/-- The word of a table at an offset. -/
def rd (T : S160.Idx → Elt F .i32) (o : Fin 1 → ℕ) (h : ∀ a, o a + S1.size a ≤ S160.size a) : Elt F .i32 :=
  T ((Rect.unit (s := S160) o S1.size h).emb (Shape.Idx.first (numel1_S1.symm ▸ Nat.one_pos)))

theorem smem_word (c : Dev nD) {m : Memref sig .tc .smem S160 .i32} (hm : m.IsWhole) (T : S160.Idx → Elt F .i32) (q : PosShare TreeShare)
    {o : Fin 1 → ℕ} {h : ∀ a, o a + S1.size a ≤ S160.size a} {α : Type} {k : Elt F .i32 → Prog (TpuEff nD τ sig (Elt F) Λ₀ .tc) α}
    {Q : α → sProp (MM F)} :
    (owns (c : Thread nD τ) m q T : sProp (MM F))
      ⊢ iprop((owns (c : Thread nD τ) m q T -∗ WP (F := F) c (k (rd T o h)) Q)
        -∗ WP (F := F) c (smemLoad m (Rect.unit (s := S160) o S1.size h) numel1_S1 rfl >>= k) Q) := by
  unfold owns
  iintro ⟨%f, %hf, H⟩ Hk
  obtain rfl := hm.eq_unread hf
  unfold WP
  rw [wp_bind]
  unfold smemLoad
  iapply (wp_smemLoadElt Variants.none (c : Thread nD τ) none Set.univ (m := m) (r := Rect.unit (s := S160) o S1.size h) (View.set_slice_subset m.view _)) $$ H
  iintro H
  rw [wp_ret]
  imodintro
  rw [show (m.access (Rect.unit (s := S160) o S1.size h)).read (Elt F) (hm.unread T) (Shape.Idx.first (numel1_S1.symm ▸ Nat.one_pos)) = rd T o h from
    congrFun (hm.read_unread T) _]
  iapply Hk
  iexists _
  isplitr
  · ipureintro; exact hf
  iexact H

theorem assume_step (c : Dev nD) {P : Prop} (hP : P) {dP : Decidable P} {α : Type} {k : PLift P → Prog (TpuEff nD τ sig (Elt F) Λ₀ .tc) α}
    {Q : α → sProp (MM F)} :
    WP (F := F) c (k ⟨hP⟩) Q ⊢ WP (F := F) c (Prog.lift (TpuEff.assume P dP) >>= k) Q :=
  wp_assume Variants.none (c : Thread nD τ) none Set.univ hP

/-! ## The two slots -/

/-- The half of a weight array's share a slot's transfers read with. -/
def qs (n : Fin 2) : PosShare TreeShare := if n = 0 then fullShare.left else fullShare.right

/-- A slot with nothing in flight, holding anything. -/
def Idle (c : Dev nD) (hg : Memref sig .tc .hbm S32x1024x2048 .f32) (hd : Memref sig .tc .hbm S32x1024x1024 .f32)
    (WG : S32x1024x2048.Idx → Elt F .f32) (WD : S32x1024x1024.Idx → Elt F .f32) (n : Fin 2) : sProp (MM F) :=
  iprop((∃ f, bufG.view.loc (c : Thread nD τ) ↦[setG n.val]{fullShare} f) ∗ (∃ f, bufD.view.loc (c : Thread nD τ) ↦[setD n.val]{fullShare} f)
    ∗ semVal ((c : Thread nD τ), SemLoc.dma (semQ n 0)) 0 ∗ semVal ((c : Thread nD τ), SemLoc.dma (semQ n 1)) 0
    ∗ owns (c : Thread nD τ) hg (qs n) WG ∗ owns (c : Thread nD τ) hd (qs n) WD)

/-- A slot with nothing in flight, holding expert `e`. -/
def Ready (c : Dev nD) (hg : Memref sig .tc .hbm S32x1024x2048 .f32) (hd : Memref sig .tc .hbm S32x1024x1024 .f32)
    (WG : S32x1024x2048.Idx → Elt F .f32) (WD : S32x1024x1024.Idx → Elt F .f32) (n : Fin 2) (e : Fin 32) : sProp (MM F) :=
  iprop((bufG.view.loc (c : Thread nD τ) ↦[setG n.val]{fullShare} slotG WG e) ∗ (bufD.view.loc (c : Thread nD τ) ↦[setD n.val]{fullShare} slotD WD e)
    ∗ semVal ((c : Thread nD τ), SemLoc.dma (semQ n 0)) 0 ∗ semVal ((c : Thread nD τ), SemLoc.dma (semQ n 1)) 0
    ∗ owns (c : Thread nD τ) hg (qs n) WG ∗ owns (c : Thread nD τ) hd (qs n) WD)

/-- A slot with expert `e` on its way. -/
def Busy (c : Dev nD) (hg : Memref sig .tc .hbm S32x1024x2048 .f32) (hd : Memref sig .tc .hbm S32x1024x1024 .f32)
    (WG : S32x1024x2048.Idx → Elt F .f32) (WD : S32x1024x1024.Idx → Elt F .f32) (n : Fin 2) (e : Fin 32) : sProp (MM F) :=
  iprop(FlyG c hg n e (qs n) WG ∗ FlyD c hd n e (qs n) WD)

/-- The expert a table's word names. -/
def eF (w : BitVec 32) : Fin 32 := ⟨w.toNat % 32, Nat.mod_lt _ (by decide)⟩

/-- The other slot: on its way to the expert `w` names, when it names one. -/
def Pend (c : Dev nD) (hg : Memref sig .tc .hbm S32x1024x2048 .f32) (hd : Memref sig .tc .hbm S32x1024x1024 .f32)
    (WG : S32x1024x2048.Idx → Elt F .f32) (WD : S32x1024x1024.Idx → Elt F .f32) (n : Fin 2) (w : BitVec 32) : sProp (MM F) :=
  if k0_cond3 w = 1#1 then Busy c hg hd WG WD n (eF w) else Idle c hg hd WG WD n

theorem ready_idle (c : Dev nD) (hg : Memref sig .tc .hbm S32x1024x2048 .f32) (hd : Memref sig .tc .hbm S32x1024x1024 .f32)
    (WG : S32x1024x2048.Idx → Elt F .f32) (WD : S32x1024x1024.Idx → Elt F .f32) (n : Fin 2) (e : Fin 32) :
    Ready c hg hd WG WD n e ⊢ Idle c hg hd WG WD n := by
  unfold Ready Idle
  iintro ⟨H1, H2, H3, H4, H5, H6⟩
  isplitl [H1]; · iexists _; iexact H1
  isplitl [H2]; · iexists _; iexact H2
  isplitl [H3]; · iexact H3
  isplitl [H4]; · iexact H4
  isplitl [H5]; · iexact H5
  iexact H6

theorem start (c : Dev nD) {hg : Memref sig .tc .hbm S32x1024x2048 .f32} (hhg : hg.IsWhole) {hd : Memref sig .tc .hbm S32x1024x1024 .f32} (hhd : hd.IsWhole)
    (WG : S32x1024x2048.Idx → Elt F .f32) (WD : S32x1024x1024.Idx → Elt F .f32) (n : Fin 2) (e : Fin 32)
    {oq oq' : Fin 2 → ℕ} {od os od' os' : Fin 3 → ℕ} (eq : oq = ![n.val, 0]) (ed : od = ![n.val, 0, 0]) (es : os = ![e.val, 0, 0])
    (eq' : oq' = ![n.val, 1]) (ed' : od' = ![n.val, 0, 0]) (es' : os' = ![e.val, 0, 0])
    {iq : ∀ a, oq a + S1x1.size a ≤ S2x2.size a} {id : ∀ a, od a + S1x1024x2048.size a ≤ S2x1024x2048.size a} {is : ∀ a, os a + S1x1024x2048.size a ≤ S32x1024x2048.size a}
    {iq' : ∀ a, oq' a + S1x1.size a ≤ S2x2.size a} {id' : ∀ a, od' a + S1x1024x1024.size a ≤ S2x1024x1024.size a} {is' : ∀ a, os' a + S1x1024x1024.size a ≤ S32x1024x1024.size a}
    {hsrc hdst hsem hsrc' hdst' hsem'} {α : Type} {k : Prog (TpuEff nD τ sig (Elt F) Λ₀ .tc) α} {Q : α → sProp (MM F)} :
    Idle c hg hd WG WD n
      ⊢ iprop((Busy c hg hd WG WD n e -∗ WP (F := F) c k Q)
        -∗ WP (F := F) c (.op (.enqueueDmaAs ((hg.slice (Rect.unit (s := S32x1024x2048) os S1x1024x2048.size is) (fun _ => rfl)).squeeze S1024x2048 squeezes_S1x1024x2048_S1024x2048) (.here ((bufG.slice (Rect.unit (s := S2x1024x2048) od S1x1024x2048.size id) (fun _ => rfl)).squeeze S1024x2048 squeezes_S1x1024x2048_S1024x2048)) ReadAs.same (.dma (semAt oq iq)) hsrc hdst hsem) fun _ =>
          .op (.enqueueDmaAs ((hd.slice (Rect.unit (s := S32x1024x1024) os' S1x1024x1024.size is') (fun _ => rfl)).squeeze S1024x1024 squeezes_S1x1024x1024_S1024x1024) (.here ((bufD.slice (Rect.unit (s := S2x1024x1024) od' S1x1024x1024.size id') (fun _ => rfl)).squeeze S1024x1024 squeezes_S1x1024x1024_S1024x1024)) ReadAs.same (.dma (semAt oq' iq')) hsrc' hdst' hsem') fun _ => k) Q) := by
  unfold Idle Busy
  iintro ⟨H1, H2, H3, H4, H5, H6⟩ Hk
  iapply (issueG c hhg n e (qs n) WG eq ed es) $$ [H1 H3 H5]
  · isplitl [H1]; · iexact H1
    isplitl [H5]; · iexact H5
    iexact H3
  iintro HG
  iapply (issueD c hhd n e (qs n) WD eq' ed' es') $$ [H2 H4 H6]
  · isplitl [H2]; · iexact H2
    isplitl [H6]; · iexact H6
    iexact H4
  iintro HD
  iapply Hk
  isplitl [HG]; · iexact HG
  iexact HD

theorem finish (c : Dev nD) {hg : Memref sig .tc .hbm S32x1024x2048 .f32} {hd : Memref sig .tc .hbm S32x1024x1024 .f32}
    (WG : S32x1024x2048.Idx → Elt F .f32) (WD : S32x1024x1024.Idx → Elt F .f32) (n : Fin 2) (e : Fin 32)
    {oq oq' : Fin 2 → ℕ} {od os od' os' : Fin 3 → ℕ} (eq : oq = ![n.val, 0]) (eq' : oq' = ![n.val, 1])
    {iq : ∀ a, oq a + S1x1.size a ≤ S2x2.size a} {id : ∀ a, od a + S1x1024x2048.size a ≤ S2x1024x2048.size a} {is : ∀ a, os a + S1x1024x2048.size a ≤ S32x1024x2048.size a}
    {iq' : ∀ a, oq' a + S1x1.size a ≤ S2x2.size a} {id' : ∀ a, od' a + S1x1024x1024.size a ≤ S2x1024x1024.size a} {is' : ∀ a, os' a + S1x1024x1024.size a ≤ S32x1024x1024.size a}
    {hsrc hdst hsrc' hdst'} {wt : Waits sig Unit} {α : Type} {k : Prog (TpuEff nD τ sig (Elt F) Λ₀ .tc) α} {Q : α → sProp (MM F)} :
    iprop(Busy c hg hd WG WD n e ∗ owes (c : Thread nD τ) 0 wt)
      ⊢ iprop((iprop(Ready c hg hd WG WD n e ∗ (∃ wt', owes (c : Thread nD τ) 0 wt')) -∗ WP (F := F) c k Q)
        -∗ WP (F := F) c (.op (.waitDma2 (semAt oq iq) ((hg.slice (Rect.unit (s := S32x1024x2048) os S1x1024x2048.size is) (fun _ => rfl)).squeeze S1024x2048 squeezes_S1x1024x2048_S1024x2048) ((bufG.slice (Rect.unit (s := S2x1024x2048) od S1x1024x2048.size id) (fun _ => rfl)).squeeze S1024x2048 squeezes_S1x1024x2048_S1024x2048) hsrc hdst) fun _ =>
          .op (.waitDma2 (semAt oq' iq') ((hd.slice (Rect.unit (s := S32x1024x1024) os' S1x1024x1024.size is') (fun _ => rfl)).squeeze S1024x1024 squeezes_S1x1024x1024_S1024x1024) ((bufD.slice (Rect.unit (s := S2x1024x1024) od' S1x1024x1024.size id') (fun _ => rfl)).squeeze S1024x1024 squeezes_S1x1024x1024_S1024x1024) hsrc' hdst') fun _ => k) Q) := by
  unfold Busy Ready
  iintro ⟨⟨HG, HD⟩, HO⟩ Hk
  iapply (collectG c n e (qs n) WG eq) $$ [HG HO]
  · isplitl [HG]; · iexact HG
    iexact HO
  iintro ⟨H1, H5, H3, ⟨%wt', HO⟩⟩
  iapply (collectD c n e (qs n) WD eq') $$ [HD HO]
  · isplitl [HD]; · iexact HD
    iexact HO
  iintro ⟨H2, H6, H4, HO⟩
  iapply Hk
  isplitr [HO]
  · isplitl [H1]; · iexact H1
    isplitl [H2]; · iexact H2
    isplitl [H3]; · iexact H3
    isplitl [H4]; · iexact H4
    isplitl [H5]; · iexact H5
    iexact H6
  iexact HO

/-! ## The first half of the body, by its conditionals -/

theorem frag1 (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole)
    (WG : S32x1024x2048.Idx → Elt F .f32) (WD : S32x1024x1024.Idx → Elt F .f32) (T2 : S160.Idx → Elt F .i32) (q : PosShare TreeShare)
    (n : Fin 2) (v1 : Elt F .i32) (k0_hw1 : k0_chk1 i v1) (hn : v1.toNat = n.val)
    (hc : k0_chk2 i (rd T2 ![0] inb_S160_S1_0)) (he : (rd T2 ![0] inb_S160_S1_0).toNat < 32)
    {α : Type} {kk : Prog (TpuEff nD τ sig (Elt F) Λ₀ .tc) α} {Q : α → sProp (MM F)} :
    iprop((if k0_cond1 i = 1#1 then Idle c arg10 arg12 WG WD n else emp) ∗ owns (c : Thread nD τ) arg2 q T2)
      ⊢ iprop((iprop((if k0_cond1 i = 1#1 then Busy c arg10 arg12 WG WD n (eF (rd T2 ![0] inb_S160_S1_0)) else emp) ∗ owns (c : Thread nD τ) arg2 q T2)
          -∗ WP (F := F) c kk Q)
        -∗ WP (F := F) c (do
        if k0_h1 : k0_cond1 i = 1#1 then do
          let v82 : Elt F .i32 ← smemLoad arg2 (Rect.unit (s := S160) ![0] S1.size inb_S160_S1_0) numel1_S1 rfl
          have k0_hw2 : k0_chk2 i v82 := (← Prog.lift (TpuEff.assume (k0_chk2 i v82) (k0_chk2.dec i v82))).down
          let v83 : DmaSems sig S1x1 := cc0_scratch2.slice (Rect.unit (s := S2x2) (k0_off2 v1) S1x1.size (k0_off2_inb i v1 k0_hw1 k0_h1))
          let v84 : DmaSems sig S_ := v83.squeeze S_ squeezes_S1x1_S_
          let v85 : Memref sig .tc .vmem S1x1024x2048 .f32 := bufG.slice (Rect.unit (s := S2x1024x2048) (k0_off3 v1) S1x1024x2048.size (k0_off3_inb i v1 k0_hw1 k0_h1)) (fun _ => rfl)
          let v86 : Memref sig .tc .vmem S1024x2048 .f32 := v85.squeeze S1024x2048 squeezes_S1x1024x2048_S1024x2048
          let v87 : Memref sig .tc .hbm S1x1024x2048 .f32 := arg10.slice (Rect.unit (s := S32x1024x2048) (k0_off4 v82) S1x1024x2048.size (k0_off4_inb i v82 k0_hw2 k0_h1)) (fun _ => rfl)
          let v88 : Memref sig .tc .hbm S1024x2048 .f32 := v87.squeeze S1024x2048 squeezes_S1x1024x2048_S1024x2048
          Prog.lift (.enqueueDma v88 (.here v86) (.dma v84.sem) ((View.wordExact_bits rfl).reshape _ _) ((View.wordExact_bits rfl).reshape _ _) ⟨Or.inl rfl, trivial⟩)
          let v89 : DmaSems sig S1x1 := cc0_scratch2.slice (Rect.unit (s := S2x2) (k0_off5 v1) S1x1.size (k0_off5_inb i v1 k0_hw1 k0_h1))
          let v90 : DmaSems sig S_ := v89.squeeze S_ squeezes_S1x1_S_
          let v91 : Memref sig .tc .vmem S1x1024x1024 .f32 := bufD.slice (Rect.unit (s := S2x1024x1024) (k0_off6 v1) S1x1024x1024.size (k0_off6_inb i v1 k0_hw1 k0_h1)) (fun _ => rfl)
          let v92 : Memref sig .tc .vmem S1024x1024 .f32 := v91.squeeze S1024x1024 squeezes_S1x1024x1024_S1024x1024
          let v93 : Memref sig .tc .hbm S1x1024x1024 .f32 := arg12.slice (Rect.unit (s := S32x1024x1024) (k0_off7 v82) S1x1024x1024.size (k0_off7_inb i v82 k0_hw2 k0_h1)) (fun _ => rfl)
          let v94 : Memref sig .tc .hbm S1024x1024 .f32 := v93.squeeze S1024x1024 squeezes_S1x1024x1024_S1024x1024
          Prog.lift (.enqueueDma v94 (.here v92) (.dma v90.sem) ((View.wordExact_bits rfl).reshape _ _) ((View.wordExact_bits rfl).reshape _ _) ⟨Or.inl rfl, trivial⟩)
          kk
        else do
          kk) Q) := by
  have he' : (rd T2 ![0] inb_S160_S1_0).toNat = (eF (rd T2 ![0] inb_S160_S1_0)).val := (Nat.mod_eq_of_lt he).symm
  by_cases h : k0_cond1 i = 1#1
  · rw [dif_pos h, if_pos h, if_pos h]
    iintro ⟨HI, H2⟩ Hk
    iapply (smem_word c harg2 T2 q) $$ H2
    iintro H2
    iapply (assume_step c hc)
    iapply (start c harg10 harg12 WG WD n (eF (rd T2 ![0] inb_S160_S1_0)) (show k0_off2 v1 = ![n.val, 0] by rw [← hn]; rfl)
      (show k0_off3 v1 = ![n.val, 0, 0] by rw [← hn]; rfl) (show k0_off4 (rd T2 ![0] inb_S160_S1_0) = ![_, 0, 0] by rw [← he']; rfl)
      (show k0_off5 v1 = ![n.val, 1] by rw [← hn]; rfl)
      (show k0_off6 v1 = ![n.val, 0, 0] by rw [← hn]; rfl) (show k0_off7 (rd T2 ![0] inb_S160_S1_0) = ![_, 0, 0] by rw [← he']; rfl)) $$ HI
    iintro HB
    iapply Hk
    isplitl [HB]; · iexact HB
    iexact H2
  · rw [dif_neg h, if_neg h, if_neg h]
    iintro H Hk
    iapply Hk
    iexact H

theorem frag2 (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole)
    (WG : S32x1024x2048.Idx → Elt F .f32) (WD : S32x1024x1024.Idx → Elt F .f32) (T2 T7 : S160.Idx → Elt F .i32) (q : PosShare TreeShare)
    (n n' : Fin 2) (e : Fin 32) (v1 v6 : Elt F .i32) (k0_hw3 : k0_chk3 v1 v6) (hn : v1.toNat = n.val) (hn' : (Scalar.subi 1#32 v1).toNat = n'.val)
    (hc4 : k0_chk4 v6 (rd T2 (k0_off9 i) (k0_off9_inb i))) (hc5 : k0_chk5 v1 v6 (rd T7 (k0_off16 i) (k0_off16_inb i)))
    (hc6 : k0_chk6 v6 (rd T7 (k0_off16 i) (k0_off16_inb i)) (rd T7 (k0_off16 i) (k0_off16_inb i)))
    (he : k0_cond3 (rd T7 (k0_off16 i) (k0_off16_inb i)) = 1#1 → (rd T7 (k0_off16 i) (k0_off16_inb i)).toNat < 32) {wt : Waits sig Unit}
    {α : Type} {kk : Prog (TpuEff nD τ sig (Elt F) Λ₀ .tc) α} {Q : α → sProp (MM F)} :
    iprop((if k0_cond2 v6 = 1#1 then iprop(Busy c arg10 arg12 WG WD n e ∗ Idle c arg10 arg12 WG WD n')
          else iprop(Ready c arg10 arg12 WG WD n e ∗ Pend c arg10 arg12 WG WD n' (rd T7 (k0_off16 i) (k0_off16_inb i))))
        ∗ owns (c : Thread nD τ) arg2 q T2 ∗ owns (c : Thread nD τ) arg7 q T7 ∗ owes (c : Thread nD τ) 0 wt)
      ⊢ iprop((iprop(Ready c arg10 arg12 WG WD n e ∗ Pend c arg10 arg12 WG WD n' (rd T7 (k0_off16 i) (k0_off16_inb i))
            ∗ owns (c : Thread nD τ) arg2 q T2 ∗ owns (c : Thread nD τ) arg7 q T7 ∗ (∃ wt', owes (c : Thread nD τ) 0 wt'))
          -∗ WP (F := F) c kk Q)
        -∗ WP (F := F) c (do
        if k0_h2 : k0_cond2 v6 = 1#1 then do
          let v83 : Elt F .i32 ← smemLoad arg2 (Rect.unit (s := S160) (k0_off9 i) S1.size (k0_off9_inb i)) numel1_S1 rfl
          have k0_hw4 : k0_chk4 v6 v83 := (← Prog.lift (TpuEff.assume (k0_chk4 v6 v83) (k0_chk4.dec v6 v83))).down
          let v84 : DmaSems sig S1x1 := cc0_scratch2.slice (Rect.unit (s := S2x2) (k0_off10 v1) S1x1.size (k0_off10_inb v1 v6 k0_hw3 k0_h2))
          let v85 : DmaSems sig S_ := v84.squeeze S_ squeezes_S1x1_S_
          let v86 : Memref sig .tc .vmem S1x1024x2048 .f32 := bufG.slice (Rect.unit (s := S2x1024x2048) (k0_off11 v1) S1x1024x2048.size (k0_off11_inb v1 v6 k0_hw3 k0_h2)) (fun _ => rfl)
          let v87 : Memref sig .tc .vmem S1024x2048 .f32 := v86.squeeze S1024x2048 squeezes_S1x1024x2048_S1024x2048
          let v88 : Memref sig .tc .hbm S1x1024x2048 .f32 := arg10.slice (Rect.unit (s := S32x1024x2048) (k0_off12 v83) S1x1024x2048.size (k0_off12_inb v6 v83 k0_hw4 k0_h2)) (fun _ => rfl)
          let v89 : Memref sig .tc .hbm S1024x2048 .f32 := v88.squeeze S1024x2048 squeezes_S1x1024x2048_S1024x2048
          Prog.lift (.waitDma2 v85.sem v89 v87 ((View.wordExact_bits rfl).reshape _ _) ((View.wordExact_bits rfl).reshape _ _))
          let v90 : DmaSems sig S1x1 := cc0_scratch2.slice (Rect.unit (s := S2x2) (k0_off13 v1) S1x1.size (k0_off13_inb v1 v6 k0_hw3 k0_h2))
          let v91 : DmaSems sig S_ := v90.squeeze S_ squeezes_S1x1_S_
          let v92 : Memref sig .tc .vmem S1x1024x1024 .f32 := bufD.slice (Rect.unit (s := S2x1024x1024) (k0_off14 v1) S1x1024x1024.size (k0_off14_inb v1 v6 k0_hw3 k0_h2)) (fun _ => rfl)
          let v93 : Memref sig .tc .vmem S1024x1024 .f32 := v92.squeeze S1024x1024 squeezes_S1x1024x1024_S1024x1024
          let v94 : Memref sig .tc .hbm S1x1024x1024 .f32 := arg12.slice (Rect.unit (s := S32x1024x1024) (k0_off15 v83) S1x1024x1024.size (k0_off15_inb v6 v83 k0_hw4 k0_h2)) (fun _ => rfl)
          let v95 : Memref sig .tc .hbm S1024x1024 .f32 := v94.squeeze S1024x1024 squeezes_S1x1024x1024_S1024x1024
          Prog.lift (.waitDma2 v91.sem v95 v93 ((View.wordExact_bits rfl).reshape _ _) ((View.wordExact_bits rfl).reshape _ _))
          let v97 : Elt F .i32 ← smemLoad arg7 (Rect.unit (s := S160) (k0_off16 i) S1.size (k0_off16_inb i)) numel1_S1 rfl
          have k0_hw5 : k0_chk5 v1 v6 v97 := (← Prog.lift (TpuEff.assume (k0_chk5 v1 v6 v97) (k0_chk5.dec v1 v6 v97))).down
          if k0_h3 : k0_cond3 v97 = 1#1 then do
            let v102 : Elt F .i32 ← smemLoad arg7 (Rect.unit (s := S160) (k0_off17 i) S1.size (k0_off17_inb i)) numel1_S1 rfl
            have k0_hw6 : k0_chk6 v6 v97 v102 := (← Prog.lift (TpuEff.assume (k0_chk6 v6 v97 v102) (k0_chk6.dec v6 v97 v102))).down
            let v104 : DmaSems sig S1x1 := cc0_scratch2.slice (Rect.unit (s := S2x2) (k0_off18 v1) S1x1.size (k0_off18_inb v1 v6 v97 k0_hw5 k0_h2 k0_h3))
            let v105 : DmaSems sig S_ := v104.squeeze S_ squeezes_S1x1_S_
            let v106 : Memref sig .tc .vmem S1x1024x2048 .f32 := bufG.slice (Rect.unit (s := S2x1024x2048) (k0_off19 v1) S1x1024x2048.size (k0_off19_inb v1 v6 v97 k0_hw5 k0_h2 k0_h3)) (fun _ => rfl)
            let v107 : Memref sig .tc .vmem S1024x2048 .f32 := v106.squeeze S1024x2048 squeezes_S1x1024x2048_S1024x2048
            let v108 : Memref sig .tc .hbm S1x1024x2048 .f32 := arg10.slice (Rect.unit (s := S32x1024x2048) (k0_off20 v102) S1x1024x2048.size (k0_off20_inb v6 v97 v102 k0_hw6 k0_h2 k0_h3)) (fun _ => rfl)
            let v109 : Memref sig .tc .hbm S1024x2048 .f32 := v108.squeeze S1024x2048 squeezes_S1x1024x2048_S1024x2048
            Prog.lift (.enqueueDma v109 (.here v107) (.dma v105.sem) ((View.wordExact_bits rfl).reshape _ _) ((View.wordExact_bits rfl).reshape _ _) ⟨Or.inl rfl, trivial⟩)
            let v110 : DmaSems sig S1x1 := cc0_scratch2.slice (Rect.unit (s := S2x2) (k0_off21 v1) S1x1.size (k0_off21_inb v1 v6 v97 k0_hw5 k0_h2 k0_h3))
            let v111 : DmaSems sig S_ := v110.squeeze S_ squeezes_S1x1_S_
            let v112 : Memref sig .tc .vmem S1x1024x1024 .f32 := bufD.slice (Rect.unit (s := S2x1024x1024) (k0_off22 v1) S1x1024x1024.size (k0_off22_inb v1 v6 v97 k0_hw5 k0_h2 k0_h3)) (fun _ => rfl)
            let v113 : Memref sig .tc .vmem S1024x1024 .f32 := v112.squeeze S1024x1024 squeezes_S1x1024x1024_S1024x1024
            let v114 : Memref sig .tc .hbm S1x1024x1024 .f32 := arg12.slice (Rect.unit (s := S32x1024x1024) (k0_off23 v102) S1x1024x1024.size (k0_off23_inb v6 v97 v102 k0_hw6 k0_h2 k0_h3)) (fun _ => rfl)
            let v115 : Memref sig .tc .hbm S1024x1024 .f32 := v114.squeeze S1024x1024 squeezes_S1x1024x1024_S1024x1024
            Prog.lift (.enqueueDma v115 (.here v113) (.dma v111.sem) ((View.wordExact_bits rfl).reshape _ _) ((View.wordExact_bits rfl).reshape _ _) ⟨Or.inl rfl, trivial⟩)
            kk
          else do
            kk
        else do
          kk) Q) := by
  by_cases h : k0_cond2 v6 = 1#1
  · rw [dif_pos h, if_pos h]
    iintro ⟨⟨HB, HI⟩, H2, H7, HO⟩ Hk
    iapply (smem_word c harg2 T2 q) $$ H2
    iintro H2
    iapply (assume_step c hc4)
    iapply (finish c WG WD n e (show k0_off10 v1 = ![n.val, 0] by rw [← hn]; rfl) (show k0_off13 v1 = ![n.val, 1] by rw [← hn]; rfl)) $$ [HB HO]
    · isplitl [HB]; · iexact HB
      iexact HO
    iintro ⟨HR, HO⟩
    iapply (smem_word c harg7 T7 q) $$ H7
    iintro H7
    iapply (assume_step c hc5)
    by_cases h3 : k0_cond3 (rd T7 (k0_off16 i) (k0_off16_inb i)) = 1#1
    · rw [dif_pos h3]
      have he' : (rd T7 (k0_off16 i) (k0_off16_inb i)).toNat = (eF (rd T7 (k0_off16 i) (k0_off16_inb i))).val := (Nat.mod_eq_of_lt (he h3)).symm
      iapply (smem_word c harg7 T7 q) $$ H7
      iintro H7
      iapply (assume_step c hc6)
      iapply (start c harg10 harg12 WG WD n' (eF (rd T7 (k0_off16 i) (k0_off16_inb i))) (show k0_off18 v1 = ![n'.val, 0] by rw [← hn']; rfl)
        (show k0_off19 v1 = ![n'.val, 0, 0] by rw [← hn']; rfl) (show k0_off20 (rd T7 (k0_off17 i) (k0_off17_inb i)) = ![_, 0, 0] by rw [← he']; rfl)
        (show k0_off21 v1 = ![n'.val, 1] by rw [← hn']; rfl)
        (show k0_off22 v1 = ![n'.val, 0, 0] by rw [← hn']; rfl) (show k0_off23 (rd T7 (k0_off17 i) (k0_off17_inb i)) = ![_, 0, 0] by rw [← he']; rfl)) $$ HI
      iintro HB
      iapply Hk
      isplitl [HR]; · iexact HR
      isplitl [HB]; · unfold Pend; rw [if_pos h3]; iexact HB
      isplitl [H2]; · iexact H2
      isplitl [H7]; · iexact H7
      iexact HO
    · rw [dif_neg h3]
      iapply Hk
      isplitl [HR]; · iexact HR
      isplitl [HI]; · unfold Pend; rw [if_neg h3]; iexact HI
      isplitl [H2]; · iexact H2
      isplitl [H7]; · iexact H7
      iexact HO
  · rw [dif_neg h, if_neg h]
    iintro ⟨⟨HR, HP⟩, H2, H7, HO⟩ Hk
    iapply Hk
    isplitl [HR]; · iexact HR
    isplitl [HP]; · iexact HP
    isplitl [H2]; · iexact H2
    isplitl [H7]; · iexact H7
    iexists _
    iexact HO

/-- The output rows as an item finds them: cleared where the item begins a block. -/
def startOut (v11 : BitVec 32) (O : Vec F S512x1024 .bf16) : Vec F S512x1024 .bf16 :=
  if k0_cond4 v11 = 1#1 then k0_pay13 else O

theorem frag3 (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole)
    (v11 : Elt F .i32) (O : Vec F S512x1024 .bf16)
    {α : Type} {kk : Prog (TpuEff nD τ sig (Elt F) Λ₀ .tc) α} {Q : α → sProp (MM F)} :
    owns (c : Thread nD τ) arg14 fullShare O
      ⊢ iprop((owns (c : Thread nD τ) arg14 fullShare (startOut v11 O) -∗ WP (F := F) c kk Q)
        -∗ WP (F := F) c (do
        if k0_h4 : k0_cond4 v11 = 1#1 then do
          let v83 : Vec F S512x1024 .bf16 ← Prog.lift (.load arg14 (Rect.unit (s := S512x1024) ![0, 0] S512x1024.size inb_S512x1024_S512x1024_0_0).toLoadRect (View.loadsAt_vmem h_S512x1024))
          Prog.lift (.store arg14 (Rect.unit (s := S512x1024) ![0, 0] S512x1024.size inb_S512x1024_S512x1024_0_0) (k0_pay13 (F := F)) Finset.univ (View.stores_vmem h_S512x1024 (harg14.storeExact_slice rfl _ packedbf16_S512x1024_S512x1024_0_0) (fun _ => rfl)) (.inl rfl))
          kk
        else do
          kk) Q) := by
  unfold startOut
  by_cases h : k0_cond4 v11 = 1#1
  · rw [dif_pos h, if_pos h]
    iintro H Hk
    iapply (load_win c harg14 O) $$ H
    iintro H
    iapply (store_win c harg14 O) $$ H
    iintro H
    rw [show upd O (Rect.unit (s := S512x1024) ![0, 0] S512x1024.size inb_S512x1024_S512x1024_0_0) (k0_pay13 (F := F)) = k0_pay13 from by
      funext y
      have hy : (Rect.unit (s := S512x1024) ![0, 0] S512x1024.size inb_S512x1024_S512x1024_0_0).emb y = y := by
        funext a; apply Fin.ext
        match a with
        | ⟨0, _⟩ => show 0 + 1 * (y 0).val = (y 0).val; omega
        | ⟨1, _⟩ => show 0 + 1 * (y 1).val = (y 1).val; omega
      exact (congrArg _ hy.symm).trans (upd_emb O (Rect.unit (s := S512x1024) ![0, 0] S512x1024.size inb_S512x1024_S512x1024_0_0) (k0_pay13 (F := F)) y)]
    iapply Hk
    iexact H
  · rw [dif_neg h, if_neg h]
    iintro H Hk
    iapply Hk
    iexact H

end Cert.Kernel2Ideal.Moe

end
-- ==== Proof.IMoeStep.lean ====
module

public import proofs.«01_k».proof.Proof.IMoeDma
public import Idealize.ShloMosaic.Lib.Transfers

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono wp_dmaLocal wp_waitLocal)

variable {F : FTy → Type} [FloatOps F]

/-! ## One item of the schedule -/

/-- The slots as an item finds them. -/
def SlotsIn (c : Dev nD) (hg : Memref sig .tc .hbm S32x1024x2048 .f32) (hd : Memref sig .tc .hbm S32x1024x1024 .f32)
    (WG : S32x1024x2048.Idx → Elt F .f32) (WD : S32x1024x1024.Idx → Elt F .f32) (n n' : Fin 2) (e : Fin 32) (first isNew : Prop) [Decidable first] [Decidable isNew]
    (nx : BitVec 32) : sProp (MM F) :=
  if first then iprop(Idle c hg hd WG WD n ∗ Idle c hg hd WG WD n')
  else if isNew then iprop(Busy c hg hd WG WD n e ∗ Idle c hg hd WG WD n')
  else iprop(Ready c hg hd WG WD n e ∗ Pend c hg hd WG WD n' nx)

theorem body_run (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg10 : Memref sig .tc .hbm S32x1024x2048 .f32) (harg10 : arg10.IsWhole) (arg11 : Memref sig .tc .vmem S1x1x2048 .f32) (harg11 : arg11.IsWhole) (arg12 : Memref sig .tc .hbm S32x1024x1024 .f32) (harg12 : arg12.IsWhole) (arg13 : Memref sig .tc .vmem S1x1x1024 .f32) (harg13 : arg13.IsWhole) (arg14 : Memref sig .tc .vmem S512x1024 .bf16) (harg14 : arg14.IsWhole)
    (WG : S32x1024x2048.Idx → Elt F .f32) (WD : S32x1024x1024.Idx → Elt F .f32) (T2 T3 T4 T5 T6 T7 T8 : S160.Idx → Elt F .i32) (q : PosShare TreeShare)
    (X : Vec F S512x512 .i32) (bg : Vec F S1x1x2048 .f32) (bd : Vec F S1x1x1024 .f32) (O : Vec F S512x1024 .bf16)
    (n n' : Fin 2) (e : Fin 32) (v1 v6 nx v11 lo hi : BitVec 32)
    (hv1 : rd T8 (k0_off1 i) (k0_off1_inb i) = v1) (hv6 : rd T5 (k0_off8 i) (k0_off8_inb i) = v6) (hnx : rd T7 (k0_off16 i) (k0_off16_inb i) = nx)
    (hv11 : rd T6 (k0_off24 i) (k0_off24_inb i) = v11) (hlo : rd T3 (k0_off25 i) (k0_off25_inb i) = lo) (hhi : rd T4 (k0_off25 i) (k0_off25_inb i) = hi)
    (hn : v1.toNat = n.val) (hn' : (Scalar.subi 1#32 v1).toNat = n'.val)
    (hc1 : k0_chk1 i v1) (hc2 : k0_chk2 i (rd T2 ![0] inb_S160_S1_0)) (he2 : (rd T2 ![0] inb_S160_S1_0).toNat < 32)
    (hc3 : k0_chk3 v1 v6) (hc4 : k0_chk4 v6 (rd T2 (k0_off9 i) (k0_off9_inb i))) (hc5 : k0_chk5 v1 v6 nx) (hc6 : k0_chk6 v6 nx nx)
    (hnx32 : k0_cond3 nx = 1#1 → nx.toNat < 32) (hc7 : k0_chk7 v1 lo hi)
    (hfirst : k0_cond1 i = 1#1 → k0_cond2 v6 = 1#1 ∧ eF (rd T2 ![0] inb_S160_S1_0) = e) {wt : Waits sig Unit} {Q : PUnit → sProp (MM F)} :
    iprop(SlotsIn c arg10 arg12 WG WD n n' e (k0_cond1 i = 1#1) (k0_cond2 v6 = 1#1) nx
        ∗ owns (c : Thread nD τ) arg2 q T2 ∗ owns (c : Thread nD τ) arg3 q T3 ∗ owns (c : Thread nD τ) arg4 q T4 ∗ owns (c : Thread nD τ) arg5 q T5
        ∗ owns (c : Thread nD τ) arg6 q T6 ∗ owns (c : Thread nD τ) arg7 q T7 ∗ owns (c : Thread nD τ) arg8 q T8
        ∗ owns (c : Thread nD τ) arg9 fullShare X ∗ owns (c : Thread nD τ) arg11 fullShare bg ∗ owns (c : Thread nD τ) arg13 fullShare bd
        ∗ owns (c : Thread nD τ) arg14 fullShare O ∗ owes (c : Thread nD τ) 0 wt)
      ⊢ iprop((iprop(Ready c arg10 arg12 WG WD n e ∗ Pend c arg10 arg12 WG WD n' nx
        ∗ owns (c : Thread nD τ) arg2 q T2 ∗ owns (c : Thread nD τ) arg3 q T3 ∗ owns (c : Thread nD τ) arg4 q T4 ∗ owns (c : Thread nD τ) arg5 q T5
        ∗ owns (c : Thread nD τ) arg6 q T6 ∗ owns (c : Thread nD τ) arg7 q T7 ∗ owns (c : Thread nD τ) arg8 q T8
        ∗ owns (c : Thread nD τ) arg9 fullShare X ∗ owns (c : Thread nD τ) arg11 fullShare bg ∗ owns (c : Thread nD τ) arg13 fullShare bd
        ∗ owns (c : Thread nD τ) arg14 fullShare (stAll v1 lo hi hc7 X bg bd (slabG WG e) (slabD WD e) (startOut v11 O))
        ∗ (∃ wt', owes (c : Thread nD τ) 0 wt')) -∗ Q ⟨⟩)
        -∗ WP (F := F) c (cc0_moe i arg1 harg1 arg2 harg2 arg3 harg3 arg4 harg4 arg5 harg5 arg6 harg6 arg7 harg7 arg8 harg8 arg9 harg9 arg10 harg10 arg11 harg11 arg12 harg12 arg13 harg13 arg14 harg14 bufG (Memref.isWhole_whole _) bufD (Memref.isWhole_whole _) cc0_scratch2) Q) := by
  subst hv1 hv6 hnx hv11 hlo hhi
  iintro ⟨HS, H2, H3, H4, H5, H6, H7, H8, H9, H11, H13, H14, HO⟩ Hk
  rw [cc0_moe_eq_skeleton]
  unfold cc0_moe_skel WP
  rw [wp_bind, k0_part9_eq_skeleton]
  unfold k0_part9_skel
  dsimp only
  iapply (smem_word c harg8 T8 q) $$ H8
  iintro H8
  iapply (assume_step c hc1)
  ihave HS := (show SlotsIn c arg10 arg12 WG WD n n' e (k0_cond1 i = 1#1) (k0_cond2 (rd T5 (k0_off8 i) (k0_off8_inb i)) = 1#1) (rd T7 (k0_off16 i) (k0_off16_inb i))
      ⊢ iprop((if k0_cond1 i = 1#1 then Idle c arg10 arg12 WG WD n else emp)
        ∗ ((if k0_cond1 i = 1#1 then Busy c arg10 arg12 WG WD n (eF (rd T2 ![0] inb_S160_S1_0)) else emp)
          -∗ (if k0_cond2 (rd T5 (k0_off8 i) (k0_off8_inb i)) = 1#1 then iprop(Busy c arg10 arg12 WG WD n e ∗ Idle c arg10 arg12 WG WD n')
          else iprop(Ready c arg10 arg12 WG WD n e ∗ Pend c arg10 arg12 WG WD n' (rd T7 (k0_off16 i) (k0_off16_inb i)))))) from by
    unfold SlotsIn
    by_cases h : k0_cond1 i = 1#1
    · rw [if_pos h, if_pos h, if_pos h, if_pos (hfirst h).1, (hfirst h).2]
      iintro ⟨H1, H2⟩
      isplitl [H1]; · iexact H1
      iintro H
      isplitl [H]; · iexact H
      iexact H2
    · rw [if_neg h, if_neg h, if_neg h]
      iintro H
      isplitr
      · iempintro
      iintro -
      iexact H) $$ HS
  icases HS with ⟨HS, HS'⟩
  iapply (frag1 c i arg1 harg1 arg2 harg2 arg3 harg3 arg4 harg4 arg5 harg5 arg6 harg6 arg7 harg7 arg8 harg8 arg9 harg9 arg10 harg10 arg11 harg11 arg12 harg12 arg13 harg13 arg14 harg14  WG WD T2 q n _ hc1 hn hc2 he2) $$ [HS H2]
  · isplitl [HS]; · iexact HS
    iexact H2
  iintro ⟨HS, H2⟩
  ihave HS := HS' $$ HS
  iapply (smem_word c harg5 T5 q) $$ H5
  iintro H5
  iapply (assume_step c hc3)
  iapply (frag2 c i arg1 harg1 arg2 harg2 arg3 harg3 arg4 harg4 arg5 harg5 arg6 harg6 arg7 harg7 arg8 harg8 arg9 harg9 arg10 harg10 arg11 harg11 arg12 harg12 arg13 harg13 arg14 harg14  WG WD T2 T7 q n n' e _ _ hc3 hn hn' hc4 hc5 hc6 hnx32) $$ [HS H2 H7 HO]
  · isplitl [HS]; · iexact HS
    isplitl [H2]; · iexact H2
    isplitl [H7]; · iexact H7
    iexact HO
  iintro ⟨HR, HP, H2, H7, HO⟩
  iapply (smem_word c harg6 T6 q) $$ H6
  iintro H6
  iapply (frag3 c i arg1 harg1 arg2 harg2 arg3 harg3 arg4 harg4 arg5 harg5 arg6 harg6 arg7 harg7 arg8 harg8 arg9 harg9 arg10 harg10 arg11 harg11 arg12 harg12 arg13 harg13 arg14 harg14  (rd T6 (k0_off24 i) (k0_off24_inb i)) O) $$ H14
  iintro H14
  iapply (smem_word c harg3 T3 q) $$ H3
  iintro H3
  iapply (smem_word c harg4 T4 q) $$ H4
  iintro H4
  iapply (assume_step c hc7)
  rw [show ∀ {α : Type} (x : α), (pure x : Prog (TpuEff nD τ sig (Elt F) Λ₀ .tc) α) = .ret x from fun _ => rfl]
  unfold WP
  rw [wp_ret]
  imodintro
  dsimp only
  unfold Ready
  icases HR with ⟨HR1, HR2, HR3, HR4, HR5, HR6⟩
  iapply (pieces c i arg1 harg1 arg2 harg2 arg3 harg3 arg4 harg4 arg5 harg5 arg6 harg6 arg7 harg7 arg8 harg8 arg9 harg9 arg10 harg10 arg11 harg11 arg12 harg12 arg13 harg13 arg14 harg14  cc0_scratch2 X bg bd n.val (slotG WG e) (slotD WD e)
    (startOut (rd T6 (k0_off24 i) (k0_off24_inb i)) O) (ld_slotG WG e n.val) (ld_slotD WD e n.val) _ _ _ _ _ _ rfl _ hc7 hn.symm) $$ [H9 H11 H13 HR1 HR2 H14]
  · unfold Res
    isplitl [H9]; · iexact H9
    isplitl [H11]; · iexact H11
    isplitl [H13]; · iexact H13
    isplitl [HR1]; · iexact HR1
    isplitl [HR2]; · iexact HR2
    iexact H14
  unfold Res
  iintro ⟨H9, H11, H13, HR1, HR2, H14⟩
  iapply Hk
  isplitl [HR1 HR2 HR3 HR4 HR5 HR6]
  · isplitl [HR1]; · iexact HR1
    isplitl [HR2]; · iexact HR2
    isplitl [HR3]; · iexact HR3
    isplitl [HR4]; · iexact HR4
    isplitl [HR5]; · iexact HR5
    iexact HR6
  isplitl [HP]; · iexact HP
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H13]; · iexact H13
  isplitl [H14]; · iexact H14
  iexact HO

end Cert.Kernel2Ideal.Moe

end
-- ==== Proof.IMoeEntry.lean ====
module

public import proofs.«01_k».proof.Proof.IMoeStep
public import proofs.«01_k».proof.Proof.Gen.Kernel2Ideal.Launch
public import Idealize.ShloMosaic.Lib.Pipeline.Kit
public import Idealize.ShloMosaic.Lib.Pipeline.FrameBody
public import Idealize.ShloMosaic.Lib.Tactic.Chain

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host operations before the call -/

/-- The stretches of host operations, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31]

/-- What core `c`'s buffers hold when the call is entered. -/
def V (c : Dev nD) (b : Ref sig .tc) : Buf (Elt F) ((c : Thread nD τ).loc b) := StableHlo.after stretches.flatten (fun b => m (c, b)) b

theorem stretches_sub : (stretches : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub⟩

theorem stretches_fresh : (stretches : List (List (HloOp τ sig (Elt F)))).Forall fun ops => ops.Forall fun op => op.fresh = ∅ := by
  simp only [List.Forall]
  repeat' constructor

set_option maxHeartbeats 1600000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main stretches stretches_sub stretches_fresh main_chain

set_option maxHeartbeats 1600000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

set_option maxHeartbeats 1600000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

set_option maxHeartbeats 1600000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

set_option maxHeartbeats 1600000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

set_option maxHeartbeats 1600000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

set_option maxHeartbeats 1600000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

end Cert.Kernel2Ideal.Moe
end
-- ==== Proof.IMoeSched.lean ====
module

public import proofs.«01_k».proof.Proof.IMoeStep

@[expose] public section

set_option maxRecDepth 16384

noncomputable section

namespace Cert.Kernel2Ideal.Moe

open Cert.Kernel2Ideal Cert.Kernel2Ideal.Gen
open Idealize.ShloMosaic Idealize.ShloMosaic.TcCoe

variable {F : FTy → Type} [FloatOps F]

/-! ## The words of the schedule -/

/-- Position `k` of a table. -/
def pt (k : ℕ) : S160.Idx := fun a => ⟨k % 160, by obtain rfl : a = 0 := Subsingleton.elim _ _; exact Nat.mod_lt _ (by decide : 0 < 160)⟩

theorem word_idx (k : ℕ) (hk : k < 160) (o : Fin 1 → ℕ) (ho : o 0 = k) (h : ∀ a, o a + S1.size a ≤ S160.size a) :
    (Rect.unit (s := S160) o S1.size h).emb (Shape.Idx.first (numel1_S1.symm ▸ Nat.one_pos)) = pt k := by
  funext a
  obtain rfl : a = 0 := Subsingleton.elim _ _
  apply Fin.ext
  rw [show (pt k 0).val = k % 160 from rfl]
  have : ((Shape.Idx.first (s := (Rect.unit (s := S160) o S1.size h).shape) (numel1_S1.symm ▸ Nat.one_pos)) 0).val = 0 := by
    have h1 := ((Shape.Idx.first (s := (Rect.unit (s := S160) o S1.size h).shape) (numel1_S1.symm ▸ Nat.one_pos)) 0).isLt
    have h2 : (Rect.unit (s := S160) o S1.size h).shape.size 0 = 1 := rfl
    omega
  rw [show ((Rect.unit (s := S160) o S1.size h).emb (Shape.Idx.first (numel1_S1.symm ▸ Nat.one_pos)) 0).val = o 0 + 1 * ((Shape.Idx.first (s := (Rect.unit (s := S160) o S1.size h).shape) (numel1_S1.symm ▸ Nat.one_pos)) 0).val from rfl, this, ho, Nat.mod_eq_of_lt hk, Nat.mul_zero, Nat.add_zero]

theorem coord_off (i : grid0.Coords) : (BitVec.ofNat 32 (i 0).val).toNat = (i 0).val := by
  have h : (i 0).val < 160 := (i 0).isLt
  rw [BitVec.toNat_ofNat]
  omega

theorem coord_lt (i : grid0.Coords) : (i 0).val < 160 := (i 0).isLt

theorem rd_at (T : S160.Idx → Elt F .i32) (k : ℕ) (hk : k < 160) (o : Fin 1 → ℕ) (ho : o 0 = k) (h : ∀ a, o a + S1.size a ≤ S160.size a) :
    rd (F := F) T o h = T (pt k) := congrArg T (word_idx k hk o ho h)

theorem first_iff (i : grid0.Coords) : k0_cond1 i = 1#1 ↔ (i 0).val = 0 := by
  have h := coord_lt i
  have : ∀ k : Fin 160, Scalar.cmpi .ne (Scalar.extui (Scalar.cmpi .eq (BitVec.ofNat 32 k.val) 0#32) : BitVec 32) 0#32 = 1#1 ↔ k.val = 0 := by decide +kernel
  exact this ⟨(i 0).val, h⟩

theorem hot (a b : BitVec 32) : Scalar.cmpi .ne (Scalar.extui (Scalar.cmpi .eq a b) : BitVec 32) 0#32 = 1#1 ↔ a = b := by
  by_cases h : a = b
  · subst h
    refine ⟨fun _ => rfl, fun _ => ?_⟩
    rw [show Scalar.cmpi .eq a a = 1#1 from by simp [Scalar.cmpi, IntOp.cmpi]]
    decide
  · refine ⟨fun hh => ?_, fun hh => absurd hh h⟩
    rw [show Scalar.cmpi .eq a b = 0#1 from by rw [Scalar.cmpi, IntOp.cmpi, beq_eq_false_iff_ne.mpr h]; rfl] at hh
    exact absurd hh (by decide)

theorem init_iff (w : BitVec 32) : k0_cond4 w = 1#1 ↔ w = 1#32 := hot w 1#32
theorem new_iff (w : BitVec 32) : k0_cond2 w = 1#1 ↔ w = 1#32 := hot w 1#32

/-! ## The row tiles an item visits -/

/-- How many tiles of 64 rows an item visits. -/
def cnt (lo hi : BitVec 32) : BitVec 32 := Scalar.select (Scalar.cmpi .sgt hi lo) (Scalar.subi (tile (Scalar.subi (Scalar.addi hi 64#32) 1#32)) (tile lo)) 0#32

theorem tile_nat : ∀ l : Fin 640, tile (BitVec.ofNat 32 l.val) = BitVec.ofNat 32 (l.val / 64) := by decide +kernel

theorem up_nat : ∀ l : Fin 513, Scalar.subi (Scalar.addi (BitVec.ofNat 32 l.val) 64#32) 1#32 = BitVec.ofNat 32 (l.val + 63) := by decide +kernel

theorem of_toNat (w : BitVec 32) : BitVec.ofNat 32 w.toNat = w := by simp

theorem tile_toNat (lo : BitVec 32) (hl : lo.toNat ≤ 512) : tile lo = BitVec.ofNat 32 (lo.toNat / 64) := by
  have := tile_nat ⟨lo.toNat, by omega⟩
  rwa [show BitVec.ofNat 32 (⟨lo.toNat, by omega⟩ : Fin 640).val = lo from of_toNat lo] at this

theorem sgt_iff (a b : BitVec 32) (ha : a.toNat ≤ 512) (hb : b.toNat ≤ 512) : Scalar.cmpi .sgt a b = if b.toNat < a.toNat then 1#1 else 0#1 := by
  have h1 : a.toInt = a.toNat := by rw [BitVec.toInt_eq_toNat_cond]; split <;> omega
  have h2 : b.toInt = b.toNat := by rw [BitVec.toInt_eq_toNat_cond]; split <;> omega
  unfold Scalar.cmpi IntOp.cmpi
  by_cases h : b.toNat < a.toNat
  · rw [if_pos h]
    simp only [BitVec.slt, h1, h2]
    simp [h]
  · rw [if_neg h]
    simp only [BitVec.slt, h1, h2]
    simp [h]

theorem cnt_eq (lo hi : BitVec 32) (hl : lo.toNat ≤ hi.toNat) (hh : hi.toNat ≤ 512) :
    cnt lo hi = BitVec.ofNat 32 (if lo.toNat < hi.toNat then (hi.toNat + 63) / 64 - lo.toNat / 64 else 0) := by
  unfold cnt
  rw [sgt_iff hi lo hh (by omega), tile_toNat lo (by omega)]
  have hu : Scalar.subi (Scalar.addi hi 64#32) 1#32 = BitVec.ofNat 32 (hi.toNat + 63) := by
    have := up_nat ⟨hi.toNat, by omega⟩
    rwa [show BitVec.ofNat 32 (⟨hi.toNat, by omega⟩ : Fin 513).val = hi from of_toNat hi] at this
  have ht : tile (BitVec.ofNat 32 (hi.toNat + 63)) = BitVec.ofNat 32 ((hi.toNat + 63) / 64) := tile_nat ⟨hi.toNat + 63, by omega⟩
  rw [hu, ht]
  by_cases h : lo.toNat < hi.toNat
  · rw [if_pos h, if_pos h]
    show BitVec.ofNat 32 ((hi.toNat + 63) / 64) - BitVec.ofNat 32 (lo.toNat / 64) = _
    apply BitVec.eq_of_toNat_eq
    rw [BitVec.toNat_sub, BitVec.toNat_ofNat, BitVec.toNat_ofNat, BitVec.toNat_ofNat]
    omega
  · rw [if_neg h, if_neg h]
    rfl

theorem cnt_iff (lo hi : BitVec 32) (hl : lo.toNat ≤ hi.toNat) (hh : hi.toNat ≤ 512) (n : ℕ) (hn : 0 < n) (hn' : n < 9) :
    cnt lo hi = BitVec.ofNat 32 n ↔ lo.toNat < hi.toNat ∧ (hi.toNat + 63) / 64 - lo.toNat / 64 = n := by
  rw [cnt_eq lo hi hl hh]
  constructor
  · intro h
    have h := congrArg BitVec.toNat h
    rw [BitVec.toNat_ofNat, BitVec.toNat_ofNat] at h
    split at h <;> omega
  · rintro ⟨h1, h2⟩
    rw [if_pos h1, h2]

theorem cond5_iff (lo hi : BitVec 32) (hl : lo.toNat ≤ hi.toNat) (hh : hi.toNat ≤ 512) :
    k0_cond5 lo hi = 1#1 ↔ lo.toNat < hi.toNat ∧ (hi.toNat + 63) / 64 - lo.toNat / 64 = 1 :=
  (hot (cnt lo hi) 1#32).trans (cnt_iff lo hi hl hh 1 (by decide) (by decide))

theorem cond6_iff (lo hi : BitVec 32) (hl : lo.toNat ≤ hi.toNat) (hh : hi.toNat ≤ 512) :
    k0_cond6 lo hi = 1#1 ↔ lo.toNat < hi.toNat ∧ (hi.toNat + 63) / 64 - lo.toNat / 64 = 2 :=
  (hot (cnt lo hi) 2#32).trans (cnt_iff lo hi hl hh 2 (by decide) (by decide))

theorem cond7_iff (lo hi : BitVec 32) (hl : lo.toNat ≤ hi.toNat) (hh : hi.toNat ≤ 512) :
    k0_cond7 lo hi = 1#1 ↔ lo.toNat < hi.toNat ∧ (hi.toNat + 63) / 64 - lo.toNat / 64 = 3 :=
  (hot (cnt lo hi) 3#32).trans (cnt_iff lo hi hl hh 3 (by decide) (by decide))

theorem cond8_iff (lo hi : BitVec 32) (hl : lo.toNat ≤ hi.toNat) (hh : hi.toNat ≤ 512) :
    k0_cond8 lo hi = 1#1 ↔ lo.toNat < hi.toNat ∧ (hi.toNat + 63) / 64 - lo.toNat / 64 = 4 :=
  (hot (cnt lo hi) 4#32).trans (cnt_iff lo hi hl hh 4 (by decide) (by decide))

theorem cond9_iff (lo hi : BitVec 32) (hl : lo.toNat ≤ hi.toNat) (hh : hi.toNat ≤ 512) :
    k0_cond9 lo hi = 1#1 ↔ lo.toNat < hi.toNat ∧ (hi.toNat + 63) / 64 - lo.toNat / 64 = 5 :=
  (hot (cnt lo hi) 5#32).trans (cnt_iff lo hi hl hh 5 (by decide) (by decide))

theorem cond10_iff (lo hi : BitVec 32) (hl : lo.toNat ≤ hi.toNat) (hh : hi.toNat ≤ 512) :
    k0_cond10 lo hi = 1#1 ↔ lo.toNat < hi.toNat ∧ (hi.toNat + 63) / 64 - lo.toNat / 64 = 6 :=
  (hot (cnt lo hi) 6#32).trans (cnt_iff lo hi hl hh 6 (by decide) (by decide))

theorem cond11_iff (lo hi : BitVec 32) (hl : lo.toNat ≤ hi.toNat) (hh : hi.toNat ≤ 512) :
    k0_cond11 lo hi = 1#1 ↔ lo.toNat < hi.toNat ∧ (hi.toNat + 63) / 64 - lo.toNat / 64 = 7 :=
  (hot (cnt lo hi) 7#32).trans (cnt_iff lo hi hl hh 7 (by decide) (by decide))

theorem cond12_iff (lo hi : BitVec 32) (hl : lo.toNat ≤ hi.toNat) (hh : hi.toNat ≤ 512) :
    k0_cond12 lo hi = 1#1 ↔ lo.toNat < hi.toNat ∧ (hi.toNat + 63) / 64 - lo.toNat / 64 = 8 :=
  (hot (cnt lo hi) 8#32).trans (cnt_iff lo hi hl hh 8 (by decide) (by decide))

/-- The first row of the first tile. -/
theorem row_nat : ∀ l : Fin 513, (Scalar.muli (BitVec.ofNat 32 (l.val / 64)) 64#32).toNat = l.val / 64 * 64 := by decide +kernel

theorem row_eq (lo : BitVec 32) (hl : lo.toNat ≤ 512) : (Scalar.muli (tile lo) 64#32).toNat = lo.toNat / 64 * 64 := by
  rw [tile_toNat lo hl]
  exact row_nat ⟨lo.toNat, by omega⟩

theorem inb2 (r k N b : ℕ) (h : r + k ≤ N) (hb : b ≤ b) : ∀ a : Fin 2, (![r, 0] : Fin 2 → ℕ) a + (![k, b] : Fin 2 → ℕ) a ≤ (![N, b] : Fin 2 → ℕ) a := by
  intro a
  match a with
  | ⟨0, _⟩ => exact h
  | ⟨1, _⟩ => show 0 + b ≤ b; omega

theorem inb3 (r k N b c : ℕ) (h : r + k ≤ N) : ∀ a : Fin 3, (![r, 0, 0] : Fin 3 → ℕ) a + (![k, b, c] : Fin 3 → ℕ) a ≤ (![N, b, c] : Fin 3 → ℕ) a := by
  intro a
  match a with
  | ⟨0, _⟩ => exact h
  | ⟨1, _⟩ => show 0 + b ≤ b; omega
  | ⟨2, _⟩ => show 0 + c ≤ c; omega

/-- The side conditions of an item's row pieces, from its bounds and slot. -/
theorem chk7_of (v1 lo hi : BitVec 32) (hv : v1.toNat < 2) (hl : lo.toNat ≤ hi.toNat) (hh : hi.toNat ≤ 512) : k0_chk7 v1 lo hi := by
  have hr := row_eq lo (by omega)
  have hd : 64 ∣ (Scalar.muli (tile lo) 64#32).toNat := by rw [hr]; exact Nat.dvd_mul_left _ _
  have hb : ∀ n : ℕ, lo.toNat < hi.toNat ∧ (hi.toNat + 63) / 64 - lo.toNat / 64 = n → (Scalar.muli (tile lo) 64#32).toNat + 64 * n ≤ 512 := by
    intro n hn
    rw [hr]
    omega
  have hg : ∀ a : Fin 3, (![v1.toNat, 0, 0] : Fin 3 → ℕ) a + (![1, 1024, 2048] : Fin 3 → ℕ) a ≤ (![2, 1024, 2048] : Fin 3 → ℕ) a := inb3 _ _ _ _ _ (by omega)
  have hw : ∀ a : Fin 3, (![v1.toNat, 0, 0] : Fin 3 → ℕ) a + (![1, 1024, 1024] : Fin 3 → ℕ) a ≤ (![2, 1024, 1024] : Fin 3 → ℕ) a := inb3 _ _ _ _ _ (by omega)
  have hp : EltTy.packing .bf16 = 2 := by decide
  have h2 : 2 ∣ (Scalar.muli (tile lo) 64#32).toNat := Dvd.dvd.trans (by decide) hd
  rw [← hp] at h2
  exact ⟨⟨fun _ => hd,
    fun h => inb2 _ _ _ _ (hb 1 ((cond5_iff lo hi hl hh).mp h)) le_rfl,
    fun _ => hg,
    fun _ => hw,
    fun h => inb2 _ _ _ _ (hb 1 ((cond5_iff lo hi hl hh).mp h)) le_rfl,
    fun h hi => .inr ⟨Nat.le_refl 2, rfl, .inl ⟨h2, (by decide : EltTy.packing .bf16 ∣ 64)⟩⟩,
    fun _ => hd,
    fun h => inb2 _ _ _ _ (hb 2 ((cond6_iff lo hi hl hh).mp h)) le_rfl,
    fun _ => hg,
    fun _ => hw,
    fun h => inb2 _ _ _ _ (hb 2 ((cond6_iff lo hi hl hh).mp h)) le_rfl,
    fun h hi => .inr ⟨Nat.le_refl 2, rfl, .inl ⟨h2, (by decide : EltTy.packing .bf16 ∣ 128)⟩⟩,
    fun _ => hd,
    fun h => inb2 _ _ _ _ (hb 3 ((cond7_iff lo hi hl hh).mp h)) le_rfl,
    fun _ => hg,
    fun _ => hw,
    fun h => inb2 _ _ _ _ (hb 3 ((cond7_iff lo hi hl hh).mp h)) le_rfl,
    fun h hi => .inr ⟨Nat.le_refl 2, rfl, .inl ⟨h2, (by decide : EltTy.packing .bf16 ∣ 192)⟩⟩,
    fun _ => hd,
    fun h => inb2 _ _ _ _ (hb 4 ((cond8_iff lo hi hl hh).mp h)) le_rfl,
    fun _ => hg,
    fun _ => hw,
    fun h => inb2 _ _ _ _ (hb 4 ((cond8_iff lo hi hl hh).mp h)) le_rfl,
    fun h hi => .inr ⟨Nat.le_refl 2, rfl, .inl ⟨h2, (by decide : EltTy.packing .bf16 ∣ 256)⟩⟩,
    fun _ => hd,
    fun h => inb2 _ _ _ _ (hb 5 ((cond9_iff lo hi hl hh).mp h)) le_rfl,
    fun _ => hg,
    fun _ => hw,
    fun h => inb2 _ _ _ _ (hb 5 ((cond9_iff lo hi hl hh).mp h)) le_rfl,
    fun h hi => .inr ⟨Nat.le_refl 2, rfl, .inl ⟨h2, (by decide : EltTy.packing .bf16 ∣ 320)⟩⟩,
    fun _ => hd,
    fun h => inb2 _ _ _ _ (hb 6 ((cond10_iff lo hi hl hh).mp h)) le_rfl⟩,
   ⟨fun _ => hg,
    fun _ => hw,
    fun h => inb2 _ _ _ _ (hb 6 ((cond10_iff lo hi hl hh).mp h)) le_rfl,
    fun h hi => .inr ⟨Nat.le_refl 2, rfl, .inl ⟨h2, (by decide : EltTy.packing .bf16 ∣ 384)⟩⟩,
    fun _ => hd,
    fun h => inb2 _ _ _ _ (hb 7 ((cond11_iff lo hi hl hh).mp h)) le_rfl,
    fun _ => hg,
    fun _ => hw,
    fun h => inb2 _ _ _ _ (hb 7 ((cond11_iff lo hi hl hh).mp h)) le_rfl,
    fun h hi => .inr ⟨Nat.le_refl 2, rfl, .inl ⟨h2, (by decide : EltTy.packing .bf16 ∣ 448)⟩⟩,
    fun _ => hg,
    fun _ => hw⟩⟩

/-! ## The side conditions of the transfers -/

theorem slot_flip (v1 : BitVec 32) (h : v1.toNat < 2) : (Scalar.subi 1#32 v1).toNat = 1 - v1.toNat := by
  show (1#32 - v1).toNat = _
  rw [BitVec.toNat_sub]
  have : (1#32).toNat = 1 := rfl
  omega

theorem inb_sem (r s : ℕ) (h : r < 2) (hs : s < 2) : ∀ a : Fin 2, (![r, s] : Fin 2 → ℕ) a + (![1, 1] : Fin 2 → ℕ) a ≤ (![2, 2] : Fin 2 → ℕ) a := by
  intro a
  match a with
  | ⟨0, _⟩ => exact h
  | ⟨1, _⟩ => exact hs

theorem chk1_of (i : grid0.Coords) (v1 : BitVec 32) (h : v1.toNat < 2) : k0_chk1 i v1 :=
  ⟨fun _ => inb_sem _ _ h (by decide), fun _ => inb3 _ _ _ _ _ (by omega), fun _ => inb_sem _ _ h (by decide), fun _ => inb3 _ _ _ _ _ (by omega)⟩

theorem chk2_of (i : grid0.Coords) (w : BitVec 32) (h : w.toNat < 32) : k0_chk2 i w :=
  ⟨fun _ => inb3 _ _ _ _ _ (by omega), fun _ => inb3 _ _ _ _ _ (by omega)⟩

theorem chk3_of (v1 v6 : BitVec 32) (h : v1.toNat < 2) : k0_chk3 v1 v6 :=
  ⟨fun _ => inb_sem _ _ h (by decide), fun _ => inb3 _ _ _ _ _ (by omega), fun _ => inb_sem _ _ h (by decide), fun _ => inb3 _ _ _ _ _ (by omega)⟩

theorem chk4_of (v6 w : BitVec 32) (h : w.toNat < 32) : k0_chk4 v6 w :=
  ⟨fun _ => inb3 _ _ _ _ _ (by omega), fun _ => inb3 _ _ _ _ _ (by omega)⟩

theorem chk5_of (v1 v6 w : BitVec 32) (h : v1.toNat < 2) : k0_chk5 v1 v6 w := by
  have h' : (Scalar.subi 1#32 v1).toNat < 2 := by rw [slot_flip v1 h]; omega
  exact ⟨fun _ _ => inb_sem _ _ h' (by decide), fun _ _ => inb3 _ _ _ _ _ (by omega), fun _ _ => inb_sem _ _ h' (by decide), fun _ _ => inb3 _ _ _ _ _ (by omega)⟩

theorem chk6_of (v6 w : BitVec 32) (h : k0_cond3 w = 1#1 → w.toNat < 32) : k0_chk6 v6 w w :=
  ⟨fun _ h3 => inb3 _ _ _ _ _ (by have := h h3; omega), fun _ h3 => inb3 _ _ _ _ _ (by have := h h3; omega)⟩

/-! ## What the schedule's tables are -/

/-- The facts of the eight tables under which every access of the call is inside its buffer and each wait has its transfer. -/
structure Sched (T1 T2 T3 T4 T5 T6 T7 T8 : S160.Idx → BitVec 32) : Prop where
  blk : ∀ k, k < 160 → (T1 (pt k)).toNat < 128
  exp : ∀ k, k < 160 → (T2 (pt k)).toNat < 32
  lo_hi : ∀ k, k < 160 → (T3 (pt k)).toNat ≤ (T4 (pt k)).toNat
  hi : ∀ k, k < 160 → (T4 (pt k)).toNat ≤ 512
  slot : ∀ k, k < 160 → (T8 (pt k)).toNat < 2
  new0 : T5 (pt 0) = 1#32
  init0 : T6 (pt 0) = 1#32
  next : ∀ k, k < 160 → k0_cond3 (T7 (pt k)) = 1#1 → (T7 (pt k)).toNat < 32
  step_new : ∀ k, k + 1 < 160 → T5 (pt (k + 1)) = 1#32 →
    k0_cond3 (T7 (pt k)) = 1#1 ∧ T7 (pt k) = T2 (pt (k + 1)) ∧ (T8 (pt (k + 1))).toNat = 1 - (T8 (pt k)).toNat
  step_old : ∀ k, k + 1 < 160 → T5 (pt (k + 1)) ≠ 1#32 → T2 (pt (k + 1)) = T2 (pt k) ∧ T8 (pt (k + 1)) = T8 (pt k) ∧ T7 (pt (k + 1)) = T7 (pt k)
  last : k0_cond3 (T7 (pt 159)) ≠ 1#1
  same : ∀ k, k + 1 < 160 → T6 (pt (k + 1)) ≠ 1#32 → T1 (pt (k + 1)) = T1 (pt k)

end Cert.Kernel2Ideal.Moe

end
-- ==== Proof.IMoeSlots.lean ====
module

public import proofs.«01_k».proof.Proof.IMoeEntry
public import proofs.«01_k».proof.Proof.IMoeSched

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The tables the call is entered with -/

/-- The eight tables' contents when the call is entered. -/
def tbl : pre0.Contents (Elt F) := fun j => V m (0 : Dev nD) (pre0.ref j)

theorem V_pre (c : Dev nD) (j : Fin 8) : V m c (pre0.ref j) = tbl m j := by
  obtain rfl : c = 0 := Subsingleton.elim _ _
  rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables, word by word. -/
def tw1 : S160.Idx → BitVec 32 := V m (0 : Dev nD) main_v42
def tw2 : S160.Idx → BitVec 32 := V m (0 : Dev nD) main_v28
def tw3 : S160.Idx → BitVec 32 := V m (0 : Dev nD) main_v49
def tw4 : S160.Idx → BitVec 32 := V m (0 : Dev nD) main_v57
def tw5 : S160.Idx → BitVec 32 := V m (0 : Dev nD) main_v93
def tw6 : S160.Idx → BitVec 32 := V m (0 : Dev nD) main_v94
def tw7 : S160.Idx → BitVec 32 := V m (0 : Dev nD) main_v92
def tw8 : S160.Idx → BitVec 32 := V m (0 : Dev nD) main_v72

/-- The facts of the tables this launch computes. -/
abbrev SchedM : Prop := Sched (tw1 m) (tw2 m) (tw3 m) (tw4 m) (tw5 m) (tw6 m) (tw7 m) (tw8 m)

/-- A window's block is inside its array when the tables' facts hold. -/
theorem ok_of (hS : SchedM m) : Ok m := by
  have hb : ∀ (i : grid0.Coords) (o : Fin 1 → ℕ) (ho : o 0 = (i 0).val) (h : ∀ a, o a + S1.size a ≤ S160.size a),
      (tw1 m ((Rect.unit (s := S160) o S1.size h).emb (Shape.Idx.first (numel1_S1.symm ▸ Nat.one_pos)))).toNat < 128 :=
    fun i o ho h => by rw [word_idx (i 0).val (coord_lt i) o ho h]; exact hS.blk _ (coord_lt i)
  have he : ∀ (i : grid0.Coords) (o : Fin 1 → ℕ) (ho : o 0 = (i 0).val) (h : ∀ a, o a + S1.size a ≤ S160.size a),
      (tw2 m ((Rect.unit (s := S160) o S1.size h).emb (Shape.Idx.first (numel1_S1.symm ▸ Nat.one_pos)))).toNat < 32 :=
    fun i o ho h => by rw [word_idx (i 0).val (coord_lt i) o ho h]; exact hS.exp _ (coord_lt i)
  have two : ∀ (r a b : ℕ), r < 128 → ∀ x : Fin 2, ((![r, 0] : Fin 2 → ℕ) x + 1) * (![512, b] : Fin 2 → ℕ) x ≤ (![65536, b] : Fin 2 → ℕ) x := by
    intro r a b h x
    match x with
    | ⟨0, _⟩ => show (r + 1) * 512 ≤ 65536; omega
    | ⟨1, _⟩ => show (0 + 1) * b ≤ b; omega
  have three : ∀ (r b : ℕ), r < 32 → ∀ x : Fin 3, ((![r, 0, 0] : Fin 3 → ℕ) x + 1) * (![1, 1, b] : Fin 3 → ℕ) x ≤ (![32, 1, b] : Fin 3 → ℕ) x := by
    intro r b h x
    match x with
    | ⟨0, _⟩ => show (r + 1) * 1 ≤ 32; omega
    | ⟨1, _⟩ => show (0 + 1) * 1 ≤ 1; omega
    | ⟨2, _⟩ => show (0 + 1) * b ≤ b; omega
  refine ⟨fun i => ⟨two _ 0 512 (hb i _ (coord_off i) (k0_off1_inb i)), .inl rfl⟩, fun i => ⟨three _ 2048 (he i _ (coord_off i) (k0_off1_inb i)), .inl rfl⟩,
    fun i => ⟨three _ 1024 (he i _ (coord_off i) (k0_off1_inb i)), .inl rfl⟩, fun i => ⟨two _ 0 1024 (hb i _ (coord_off i) (k0_off1_inb i)), .inr (.inl (.inr ⟨Nat.le_refl 2, rfl, .inl ⟨?_, ?_⟩⟩))⟩⟩
  · exact Dvd.dvd.trans (by decide : EltTy.packing .bf16 ∣ 512) (Nat.dvd_mul_left _ _)
  · exact (by decide : EltTy.packing .bf16 ∣ 512)

/-- The tables as the body is handed them. -/
abbrev tb1 : Memref sig .tc .smem S160 .i32 := Memref.whole main_v42
abbrev tb2 : Memref sig .tc .smem S160 .i32 := Memref.whole main_v28
abbrev tb3 : Memref sig .tc .smem S160 .i32 := Memref.whole main_v49
abbrev tb4 : Memref sig .tc .smem S160 .i32 := Memref.whole main_v57
abbrev tb5 : Memref sig .tc .smem S160 .i32 := Memref.whole main_v93
abbrev tb6 : Memref sig .tc .smem S160 .i32 := Memref.whole main_v94
abbrev tb7 : Memref sig .tc .smem S160 .i32 := Memref.whole main_v92
abbrev tb8 : Memref sig .tc .smem S160 .i32 := Memref.whole main_v72

theorem PhiT0_eq (c : Dev nD) : (Pipeline.ΦT pre0 (tbl m) c : sProp (MM F)) = iprop(
    owns (c : Thread nD τ) tb1 fullShare.right (tw1 m) ∗ owns (c : Thread nD τ) tb2 fullShare.right (tw2 m)
    ∗ owns (c : Thread nD τ) tb3 fullShare.right (tw3 m) ∗ owns (c : Thread nD τ) tb4 fullShare.right (tw4 m)
    ∗ owns (c : Thread nD τ) tb5 fullShare.right (tw5 m) ∗ owns (c : Thread nD τ) tb6 fullShare.right (tw6 m)
    ∗ owns (c : Thread nD τ) tb7 fullShare.right (tw7 m) ∗ owns (c : Thread nD τ) tb8 fullShare.right (tw8 m)) := by
  unfold Pipeline.ΦT Pipeline.prefHeld
  rw [show (Finset.univ : Finset (Fin 8)) = insert 0 (insert 1 (insert 2 (insert 3 (insert 4 (insert 5 (insert 6 {7})))))) from by decide,
    bigSep_insert (by decide), bigSep_insert (by decide), bigSep_insert (by decide), bigSep_insert (by decide), bigSep_insert (by decide),
    bigSep_insert (by decide), bigSep_insert (by decide), bigSep_singleton]
  rw [show (owns (c : Thread nD τ) tb1 fullShare.right (tw1 m) : sProp (MM F)) = ((c : Thread nD τ).loc (pre0.ref 0) ↦{fullShare.right} tbl m 0) from owns_whole _ _ _ _,
    show (owns (c : Thread nD τ) tb2 fullShare.right (tw2 m) : sProp (MM F)) = ((c : Thread nD τ).loc (pre0.ref 1) ↦{fullShare.right} tbl m 1) from owns_whole _ _ _ _,
    show (owns (c : Thread nD τ) tb3 fullShare.right (tw3 m) : sProp (MM F)) = ((c : Thread nD τ).loc (pre0.ref 2) ↦{fullShare.right} tbl m 2) from owns_whole _ _ _ _,
    show (owns (c : Thread nD τ) tb4 fullShare.right (tw4 m) : sProp (MM F)) = ((c : Thread nD τ).loc (pre0.ref 3) ↦{fullShare.right} tbl m 3) from owns_whole _ _ _ _,
    show (owns (c : Thread nD τ) tb5 fullShare.right (tw5 m) : sProp (MM F)) = ((c : Thread nD τ).loc (pre0.ref 4) ↦{fullShare.right} tbl m 4) from owns_whole _ _ _ _,
    show (owns (c : Thread nD τ) tb6 fullShare.right (tw6 m) : sProp (MM F)) = ((c : Thread nD τ).loc (pre0.ref 5) ↦{fullShare.right} tbl m 5) from owns_whole _ _ _ _,
    show (owns (c : Thread nD τ) tb7 fullShare.right (tw7 m) : sProp (MM F)) = ((c : Thread nD τ).loc (pre0.ref 6) ↦{fullShare.right} tbl m 6) from owns_whole _ _ _ _,
    show (owns (c : Thread nD τ) tb8 fullShare.right (tw8 m) : sProp (MM F)) = ((c : Thread nD τ).loc (pre0.ref 7) ↦{fullShare.right} tbl m 7) from owns_whole _ _ _ _]
  rfl

/-! ## The body's own semaphores and the arrays it reads itself -/

abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma (semQ 0 0)) 0 ∗ semVal ((c : Thread nD τ), SemLoc.dma (semQ 0 1)) 0
        ∗ semVal ((c : Thread nD τ), SemLoc.dma (semQ 1 0)) 0 ∗ semVal ((c : Thread nD τ), SemLoc.dma (semQ 1 1)) 0) := by
  rw [Pipeline.ownSems0_eq_of_list c osem0 [0, 1, 2, 3] (by decide) (by decide)]; rfl

def H0 : Finset (Ref sig .tc) := {main_arg2, main_arg4}
theorem H0_sub : H0 ⊆ Pipeline.restRefsP sig pre0 spec0 := by decide

abbrev hbG : Memref sig .tc .hbm S32x1024x2048 .f32 := Memref.whole main_arg2
abbrev hbD : Memref sig .tc .hbm S32x1024x1024 .f32 := Memref.whole main_arg4

theorem hbmPts0_eq (c : Dev nD) :
    (bigSep H0 (fun b => ((c : Thread nD τ).loc b) ↦{fullShare} V m c b) : sProp (MM F))
      = iprop(owns (c : Thread nD τ) hbG fullShare (V m c main_arg2) ∗ owns (c : Thread nD τ) hbD fullShare (V m c main_arg4)) := by
  rw [BI.bigSep_eq_bigSepL_of_eq [main_arg2, main_arg4] (by decide) (by decide)]
  simp only [owns_whole]
  try rfl

theorem PhiD0_eq (c : Dev nD) :
    (Pipeline.ΦD osem0 spec0 H0 (V m) c : sProp (MM F))
      = iprop(iprop((∃ f, bufG.view.loc (c : Thread nD τ) ↦{fullShare} f) ∗ (∃ f, bufD.view.loc (c : Thread nD τ) ↦{fullShare} f)) ∗ (∃ r, prngReg c r)
        ∗ iprop(semVal ((c : Thread nD τ), SemLoc.dma (semQ 0 0)) 0 ∗ semVal ((c : Thread nD τ), SemLoc.dma (semQ 0 1)) 0
        ∗ semVal ((c : Thread nD τ), SemLoc.dma (semQ 1 0)) 0 ∗ semVal ((c : Thread nD τ), SemLoc.dma (semQ 1 1)) 0)
        ∗ iprop(owns (c : Thread nD τ) hbG fullShare (V m c main_arg2) ∗ owns (c : Thread nD τ) hbD fullShare (V m c main_arg4))) := by
  rw [Pipeline.ΦD_eq, scopedRest0_eq, ownSems00_eq, hbmPts0_eq]

/-! ## The two slots between items -/

theorem setG_cover : setG 0 ∪ setG 1 = Finset.univ := by
  ext i
  have h : (i 0).val < 2 := (i 0).isLt
  simp only [setG, Finset.mem_union, Finset.mem_filter, Finset.mem_univ, true_and, iff_true]
  omega

theorem setG_disj : Disjoint (setG 0) (setG 1) := by
  rw [Finset.disjoint_left]
  intro i h0 h1
  simp only [setG, Finset.mem_filter, Finset.mem_univ, true_and] at h0 h1
  omega

theorem setD_cover : setD 0 ∪ setD 1 = Finset.univ := by
  ext i
  have h : (i 0).val < 2 := (i 0).isLt
  simp only [setD, Finset.mem_union, Finset.mem_filter, Finset.mem_univ, true_and, iff_true]
  omega

theorem setD_disj : Disjoint (setD 0) (setD 1) := by
  rw [Finset.disjoint_left]
  intro i h0 h1
  simp only [setD, Finset.mem_filter, Finset.mem_univ, true_and] at h0 h1
  omega

theorem owns_halves (c : Dev nD) {sp : Space} {s : Shape} {e : EltTy} (b : Memref sig .tc sp s e) (X : s.Idx → Elt F e) (hb : b.IsWhole) :
    (owns (c : Thread nD τ) b fullShare X : sProp (MM F)) ⊢ iprop(owns (c : Thread nD τ) b fullShare.left X ∗ owns (c : Thread nD τ) b fullShare.right X) := by
  unfold owns
  iintro ⟨%f, %hf, H⟩
  ihave H2 := (pointsTo_share (PosShare.mem_left_op_right fullShare)).1 $$ H
  icases H2 with ⟨Ha, Hb⟩
  isplitl [Ha]
  · iexists f; isplitr; · ipureintro; exact hf
    iexact Ha
  · iexists f; isplitr; · ipureintro; exact hf
    iexact Hb

theorem owns_whole_back (c : Dev nD) {sp : Space} {s : Shape} {e : EltTy} (b : Memref sig .tc sp s e) (X : s.Idx → Elt F e) (hb : b.IsWhole) :
    iprop(owns (c : Thread nD τ) b fullShare.left X ∗ owns (c : Thread nD τ) b fullShare.right X) ⊢ (owns (c : Thread nD τ) b fullShare X : sProp (MM F)) := by
  unfold owns
  iintro ⟨⟨%f, %hf, Ha⟩, ⟨%g, %hg, Hb⟩⟩
  have hfg : f = g := by rw [hb.eq_unread hf, hb.eq_unread hg]
  subst hfg
  iexists f
  isplitr; · ipureintro; exact hf
  iapply (pointsTo_share (PosShare.mem_left_op_right fullShare)).2
  isplitl [Ha]; · iexact Ha
  iexact Hb

theorem idle_split (c : Dev nD) :
    (Pipeline.ΦD osem0 spec0 H0 (V m) c : sProp (MM F)) ⊢ iprop(Idle c hbG hbD (V m c main_arg2) (V m c main_arg4) 0 ∗ Idle c hbG hbD (V m c main_arg2) (V m c main_arg4) 1 ∗ (∃ r, prngReg c r)) := by
  rw [PhiD0_eq]
  unfold Idle
  iintro ⟨⟨⟨%f, HG⟩, ⟨%g, HD⟩⟩, Hr, ⟨Hs0, Hs1, Hs2, Hs3⟩, ⟨Hwg, Hwd⟩⟩
  rw [← setG_cover, ← setD_cover]
  ihave HG2 := (pointsTo_union setG_disj).1 $$ HG
  icases HG2 with ⟨HG0, HG1⟩
  ihave HD2 := (pointsTo_union setD_disj).1 $$ HD
  icases HD2 with ⟨HD0, HD1⟩
  ihave Hwg2 := (owns_halves c hbG _ (Memref.isWhole_whole _)) $$ Hwg
  icases Hwg2 with ⟨Hwg0, Hwg1⟩
  ihave Hwd2 := (owns_halves c hbD _ (Memref.isWhole_whole _)) $$ Hwd
  icases Hwd2 with ⟨Hwd0, Hwd1⟩
  isplitl [HG0 HD0 Hs0 Hs1 Hwg0 Hwd0]
  · isplitl [HG0]; · iexists _; iexact HG0
    isplitl [HD0]; · iexists _; iexact HD0
    isplitl [Hs0]; · iexact Hs0
    isplitl [Hs1]; · iexact Hs1
    isplitl [Hwg0]; · iexact Hwg0
    iexact Hwd0
  isplitl [HG1 HD1 Hs2 Hs3 Hwg1 Hwd1]
  · isplitl [HG1]; · iexists _; iexact HG1
    isplitl [HD1]; · iexists _; iexact HD1
    isplitl [Hs2]; · iexact Hs2
    isplitl [Hs3]; · iexact Hs3
    isplitl [Hwg1]; · iexact Hwg1
    iexact Hwd1
  iexact Hr

theorem idle_join (c : Dev nD) :
    iprop(Idle c hbG hbD (V m c main_arg2) (V m c main_arg4) 0 ∗ Idle c hbG hbD (V m c main_arg2) (V m c main_arg4) 1 ∗ (∃ r, prngReg c r)) ⊢ (Pipeline.ΦD osem0 spec0 H0 (V m) c : sProp (MM F)) := by
  rw [PhiD0_eq]
  unfold Idle
  iintro ⟨⟨⟨%f0, HG0⟩, ⟨%g0, HD0⟩, Hs0, Hs1, Hwg0, Hwd0⟩, ⟨⟨%f1, HG1⟩, ⟨%g1, HD1⟩, Hs2, Hs3, Hwg1, Hwd1⟩, Hr⟩
  rw [← setG_cover, ← setD_cover]
  isplitl [HG0 HG1 HD0 HD1]
  · isplitl [HG0 HG1]
    · iexists _
      iapply (pointsTo_join setG_disj)
      isplitl [HG0]; · iexact HG0
      iexact HG1
    · iexists _
      iapply (pointsTo_join setD_disj)
      isplitl [HD0]; · iexact HD0
      iexact HD1
  isplitl [Hr]; · iexact Hr
  isplitl [Hs0 Hs1 Hs2 Hs3]
  · isplitl [Hs0]; · iexact Hs0
    isplitl [Hs1]; · iexact Hs1
    isplitl [Hs2]; · iexact Hs2
    iexact Hs3
  isplitl [Hwg0 Hwg1]
  · iapply (owns_whole_back c hbG _ (Memref.isWhole_whole _))
    isplitl [Hwg0]; · iexact Hwg0
    iexact Hwg1
  · iapply (owns_whole_back c hbD _ (Memref.isWhole_whole _))
    isplitl [Hwd0]; · iexact Hwd0
    iexact Hwd1

/-- A table's word as a slot, and the other slot. -/
def nF (w : BitVec 32) : Fin 2 := ⟨w.toNat % 2, Nat.mod_lt _ (by decide)⟩
def oF (n : Fin 2) : Fin 2 := ⟨1 - n.val, by omega⟩

section Slots

variable (WG : S32x1024x2048.Idx → Elt F .f32) (WD : S32x1024x1024.Idx → Elt F .f32) {T1 T2 T3 T4 T5 T6 T7 T8 : S160.Idx → BitVec 32}

/-- What the slots hold before item `k`. -/
def SlotsAt (T2 T7 T8 : S160.Idx → BitVec 32) (c : Dev nD) : ℕ → sProp (MM F)
  | 0 => iprop(Idle c hbG hbD WG WD 0 ∗ Idle c hbG hbD WG WD 1)
  | k + 1 => iprop(Ready c hbG hbD WG WD (nF (T8 (pt k))) (eF (T2 (pt k))) ∗ Pend c hbG hbD WG WD (oF (nF (T8 (pt k)))) (T7 (pt k)))

theorem slotsIn_first (c : Dev nD) (n n' : Fin 2) (e : Fin 32) (p q : Prop) [Decidable p] [Decidable q] (nx : BitVec 32) (hp : p) :
    iprop(Idle c hbG hbD WG WD n ∗ Idle c hbG hbD WG WD n') ⊢ SlotsIn c hbG hbD WG WD n n' e p q nx := by
  unfold SlotsIn
  rw [if_pos hp]

theorem slotsIn_new (c : Dev nD) (n n' : Fin 2) (e : Fin 32) (p q : Prop) [Decidable p] [Decidable q] (nx : BitVec 32) (hp : ¬p) (hq : q) :
    iprop(Busy c hbG hbD WG WD n e ∗ Idle c hbG hbD WG WD n') ⊢ SlotsIn c hbG hbD WG WD n n' e p q nx := by
  unfold SlotsIn
  rw [if_neg hp, if_pos hq]

theorem slotsIn_old (c : Dev nD) (n n' : Fin 2) (e : Fin 32) (p q : Prop) [Decidable p] [Decidable q] (nx : BitVec 32) (hp : ¬p) (hq : ¬q) :
    iprop(Ready c hbG hbD WG WD n e ∗ Pend c hbG hbD WG WD n' nx) ⊢ SlotsIn c hbG hbD WG WD n n' e p q nx := by
  unfold SlotsIn
  rw [if_neg hp, if_neg hq]

theorem idle_swap (c : Dev nD) (n : Fin 2) :
    iprop(Idle c hbG hbD WG WD 0 ∗ Idle c hbG hbD WG WD 1) ⊢ iprop(Idle c hbG hbD WG WD n ∗ Idle c hbG hbD WG WD (oF n)) := by
  match n with
  | ⟨0, _⟩ => exact .rfl
  | ⟨1, _⟩ =>
    show _ ⊢ iprop(Idle c hbG hbD WG WD 1 ∗ Idle c hbG hbD WG WD 0)
    iintro ⟨Ha, Hb⟩
    isplitl [Hb]; · iexact Hb
    iexact Ha

theorem hand_over (c : Dev nD) (n : Fin 2) (e : Fin 32) (w : BitVec 32) (hc : k0_cond3 w = 1#1) :
    iprop(Ready c hbG hbD WG WD (oF n) e ∗ Pend c hbG hbD WG WD n w) ⊢ iprop(Busy c hbG hbD WG WD n (eF w) ∗ Idle c hbG hbD WG WD (oF n)) := by
  unfold Pend
  rw [if_pos hc]
  iintro ⟨Ha, Hb⟩
  isplitl [Hb]; · iexact Hb
  iapply (ready_idle c hbG hbD _ _ _ _)
  iexact Ha

theorem oF_oF (n : Fin 2) : oF (oF n) = n := by
  apply Fin.ext
  show 1 - (1 - n.val) = n.val
  omega

theorem slots_in (hS : Sched T1 T2 T3 T4 T5 T6 T7 T8) (c : Dev nD) (i : grid0.Coords) (k : ℕ) (hk : (i 0).val = k) :
    SlotsAt WG WD T2 T7 T8 c k ⊢ SlotsIn c hbG hbD WG WD (nF (T8 (pt k))) (oF (nF (T8 (pt k))))
      (eF (T2 (pt k))) (k0_cond1 i = 1#1) (k0_cond2 (T5 (pt k)) = 1#1) (T7 (pt k)) := by
  have hlt := coord_lt i
  match k, hk with
  | 0, hk => exact (idle_swap WG WD c _).trans (slotsIn_first WG WD c _ _ _ _ _ _ ((first_iff i).mpr hk))
  | k + 1, hk =>
    have hne : ¬ (k0_cond1 i = 1#1) := fun h => by have := (first_iff i).mp h; omega
    by_cases hn : T5 (pt (k + 1)) = 1#32
    · obtain ⟨hc, he, hs⟩ := hS.step_new k (by omega) hn
      have hsl := hS.slot k (by omega)
      have e1 : nF (T8 (pt k)) = oF (nF (T8 (pt (k + 1)))) := by
        apply Fin.ext
        show (T8 (pt k)).toNat % 2 = 1 - (T8 (pt (k + 1))).toNat % 2
        rw [hs]; omega
      refine .trans ?_ (slotsIn_new WG WD c _ _ _ _ _ _ hne ((new_iff _).mpr hn))
      show iprop(Ready c hbG hbD WG WD (nF (T8 (pt k))) (eF (T2 (pt k))) ∗ Pend c hbG hbD WG WD (oF (nF (T8 (pt k)))) (T7 (pt k))) ⊢ _
      rw [e1, oF_oF, ← he]
      exact hand_over WG WD c _ _ _ hc
    · obtain ⟨he, hs, hx⟩ := hS.step_old k (by omega) hn
      refine .trans ?_ (slotsIn_old WG WD c _ _ _ _ _ _ hne (fun h => hn ((new_iff _).mp h)))
      rw [he, hs, hx]
      exact .rfl

theorem slots_out (hS : Sched T1 T2 T3 T4 T5 T6 T7 T8) (c : Dev nD) :
    SlotsAt WG WD T2 T7 T8 c 160 ⊢ iprop(Idle c hbG hbD WG WD 0 ∗ Idle c hbG hbD WG WD 1) := by
  show iprop(Ready c hbG hbD WG WD (nF (T8 (pt 159))) (eF (T2 (pt 159))) ∗ Pend c hbG hbD WG WD (oF (nF (T8 (pt 159)))) (T7 (pt 159))) ⊢ _
  unfold Pend
  rw [if_neg hS.last]
  generalize nF (T8 (pt 159)) = n
  match n with
  | ⟨0, _⟩ =>
    iintro ⟨Ha, Hb⟩
    isplitl [Ha]
    · iapply (ready_idle c hbG hbD _ _ 0 _); iexact Ha
    iexact Hb
  | ⟨1, _⟩ =>
    iintro ⟨Ha, Hb⟩
    isplitl [Hb]
    · iexact Hb
    iapply (ready_idle c hbG hbD _ _ 1 _); iexact Ha

end Slots

end Cert.Kernel2Ideal.Moe

end
-- ==== Proof.IMoeOut.lean ====
module

public import proofs.«01_k».proof.Proof.IMoeSlots

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the output window holds, item by item -/

theorem pt_mod (k : ℕ) : pt (k % 160) = pt k := by
  funext a
  exact Fin.ext (Nat.mod_mod k 160)

theorem chk7_at {T1 T2 T3 T4 T5 T6 T7 T8 : S160.Idx → BitVec 32} (hS : Sched T1 T2 T3 T4 T5 T6 T7 T8) (k : ℕ) : k0_chk7 (T8 (pt k)) (T3 (pt k)) (T4 (pt k)) := by
  rw [← pt_mod k]
  have hk : k % 160 < 160 := Nat.mod_lt _ (by decide)
  exact chk7_of _ _ _ (hS.slot _ hk) (hS.lo_hi _ hk) (hS.hi _ hk)

/-- Point `k` of the grid. -/
def tF (hO : Ok m) (k : ℕ) : Fin (cfgM m hO).N := ⟨k % 160, by
  show _ < grid0.N
  rw [N_0]
  exact Nat.mod_lt _ (by decide)⟩

theorem N_eq (hO : Ok m) : (cfgM m hO).N = 160 := N_0

theorem lt_N (hO : Ok m) (t : Fin (cfgM m hO).N) : t.val < 160 := by
  have := t.isLt
  have h := N_eq m hO
  omega

theorem coord_all : ∀ t : Fin 160, (grid0.coords (t.cast N_0.symm) 0).val = t.val := by decide +kernel

theorem coord_eq (hO : Ok m) (t : Fin (cfgM m hO).N) : ((cfgM m hO).grid.coords t 0).val = t.val := coord_all ⟨t.val, lt_N m hO t⟩

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What item `k` leaves of the output rows, from what it finds there. -/
def stepN (hO : Ok m) (hS : SchedM m) (c : Dev nD) (k : ℕ) (O : Vec F S512x1024 .bf16) : Vec F S512x1024 .bf16 :=
  stAll (tw8 m (pt k)) (tw3 m (pt k)) (tw4 m (pt k)) (chk7_at hS k) (iblk m hO c 0 (tF m hO k)) (iblk m hO c 1 (tF m hO k)) (iblk m hO c 2 (tF m hO k))
    (slabG (V m c main_arg2) (eF (tw2 m (pt k)))) (slabD (V m c main_arg4) (eF (tw2 m (pt k)))) (startOut (tw6 m (pt k)) O)

/-- What the output rows are after item `k`. -/
def outN (hO : Ok m) (hS : SchedM m) (c : Dev nD) : ℕ → Vec F S512x1024 .bf16
  | 0 => stepN m hO hS c 0 (k0_pay13 : FVec F S512x1024 .bf16)
  | k + 1 => stepN m hO hS c (k + 1) (outN hO hS c k)

def dats (hO : Ok m) (hS : SchedM m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outN m hO hS c t.val
  Φ t := iprop(SlotsAt (V m c main_arg2) (V m c main_arg4) (tw2 m) (tw7 m) (tw8 m) c t.val ∗ (∃ r, prngReg c r) ∗ Pipeline.ΦT pre0 (tbl m) c)
  q _ := fullShare
  owed _ := 0

theorem A_eq (hO : Ok m) (hS : SchedM m) (c : Dev nD) (w : Fin (cfgM m hO).W) : (dats m hO hS 0 c).A w = V m c (Pipeline.arrRef spec0 w) := by
  dsimp only [dats]

theorem after0_0 (hO : Ok m) (hS : SchedM m) (c : Dev nD) (t : Fin (cfgM m hO).N) : (dats m hO hS 0 c).after 0 t = iblk m hO c 0 t := by dsimp only [dats]; try rfl
theorem after0_1 (hO : Ok m) (hS : SchedM m) (c : Dev nD) (t : Fin (cfgM m hO).N) : (dats m hO hS 0 c).after 1 t = iblk m hO c 1 t := by dsimp only [dats]; try rfl
theorem after0_2 (hO : Ok m) (hS : SchedM m) (c : Dev nD) (t : Fin (cfgM m hO).N) : (dats m hO hS 0 c).after 2 t = iblk m hO c 2 t := by dsimp only [dats]; try rfl
theorem after0_3 (hO : Ok m) (hS : SchedM m) (c : Dev nD) (t : Fin (cfgM m hO).N) : (dats m hO hS 0 c).after 3 t = outN m hO hS c t.val := by dsimp only [dats]; try rfl

theorem before0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_0 (hO : Ok m) (hS : SchedM m) (c : Dev nD) (t : Fin (cfgM m hO).N) (d) : (dats m hO hS 0 c).before 0 t d = iblk m hO c 0 t :=
  before0_of m hO (dats m hO hS 0 c) (A_eq m hO hS c 0) (after0_0 m hO hS c) t d
theorem before0_1 (hO : Ok m) (hS : SchedM m) (c : Dev nD) (t : Fin (cfgM m hO).N) (d) : (dats m hO hS 0 c).before 1 t d = iblk m hO c 1 t :=
  before1_of m hO (dats m hO hS 0 c) (A_eq m hO hS c 1) (after0_1 m hO hS c) t d
theorem before0_2 (hO : Ok m) (hS : SchedM m) (c : Dev nD) (t : Fin (cfgM m hO).N) (d) : (dats m hO hS 0 c).before 2 t d = iblk m hO c 2 t :=
  before2_of m hO (dats m hO hS 0 c) (A_eq m hO hS c 2) (after0_2 m hO hS c) t d

/-! ## Items that leave the output rows as they are -/

theorem word_atD (T : S160.Idx → BitVec 32) (i : grid0.Coords) (o : Fin 1 → ℕ) (ho : o 0 = (i 0).val) (h : ∀ a, o a + 1 ≤ S160.size a) :
    T (fun a => ⟨o a, h a⟩) = T (pt (i 0).val) := by
  refine congrArg T (funext fun a => Fin.ext ?_)
  obtain rfl : a = 0 := Subsingleton.elim _ _
  have := coord_lt i
  show o 0 = (i 0).val % 160
  omega

theorem fits (i : grid0.Coords) (o : Fin 1 → ℕ) (ho : o 0 = (i 0).val) : ∀ a, o a + 1 ≤ S160.size a := by
  intro a
  obtain rfl : a = 0 := Subsingleton.elim _ _
  have := coord_lt i
  show o 0 + 1 ≤ 160
  omega

theorem atD5 (i : grid0.Coords) : (tbl m).atD 5 (k0_off24 i) = tw6 m (pt (i 0).val) :=
  (dif_pos (fits i (k0_off24 i) (coord_off i))).trans (word_atD (tw6 m) i _ (coord_off i) _)
theorem atD2 (i : grid0.Coords) : (tbl m).atD 2 (k0_off25 i) = tw3 m (pt (i 0).val) :=
  (dif_pos (fits i (k0_off25 i) (coord_off i))).trans (word_atD (tw3 m) i _ (coord_off i) _)
theorem atD3 (i : grid0.Coords) : (tbl m).atD 3 (k0_off25 i) = tw4 m (pt (i 0).val) :=
  (dif_pos (fits i (k0_off25 i) (coord_off i))).trans (word_atD (tw4 m) i _ (coord_off i) _)

theorem stAll_skip (v1 lo hi : BitVec 32) (hw : k0_chk7 v1 lo hi) (X : Vec F S512x512 .i32) (bg : Vec F S1x1x2048 .f32) (bd : Vec F S1x1x1024 .f32)
    (wg : Vec F S1x1024x2048 .f32) (wd : Vec F S1x1024x1024 .f32) (O : Vec F S512x1024 .bf16)
    (h5 : ¬ k0_cond5 lo hi = 1#1) (h6 : ¬ k0_cond6 lo hi = 1#1) (h7 : ¬ k0_cond7 lo hi = 1#1) (h8 : ¬ k0_cond8 lo hi = 1#1)
    (h9 : ¬ k0_cond9 lo hi = 1#1) (h10 : ¬ k0_cond10 lo hi = 1#1) (h11 : ¬ k0_cond11 lo hi = 1#1) (h12 : ¬ k0_cond12 lo hi = 1#1) :
    stAll v1 lo hi hw X bg bd wg wd O = O := by
  unfold stAll st5 st6 st7 st8 st9 st10 st11 st12
  rw [dif_neg h5, dif_neg h6, dif_neg h7, dif_neg h8, dif_neg h9, dif_neg h10, dif_neg h11, dif_neg h12]

theorem idle_words (v lo hi : BitVec 32) (h : (!(k0_cond4 v == 1#1) && !(k0_cond5 lo hi == 1#1) && !(k0_cond6 lo hi == 1#1) && !(k0_cond7 lo hi == 1#1) && !(k0_cond8 lo hi == 1#1)
    && !(k0_cond9 lo hi == 1#1) && !(k0_cond10 lo hi == 1#1) && !(k0_cond11 lo hi == 1#1) && !(k0_cond12 lo hi == 1#1)) = true) :
    ¬ k0_cond4 v = 1#1 ∧ ¬ k0_cond5 lo hi = 1#1 ∧ ¬ k0_cond6 lo hi = 1#1 ∧ ¬ k0_cond7 lo hi = 1#1 ∧ ¬ k0_cond8 lo hi = 1#1
      ∧ ¬ k0_cond9 lo hi = 1#1 ∧ ¬ k0_cond10 lo hi = 1#1 ∧ ¬ k0_cond11 lo hi = 1#1 ∧ ¬ k0_cond12 lo hi = 1#1 := by
  generalize k0_cond4 v = a4 at h ⊢
  generalize k0_cond5 lo hi = a5 at h ⊢
  generalize k0_cond6 lo hi = a6 at h ⊢
  generalize k0_cond7 lo hi = a7 at h ⊢
  generalize k0_cond8 lo hi = a8 at h ⊢
  generalize k0_cond9 lo hi = a9 at h ⊢
  generalize k0_cond10 lo hi = a10 at h ⊢
  generalize k0_cond11 lo hi = a11 at h ⊢
  generalize k0_cond12 lo hi = a12 at h ⊢
  simp only [Bool.and_eq_true, Bool.not_eq_true', beq_eq_false_iff_ne, ne_eq] at h
  obtain ⟨⟨⟨⟨⟨⟨⟨⟨h4, h5⟩, h6⟩, h7⟩, h8⟩, h9⟩, h10⟩, h11⟩, h12⟩ := h
  exact ⟨h4, h5, h6, h7, h8, h9, h10, h11, h12⟩

theorem idle_tw (pf : pre0.Contents (Elt F)) (hpf : pf = tbl m) (i : grid0.Coords) (h : idle0 pf 3 i = true) :
    ¬ k0_cond4 (tw6 m (pt (i 0).val)) = 1#1 ∧ ¬ k0_cond5 (tw3 m (pt (i 0).val)) (tw4 m (pt (i 0).val)) = 1#1 ∧ ¬ k0_cond6 (tw3 m (pt (i 0).val)) (tw4 m (pt (i 0).val)) = 1#1
      ∧ ¬ k0_cond7 (tw3 m (pt (i 0).val)) (tw4 m (pt (i 0).val)) = 1#1 ∧ ¬ k0_cond8 (tw3 m (pt (i 0).val)) (tw4 m (pt (i 0).val)) = 1#1
      ∧ ¬ k0_cond9 (tw3 m (pt (i 0).val)) (tw4 m (pt (i 0).val)) = 1#1 ∧ ¬ k0_cond10 (tw3 m (pt (i 0).val)) (tw4 m (pt (i 0).val)) = 1#1
      ∧ ¬ k0_cond11 (tw3 m (pt (i 0).val)) (tw4 m (pt (i 0).val)) = 1#1 ∧ ¬ k0_cond12 (tw3 m (pt (i 0).val)) (tw4 m (pt (i 0).val)) = 1#1 := by
  have h1 := idle_words (pf.atD 5 (k0_off24 i)) (pf.atD 2 (k0_off25 i)) (pf.atD 3 (k0_off25 i)) h
  have e1 : pf.atD 5 (k0_off24 i) = tw6 m (pt (i 0).val) := hpf ▸ atD5 m i
  have e2 : pf.atD 2 (k0_off25 i) = tw3 m (pt (i 0).val) := hpf ▸ atD2 m i
  have e3 : pf.atD 3 (k0_off25 i) = tw4 m (pt (i 0).val) := hpf ▸ atD3 m i
  generalize pf.atD 5 (k0_off24 i) = a at h1 e1
  generalize pf.atD 2 (k0_off25 i) = b at h1 e2
  generalize pf.atD 3 (k0_off25 i) = d at h1 e3
  subst e1 e2 e3
  exact h1

theorem stAll_keep (v1 lo hi v : BitVec 32) (hw : k0_chk7 v1 lo hi) (X : Vec F S512x512 .i32) (bg : Vec F S1x1x2048 .f32) (bd : Vec F S1x1x1024 .f32)
    (wg : Vec F S1x1024x2048 .f32) (wd : Vec F S1x1024x1024 .f32) (O : Vec F S512x1024 .bf16)
    (h : ¬ k0_cond4 v = 1#1 ∧ ¬ k0_cond5 lo hi = 1#1 ∧ ¬ k0_cond6 lo hi = 1#1 ∧ ¬ k0_cond7 lo hi = 1#1 ∧ ¬ k0_cond8 lo hi = 1#1
      ∧ ¬ k0_cond9 lo hi = 1#1 ∧ ¬ k0_cond10 lo hi = 1#1 ∧ ¬ k0_cond11 lo hi = 1#1 ∧ ¬ k0_cond12 lo hi = 1#1) :
    stAll v1 lo hi hw X bg bd wg wd (startOut v O) = O := by
  obtain ⟨h4, h5, h6, h7, h8, h9, h10, h11, h12⟩ := h
  rw [stAll_skip _ _ _ _ _ _ _ _ _ _ h5 h6 h7 h8 h9 h10 h11 h12]
  exact if_neg h4

theorem use_idle {G : Type} {n : ℕ} (f g : Fin n → G → Bool) (e : f = g) (w : Fin n) (i : G) (h : f w i = true) : g w i = true := e ▸ h

theorem idle_is (hO : Ok m) : (cfgM m hO).idle = idle0 (adm m hO).1 := rfl

theorem idle_step (hO : Ok m) (hS : SchedM m) (c : Dev nD) (t : Fin (cfgM m hO).N) (h : (cfgM m hO).idle 3 ((cfgM m hO).grid.coords t) = true) (O) :
    tw6 m (pt t.val) ≠ 1#32 ∧ stepN m hO hS c t.val O = O := by
  have hi := use_idle (n := 4) (G := grid0.Coords) (cfgM m hO).idle (idle0 (adm m hO).1) (idle_is m hO) 3 (grid0.coords t) h
  have hw := idle_tw m (adm m hO).1 rfl (grid0.coords t) hi
  have hc : (grid0.coords t 0).val = t.val := coord_eq m hO t
  rw [hc] at hw
  exact ⟨fun hh => hw.1 ((init_iff _).mpr hh), stAll_keep _ _ _ _ _ _ _ _ _ _ _ hw⟩

theorem ix_congr (a b : BitVec 32) (h : a = b) : (![a.toNat, (0#32).toNat] : Fin 2 → ℕ) = ![b.toNat, (0#32).toNat] := by rw [h]

theorem index3 (hO : Ok m) (t : Fin (cfgM m hO).N) : ((cfgM m hO).win 3).index t = ![(tw1 m (pt t.val)).toNat, (0#32).toNat] := by
  have hc : (grid0.coords t 0).val = t.val := coord_eq m hO t
  refine ix_congr _ _ ?_
  refine (congrArg (tw1 m) (word_idx t.val (lt_N m hO t) _ ((coord_off (grid0.coords t)).trans hc) (k0_off1_inb (grid0.coords t)))).trans ?_
  rfl

theorem flush3 (hO : Ok m) (hS : SchedM m) (k : ℕ) (hk : k + 1 < 160) (h : tw6 m (pt (k + 1)) ≠ 1#32) (hN : k < (cfgM m hO).N) :
    ((cfgM m hO).win 3).flush ⟨k, hN⟩ = false := by
  have he := hS.same k hk h
  rw [← Bool.not_eq_true]
  intro hf
  have hN' := N_eq m hO
  rcases (Pipeline.Window.flush_out _ rfl _).mp hf with h1 | ⟨h1, h2⟩
  · have h1' : k + 1 = 160 := h1.trans hN'
    omega
  · refine h2 ?_
    rw [index3, index3, show tw1 m (pt (⟨k + 1, h1⟩ : Fin (cfgM m hO).N).val) = tw1 m (pt k) from he]

theorem kept3 (hO : Ok m) (hS : SchedM m) (c : Dev nD) (t : Fin (cfgM m hO).N) (d) : (dats m hO hS 0 c).kept 3 t d = outN m hO hS c t.val := by
  unfold Dat.kept
  rw [Pipeline.fill_of_clip_none 3 _ (fun _ => rfl) d ((dats m hO hS 0 c).after 3 t), Window.fill_cut, after0_3]

theorem before3 (hO : Ok m) (hS : SchedM m) (c : Dev nD) : ∀ (k : ℕ) (hk : k + 1 < 160) (hN : k + 1 < (cfgM m hO).N), tw6 m (pt (k + 1)) ≠ 1#32 → ∀ d,
    (dats m hO hS 0 c).before 3 ⟨k + 1, hN⟩ d = outN m hO hS c k := by
  intro k
  induction k with
  | zero =>
    intro hk hN h d
    rw [Dat.before_of_pos (dats m hO hS 0 c) 3 ⟨0 + 1, hN⟩ (by simp) (((cfgM m hO).win 3).fetch_out rfl _) d]
    have hN0 : 0 < (cfgM m hO).N := by omega
    have hf := flush3 m hO hS 0 hk h hN0
    rw [show (⟨(⟨0 + 1, hN⟩ : Fin (cfgM m hO).N).val - 1, Nat.lt_of_le_of_lt (Nat.sub_le _ _) (⟨0 + 1, hN⟩ : Fin (cfgM m hO).N).isLt⟩ : Fin (cfgM m hO).N) = ⟨0, hN0⟩ from rfl, hf, if_neg Bool.false_ne_true]
    unfold Dat.left
    cases hid : (cfgM m hO).idle 3 ((cfgM m hO).grid.coords ⟨0, hN0⟩) with
    | true => exact absurd hS.init0 (idle_step m hO hS c ⟨0, hN0⟩ hid (k0_pay13 : FVec F S512x1024 .bf16)).1
    | false => exact kept3 m hO hS c _ d
  | succ k ih =>
    intro hk hN h d
    rw [Dat.before_of_pos (dats m hO hS 0 c) 3 ⟨k + 1 + 1, hN⟩ (by simp) (((cfgM m hO).win 3).fetch_out rfl _) d]
    have hN0 : k + 1 < (cfgM m hO).N := by omega
    have hf := flush3 m hO hS (k + 1) hk h hN0
    rw [show (⟨(⟨k + 1 + 1, hN⟩ : Fin (cfgM m hO).N).val - 1, Nat.lt_of_le_of_lt (Nat.sub_le _ _) (⟨k + 1 + 1, hN⟩ : Fin (cfgM m hO).N).isLt⟩ : Fin (cfgM m hO).N) = ⟨k + 1, hN0⟩ from rfl, hf, if_neg Bool.false_ne_true]
    unfold Dat.left
    cases hid : (cfgM m hO).idle 3 ((cfgM m hO).grid.coords ⟨k + 1, hN0⟩) with
    | true =>
      obtain ⟨h1, h2⟩ := idle_step m hO hS c ⟨k + 1, hN0⟩ hid (outN m hO hS c k)
      exact (ih (by omega) hN0 h1 d).trans h2.symm
    | false => exact kept3 m hO hS c _ d

theorem startOut_init (w : BitVec 32) (h : w = 1#32) (O O' : Vec F S512x1024 .bf16) : startOut w O = startOut w O' := by
  unfold startOut
  rw [if_pos ((init_iff w).mpr h), if_pos ((init_iff w).mpr h)]

theorem stepN_init (hO : Ok m) (hS : SchedM m) (c : Dev nD) (k : ℕ) (h : tw6 m (pt k) = 1#32) (O O') : stepN m hO hS c k O = stepN m hO hS c k O' := by
  unfold stepN
  rw [startOut_init _ h O O']

/-- The body's step from what it finds is what the output rows are after the item. -/
theorem step_before_at (hO : Ok m) (hS : SchedM m) (c : Dev nD) : ∀ (k : ℕ) (hk : k < (cfgM m hO).N) (d),
    stepN m hO hS c k ((dats m hO hS 0 c).before 3 ⟨k, hk⟩ d) = outN m hO hS c k
  | 0, hk, d => stepN_init m hO hS c 0 hS.init0 _ _
  | k + 1, hk, d => by
    have hlt : k + 1 < 160 := lt_N m hO ⟨k + 1, hk⟩
    by_cases h : tw6 m (pt (k + 1)) = 1#32
    · exact stepN_init m hO hS c (k + 1) h _ _
    · exact congrArg (stepN m hO hS c (k + 1)) (before3 m hO hS c k hlt hk h d)

theorem step_before (hO : Ok m) (hS : SchedM m) (c : Dev nD) (t : Fin (cfgM m hO).N) (d) :
    stepN m hO hS c t.val ((dats m hO hS 0 c).before 3 t d) = outN m hO hS c t.val := step_before_at m hO hS c t.val t.isLt d

end Cert.Kernel2Ideal.Moe

end
-- ==== Proof.ValPay.lean ====
/-
  What the expert kernel computes for one row, and the kernel's arithmetic read at one element.
-/
module

public import proofs.«01_k».proof.Proof.Gen.Kernel2Ideal.Skeleton
public import Idealize.ShloMosaic.Lib.Pointwise

@[expose] public section

noncomputable section

namespace Cert.MoeVal

open Idealize.ShloMosaic Idealize.ShloMosaic.TcCoe
open Cert.Kernel2Ideal Cert.Kernel2Ideal.Gen

/-- The first projection of a packed row `x`: column `f` of the product with the expert's gate and up weights, plus
    the bias. The low halves of the words are the first half of the row, the high halves the second. -/
def gu (x : Fin 512 → BitVec 32) (wg : Fin 1024 → Fin 2048 → EReal) (bg : Fin 2048 → EReal) (f : Fin 2048) : EReal :=
  ((∑ q : Fin 512, Ideal.ofBits .bf16 ((x q).extractLsb' 0 16) * wg ⟨q.val, by omega⟩ f)
    + ∑ q : Fin 512, Ideal.ofBits .bf16 ((x q).extractLsb' 16 16) * wg ⟨512 + q.val, by omega⟩ f) + bg f

/-- The gated activation: the clamped gate through its sigmoid-weighted unit, times the clamped linear part plus one. -/
def swi (g l : EReal) : EReal :=
  Ideal.div (min g (Ideal.ofBits .f32 0x40E00000#32))
    (1 + Ideal.exp (Ideal.ofBits .f32 0xBFD9DB23#32 * min g (Ideal.ofBits .f32 0x40E00000#32)))
  * (min (Ideal.ofBits .f32 0x40E00000#32) (max (Ideal.ofBits .f32 0xC0E00000#32) l) + 1)

/-- One row through one expert: column `d` of the result. -/
def ffn (x : Fin 512 → BitVec 32) (wg : Fin 1024 → Fin 2048 → EReal) (bg : Fin 2048 → EReal) (wd : Fin 1024 → Fin 1024 → EReal) (bd : Fin 1024 → EReal)
    (d : Fin 1024) : EReal :=
  (∑ j : Fin 1024, swi (gu x wg bg ⟨j.val, by omega⟩) (gu x wg bg ⟨1024 + j.val, by omega⟩) * wd j d) + bd d

/-- The test of a piece's row against the item's bounds. -/
abbrev rowTest (r lo hi : BitVec 32) : Prop := IntOp.andi (IntOp.cmpi .sge r lo) (IntOp.cmpi .slt r hi) = 1#1

theorem val5_apply (X : Vec Ideal S64x512 .i32) (wg : Vec Ideal S1x1024x2048 .f32) (bg : Vec Ideal S1x1x2048 .f32) (wd : Vec Ideal S1x1024x1024 .f32)
    (bd : Vec Ideal S1x1x1024 .f32) (i : Fin 64) (d : Fin 1024) :
    k0_pay4 X wg bg wd bd (ix2 i d) = ffn (fun l => X (ix2 i l)) (fun q f => wg (ix3 0 q f)) (fun f => bg (ix3 0 0 f))
      (fun j d => wd (ix3 0 j d)) (fun d => bd (ix3 0 0 d)) d := by
  unfold_payloads
  pointwise
  rfl

theorem sel5_apply (lo hi t : BitVec 32) (Y : FVec Ideal S64x1024 .f32) (O : Vec Ideal S64x1024 .bf16) (i : Fin 64) (d : Fin 1024) :
    k0_pay14 lo hi t Y O (ix2 i d) = if rowTest (IntOp.addi t (BitVec.ofNat 32 i.val)) lo hi then Y (ix2 i d) else O (ix2 i d) := by
  unfold_payloads
  pointwise
  rfl

theorem val6_apply (X : Vec Ideal S128x512 .i32) (wg : Vec Ideal S1x1024x2048 .f32) (bg : Vec Ideal S1x1x2048 .f32) (wd : Vec Ideal S1x1024x1024 .f32)
    (bd : Vec Ideal S1x1x1024 .f32) (i : Fin 128) (d : Fin 1024) :
    k0_pay5 X wg bg wd bd (ix2 i d) = ffn (fun l => X (ix2 i l)) (fun q f => wg (ix3 0 q f)) (fun f => bg (ix3 0 0 f))
      (fun j d => wd (ix3 0 j d)) (fun d => bd (ix3 0 0 d)) d := by
  unfold_payloads
  pointwise
  rfl

theorem sel6_apply (lo hi t : BitVec 32) (Y : FVec Ideal S128x1024 .f32) (O : Vec Ideal S128x1024 .bf16) (i : Fin 128) (d : Fin 1024) :
    k0_pay15 lo hi t Y O (ix2 i d) = if rowTest (IntOp.addi t (BitVec.ofNat 32 i.val)) lo hi then Y (ix2 i d) else O (ix2 i d) := by
  unfold_payloads
  pointwise
  rfl

theorem val7_apply (X : Vec Ideal S192x512 .i32) (wg : Vec Ideal S1x1024x2048 .f32) (bg : Vec Ideal S1x1x2048 .f32) (wd : Vec Ideal S1x1024x1024 .f32)
    (bd : Vec Ideal S1x1x1024 .f32) (i : Fin 192) (d : Fin 1024) :
    k0_pay6 X wg bg wd bd (ix2 i d) = ffn (fun l => X (ix2 i l)) (fun q f => wg (ix3 0 q f)) (fun f => bg (ix3 0 0 f))
      (fun j d => wd (ix3 0 j d)) (fun d => bd (ix3 0 0 d)) d := by
  unfold_payloads
  pointwise
  rfl

theorem sel7_apply (lo hi t : BitVec 32) (Y : FVec Ideal S192x1024 .f32) (O : Vec Ideal S192x1024 .bf16) (i : Fin 192) (d : Fin 1024) :
    k0_pay16 lo hi t Y O (ix2 i d) = if rowTest (IntOp.addi t (BitVec.ofNat 32 i.val)) lo hi then Y (ix2 i d) else O (ix2 i d) := by
  unfold_payloads
  pointwise
  rfl

theorem val8_apply (X : Vec Ideal S256x512 .i32) (wg : Vec Ideal S1x1024x2048 .f32) (bg : Vec Ideal S1x1x2048 .f32) (wd : Vec Ideal S1x1024x1024 .f32)
    (bd : Vec Ideal S1x1x1024 .f32) (i : Fin 256) (d : Fin 1024) :
    k0_pay7 X wg bg wd bd (ix2 i d) = ffn (fun l => X (ix2 i l)) (fun q f => wg (ix3 0 q f)) (fun f => bg (ix3 0 0 f))
      (fun j d => wd (ix3 0 j d)) (fun d => bd (ix3 0 0 d)) d := by
  unfold_payloads
  pointwise
  rfl

theorem sel8_apply (lo hi t : BitVec 32) (Y : FVec Ideal S256x1024 .f32) (O : Vec Ideal S256x1024 .bf16) (i : Fin 256) (d : Fin 1024) :
    k0_pay17 lo hi t Y O (ix2 i d) = if rowTest (IntOp.addi t (BitVec.ofNat 32 i.val)) lo hi then Y (ix2 i d) else O (ix2 i d) := by
  unfold_payloads
  pointwise
  rfl

theorem val9_apply (X : Vec Ideal S320x512 .i32) (wg : Vec Ideal S1x1024x2048 .f32) (bg : Vec Ideal S1x1x2048 .f32) (wd : Vec Ideal S1x1024x1024 .f32)
    (bd : Vec Ideal S1x1x1024 .f32) (i : Fin 320) (d : Fin 1024) :
    k0_pay8 X wg bg wd bd (ix2 i d) = ffn (fun l => X (ix2 i l)) (fun q f => wg (ix3 0 q f)) (fun f => bg (ix3 0 0 f))
      (fun j d => wd (ix3 0 j d)) (fun d => bd (ix3 0 0 d)) d := by
  unfold_payloads
  pointwise
  rfl

theorem sel9_apply (lo hi t : BitVec 32) (Y : FVec Ideal S320x1024 .f32) (O : Vec Ideal S320x1024 .bf16) (i : Fin 320) (d : Fin 1024) :
    k0_pay18 lo hi t Y O (ix2 i d) = if rowTest (IntOp.addi t (BitVec.ofNat 32 i.val)) lo hi then Y (ix2 i d) else O (ix2 i d) := by
  unfold_payloads
  pointwise
  rfl

theorem val10_apply (X : Vec Ideal S384x512 .i32) (wg : Vec Ideal S1x1024x2048 .f32) (bg : Vec Ideal S1x1x2048 .f32) (wd : Vec Ideal S1x1024x1024 .f32)
    (bd : Vec Ideal S1x1x1024 .f32) (i : Fin 384) (d : Fin 1024) :
    k0_pay9 X wg bg wd bd (ix2 i d) = ffn (fun l => X (ix2 i l)) (fun q f => wg (ix3 0 q f)) (fun f => bg (ix3 0 0 f))
      (fun j d => wd (ix3 0 j d)) (fun d => bd (ix3 0 0 d)) d := by
  unfold_payloads
  pointwise
  rfl

theorem sel10_apply (lo hi t : BitVec 32) (Y : FVec Ideal S384x1024 .f32) (O : Vec Ideal S384x1024 .bf16) (i : Fin 384) (d : Fin 1024) :
    k0_pay1 lo hi t Y O (ix2 i d) = if rowTest (IntOp.addi t (BitVec.ofNat 32 i.val)) lo hi then Y (ix2 i d) else O (ix2 i d) := by
  unfold_payloads
  pointwise
  rfl

theorem val11_apply (X : Vec Ideal S448x512 .i32) (wg : Vec Ideal S1x1024x2048 .f32) (bg : Vec Ideal S1x1x2048 .f32) (wd : Vec Ideal S1x1024x1024 .f32)
    (bd : Vec Ideal S1x1x1024 .f32) (i : Fin 448) (d : Fin 1024) :
    k0_pay10 X wg bg wd bd (ix2 i d) = ffn (fun l => X (ix2 i l)) (fun q f => wg (ix3 0 q f)) (fun f => bg (ix3 0 0 f))
      (fun j d => wd (ix3 0 j d)) (fun d => bd (ix3 0 0 d)) d := by
  unfold_payloads
  pointwise
  rfl

theorem sel11_apply (lo hi t : BitVec 32) (Y : FVec Ideal S448x1024 .f32) (O : Vec Ideal S448x1024 .bf16) (i : Fin 448) (d : Fin 1024) :
    k0_pay2 lo hi t Y O (ix2 i d) = if rowTest (IntOp.addi t (BitVec.ofNat 32 i.val)) lo hi then Y (ix2 i d) else O (ix2 i d) := by
  unfold_payloads
  pointwise
  rfl

theorem val12_apply (X : Vec Ideal S512x512 .i32) (wg : Vec Ideal S1x1024x2048 .f32) (bg : Vec Ideal S1x1x2048 .f32) (wd : Vec Ideal S1x1024x1024 .f32)
    (bd : Vec Ideal S1x1x1024 .f32) (i : Fin 512) (d : Fin 1024) :
    k0_pay11 X wg bg wd bd (ix2 i d) = ffn (fun l => X (ix2 i l)) (fun q f => wg (ix3 0 q f)) (fun f => bg (ix3 0 0 f))
      (fun j d => wd (ix3 0 j d)) (fun d => bd (ix3 0 0 d)) d := by
  unfold_payloads
  pointwise
  rfl

theorem sel12_apply (lo hi : BitVec 32) (Y : FVec Ideal S512x1024 .f32) (O : Vec Ideal S512x1024 .bf16) (i : Fin 512) (d : Fin 1024) :
    k0_pay3 lo hi Y (iota .tc S512x1 32 [0] iota_S512x1_d0_w32) k0_pay12 O (ix2 i d) = if rowTest (IntOp.addi 0#32 (BitVec.ofNat 32 i.val)) lo hi then Y (ix2 i d) else O (ix2 i d) := by
  unfold_payloads
  pointwise
  rfl

end Cert.MoeVal
-- ==== Proof.ValStep.lean ====
/-
  What the row pieces of one item leave of the output rows, element by element: the rows of the item hold the row's
  result, the others are as they were.
-/
module

public import proofs.«01_k».proof.Proof.IMoeOut
public import proofs.«01_k».proof.Proof.ValPay

@[expose] public section

noncomputable section

namespace Cert.MoeVal

open Idealize.ShloMosaic Idealize.ShloMosaic.TcCoe
open Cert.Kernel2Ideal Cert.Kernel2Ideal.Gen Cert.Kernel2Ideal.Moe

theorem toInt_small (a : BitVec 32) (h : a.toNat ≤ 1024) : a.toInt = a.toNat := by
  rw [BitVec.toInt_eq_toNat_cond]; split <;> omega

theorem test_iff (r lo hi : BitVec 32) (hr : r.toNat ≤ 1024) (hl : lo.toNat ≤ 512) (hh : hi.toNat ≤ 512) :
    rowTest r lo hi ↔ lo.toNat ≤ r.toNat ∧ r.toNat < hi.toNat := by
  have h1 := toInt_small r hr
  have h2 := toInt_small lo (by omega)
  have h3 := toInt_small hi (by omega)
  have e1 : lo.sle r = decide (lo.toNat ≤ r.toNat) := by
    simp only [BitVec.sle, h1, h2]
    exact decide_eq_decide.mpr Int.ofNat_le
  have e2 : r.slt hi = decide (r.toNat < hi.toNat) := by
    simp only [BitVec.slt, h1, h3]
    exact decide_eq_decide.mpr Int.ofNat_lt
  unfold rowTest IntOp.andi IntOp.cmpi
  dsimp only
  rw [e1, e2]
  by_cases ha : lo.toNat ≤ r.toNat <;> by_cases hb : r.toNat < hi.toNat <;> simp [ha, hb]

theorem add_small (t : BitVec 32) (i : ℕ) (h : t.toNat + i ≤ 1024) : (IntOp.addi t (BitVec.ofNat 32 i)).toNat = t.toNat + i := by
  unfold IntOp.addi
  rw [BitVec.toNat_add, BitVec.toNat_ofNat]
  omega

theorem emb_rows (n b r N c : ℕ) (off : Fin 2 → ℕ) (h : ∀ a, off a + (![n, c] : Fin 2 → ℕ) a ≤ (![N, c] : Fin 2 → ℕ) a)
    (h0 : off 0 = b) (h1 : off 1 = 0) (hr : r < N) (hb : b ≤ r) (hn : r < b + n) (d : Fin c) :
    (Rect.unit (s := (⟨2, ![N, c]⟩ : Shape)) off ![n, c] h).emb (ix2 (⟨r - b, by omega⟩ : Fin n) d) = ix2 (⟨r, hr⟩ : Fin N) d := by
  funext a
  match a with
  | ⟨0, _⟩ =>
    apply Fin.ext
    show off 0 + 1 * (r - b) = r
    omega
  | ⟨1, _⟩ =>
    apply Fin.ext
    show off 1 + 1 * d.val = d.val
    omega

theorem upd_in {A : Type} (n b : ℕ) (off : Fin 2 → ℕ) (h : ∀ a, off a + (![n, 1024] : Fin 2 → ℕ) a ≤ S512x1024.size a)
    (h0 : off 0 = b) (h1 : off 1 = 0) (O : S512x1024.Idx → A) (w : (⟨2, ![n, 1024]⟩ : Shape).Idx → A) (r : Fin 512) (d : Fin 1024)
    (hb : b ≤ r.val) (hn : r.val < b + n) :
    upd O (Rect.unit (s := S512x1024) off ![n, 1024] h) w (ix2 r d) = w (ix2 (⟨r.val - b, by omega⟩ : Fin n) d) :=
  (congrArg (upd O (Rect.unit (s := S512x1024) off ![n, 1024] h) w) (emb_rows n b r.val 512 1024 off h h0 h1 r.isLt hb hn d).symm).trans
    (upd_emb O (Rect.unit (s := S512x1024) off ![n, 1024] h) w (ix2 (⟨r.val - b, by omega⟩ : Fin n) d))

theorem upd_out {A : Type} (n b : ℕ) (off : Fin 2 → ℕ) (h : ∀ a, off a + (![n, 1024] : Fin 2 → ℕ) a ≤ S512x1024.size a)
    (h0 : off 0 = b) (O : S512x1024.Idx → A) (w : (⟨2, ![n, 1024]⟩ : Shape).Idx → A) (r : Fin 512) (d : Fin 1024)
    (hb : ¬ (b ≤ r.val ∧ r.val < b + n)) :
    upd O (Rect.unit (s := S512x1024) off ![n, 1024] h) w (ix2 r d) = O (ix2 r d) := by
  refine upd_of_not O (Rect.unit (s := S512x1024) off ![n, 1024] h) w _ fun hx => hb ?_
  obtain ⟨x, hx⟩ := hx
  have hx0 : off 0 + 1 * (x 0).val = r.val := congrArg (fun y : S512x1024.Idx => (y 0).val) hx
  have hlt : (x 0).val < n := (x 0).isLt
  omega

theorem ld_rows {A : Type} (n b r N c : ℕ) (off : Fin 2 → ℕ) (h : ∀ a, off a + (![n, c] : Fin 2 → ℕ) a ≤ (![N, c] : Fin 2 → ℕ) a)
    (h0 : off 0 = b) (h1 : off 1 = 0) (X : (⟨2, ![N, c]⟩ : Shape).Idx → A) (hr : r < N) (hb : b ≤ r) (hn : r < b + n) (d : Fin c) :
    ld X (Rect.unit (s := (⟨2, ![N, c]⟩ : Shape)) off ![n, c] h).toLoadRect (ix2 (⟨r - b, by omega⟩ : Fin n) d) = X (ix2 (⟨r, hr⟩ : Fin N) d) :=
  congrArg X (emb_rows n b r N c off h h0 h1 hr hb hn d)

theorem ld_bg (X : Vec Ideal S1x1x2048 .f32) :
    ld X (Rect.unit (s := S1x1x2048) ![0, 0, 0] S1x1x2048.size inb_S1x1x2048_S1x1x2048_0_0_0).toLoadRect = X := by
  funext x
  refine congrArg X (funext fun a => Fin.ext ?_)
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

theorem ld_bd (X : Vec Ideal S1x1x1024 .f32) :
    ld X (Rect.unit (s := S1x1x1024) ![0, 0, 0] S1x1x1024.size inb_S1x1x1024_S1x1x1024_0_0_0).toLoadRect = X := by
  funext x
  refine congrArg X (funext fun a => Fin.ext ?_)
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- One row of the item, through the item's expert. -/
abbrev rowVal (X : Vec Ideal S512x512 .i32) (bg : Vec Ideal S1x1x2048 .f32) (bd : Vec Ideal S1x1x1024 .f32)
    (wg : Vec Ideal S1x1024x2048 .f32) (wd : Vec Ideal S1x1024x1024 .f32) (r : Fin 512) (d : Fin 1024) : EReal :=
  ffn (fun l => X (ix2 r l)) (fun q f => wg (ix3 0 q f)) (fun f => bg (ix3 0 0 f)) (fun j d => wd (ix3 0 j d)) (fun d => bd (ix3 0 0 d)) d

section
variable (v1 lo hi : BitVec 32) (hw : k0_chk7 v1 lo hi) (X : Vec Ideal S512x512 .i32) (bg : Vec Ideal S1x1x2048 .f32) (bd : Vec Ideal S1x1x1024 .f32)
  (wg : Vec Ideal S1x1024x2048 .f32) (wd : Vec Ideal S1x1024x1024 .f32) (hl : lo.toNat ≤ hi.toNat) (hh : hi.toNat ≤ 512)
  (O : Vec Ideal S512x1024 .bf16) (r : Fin 512) (d : Fin 1024)
include hl hh

theorem st5_apply : st5 (tile lo) v1 lo hi hw X bg bd wg wd O (ix2 r d)
    = if (lo.toNat < hi.toNat ∧ (hi.toNat + 63) / 64 - lo.toNat / 64 = 1) ∧ lo.toNat ≤ r.val ∧ r.val < hi.toNat then rowVal X bg bd wg wd r d else O (ix2 r d) := by
  have hr := r.isLt
  have ht : ((Scalar.muli (tile lo) 64#32)).toNat = lo.toNat / 64 * 64 := row_eq lo (by omega)
  unfold st5
  by_cases h : k0_cond5 lo hi = 1#1
  · have hc := (cond5_iff lo hi hl hh).mp h
    rw [dif_pos h]
    by_cases hb : lo.toNat / 64 * 64 ≤ r.val ∧ r.val < lo.toNat / 64 * 64 + 64
    · refine (upd_in 64 (lo.toNat / 64 * 64) (k0_off29 lo) (k0_off29_inb v1 lo hi hw h) (row_eq lo (by omega)) rfl O _ r d hb.1 hb.2).trans ?_
      rw [ld_bg, ld_bd]
      refine (sel5_apply lo hi (Scalar.muli (tile lo) 64#32) _ _ _ d).trans ?_
      have e1 := ld_rows 64 (lo.toNat / 64 * 64) r.val 512 1024 (k0_off29 lo) (k0_off29_inb v1 lo hi hw h) (row_eq lo (by omega)) rfl O r.isLt hb.1 hb.2 d
      have e2 : ∀ l : Fin 512, _ := fun l => ld_rows 64 (lo.toNat / 64 * 64) r.val 512 512 (k0_off26 lo) (k0_off26_inb v1 lo hi hw h) (row_eq lo (by omega)) rfl X r.isLt hb.1 hb.2 l
      have ea := add_small (Scalar.muli (tile lo) 64#32) (r.val - (lo.toNat / 64 * 64)) (by omega)
      have hi2 := test_iff (IntOp.addi (Scalar.muli (tile lo) 64#32) (BitVec.ofNat 32 (r.val - (lo.toNat / 64 * 64)))) lo hi (by omega) (by omega) hh
      rw [ea, ht] at hi2
      by_cases hm : lo.toNat ≤ r.val ∧ r.val < hi.toNat
      · rw [if_pos (hi2.mpr (by omega)), if_pos ⟨hc, hm⟩]
        refine (val5_apply _ wg bg wd bd _ d).trans ?_
        exact congrArg (fun x : Fin 512 → BitVec 32 => ffn x (fun q f => wg (ix3 0 q f)) (fun f => bg (ix3 0 0 f)) (fun j d => wd (ix3 0 j d)) (fun d => bd (ix3 0 0 d)) d) (funext e2)
      · rw [if_neg (fun hx => hm (by have := hi2.mp hx; omega)), if_neg (fun hx => hm hx.2)]
        exact e1
    · rw [if_neg (by omega)]
      exact upd_out 64 (lo.toNat / 64 * 64) (k0_off29 lo) (k0_off29_inb v1 lo hi hw h) (row_eq lo (by omega)) O _ r d hb
  · rw [dif_neg h, if_neg (fun hx => h ((cond5_iff lo hi hl hh).mpr hx.1))]

theorem st6_apply : st6 (tile lo) v1 lo hi hw X bg bd wg wd O (ix2 r d)
    = if (lo.toNat < hi.toNat ∧ (hi.toNat + 63) / 64 - lo.toNat / 64 = 2) ∧ lo.toNat ≤ r.val ∧ r.val < hi.toNat then rowVal X bg bd wg wd r d else O (ix2 r d) := by
  have hr := r.isLt
  have ht : ((Scalar.muli (tile lo) 64#32)).toNat = lo.toNat / 64 * 64 := row_eq lo (by omega)
  unfold st6
  by_cases h : k0_cond6 lo hi = 1#1
  · have hc := (cond6_iff lo hi hl hh).mp h
    rw [dif_pos h]
    by_cases hb : lo.toNat / 64 * 64 ≤ r.val ∧ r.val < lo.toNat / 64 * 64 + 128
    · refine (upd_in 128 (lo.toNat / 64 * 64) (k0_off33 lo) (k0_off33_inb v1 lo hi hw h) (row_eq lo (by omega)) rfl O _ r d hb.1 hb.2).trans ?_
      rw [ld_bg, ld_bd]
      refine (sel6_apply lo hi (Scalar.muli (tile lo) 64#32) _ _ _ d).trans ?_
      have e1 := ld_rows 128 (lo.toNat / 64 * 64) r.val 512 1024 (k0_off33 lo) (k0_off33_inb v1 lo hi hw h) (row_eq lo (by omega)) rfl O r.isLt hb.1 hb.2 d
      have e2 : ∀ l : Fin 512, _ := fun l => ld_rows 128 (lo.toNat / 64 * 64) r.val 512 512 (k0_off30 lo) (k0_off30_inb v1 lo hi hw h) (row_eq lo (by omega)) rfl X r.isLt hb.1 hb.2 l
      have ea := add_small (Scalar.muli (tile lo) 64#32) (r.val - (lo.toNat / 64 * 64)) (by omega)
      have hi2 := test_iff (IntOp.addi (Scalar.muli (tile lo) 64#32) (BitVec.ofNat 32 (r.val - (lo.toNat / 64 * 64)))) lo hi (by omega) (by omega) hh
      rw [ea, ht] at hi2
      by_cases hm : lo.toNat ≤ r.val ∧ r.val < hi.toNat
      · rw [if_pos (hi2.mpr (by omega)), if_pos ⟨hc, hm⟩]
        refine (val6_apply _ wg bg wd bd _ d).trans ?_
        exact congrArg (fun x : Fin 512 → BitVec 32 => ffn x (fun q f => wg (ix3 0 q f)) (fun f => bg (ix3 0 0 f)) (fun j d => wd (ix3 0 j d)) (fun d => bd (ix3 0 0 d)) d) (funext e2)
      · rw [if_neg (fun hx => hm (by have := hi2.mp hx; omega)), if_neg (fun hx => hm hx.2)]
        exact e1
    · rw [if_neg (by omega)]
      exact upd_out 128 (lo.toNat / 64 * 64) (k0_off33 lo) (k0_off33_inb v1 lo hi hw h) (row_eq lo (by omega)) O _ r d hb
  · rw [dif_neg h, if_neg (fun hx => h ((cond6_iff lo hi hl hh).mpr hx.1))]

theorem st7_apply : st7 (tile lo) v1 lo hi hw X bg bd wg wd O (ix2 r d)
    = if (lo.toNat < hi.toNat ∧ (hi.toNat + 63) / 64 - lo.toNat / 64 = 3) ∧ lo.toNat ≤ r.val ∧ r.val < hi.toNat then rowVal X bg bd wg wd r d else O (ix2 r d) := by
  have hr := r.isLt
  have ht : ((Scalar.muli (tile lo) 64#32)).toNat = lo.toNat / 64 * 64 := row_eq lo (by omega)
  unfold st7
  by_cases h : k0_cond7 lo hi = 1#1
  · have hc := (cond7_iff lo hi hl hh).mp h
    rw [dif_pos h]
    by_cases hb : lo.toNat / 64 * 64 ≤ r.val ∧ r.val < lo.toNat / 64 * 64 + 192
    · refine (upd_in 192 (lo.toNat / 64 * 64) (k0_off37 lo) (k0_off37_inb v1 lo hi hw h) (row_eq lo (by omega)) rfl O _ r d hb.1 hb.2).trans ?_
      rw [ld_bg, ld_bd]
      refine (sel7_apply lo hi (Scalar.muli (tile lo) 64#32) _ _ _ d).trans ?_
      have e1 := ld_rows 192 (lo.toNat / 64 * 64) r.val 512 1024 (k0_off37 lo) (k0_off37_inb v1 lo hi hw h) (row_eq lo (by omega)) rfl O r.isLt hb.1 hb.2 d
      have e2 : ∀ l : Fin 512, _ := fun l => ld_rows 192 (lo.toNat / 64 * 64) r.val 512 512 (k0_off34 lo) (k0_off34_inb v1 lo hi hw h) (row_eq lo (by omega)) rfl X r.isLt hb.1 hb.2 l
      have ea := add_small (Scalar.muli (tile lo) 64#32) (r.val - (lo.toNat / 64 * 64)) (by omega)
      have hi2 := test_iff (IntOp.addi (Scalar.muli (tile lo) 64#32) (BitVec.ofNat 32 (r.val - (lo.toNat / 64 * 64)))) lo hi (by omega) (by omega) hh
      rw [ea, ht] at hi2
      by_cases hm : lo.toNat ≤ r.val ∧ r.val < hi.toNat
      · rw [if_pos (hi2.mpr (by omega)), if_pos ⟨hc, hm⟩]
        refine (val7_apply _ wg bg wd bd _ d).trans ?_
        exact congrArg (fun x : Fin 512 → BitVec 32 => ffn x (fun q f => wg (ix3 0 q f)) (fun f => bg (ix3 0 0 f)) (fun j d => wd (ix3 0 j d)) (fun d => bd (ix3 0 0 d)) d) (funext e2)
      · rw [if_neg (fun hx => hm (by have := hi2.mp hx; omega)), if_neg (fun hx => hm hx.2)]
        exact e1
    · rw [if_neg (by omega)]
      exact upd_out 192 (lo.toNat / 64 * 64) (k0_off37 lo) (k0_off37_inb v1 lo hi hw h) (row_eq lo (by omega)) O _ r d hb
  · rw [dif_neg h, if_neg (fun hx => h ((cond7_iff lo hi hl hh).mpr hx.1))]

theorem st8_apply : st8 (tile lo) v1 lo hi hw X bg bd wg wd O (ix2 r d)
    = if (lo.toNat < hi.toNat ∧ (hi.toNat + 63) / 64 - lo.toNat / 64 = 4) ∧ lo.toNat ≤ r.val ∧ r.val < hi.toNat then rowVal X bg bd wg wd r d else O (ix2 r d) := by
  have hr := r.isLt
  have ht : ((Scalar.muli (tile lo) 64#32)).toNat = lo.toNat / 64 * 64 := row_eq lo (by omega)
  unfold st8
  by_cases h : k0_cond8 lo hi = 1#1
  · have hc := (cond8_iff lo hi hl hh).mp h
    rw [dif_pos h]
    by_cases hb : lo.toNat / 64 * 64 ≤ r.val ∧ r.val < lo.toNat / 64 * 64 + 256
    · refine (upd_in 256 (lo.toNat / 64 * 64) (k0_off41 lo) (k0_off41_inb v1 lo hi hw h) (row_eq lo (by omega)) rfl O _ r d hb.1 hb.2).trans ?_
      rw [ld_bg, ld_bd]
      refine (sel8_apply lo hi (Scalar.muli (tile lo) 64#32) _ _ _ d).trans ?_
      have e1 := ld_rows 256 (lo.toNat / 64 * 64) r.val 512 1024 (k0_off41 lo) (k0_off41_inb v1 lo hi hw h) (row_eq lo (by omega)) rfl O r.isLt hb.1 hb.2 d
      have e2 : ∀ l : Fin 512, _ := fun l => ld_rows 256 (lo.toNat / 64 * 64) r.val 512 512 (k0_off38 lo) (k0_off38_inb v1 lo hi hw h) (row_eq lo (by omega)) rfl X r.isLt hb.1 hb.2 l
      have ea := add_small (Scalar.muli (tile lo) 64#32) (r.val - (lo.toNat / 64 * 64)) (by omega)
      have hi2 := test_iff (IntOp.addi (Scalar.muli (tile lo) 64#32) (BitVec.ofNat 32 (r.val - (lo.toNat / 64 * 64)))) lo hi (by omega) (by omega) hh
      rw [ea, ht] at hi2
      by_cases hm : lo.toNat ≤ r.val ∧ r.val < hi.toNat
      · rw [if_pos (hi2.mpr (by omega)), if_pos ⟨hc, hm⟩]
        refine (val8_apply _ wg bg wd bd _ d).trans ?_
        exact congrArg (fun x : Fin 512 → BitVec 32 => ffn x (fun q f => wg (ix3 0 q f)) (fun f => bg (ix3 0 0 f)) (fun j d => wd (ix3 0 j d)) (fun d => bd (ix3 0 0 d)) d) (funext e2)
      · rw [if_neg (fun hx => hm (by have := hi2.mp hx; omega)), if_neg (fun hx => hm hx.2)]
        exact e1
    · rw [if_neg (by omega)]
      exact upd_out 256 (lo.toNat / 64 * 64) (k0_off41 lo) (k0_off41_inb v1 lo hi hw h) (row_eq lo (by omega)) O _ r d hb
  · rw [dif_neg h, if_neg (fun hx => h ((cond8_iff lo hi hl hh).mpr hx.1))]

theorem st9_apply : st9 (tile lo) v1 lo hi hw X bg bd wg wd O (ix2 r d)
    = if (lo.toNat < hi.toNat ∧ (hi.toNat + 63) / 64 - lo.toNat / 64 = 5) ∧ lo.toNat ≤ r.val ∧ r.val < hi.toNat then rowVal X bg bd wg wd r d else O (ix2 r d) := by
  have hr := r.isLt
  have ht : ((Scalar.muli (tile lo) 64#32)).toNat = lo.toNat / 64 * 64 := row_eq lo (by omega)
  unfold st9
  by_cases h : k0_cond9 lo hi = 1#1
  · have hc := (cond9_iff lo hi hl hh).mp h
    rw [dif_pos h]
    by_cases hb : lo.toNat / 64 * 64 ≤ r.val ∧ r.val < lo.toNat / 64 * 64 + 320
    · refine (upd_in 320 (lo.toNat / 64 * 64) (k0_off45 lo) (k0_off45_inb v1 lo hi hw h) (row_eq lo (by omega)) rfl O _ r d hb.1 hb.2).trans ?_
      rw [ld_bg, ld_bd]
      refine (sel9_apply lo hi (Scalar.muli (tile lo) 64#32) _ _ _ d).trans ?_
      have e1 := ld_rows 320 (lo.toNat / 64 * 64) r.val 512 1024 (k0_off45 lo) (k0_off45_inb v1 lo hi hw h) (row_eq lo (by omega)) rfl O r.isLt hb.1 hb.2 d
      have e2 : ∀ l : Fin 512, _ := fun l => ld_rows 320 (lo.toNat / 64 * 64) r.val 512 512 (k0_off42 lo) (k0_off42_inb v1 lo hi hw h) (row_eq lo (by omega)) rfl X r.isLt hb.1 hb.2 l
      have ea := add_small (Scalar.muli (tile lo) 64#32) (r.val - (lo.toNat / 64 * 64)) (by omega)
      have hi2 := test_iff (IntOp.addi (Scalar.muli (tile lo) 64#32) (BitVec.ofNat 32 (r.val - (lo.toNat / 64 * 64)))) lo hi (by omega) (by omega) hh
      rw [ea, ht] at hi2
      by_cases hm : lo.toNat ≤ r.val ∧ r.val < hi.toNat
      · rw [if_pos (hi2.mpr (by omega)), if_pos ⟨hc, hm⟩]
        refine (val9_apply _ wg bg wd bd _ d).trans ?_
        exact congrArg (fun x : Fin 512 → BitVec 32 => ffn x (fun q f => wg (ix3 0 q f)) (fun f => bg (ix3 0 0 f)) (fun j d => wd (ix3 0 j d)) (fun d => bd (ix3 0 0 d)) d) (funext e2)
      · rw [if_neg (fun hx => hm (by have := hi2.mp hx; omega)), if_neg (fun hx => hm hx.2)]
        exact e1
    · rw [if_neg (by omega)]
      exact upd_out 320 (lo.toNat / 64 * 64) (k0_off45 lo) (k0_off45_inb v1 lo hi hw h) (row_eq lo (by omega)) O _ r d hb
  · rw [dif_neg h, if_neg (fun hx => h ((cond9_iff lo hi hl hh).mpr hx.1))]

theorem st10_apply : st10 (tile lo) v1 lo hi hw X bg bd wg wd O (ix2 r d)
    = if (lo.toNat < hi.toNat ∧ (hi.toNat + 63) / 64 - lo.toNat / 64 = 6) ∧ lo.toNat ≤ r.val ∧ r.val < hi.toNat then rowVal X bg bd wg wd r d else O (ix2 r d) := by
  have hr := r.isLt
  have ht : ((Scalar.muli (tile lo) 64#32)).toNat = lo.toNat / 64 * 64 := row_eq lo (by omega)
  unfold st10
  by_cases h : k0_cond10 lo hi = 1#1
  · have hc := (cond10_iff lo hi hl hh).mp h
    rw [dif_pos h]
    by_cases hb : lo.toNat / 64 * 64 ≤ r.val ∧ r.val < lo.toNat / 64 * 64 + 384
    · refine (upd_in 384 (lo.toNat / 64 * 64) (k0_off49 lo) (k0_off49_inb v1 lo hi hw h) (row_eq lo (by omega)) rfl O _ r d hb.1 hb.2).trans ?_
      rw [ld_bg, ld_bd]
      refine (sel10_apply lo hi (Scalar.muli (tile lo) 64#32) _ _ _ d).trans ?_
      have e1 := ld_rows 384 (lo.toNat / 64 * 64) r.val 512 1024 (k0_off49 lo) (k0_off49_inb v1 lo hi hw h) (row_eq lo (by omega)) rfl O r.isLt hb.1 hb.2 d
      have e2 : ∀ l : Fin 512, _ := fun l => ld_rows 384 (lo.toNat / 64 * 64) r.val 512 512 (k0_off46 lo) (k0_off46_inb v1 lo hi hw h) (row_eq lo (by omega)) rfl X r.isLt hb.1 hb.2 l
      have ea := add_small (Scalar.muli (tile lo) 64#32) (r.val - (lo.toNat / 64 * 64)) (by omega)
      have hi2 := test_iff (IntOp.addi (Scalar.muli (tile lo) 64#32) (BitVec.ofNat 32 (r.val - (lo.toNat / 64 * 64)))) lo hi (by omega) (by omega) hh
      rw [ea, ht] at hi2
      by_cases hm : lo.toNat ≤ r.val ∧ r.val < hi.toNat
      · rw [if_pos (hi2.mpr (by omega)), if_pos ⟨hc, hm⟩]
        refine (val10_apply _ wg bg wd bd _ d).trans ?_
        exact congrArg (fun x : Fin 512 → BitVec 32 => ffn x (fun q f => wg (ix3 0 q f)) (fun f => bg (ix3 0 0 f)) (fun j d => wd (ix3 0 j d)) (fun d => bd (ix3 0 0 d)) d) (funext e2)
      · rw [if_neg (fun hx => hm (by have := hi2.mp hx; omega)), if_neg (fun hx => hm hx.2)]
        exact e1
    · rw [if_neg (by omega)]
      exact upd_out 384 (lo.toNat / 64 * 64) (k0_off49 lo) (k0_off49_inb v1 lo hi hw h) (row_eq lo (by omega)) O _ r d hb
  · rw [dif_neg h, if_neg (fun hx => h ((cond10_iff lo hi hl hh).mpr hx.1))]

theorem st11_apply : st11 (tile lo) v1 lo hi hw X bg bd wg wd O (ix2 r d)
    = if (lo.toNat < hi.toNat ∧ (hi.toNat + 63) / 64 - lo.toNat / 64 = 7) ∧ lo.toNat ≤ r.val ∧ r.val < hi.toNat then rowVal X bg bd wg wd r d else O (ix2 r d) := by
  have hr := r.isLt
  have ht : ((Scalar.muli (tile lo) 64#32)).toNat = lo.toNat / 64 * 64 := row_eq lo (by omega)
  unfold st11
  by_cases h : k0_cond11 lo hi = 1#1
  · have hc := (cond11_iff lo hi hl hh).mp h
    rw [dif_pos h]
    by_cases hb : lo.toNat / 64 * 64 ≤ r.val ∧ r.val < lo.toNat / 64 * 64 + 448
    · refine (upd_in 448 (lo.toNat / 64 * 64) (k0_off53 lo) (k0_off53_inb v1 lo hi hw h) (row_eq lo (by omega)) rfl O _ r d hb.1 hb.2).trans ?_
      rw [ld_bg, ld_bd]
      refine (sel11_apply lo hi (Scalar.muli (tile lo) 64#32) _ _ _ d).trans ?_
      have e1 := ld_rows 448 (lo.toNat / 64 * 64) r.val 512 1024 (k0_off53 lo) (k0_off53_inb v1 lo hi hw h) (row_eq lo (by omega)) rfl O r.isLt hb.1 hb.2 d
      have e2 : ∀ l : Fin 512, _ := fun l => ld_rows 448 (lo.toNat / 64 * 64) r.val 512 512 (k0_off50 lo) (k0_off50_inb v1 lo hi hw h) (row_eq lo (by omega)) rfl X r.isLt hb.1 hb.2 l
      have ea := add_small (Scalar.muli (tile lo) 64#32) (r.val - (lo.toNat / 64 * 64)) (by omega)
      have hi2 := test_iff (IntOp.addi (Scalar.muli (tile lo) 64#32) (BitVec.ofNat 32 (r.val - (lo.toNat / 64 * 64)))) lo hi (by omega) (by omega) hh
      rw [ea, ht] at hi2
      by_cases hm : lo.toNat ≤ r.val ∧ r.val < hi.toNat
      · rw [if_pos (hi2.mpr (by omega)), if_pos ⟨hc, hm⟩]
        refine (val11_apply _ wg bg wd bd _ d).trans ?_
        exact congrArg (fun x : Fin 512 → BitVec 32 => ffn x (fun q f => wg (ix3 0 q f)) (fun f => bg (ix3 0 0 f)) (fun j d => wd (ix3 0 j d)) (fun d => bd (ix3 0 0 d)) d) (funext e2)
      · rw [if_neg (fun hx => hm (by have := hi2.mp hx; omega)), if_neg (fun hx => hm hx.2)]
        exact e1
    · rw [if_neg (by omega)]
      exact upd_out 448 (lo.toNat / 64 * 64) (k0_off53 lo) (k0_off53_inb v1 lo hi hw h) (row_eq lo (by omega)) O _ r d hb
  · rw [dif_neg h, if_neg (fun hx => h ((cond11_iff lo hi hl hh).mpr hx.1))]

theorem st12_apply : st12 (tile lo) v1 lo hi hw X bg bd wg wd O (ix2 r d)
    = if (lo.toNat < hi.toNat ∧ (hi.toNat + 63) / 64 - lo.toNat / 64 = 8) ∧ lo.toNat ≤ r.val ∧ r.val < hi.toNat then rowVal X bg bd wg wd r d else O (ix2 r d) := by
  have hr := r.isLt
  have ht : (0#32).toNat = 0 := rfl
  unfold st12
  by_cases h : k0_cond12 lo hi = 1#1
  · have hc := (cond12_iff lo hi hl hh).mp h
    rw [dif_pos h]
    by_cases hb : 0 ≤ r.val ∧ r.val < 0 + 512
    · refine (upd_in 512 (0) ![0, 0] inb_S512x1024_S512x1024_0_0 rfl rfl O _ r d hb.1 hb.2).trans ?_
      rw [ld_bg, ld_bd]
      refine (sel12_apply lo hi  _ _ _ d).trans ?_
      have e1 := ld_rows 512 (0) r.val 512 1024 ![0, 0] inb_S512x1024_S512x1024_0_0 rfl rfl O r.isLt hb.1 hb.2 d
      have e2 : ∀ l : Fin 512, _ := fun l => ld_rows 512 (0) r.val 512 512 ![0, 0] inb_S512x512_S512x512_0_0 rfl rfl X r.isLt hb.1 hb.2 l
      have ea := add_small 0#32 (r.val - (0)) (by omega)
      have hi2 := test_iff (IntOp.addi 0#32 (BitVec.ofNat 32 (r.val - (0)))) lo hi (by omega) (by omega) hh
      rw [ea, ht] at hi2
      by_cases hm : lo.toNat ≤ r.val ∧ r.val < hi.toNat
      · rw [if_pos (hi2.mpr (by omega)), if_pos ⟨hc, hm⟩]
        refine (val12_apply _ wg bg wd bd _ d).trans ?_
        exact congrArg (fun x : Fin 512 → BitVec 32 => ffn x (fun q f => wg (ix3 0 q f)) (fun f => bg (ix3 0 0 f)) (fun j d => wd (ix3 0 j d)) (fun d => bd (ix3 0 0 d)) d) (funext e2)
      · rw [if_neg (fun hx => hm (by have := hi2.mp hx; omega)), if_neg (fun hx => hm hx.2)]
        exact e1
    · rw [if_neg (by omega)]
      exact upd_out 512 (0) ![0, 0] inb_S512x1024_S512x1024_0_0 rfl O _ r d hb
  · rw [dif_neg h, if_neg (fun hx => h ((cond12_iff lo hi hl hh).mpr hx.1))]

/-- One item: its rows hold their results, the others are as they were. -/
theorem stAll_apply : stAll v1 lo hi hw X bg bd wg wd O (ix2 r d)
    = if lo.toNat ≤ r.val ∧ r.val < hi.toNat then rowVal X bg bd wg wd r d else O (ix2 r d) := by
  have hr := r.isLt
  unfold stAll
  rw [st12_apply v1 lo hi hw X bg bd wg wd hl hh, st11_apply v1 lo hi hw X bg bd wg wd hl hh, st10_apply v1 lo hi hw X bg bd wg wd hl hh,
    st9_apply v1 lo hi hw X bg bd wg wd hl hh, st8_apply v1 lo hi hw X bg bd wg wd hl hh, st7_apply v1 lo hi hw X bg bd wg wd hl hh,
    st6_apply v1 lo hi hw X bg bd wg wd hl hh, st5_apply v1 lo hi hw X bg bd wg wd hl hh]
  generalize rowVal X bg bd wg wd r d = y
  generalize O (ix2 r d) = o
  by_cases hm : lo.toNat ≤ r.val ∧ r.val < hi.toNat
  · rw [if_pos hm]
    have h1 : 1 ≤ (hi.toNat + 63) / 64 - lo.toNat / 64 ∧ (hi.toNat + 63) / 64 - lo.toNat / 64 ≤ 8 := by omega
    have h2 : lo.toNat < hi.toNat := by omega
    generalize (hi.toNat + 63) / 64 - lo.toNat / 64 = n at h1
    have : n = 1 ∨ n = 2 ∨ n = 3 ∨ n = 4 ∨ n = 5 ∨ n = 6 ∨ n = 7 ∨ n = 8 := by omega
    rcases this with rfl | rfl | rfl | rfl | rfl | rfl | rfl | rfl <;> simp [hm, h2]
  · simp only [hm, and_false, if_false]

end

end Cert.MoeVal
-- ==== Proof.IMoeItem.lean ====
module

public import proofs.«01_k».proof.Proof.IMoeOut

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## One item, from the schedule's facts -/

theorem nF_of (w : BitVec 32) (h : w.toNat < 2) : w.toNat = (nF w).val := by
  show w.toNat = w.toNat % 2
  omega

theorem oF_of (w : BitVec 32) (h : w.toNat < 2) : (Scalar.subi 1#32 w).toNat = (oF (nF w)).val := by
  rw [slot_flip w h]
  have h1 := nF_of w h
  have h2 : (oF (nF w)).val = 1 - (nF w).val := by
    generalize nF w = n
    revert n
    decide
  omega

theorem slots_next (WG : S32x1024x2048.Idx → Elt F .f32) (WD : S32x1024x1024.Idx → Elt F .f32) (T2 T7 T8 : S160.Idx → BitVec 32) (c : Dev nD) (k : ℕ) :
    (iprop(Ready c hbG hbD WG WD (nF (T8 (pt k))) (eF (T2 (pt k))) ∗ Pend c hbG hbD WG WD (oF (nF (T8 (pt k)))) (T7 (pt k))) : sProp (MM F)) ⊢ SlotsAt WG WD T2 T7 T8 c (k + 1) := .rfl

theorem item_run (T1 T2 T3 T4 T5 T6 T7 T8 : S160.Idx → BitVec 32) (hS : Sched T1 T2 T3 T4 T5 T6 T7 T8) (c : Dev nD) (i : grid0.Coords) (k : ℕ) (hk : (i 0).val = k) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .smem S160 .i32) (harg7 : arg7.IsWhole) (arg8 : Memref sig .tc .smem S160 .i32) (harg8 : arg8.IsWhole) (arg9 : Memref sig .tc .vmem S512x512 .i32) (harg9 : arg9.IsWhole) (arg11 : Memref sig .tc .vmem S1x1x2048 .f32) (harg11 : arg11.IsWhole) (arg13 : Memref sig .tc .vmem S1x1x1024 .f32) (harg13 : arg13.IsWhole) (arg14 : Memref sig .tc .vmem S512x1024 .bf16) (harg14 : arg14.IsWhole)
    (WG : S32x1024x2048.Idx → Elt F .f32) (WD : S32x1024x1024.Idx → Elt F .f32) (q : PosShare TreeShare)
    (X : Vec F S512x512 .i32) (bg : Vec F S1x1x2048 .f32) (bd : Vec F S1x1x1024 .f32) (O O' : Vec F S512x1024 .bf16)
    (hO' : O' = stAll (T8 (pt k)) (T3 (pt k)) (T4 (pt k)) (chk7_at hS k) X bg bd (slabG WG (eF (T2 (pt k)))) (slabD WD (eF (T2 (pt k)))) (startOut (T6 (pt k)) O)) {wt : Waits sig Unit} {Q : PUnit → sProp (MM F)} :
    iprop(SlotsAt WG WD T2 T7 T8 c k ∗ owns (c : Thread nD τ) arg2 q T2 ∗ owns (c : Thread nD τ) arg3 q T3 ∗ owns (c : Thread nD τ) arg4 q T4 ∗ owns (c : Thread nD τ) arg5 q T5 ∗ owns (c : Thread nD τ) arg6 q T6 ∗ owns (c : Thread nD τ) arg7 q T7 ∗ owns (c : Thread nD τ) arg8 q T8
        ∗ owns (c : Thread nD τ) arg9 fullShare X ∗ owns (c : Thread nD τ) arg11 fullShare bg ∗ owns (c : Thread nD τ) arg13 fullShare bd
        ∗ owns (c : Thread nD τ) arg14 fullShare O ∗ owes (c : Thread nD τ) 0 wt)
      ⊢ iprop((iprop(SlotsAt WG WD T2 T7 T8 c (k + 1) ∗ owns (c : Thread nD τ) arg2 q T2 ∗ owns (c : Thread nD τ) arg3 q T3 ∗ owns (c : Thread nD τ) arg4 q T4 ∗ owns (c : Thread nD τ) arg5 q T5 ∗ owns (c : Thread nD τ) arg6 q T6 ∗ owns (c : Thread nD τ) arg7 q T7 ∗ owns (c : Thread nD τ) arg8 q T8
        ∗ owns (c : Thread nD τ) arg9 fullShare X ∗ owns (c : Thread nD τ) arg11 fullShare bg ∗ owns (c : Thread nD τ) arg13 fullShare bd
        ∗ owns (c : Thread nD τ) arg14 fullShare O'
        ∗ (∃ wt', owes (c : Thread nD τ) 0 wt')) -∗ Q ⟨⟩)
        -∗ WP (F := F) c (cc0_moe i arg1 harg1 arg2 harg2 arg3 harg3 arg4 harg4 arg5 harg5 arg6 harg6 arg7 harg7 arg8 harg8 arg9 harg9 hbG (Memref.isWhole_whole _) arg11 harg11 hbD (Memref.isWhole_whole _) arg13 harg13 arg14 harg14 bufG (Memref.isWhole_whole _) bufD (Memref.isWhole_whole _) cc0_scratch2) Q) := by
  subst hO'
  have hlt : k < 160 := hk ▸ coord_lt i
  have ho : (BitVec.ofNat 32 (i 0).val).toNat = k := (coord_off i).trans hk
  have h9 : rd (F := F) T2 (k0_off9 i) (k0_off9_inb i) = T2 (pt k) := rd_at T2 k hlt _ ho _
  have h0 : rd (F := F) T2 ![0] inb_S160_S1_0 = T2 (pt 0) := rd_at T2 0 (by decide) _ rfl _
  have hsl := hS.slot k hlt
  iintro ⟨HS, H⟩ Hk
  ihave HS := (slots_in WG WD hS c i k hk) $$ HS
  iapply (body_run c i arg1 harg1 arg2 harg2 arg3 harg3 arg4 harg4 arg5 harg5 arg6 harg6 arg7 harg7 arg8 harg8 arg9 harg9 hbG (Memref.isWhole_whole _) arg11 harg11 hbD (Memref.isWhole_whole _) arg13 harg13 arg14 harg14 WG WD T2 T3 T4 T5 T6 T7 T8 q X bg bd O (nF (T8 (pt k))) (oF (nF (T8 (pt k)))) (eF (T2 (pt k)))
    (T8 (pt k)) (T5 (pt k)) (T7 (pt k)) (T6 (pt k)) (T3 (pt k)) (T4 (pt k))
    (rd_at T8 k hlt _ ho _) (rd_at T5 k hlt _ ho _) (rd_at T7 k hlt _ ho _) (rd_at T6 k hlt _ ho _) (rd_at T3 k hlt _ ho _) (rd_at T4 k hlt _ ho _)
    (nF_of _ hsl) (oF_of _ hsl) (chk1_of i _ hsl) (by rw [h0]; exact chk2_of i _ (hS.exp 0 (by decide))) (by rw [h0]; exact hS.exp 0 (by decide))
    (chk3_of _ _ hsl) (by rw [h9]; exact chk4_of _ _ (hS.exp k hlt)) (chk5_of _ _ _ hsl) (chk6_of _ _ (hS.next k hlt)) (hS.next k hlt) (chk7_at hS k)
    (fun h1 => by
      have hk0 : k = 0 := hk.symm.trans ((first_iff i).mp h1)
      subst hk0
      exact ⟨(new_iff _).mpr hS.new0, by rw [h0]⟩)) $$ [HS H]
  · isplitl [HS]; · iexact HS
    iexact H
  iintro ⟨HR, HP, H⟩
  iapply Hk
  isplitl [HR HP]
  · iapply (slots_next WG WD T2 T7 T8 c k)
    isplitl [HR]; · iexact HR
    iexact HP
  iexact H

end Cert.Kernel2Ideal.Moe

end
-- ==== Proof.IMoeFrame.lean ====
module

public import proofs.«01_k».proof.Proof.IMoeItem

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body at a point of the grid -/

abbrev bodyAt0 (a : (pcfg0 (F := F)).Adm) (t : Fin (cfg0 a).N) : Prog (TpuEff nD τ sig (Elt F) Λ₀ .tc) PUnit :=
  cc0_moe (grid0.coords t) (Memref.whole main_v42) (Memref.isWhole_whole _) (Memref.whole main_v28) (Memref.isWhole_whole _) (Memref.whole main_v49) (Memref.isWhole_whole _) (Memref.whole main_v57) (Memref.isWhole_whole _) (Memref.whole main_v93) (Memref.isWhole_whole _) (Memref.whole main_v94) (Memref.isWhole_whole _) (Memref.whole main_v92) (Memref.isWhole_whole _) (Memref.whole main_v72) (Memref.isWhole_whole _) (spec0_0.stage ((cfg0 a).slots t 0)) (hstage0_0 (((cfg0 a).slots t 0).cast nbuf0_0)) (Memref.whole main_arg2) (Memref.isWhole_whole _) (spec0_1.stage ((cfg0 a).slots t 1)) (hstage0_1 (((cfg0 a).slots t 1).cast nbuf0_1)) (Memref.whole main_arg4) (Memref.isWhole_whole _) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _) cc0_scratch2

def bodyPre (hO : Ok m) (hS : SchedM m) (c : Dev nD) (t : Fin (cfgM m hO).N) : sProp (MM F) :=
  iprop((dats m hO hS 0 c).Φ t.castSucc ∗ (dats m hO hS 0 c).owesAt () t.castSucc
    ∗ (∃ d, owns (c : Thread nD τ) (spec0_0.stage ((cfgM m hO).slots t 0)) fullShare ((dats m hO hS 0 c).before 0 t d))
    ∗ (∃ d, owns (c : Thread nD τ) (spec0_1.stage ((cfgM m hO).slots t 1)) fullShare ((dats m hO hS 0 c).before 1 t d))
    ∗ (∃ d, owns (c : Thread nD τ) (spec0_2.stage ((cfgM m hO).slots t 2)) fullShare ((dats m hO hS 0 c).before 2 t d))
    ∗ (∃ d, owns (c : Thread nD τ) (spec0_3.stage ((cfgM m hO).slots t 3)) fullShare ((dats m hO hS 0 c).before 3 t d)))

def bodyPost (hO : Ok m) (hS : SchedM m) (c : Dev nD) (t : Fin (cfgM m hO).N) : sProp (MM F) :=
  iprop((dats m hO hS 0 c).Φ t.succ ∗ (dats m hO hS 0 c).owesAt () t.succ
    ∗ owns (c : Thread nD τ) (spec0_0.stage ((cfgM m hO).slots t 0)) fullShare ((dats m hO hS 0 c).after 0 t)
    ∗ owns (c : Thread nD τ) (spec0_1.stage ((cfgM m hO).slots t 1)) fullShare ((dats m hO hS 0 c).after 1 t)
    ∗ owns (c : Thread nD τ) (spec0_2.stage ((cfgM m hO).slots t 2)) fullShare ((dats m hO hS 0 c).after 2 t)
    ∗ (∃ d, owns (c : Thread nD τ) (spec0_3.stage ((cfgM m hO).slots t 3)) fullShare (stepN m hO hS c t.val ((dats m hO hS 0 c).before 3 t d))))

theorem tF_val (hO : Ok m) (t : Fin (cfgM m hO).N) : tF m hO t.val = t :=
  Fin.ext (Nat.mod_eq_of_lt (lt_N m hO t))

theorem stepN_at (hO : Ok m) (hS : SchedM m) (c : Dev nD) (t : Fin (cfgM m hO).N) (O) : stepN m hO hS c t.val O =
    stAll (tw8 m (pt t.val)) (tw3 m (pt t.val)) (tw4 m (pt t.val)) (chk7_at hS t.val) (iblk m hO c 0 t) (iblk m hO c 1 t) (iblk m hO c 2 t)
    (slabG (V m c main_arg2) (eF (tw2 m (pt t.val)))) (slabD (V m c main_arg4) (eF (tw2 m (pt t.val)))) (startOut (tw6 m (pt t.val)) O) := by
  unfold stepN
  rw [tF_val]

theorem phi_eq (hO : Ok m) (hS : SchedM m) (c : Dev nD) (k : Fin ((cfgM m hO).N + 1)) : (dats m hO hS 0 c).Φ k =
    iprop(SlotsAt (V m c main_arg2) (V m c main_arg4) (tw2 m) (tw7 m) (tw8 m) c k.val ∗ (∃ r, prngReg c r) ∗ Pipeline.ΦT pre0 (tbl m) c) := by
  dsimp only [dats]

theorem sound_body (hO : Ok m) (hS : SchedM m) (c : Dev nD) (t : Fin (cfgM m hO).N) :
    bodyPre m hO hS c t ⊢ wp frame (wpE (defs₀ (F := F)) Variants.none c none) Set.univ (bodyAt0 (adm m hO) t) (fun _ => bodyPost m hO hS c t) := by
  unfold bodyPre bodyPost bodyAt0
  simp only [before0_0, before0_1, before0_2]
  rw [after0_0, after0_1, after0_2, phi_eq, phi_eq, PhiT0_eq]
  rw [show t.succ.val = t.val + 1 from rfl, show t.castSucc.val = t.val from rfl]
  unfold Dat.owesAt Pipeline.owesWithin
  rw [show (dats m hO hS 0 c).owed t.castSucc = 0 from rfl, show (dats m hO hS 0 c).owed t.succ = 0 from rfl]
  iintro ⟨⟨HS, Hg, ⟨HT1, HT2, HT3, HT4, HT5, HT6, HT7, HT8⟩⟩, ⟨%W, -, HW⟩, ⟨%d0, H0⟩, ⟨%d1, H1⟩, ⟨%d2, H2⟩, ⟨%d3, H3⟩⟩
  iapply (item_run (tw1 m) (tw2 m) (tw3 m) (tw4 m) (tw5 m) (tw6 m) (tw7 m) (tw8 m) hS c (grid0.coords t) t.val (coord_eq m hO t)
    tb1 (Memref.isWhole_whole _) tb2 (Memref.isWhole_whole _) tb3 (Memref.isWhole_whole _) tb4 (Memref.isWhole_whole _)
    tb5 (Memref.isWhole_whole _) tb6 (Memref.isWhole_whole _) tb7 (Memref.isWhole_whole _) tb8 (Memref.isWhole_whole _)
    (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3))
    (V m c main_arg2) (V m c main_arg4) fullShare.right (iblk m hO c 0 t) (iblk m hO c 1 t) (iblk m hO c 2 t) ((dats m hO hS 0 c).before 3 t d3)
    (stepN m hO hS c t.val ((dats m hO hS 0 c).before 3 t d3)) (stepN_at m hO hS c t _) (wt := W)) $$ [HS HT2 HT3 HT4 HT5 HT6 HT7 HT8 H0 H1 H2 H3 HW]
  · isplitl [HS]; · iexact HS
    isplitl [HT2]; · iexact HT2
    isplitl [HT3]; · iexact HT3
    isplitl [HT4]; · iexact HT4
    isplitl [HT5]; · iexact HT5
    isplitl [HT6]; · iexact HT6
    isplitl [HT7]; · iexact HT7
    isplitl [HT8]; · iexact HT8
    isplitl [H0]; · iexact H0
    isplitl [H1]; · iexact H1
    isplitl [H2]; · iexact H2
    isplitl [H3]; · iexact H3
    iexact HW
  iintro ⟨HS, HT2, HT3, HT4, HT5, HT6, HT7, HT8, H0, H1, H2, H3, ⟨%W', HW'⟩⟩
  isplitl [HS Hg HT1 HT2 HT3 HT4 HT5 HT6 HT7 HT8]
  · isplitl [HS]; · iexact HS
    isplitl [Hg]; · iexact Hg
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    iexact HT8
  isplitl [HW']
  · iexists W'; isplitr; · ipureintro; exact fun _ _ => Or.inl trivial
    iexact HW'
  isplitl [H0]; · iexact H0
  isplitl [H1]; · iexact H1
  isplitl [H2]; · iexact H2
  iexists d3
  iexact H3

end Cert.Kernel2Ideal.Moe

end
-- ==== Proof.IMoeRun.lean ====
module

public import proofs.«01_k».proof.Proof.IMoeFrame

public import Idealize.ShloMosaic.Lib.Claim

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body obligation -/

theorem idle_close {D : Type} (b f : Bool) (Bf St : D → sProp (MM F)) (A : sProp (MM F)) (h1 : ∀ d, St d ⊢ A) (h2 : b = true → ∀ d, St d ⊢ Bf d) :
    iprop(∃ d, St d) ⊢ (match (generalizing := false) b with
      | true => (match f with
        | false => iprop(∃ d, Bf d)
        | true => A)
      | false => A) := by
  iintro ⟨%d, H⟩
  match b, h2 with
  | false, _ => iapply (h1 d); iexact H
  | true, h2 =>
    match f with
    | false => iexists d; iapply (h2 rfl d); iexact H
    | true => iapply (h1 d); iexact H

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem win3_post (hO : Ok m) (hS : SchedM m) (c : Dev nD) (t : Fin (cfgM m hO).N) :
    iprop(∃ d, owns (c : Thread nD τ) (spec0_3.stage ((cfgM m hO).slots t 3)) fullShare (stepN m hO hS c t.val ((dats m hO hS 0 c).before 3 t d)))
      ⊢ (match (cfgM m hO).idle 3 ((cfgM m hO).grid.coords t) with
      | true => (match ((cfgM m hO).win 3).flush t with
        | false => iprop(∃ d, owns (c : Thread nD τ) (spec0_3.stage ((cfgM m hO).slots t 3)) fullShare ((dats m hO hS 0 c).before 3 t d))
        | true => owns (c : Thread nD τ) (spec0_3.stage ((cfgM m hO).slots t 3)) fullShare ((dats m hO hS 0 c).after 3 t))
      | false => owns (c : Thread nD τ) (spec0_3.stage ((cfgM m hO).slots t 3)) fullShare ((dats m hO hS 0 c).after 3 t) : sProp (MM F)) := by
  refine idle_close (F := F) _ _ _ _ _ (fun d => ?_) (fun h d => ?_)
  · rw [step_before, after0_3]
  · exact Entails.of_eq (congrArg (fun X => owns (c : Thread nD τ) (spec0_3.stage ((cfgM m hO).slots t 3)) fullShare X) (idle_step m hO hS c t h _).2)

theorem post_close (hO : Ok m) (hS : SchedM m) (c : Dev nD) (t : Fin (cfgM m hO).N) :
    bodyPost (F := F) m hO hS c t ⊢ iprop((dats m hO hS 0 c).Φ t.succ ∗ (dats m hO hS 0 c).owesAt () t.succ
    ∗ owns (c : Thread nD τ) (spec0_0.stage ((cfgM m hO).slots t 0)) fullShare ((dats m hO hS 0 c).after 0 t)
    ∗ owns (c : Thread nD τ) (spec0_1.stage ((cfgM m hO).slots t 1)) fullShare ((dats m hO hS 0 c).after 1 t)
    ∗ owns (c : Thread nD τ) (spec0_2.stage ((cfgM m hO).slots t 2)) fullShare ((dats m hO hS 0 c).after 2 t)
    ∗ (match (cfgM m hO).idle 3 ((cfgM m hO).grid.coords t) with
      | true => (match ((cfgM m hO).win 3).flush t with
        | false => iprop(∃ d, owns (c : Thread nD τ) (spec0_3.stage ((cfgM m hO).slots t 3)) fullShare ((dats m hO hS 0 c).before 3 t d))
        | true => owns (c : Thread nD τ) (spec0_3.stage ((cfgM m hO).slots t 3)) fullShare ((dats m hO hS 0 c).after 3 t))
      | false => owns (c : Thread nD τ) (spec0_3.stage ((cfgM m hO).slots t 3)) fullShare ((dats m hO hS 0 c).after 3 t))) := by
  unfold bodyPost
  iintro ⟨HA, HB, H0, H1, H2, H3⟩
  isplitl [HA]; · iexact HA
  isplitl [HB]; · iexact HB
  isplitl [H0]; · iexact H0
  isplitl [H1]; · iexact H1
  isplitl [H2]; · iexact H2
  iapply (win3_post m hO hS c t)
  iexact H3

theorem body_obligation (hO : Ok m) (hS : SchedM m) (c : Dev nD) : BodyObligation (dats (F := F) m hO hS 0 c) (defs₀ (F := F)) Variants.none () Set.univ := fun t => by
  rw [bigSep_W0, bigSep_W0, defs₀_row m hO]
  exact triple_restated (sound_body m hO hS c t) rfl .rfl fun _ => post_close m hO hS c t

/-! ## The run and the frame -/

theorem phi_first (hO : Ok m) (hS : SchedM m) (c : Dev nD) : iprop(Pipeline.ΦD osem0 spec0 H0 (V m) c ∗ Pipeline.ΦT pre0 (tbl m) c) ⊢ (dats (F := F) m hO hS 0 c).Φ 0 := by
  rw [phi_eq]
  show _ ⊢ iprop(iprop(Idle c hbG hbD (V m c main_arg2) (V m c main_arg4) 0 ∗ Idle c hbG hbD (V m c main_arg2) (V m c main_arg4) 1) ∗ _)
  iintro ⟨HD, HT⟩
  ihave HD := (idle_split m c) $$ HD
  icases HD with ⟨Ha, Hb, Hr⟩
  isplitl [Ha Hb]
  · isplitl [Ha]; · iexact Ha
    iexact Hb
  isplitl [Hr]; · iexact Hr
  iexact HT

theorem phi_last (hO : Ok m) (hS : SchedM m) (c : Dev nD) : (dats m hO hS 0 c).Φ (Fin.last (cfgM m hO).N) ⊢ Pipeline.ΦD osem0 spec0 H0 (V m) c := by
  rw [phi_eq, show (Fin.last (cfgM m hO).N).val = 160 from N_eq m hO]
  iintro ⟨HS, Hr, -⟩
  ihave HS := (slots_out (V m c main_arg2) (V m c main_arg4) hS c) $$ HS
  icases HS with ⟨Ha, Hb⟩
  iapply (idle_join m c)
  isplitl [Ha]; · iexact Ha
  isplitl [Hb]; · iexact Hb
  iexact Hr

set_option backward.isDefEq.respectTransparency.types false in
theorem run_main (hO : Ok m) (hS : SchedM m) : θ_run defs (onTc (τ := τ) (main (F := F))) ⟨m, fun _ => 0, ρ⟩
    (fun r => (Pipeline.FramePost (Pipeline.pin pcfgs fun _ => adm m hO) (dats m hO hS) (0 : Fin 1) (V m)) r ∧ r.2.sem = fun _ => 0) :=
  Pipeline.θ_run_frameP_dma (Q' := _) pcfgs (fun _ => adm m hO) (dats m hO hS) (0 : Fin 1) launch0 osem0 defs₀ Variants.none ownSemFacts0 H0 H0_sub m ρ main
    (hbody := fun c => (body_obligation m hO hS c).loose) (hshare := fun c => (dats m hO hS 0 c).share_full fun _ => rfl)
    (howed := fun _ _ => rfl) (V := V m) (hmain := hmain m Variants.none) (hA := A_eq m hO hS) (hpf := V_pre m) (hin := phi_first m hO hS) (hout := phi_last m hO hS)

theorem run_args (hO : Ok m) (hS : SchedM m) : θ_run defs (onTc (τ := τ) (main (F := F))) ⟨m, fun _ => 0, ρ⟩
    (fun r => (∀ c : Dev nD, r.2.mem ((c.tc : Thread nD τ).loc main_v97) = (dats m hO hS 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ hh => ⟨fun c => by
    have h := hh.1
    exact ⟨(h c).1 3, ((h c).2 main_arg0 (by decide : main_arg0 ∈ Pipeline.restRefs sig spec0)).trans (V_main_arg0 m c),
      ((h c).1 0).trans (((dats m hO hS 0 c).arrAt_in 0 rfl _).trans ((A_eq m hO hS c 0).trans (V_main_arg1 m c))),
      ((h c).2 main_arg2 (by decide : main_arg2 ∈ Pipeline.restRefs sig spec0)).trans (V_main_arg2 m c), ((h c).2 main_arg3 (by decide : main_arg3 ∈ Pipeline.restRefs sig spec0)).trans (V_main_arg3 m c), ((h c).2 main_arg4 (by decide : main_arg4 ∈ Pipeline.restRefs sig spec0)).trans (V_main_arg4 m c), ((h c).2 main_arg5 (by decide : main_arg5 ∈ Pipeline.restRefs sig spec0)).trans (V_main_arg5 m c)⟩, hh.2⟩) (run_main m ρ hO hS)

theorem frame (hS : SchedM m) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => (h.1 c).2, h.2⟩) (run_args m ρ (ok_of m hS) hS)

end Cert.Kernel2Ideal.Moe

end
-- ==== Proof.IMoeTables.lean ====
module

public import proofs.«01_k».proof.Proof.IMoeRun
public import Idealize.ShloMosaic.Lib.StableHlo.RunRead
public import proofs.«01_k».proof.Proof.MoeTab

@[expose] public section

set_option maxRecDepth 16384

noncomputable section

namespace Cert.Kernel2Ideal.Moe

open Cert.Kernel2.Moe (tBlk tExp tLo tHi tNew tInit tNext tSlot tLive tPrev run160 b160)

open Cert.Kernel2Ideal Cert.Kernel2Ideal.Gen
open Idealize.ShloMosaic Idealize.ShloMosaic.TcCoe Idealize.ShloMosaic.StableHlo
open Idealize.ShloMosaic.Routing (pyDiv pyRem)

variable {F : FTy → Type} [FloatOps F]

/-! ## The buffers the call reads are those tables -/

variable (m : (ℓ : Loc nD τ sig) → Buf (Elt F) ℓ)

/-- The counts of core `c`. -/
abbrev cnts (c : Dev nD) : IVec S32 32 := m ((c : Thread nD τ).loc main_arg0)

set_option maxHeartbeats 400000 in
theorem V_tBlk (c : Dev nD) : V m c main_v42 = tBlk (cnts m c) := by
  unfold V stretches
  after_reads_simp
  simp only [TRef.ofBuf, TRef.toBuf, cast_eq]
  rfl

set_option maxHeartbeats 400000 in
theorem V_tExp (c : Dev nD) : V m c main_v28 = tExp (cnts m c) := by
  unfold V stretches
  after_reads_simp
  simp only [TRef.ofBuf, TRef.toBuf, cast_eq]
  rfl

set_option maxHeartbeats 400000 in
theorem V_tLo (c : Dev nD) : V m c main_v49 = tLo (cnts m c) := by
  unfold V stretches
  after_reads_simp
  simp only [TRef.ofBuf, TRef.toBuf, cast_eq]
  rfl

set_option maxHeartbeats 400000 in
theorem V_tHi (c : Dev nD) : V m c main_v57 = tHi (cnts m c) := by
  unfold V stretches
  after_reads_simp
  simp only [TRef.ofBuf, TRef.toBuf, cast_eq]
  rfl

set_option maxHeartbeats 400000 in
theorem V_tLive (c : Dev nD) : V m c main_v18 = tLive (cnts m c) := by
  unfold V stretches
  after_reads_simp
  simp only [TRef.ofBuf, TRef.toBuf, cast_eq]
  rfl

set_option maxHeartbeats 400000 in
theorem V_new (c : Dev nD) : V m c main_v93 = extui 32 (andi (V m c main_v18 : IVec S160 1) (cmpi .ne (V m c main_v28 : IVec S160 32) (tPrev (V m c main_v28)))) natLt_1_32 := by
  unfold V stretches tPrev
  after_reads_simp
  simp only [TRef.ofBuf, TRef.toBuf, cast_eq]
  rfl

theorem V_tNew (c : Dev nD) : V m c main_v93 = tNew (cnts m c) := by
  rw [V_new, V_tLive, V_tExp]
  rfl

set_option maxHeartbeats 400000 in
theorem V_init (c : Dev nD) : V m c main_v94 = extui 32 (andi (V m c main_v18 : IVec S160 1) (cmpi .ne (V m c main_v42 : IVec S160 32) (tPrev (V m c main_v42)))) natLt_1_32 := by
  unfold V stretches tPrev
  after_reads_simp
  simp only [TRef.ofBuf, TRef.toBuf, cast_eq]
  rfl

theorem V_tInit (c : Dev nD) : V m c main_v94 = tInit (cnts m c) := by
  rw [V_init, V_tLive, V_tBlk]
  rfl

set_option maxHeartbeats 400000 in
theorem V_tNext (c : Dev nD) : V m c main_v92 = tNext (cnts m c) := by
  unfold V stretches
  after_reads_simp
  simp only [TRef.ofBuf, TRef.toBuf, cast_eq]
  rfl

set_option maxHeartbeats 400000 in
theorem V_slot (c : Dev nD) : V m c main_v72 = pyRem bcast_S_S160 (subi (run160 (V m c main_v93 : IVec S160 32)) (b160 1#32)) (constantI S_ 32 2#32) := by
  unfold V stretches
  after_reads_simp
  simp only [TRef.ofBuf, TRef.toBuf, cast_eq]
  rfl

theorem V_tSlot (c : Dev nD) : V m c main_v72 = tSlot (cnts m c) := by
  rw [V_slot, V_tNew]
  rfl

end Cert.Kernel2Ideal.Moe
-- ==== Proof.IMoePre.lean ====
module

public import proofs.«01_k».proof.Proof.IMoeTables
public import proofs.«01_k».proof.Proof.MoeSchedOk

@[expose] public section

set_option maxRecDepth 16384

noncomputable section

namespace Cert.Kernel2Ideal.Moe

open Cert.Kernel2Ideal Cert.Kernel2Ideal.Gen Cert.MoeNat
open Cert.Kernel2.Moe (cC)
open Idealize.ShloMosaic Idealize.ShloMosaic.TcCoe

variable {F : FTy → Type} [FloatOps F]

/-- The tables the call reads are a schedule when the counts of the first core sum to the rows. -/
theorem schedM_of (m : (ℓ : Loc nD τ sig) → Buf (Elt F) ℓ) (hs : S (cC (cnts m 0)) 32 = 65536) : SchedM m := by
  have h := Cert.Kernel2.Moe.sched_of (cnts m 0) hs
  have h' : Sched (Cert.Kernel2.Moe.tBlk (cnts m 0)) (Cert.Kernel2.Moe.tExp (cnts m 0)) (Cert.Kernel2.Moe.tLo (cnts m 0)) (Cert.Kernel2.Moe.tHi (cnts m 0)) (Cert.Kernel2.Moe.tNew (cnts m 0))
      (Cert.Kernel2.Moe.tInit (cnts m 0)) (Cert.Kernel2.Moe.tNext (cnts m 0)) (Cert.Kernel2.Moe.tSlot (cnts m 0)) :=
    ⟨h.blk, h.exp, h.lo_hi, h.hi, h.slot, h.new0, h.init0, h.next, h.step_new, h.step_old, h.last, h.same⟩
  rw [← V_tBlk m 0, ← V_tExp m 0, ← V_tLo m 0, ← V_tHi m 0, ← V_tNew m 0, ← V_tInit m 0, ← V_tNext m 0, ← V_tSlot m 0] at h'
  exact h'

end Cert.Kernel2Ideal.Moe

end
-- ==== Proof.ValWin.lean ====
/-
  The blocks of the expert kernel's windows, read at one element of the arguments.
-/
module

public import proofs.«01_k».proof.Proof.IMoeRun
public import proofs.«01_k».proof.Proof.IMoePre
public import Idealize.ShloMosaic.Lib.Pointwise
public import Idealize.ShloMosaic.Lib.StableHlo.RunRead

@[expose] public section

set_option maxRecDepth 16384

noncomputable section

namespace Cert.MoeVal

open Idealize.ShloMosaic Idealize.ShloMosaic.TcCoe Idealize.ShloMosaic.StableHlo
open Cert.Kernel2Ideal Cert.Kernel2Ideal.Gen Cert.Kernel2Ideal.Moe

variable (m : (ℓ : Loc nD τ sig) → Buf (Elt Ideal) ℓ)

theorem ix3_congr (a b : BitVec 32) (h : a = b) : (![a.toNat, (0#32).toNat, (0#32).toNat] : Fin 3 → ℕ) = ![b.toNat, (0#32).toNat, (0#32).toNat] := by rw [h]

theorem index0 (hO : Ok m) (t : Fin (cfgM m hO).N) : ((cfgM m hO).win 0).index t = ![(tw1 m (pt t.val)).toNat, (0#32).toNat] := by
  have hc : (grid0.coords t 0).val = t.val := coord_eq m hO t
  refine ix_congr _ _ ?_
  refine (congrArg (tw1 m) (word_idx t.val (lt_N m hO t) _ ((coord_off (grid0.coords t)).trans hc) (k0_off1_inb (grid0.coords t)))).trans ?_
  rfl

theorem index1 (hO : Ok m) (t : Fin (cfgM m hO).N) : ((cfgM m hO).win 1).index t = ![(tw2 m (pt t.val)).toNat, (0#32).toNat, (0#32).toNat] := by
  have hc : (grid0.coords t 0).val = t.val := coord_eq m hO t
  refine ix3_congr _ _ ?_
  refine (congrArg (tw2 m) (word_idx t.val (lt_N m hO t) _ ((coord_off (grid0.coords t)).trans hc) (k0_off1_inb (grid0.coords t)))).trans ?_
  rfl

theorem index2 (hO : Ok m) (t : Fin (cfgM m hO).N) : ((cfgM m hO).win 2).index t = ![(tw2 m (pt t.val)).toNat, (0#32).toNat, (0#32).toNat] := by
  have hc : (grid0.coords t 0).val = t.val := coord_eq m hO t
  refine ix3_congr _ _ ?_
  refine (congrArg (tw2 m) (word_idx t.val (lt_N m hO t) _ ((coord_off (grid0.coords t)).trans hc) (k0_off1_inb (grid0.coords t)))).trans ?_
  rfl

theorem at0 (a b : ℕ) (v : Fin 2 → ℕ) (n i R : ℕ) (h : v = ![a, b]) (hR : a * n + i = R) : v 0 * n + 1 * i = R := by
  subst h
  show a * n + 1 * i = R
  omega

theorem at1 (a : ℕ) (v : Fin 2 → ℕ) (n i : ℕ) (h : v = ![a, 0]) : v 1 * n + 1 * i = i := by
  subst h
  show 0 * n + 1 * i = i
  omega

theorem at30 (a b d : ℕ) (v : Fin 3 → ℕ) (R : ℕ) (h : v = ![a, b, d]) (hR : a = R) : v 0 * 1 + 1 * 0 = R := by
  subst h
  show a * 1 + 1 * 0 = R
  omega

theorem at31 (a d : ℕ) (v : Fin 3 → ℕ) (h : v = ![a, 0, d]) : v 1 * 1 + 1 * 0 = 0 := by
  subst h
  rfl

theorem at32 (a b : ℕ) (v : Fin 3 → ℕ) (n i : ℕ) (h : v = ![a, b, 0]) : v 2 * n + 1 * i = i := by
  subst h
  show 0 * n + 1 * i = i
  omega

theorem read0 (hO : Ok m) (t : Fin (cfgM m hO).N) (G : S65536x512.Idx → BitVec 32) (i : Fin 512) (l : Fin 512) (R : Fin 65536)
    (hR : (tw1 m (pt t.val)).toNat * 512 + i.val = R.val) :
    (((cfgM m hO).win 0).blk t).view.read (Elt Ideal) G (ix2 i l) = G (ix2 R l) := by
  have h0 := at0 _ _ _ 512 i.val R.val (index0 m hO t) hR
  have h1 := at1 _ _ 512 l.val (index0 m hO t)
  refine congrArg G (funext fun a => Fin.ext ?_)
  match a with
  | ⟨0, _⟩ => exact h0
  | ⟨1, _⟩ => exact h1

theorem read3 (hO : Ok m) (t : Fin (cfgM m hO).N) (G : S65536x1024.Idx → EReal) (i : Fin 512) (l : Fin 1024) (R : Fin 65536)
    (hR : (tw1 m (pt t.val)).toNat * 512 + i.val = R.val) :
    (((cfgM m hO).win 3).blk t).view.read (Elt Ideal) G (ix2 i l) = G (ix2 R l) := by
  have h0 := at0 _ _ _ 512 i.val R.val (index3 m hO t) hR
  have h1 := at1 _ _ 1024 l.val (index3 m hO t)
  refine congrArg G (funext fun a => Fin.ext ?_)
  match a with
  | ⟨0, _⟩ => exact h0
  | ⟨1, _⟩ => exact h1

theorem read1 (hO : Ok m) (t : Fin (cfgM m hO).N) (G : S32x1x2048.Idx → EReal) (f : Fin 2048) (e : Fin 32) (he : (tw2 m (pt t.val)).toNat = e.val) :
    (((cfgM m hO).win 1).blk t).view.read (Elt Ideal) G (ix3 0 0 f) = G (ix3 e 0 f) := by
  have h0 := at30 _ _ _ _ e.val (index1 m hO t) he
  have h1 := at31 _ _ _ (index1 m hO t)
  have h2 := at32 _ _ _ 2048 f.val (index1 m hO t)
  refine congrArg G (funext fun a => Fin.ext ?_)
  match a with
  | ⟨0, _⟩ => exact h0
  | ⟨1, _⟩ => exact h1
  | ⟨2, _⟩ => exact h2

theorem read2 (hO : Ok m) (t : Fin (cfgM m hO).N) (G : S32x1x1024.Idx → EReal) (f : Fin 1024) (e : Fin 32) (he : (tw2 m (pt t.val)).toNat = e.val) :
    (((cfgM m hO).win 2).blk t).view.read (Elt Ideal) G (ix3 0 0 f) = G (ix3 e 0 f) := by
  have h0 := at30 _ _ _ _ e.val (index2 m hO t) he
  have h1 := at31 _ _ _ (index2 m hO t)
  have h2 := at32 _ _ _ 1024 f.val (index2 m hO t)
  refine congrArg G (funext fun a => Fin.ext ?_)
  match a with
  | ⟨0, _⟩ => exact h0
  | ⟨1, _⟩ => exact h1
  | ⟨2, _⟩ => exact h2

theorem mem3 (hO : Ok m) (t : Fin (cfgM m hO).N) (R : Fin 65536) (d : Fin 1024) (i : Fin 512) (hR : (tw1 m (pt t.val)).toNat * 512 + i.val = R.val) :
    (ix2 R d : S65536x1024.Idx) ∈ (((cfgM m hO).win 3).blk t).view.set := by
  have h0 := at0 _ _ _ 512 i.val R.val (index3 m hO t) hR
  have h1 := at1 _ _ 1024 d.val (index3 m hO t)
  have h : (((cfgM m hO).win 3).blk t).view.emb (ix2 i d) = (ix2 R d : S65536x1024.Idx) := by
    refine funext fun a => Fin.ext ?_
    match a with
    | ⟨0, _⟩ => exact h0
    | ⟨1, _⟩ => exact h1
  exact h ▸ (((cfgM m hO).win 3).blk t).view.emb_mem_set (ix2 i d)

set_option maxHeartbeats 400000 in
theorem V_bg (c : Dev nD) : V m c main_v95 = broadcastInDim S32x1x2048 ![0, 2] bcast_S32x2048_S32x1x2048_0_2 (m ((c : Thread nD τ).loc main_arg3) : (⟨S32x2048, .f32⟩ : BufTy).Contents (Elt Ideal)) := by
  unfold V stretches
  after_reads_simp

set_option maxHeartbeats 400000 in
theorem V_bd (c : Dev nD) : V m c main_v96 = broadcastInDim S32x1x1024 ![0, 2] bcast_S32x1024_S32x1x1024_0_2 (m ((c : Thread nD τ).loc main_arg5) : (⟨S32x1024, .f32⟩ : BufTy).Contents (Elt Ideal)) := by
  unfold V stretches
  after_reads_simp

theorem spread_bg (y : S32x2048.Idx → EReal) (e : Fin 32) (f : Fin 2048) :
    (broadcastInDim S32x1x2048 ![0, 2] bcast_S32x2048_S32x1x2048_0_2 y : S32x1x2048.Idx → EReal) (ix3 e 0 f) = y (ix2 e f) := by
  pointwise

theorem spread_bd (y : S32x1024.Idx → EReal) (e : Fin 32) (f : Fin 1024) :
    (broadcastInDim S32x1x1024 ![0, 2] bcast_S32x1024_S32x1x1024_0_2 y : S32x1x1024.Idx → EReal) (ix3 e 0 f) = y (ix2 e f) := by
  pointwise

end Cert.MoeVal
-- ==== Proof.Combine.lean ====
/-
  The combine call at the ideal instance: its result is the weighted sum of the four expert outputs of each of the
  first 2048 tokens, gated, added to the residual stream and normalized; the rows past them are the argument's.
-/
module

public import proofs.«01_k».proof.Defs
public import proofs.«01_k».proof.Proof.Gen.KernelIdeal.Value
public import proofs.«01_k».proof.Proof.Gen.ReferenceIdeal.Read
public import Idealize.ShloMosaic.Lib.Pointwise
public import Idealize.ShloMosaic.Lib.Quiescent

@[expose] public section

noncomputable section

namespace Cert.Combine

open Idealize.ShloMosaic Idealize.ShloMosaic.TcCoe Idealize.SL.Sem
open Cert.KernelIdeal Cert.KernelIdeal.Gen

/-- The two IEEE layouts with an eight-bit exponent: a 32-bit pattern whose low half is zero denotes what its high
    half denotes as a sixteen-bit pattern. -/
theorem ieee_widen (b : BitVec 16) (c : BitVec 32) (h : c.toNat = b.toNat * 65536) :
    Ideal.ieee 8 23 c = Ideal.ieee 8 7 b := by
  have hb := b.isLt
  have e1 : c.extractLsb' (8 + 23) 1 = b.extractLsb' (8 + 7) 1 := by
    apply BitVec.eq_of_toNat_eq
    simp only [BitVec.extractLsb'_toNat, h, Nat.shiftRight_eq_div_pow]
    omega
  have e2 : (c.extractLsb' 23 8).toNat = (b.extractLsb' 7 8).toNat := by
    simp only [BitVec.extractLsb'_toNat, h, Nat.shiftRight_eq_div_pow]
    omega
  have e3 : (c.extractLsb' 0 23).toNat = (b.extractLsb' 0 7).toNat * 65536 := by
    simp only [BitVec.extractLsb'_toNat, h, Nat.shiftRight_eq_div_pow]
    omega
  unfold Ideal.ieee
  simp only [e1, e2, e3]
  generalize (b.extractLsb' 0 7).toNat = f
  generalize (b.extractLsb' 7 8).toNat = e
  have hz : f * 65536 = 0 ↔ f = 0 := by omega
  have p1 : ((2 : ℝ) ^ (1 - (2 ^ (8 - 1) - 1) - (7 : ℕ) : ℤ)) = 65536 * (2 : ℝ) ^ (1 - (2 ^ (8 - 1) - 1) - (23 : ℕ) : ℤ) := by
    have : (65536 : ℝ) = (2 : ℝ) ^ (16 : ℤ) := by norm_num
    rw [this, ← zpow_add₀ (by norm_num)]; norm_num
  have p2 : ((2 : ℝ) ^ ((e : ℤ) - (2 ^ (8 - 1) - 1) - (7 : ℕ) : ℤ)) = 65536 * (2 : ℝ) ^ ((e : ℤ) - (2 ^ (8 - 1) - 1) - (23 : ℕ) : ℤ) := by
    have : (65536 : ℝ) = (2 : ℝ) ^ (16 : ℤ) := by norm_num
    rw [this, ← zpow_add₀ (by norm_num)]; congr 1; push_cast; ring
  simp only [hz]
  split
  · rfl
  split
  · congr 1
    rw [p1]; push_cast; ring
  · congr 1
    rw [p2]; push_cast; ring

/-- The low half of a packed word, as a word shifted up. -/
theorem low_half (w : BitVec 32) :
    Ideal.ofBits .f32 (w <<< 16) = Ideal.ofBits .bf16 (w.extractLsb' 0 16) := by
  refine ieee_widen _ _ ?_
  simp only [BitVec.toNat_shiftLeft, BitVec.extractLsb'_toNat, Nat.shiftLeft_eq, Nat.shiftRight_eq_div_pow]
  omega

/-- The high half of a packed word, as the word with the low half cleared. -/
theorem high_half (w : BitVec 32) :
    Ideal.ofBits .f32 (w &&& 4294901760#32) = Ideal.ofBits .bf16 (w.extractLsb' 16 16) := by
  refine ieee_widen _ _ ?_
  have : w &&& 4294901760#32 = (w >>> 16) <<< 16 := by
    refine BitVec.eq_of_getLsbD_eq fun i hi => ?_
    simp only [BitVec.getLsbD_and, BitVec.getLsbD_shiftLeft, BitVec.getLsbD_ushiftRight]
    interval_cases i <;> simp
  rw [this]
  simp only [BitVec.toNat_shiftLeft, BitVec.toNat_ushiftRight, BitVec.extractLsb'_toNat, Nat.shiftLeft_eq, Nat.shiftRight_eq_div_pow]
  omega

/-- One column of an expert output read from its packed words: the first half of the columns lies in the low halves. -/
def col (w : Fin 512 → BitVec 32) (j : Fin 1024) : EReal :=
  if h : j.val < 512 then Ideal.ofBits .bf16 ((w ⟨j.val, h⟩).extractLsb' 0 16)
  else Ideal.ofBits .bf16 ((w ⟨j.val - 512, by omega⟩).extractLsb' 16 16)

theorem pay2_apply (v0 : Vec Ideal S8x512 .f32) (v5 v12 v20 v28 : Vec Ideal S512x512 .i32) (v35 : Vec Ideal S1x6x1024 .f32) (v37 : Vec Ideal S512x1024 .f32)
    (i : Fin 512) (j : Fin 1024) :
    k0_pay2 v0 v5 v12 v20 v28 v35 v37 (ix2 i j) = v37 (ix2 i j) + v35 (ix3 0 5 j) *
      ((((v0 (ix2 0 i) * col (fun l => v5 (ix2 i l)) j) + v0 (ix2 1 i) * col (fun l => v12 (ix2 i l)) j)
        + v0 (ix2 2 i) * col (fun l => v20 (ix2 i l)) j) + v0 (ix2 3 i) * col (fun l => v28 (ix2 i l)) j) := by
  unfold_payloads
  pointwise
  rfl

/-- The residual stream after the expert sum, as a function of the arguments. -/
def mixed (yg : S8192x512.Idx → BitVec 32) (x1 : S16384x1024.Idx → EReal) (g : S8x16384.Idx → EReal) (md : S4x6x1024.Idx → EReal)
    (r : Fin 2048) (j : Fin 1024) : EReal :=
  x1 (ix2 (r.castLE (by decide)) j) + md (ix3 0 5 j) *
    ∑ k : Fin 4, g (ix2 (k.castLE (by decide)) (r.castLE (by decide))) * col (fun l => yg (ix2 ⟨k.val * 2048 + r.val, by omega⟩ l)) j

/-- The whole result. -/
def result (yg : S8192x512.Idx → BitVec 32) (x1 : S16384x1024.Idx → EReal) (g : S8x16384.Idx → EReal) (md : S4x6x1024.Idx → EReal)
    (fg : S1x1024.Idx → EReal) (i : Fin 16384) (j : Fin 1024) : EReal :=
  if h : i.val < 2048 then
    mixed yg x1 g md ⟨i.val, h⟩ j
      * Ideal.rsqrt (Ideal.div (∑ k : Fin 1024, mixed yg x1 g md ⟨i.val, h⟩ k * mixed yg x1 g md ⟨i.val, h⟩ k)
          (Ideal.ofBits .f32 0x44800000#32) + Ideal.ofBits .f32 0x358637BD#32)
      * fg (ix2 0 j)
  else x1 (ix2 i j)

section
open Cert.ReferenceIdeal.Read

theorem ref_col (x0 : S8192x512.Idx → BitVec 32) (k : Fin 4) (r : Fin 2048) (j : Fin 1024) :
    val_main_v7 (F := Ideal) x0 (ix3 k r j) = col (fun l => x0 (ix2 ⟨k.val * 2048 + r.val, by omega⟩ l)) j := by
  unfold col
  simp only [← low_half, ← high_half]
  pointwise [val_main_v0, val_main_c, val_main_v1, val_main_v2, val_main_v3, val_main_c_0, val_main_v4, val_main_v5, val_main_v6, val_main_v7]
  rfl

theorem ref_mixed (x0 : S8192x512.Idx → BitVec 32) (x1 : S16384x1024.Idx → EReal) (x2 : S8x16384.Idx → EReal) (x3 : S4x6x1024.Idx → EReal)
    (r : Fin 2048) (j : Fin 1024) :
    val_main_v19 (F := Ideal) x0 x1 x2 x3 (ix2 r j) = mixed x0 x1 x2 x3 r j := by
  unfold mixed
  pointwise [ref_col, val_main_v8, val_main_v9, val_main_v10, val_main_v11, val_main_cst, val_main_v12, val_main_v13, val_main_v14, val_main_v15, val_main_v16, val_main_v17, val_main_v18, val_main_v19]
  rfl

theorem ref_apply (x0 : S8192x512.Idx → BitVec 32) (x1 : S16384x1024.Idx → EReal) (x2 : S8x16384.Idx → EReal) (x3 : S4x6x1024.Idx → EReal)
    (x4 : S1x1024.Idx → EReal) (i : Fin 16384) (j : Fin 1024) :
    val_main_v33 (F := Ideal) x0 x1 x2 x3 x4 (ix2 i j) = result x0 x1 x2 x3 x4 i j := by
  unfold result
  pointwise [ref_mixed, val_main_v20, val_main_cst_1, val_main_v21, val_main_v22, val_main_cst_2, val_main_v23, val_main_v24, val_main_cst_3, val_main_v25, val_main_v26, val_main_v27, val_main_v28, val_main_v29, val_main_v30, val_main_v31, val_main_v32, val_main_v33]
  split
  · rfl
  · refine congrArg x1 (congrArg (ix2 · j) (Fin.ext ?_))
    show 2048 + (i.val - 2048) = i.val
    omega

end

variable (m : (ℓ : Loc nD τ sig) → Buf (Elt Ideal) ℓ) (ρ : Dev nD → PrngReg)

theorem idx_facts : ∀ t : Fin cfg0.N, win0_0.index t 0 = t.val ∧ win0_0.index t 1 = 0 ∧ win0_1.index t 0 = 4 + t.val ∧ win0_1.index t 1 = 0
    ∧ win0_2.index t 0 = 8 + t.val ∧ win0_2.index t 1 = 0 ∧ win0_3.index t 0 = 12 + t.val ∧ win0_3.index t 1 = 0
    ∧ win0_4.index t 0 = t.val ∧ win0_4.index t 1 = 0 ∧ win0_5.index t 0 = 0 ∧ win0_5.index t 1 = t.val
    ∧ win0_6.index t 0 = 0 ∧ win0_6.index t 1 = 0 ∧ win0_6.index t 2 = 0 ∧ win0_7.index t 0 = 0 ∧ win0_7.index t 1 = 0
    ∧ win0_8.index t 0 = t.val ∧ win0_8.index t 1 = 0 ∧ t.val < 4 :=
  (by decide +kernel : ∀ t : Fin grid0.N, win0_0.index t 0 = t.val ∧ win0_0.index t 1 = 0 ∧ win0_1.index t 0 = 4 + t.val ∧ win0_1.index t 1 = 0
    ∧ win0_2.index t 0 = 8 + t.val ∧ win0_2.index t 1 = 0 ∧ win0_3.index t 0 = 12 + t.val ∧ win0_3.index t 1 = 0
    ∧ win0_4.index t 0 = t.val ∧ win0_4.index t 1 = 0 ∧ win0_5.index t 0 = 0 ∧ win0_5.index t 1 = t.val
    ∧ win0_6.index t 0 = 0 ∧ win0_6.index t 1 = 0 ∧ win0_6.index t 2 = 0 ∧ win0_7.index t 0 = 0 ∧ win0_7.index t 1 = 0
    ∧ win0_8.index t 0 = t.val ∧ win0_8.index t 1 = 0 ∧ t.val < 4)

theorem blk0 (c : Dev nD) (t : Fin cfg0.N) (i : Fin 512) (j : Fin 512) (p : S8192x512.Idx) (h0 : (p 0).val = 0 * 2048 + (t.val * 512 + i.val)) (h1 : (p 1).val = j.val) :
    iblk m c 0 t (ix2 i j) = m ((c : Thread nD τ).loc main_arg0) p := by
  obtain ⟨a00, a01, a10, a11, a20, a21, a30, a31, a40, a41, a50, a51, a60, a61, a62, a70, a71, a80, a81, ht⟩ := idx_facts t
  unfold iblk
  refine (congrFun (V_main_arg0 m c) _).trans (congrArg _ (funext fun a => Fin.ext ?_))
  match a with
  | ⟨0, _⟩ =>
    show win0_0.index t 0 * 512 + 1 * i.val = (p 0).val
    rw [a00, h0]; omega
  | ⟨1, _⟩ =>
    show win0_0.index t 1 * 512 + 1 * j.val = (p 1).val
    rw [a01, h1]; omega

theorem blk1 (c : Dev nD) (t : Fin cfg0.N) (i : Fin 512) (j : Fin 512) (p : S8192x512.Idx) (h0 : (p 0).val = 1 * 2048 + (t.val * 512 + i.val)) (h1 : (p 1).val = j.val) :
    iblk m c 1 t (ix2 i j) = m ((c : Thread nD τ).loc main_arg0) p := by
  obtain ⟨a00, a01, a10, a11, a20, a21, a30, a31, a40, a41, a50, a51, a60, a61, a62, a70, a71, a80, a81, ht⟩ := idx_facts t
  unfold iblk
  refine (congrFun (V_main_arg0 m c) _).trans (congrArg _ (funext fun a => Fin.ext ?_))
  match a with
  | ⟨0, _⟩ =>
    show win0_1.index t 0 * 512 + 1 * i.val = (p 0).val
    rw [a10, h0]; omega
  | ⟨1, _⟩ =>
    show win0_1.index t 1 * 512 + 1 * j.val = (p 1).val
    rw [a11, h1]; omega

theorem blk2 (c : Dev nD) (t : Fin cfg0.N) (i : Fin 512) (j : Fin 512) (p : S8192x512.Idx) (h0 : (p 0).val = 2 * 2048 + (t.val * 512 + i.val)) (h1 : (p 1).val = j.val) :
    iblk m c 2 t (ix2 i j) = m ((c : Thread nD τ).loc main_arg0) p := by
  obtain ⟨a00, a01, a10, a11, a20, a21, a30, a31, a40, a41, a50, a51, a60, a61, a62, a70, a71, a80, a81, ht⟩ := idx_facts t
  unfold iblk
  refine (congrFun (V_main_arg0 m c) _).trans (congrArg _ (funext fun a => Fin.ext ?_))
  match a with
  | ⟨0, _⟩ =>
    show win0_2.index t 0 * 512 + 1 * i.val = (p 0).val
    rw [a20, h0]; omega
  | ⟨1, _⟩ =>
    show win0_2.index t 1 * 512 + 1 * j.val = (p 1).val
    rw [a21, h1]; omega

theorem blk3 (c : Dev nD) (t : Fin cfg0.N) (i : Fin 512) (j : Fin 512) (p : S8192x512.Idx) (h0 : (p 0).val = 3 * 2048 + (t.val * 512 + i.val)) (h1 : (p 1).val = j.val) :
    iblk m c 3 t (ix2 i j) = m ((c : Thread nD τ).loc main_arg0) p := by
  obtain ⟨a00, a01, a10, a11, a20, a21, a30, a31, a40, a41, a50, a51, a60, a61, a62, a70, a71, a80, a81, ht⟩ := idx_facts t
  unfold iblk
  refine (congrFun (V_main_arg0 m c) _).trans (congrArg _ (funext fun a => Fin.ext ?_))
  match a with
  | ⟨0, _⟩ =>
    show win0_3.index t 0 * 512 + 1 * i.val = (p 0).val
    rw [a30, h0]; omega
  | ⟨1, _⟩ =>
    show win0_3.index t 1 * 512 + 1 * j.val = (p 1).val
    rw [a31, h1]; omega

theorem blk4 (c : Dev nD) (t : Fin cfg0.N) (i : Fin 512) (j : Fin 1024) (p : S16384x1024.Idx) (h0 : (p 0).val = t.val * 512 + i.val) (h1 : (p 1).val = j.val) :
    iblk m c 4 t (ix2 i j) = m ((c : Thread nD τ).loc main_arg1) p := by
  obtain ⟨a00, a01, a10, a11, a20, a21, a30, a31, a40, a41, a50, a51, a60, a61, a62, a70, a71, a80, a81, ht⟩ := idx_facts t
  unfold iblk
  refine (congrFun (V_main_arg1 m c) _).trans (congrArg _ (funext fun a => Fin.ext ?_))
  match a with
  | ⟨0, _⟩ =>
    show win0_4.index t 0 * 512 + 1 * i.val = (p 0).val
    rw [a40, h0]; omega
  | ⟨1, _⟩ =>
    show win0_4.index t 1 * 1024 + 1 * j.val = (p 1).val
    rw [a41, h1]; omega

theorem blk5 (c : Dev nD) (t : Fin cfg0.N) (i : Fin 8) (j : Fin 512) (p : S8x16384.Idx) (h0 : (p 0).val = i.val) (h1 : (p 1).val = t.val * 512 + j.val) :
    iblk m c 5 t (ix2 i j) = m ((c : Thread nD τ).loc main_arg2) p := by
  obtain ⟨a00, a01, a10, a11, a20, a21, a30, a31, a40, a41, a50, a51, a60, a61, a62, a70, a71, a80, a81, ht⟩ := idx_facts t
  unfold iblk
  refine (congrFun (V_main_arg2 m c) _).trans (congrArg _ (funext fun a => Fin.ext ?_))
  match a with
  | ⟨0, _⟩ =>
    show win0_5.index t 0 * 8 + 1 * i.val = (p 0).val
    rw [a50, h0]; omega
  | ⟨1, _⟩ =>
    show win0_5.index t 1 * 512 + 1 * j.val = (p 1).val
    rw [a51, h1]; omega

theorem blk7 (c : Dev nD) (t : Fin cfg0.N) (i : Fin 1) (j : Fin 1024) (p : S1x1024.Idx) (h0 : (p 0).val = i.val) (h1 : (p 1).val = j.val) :
    iblk m c 7 t (ix2 i j) = m ((c : Thread nD τ).loc main_arg4) p := by
  obtain ⟨a00, a01, a10, a11, a20, a21, a30, a31, a40, a41, a50, a51, a60, a61, a62, a70, a71, a80, a81, ht⟩ := idx_facts t
  unfold iblk
  refine (congrFun (V_main_arg4 m c) _).trans (congrArg _ (funext fun a => Fin.ext ?_))
  match a with
  | ⟨0, _⟩ =>
    show win0_7.index t 0 * 1 + 1 * i.val = (p 0).val
    rw [a70, h0]; omega
  | ⟨1, _⟩ =>
    show win0_7.index t 1 * 1024 + 1 * j.val = (p 1).val
    rw [a71, h1]; omega

theorem blk6 (c : Dev nD) (t : Fin cfg0.N) (i : Fin 6) (j : Fin 1024) :
    iblk m c 6 t (ix3 (0 : Fin 1) i j) = m ((c : Thread nD τ).loc main_arg3) (ix3 (0 : Fin 4) i j) := by
  obtain ⟨a00, a01, a10, a11, a20, a21, a30, a31, a40, a41, a50, a51, a60, a61, a62, a70, a71, a80, a81, ht⟩ := idx_facts t
  unfold iblk
  refine (congrFun (V_main_arg3 m c) _).trans (congrArg _ (funext fun a => Fin.ext ?_))
  match a with
  | ⟨0, _⟩ => show win0_6.index t 0 * 1 + 1 * 0 = 0; rw [a60]
  | ⟨1, _⟩ => show win0_6.index t 1 * 6 + 1 * i.val = i.val; rw [a61]; omega
  | ⟨2, _⟩ => show win0_6.index t 2 * 1024 + 1 * j.val = j.val; rw [a62]; omega

/-- The result of the run. -/
def G (c : Dev nD) : Buf (Elt Ideal) ((c : Thread nD τ).loc main_v0) := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The block's residual stream is the result's at the token. -/
theorem mixed_blk (c : Dev nD) (t : Fin cfg0.N) (i : Fin 512) (j : Fin 1024) (r : Fin 2048) (hr : r.val = t.val * 512 + i.val) :
    k0_pay2 (F := Ideal) (iblk m c 5 t) (iblk m c 0 t) (iblk m c 1 t) (iblk m c 2 t) (iblk m c 3 t) (iblk m c 6 t) (iblk m c 4 t) (ix2 i j)
      = mixed (m ((c : Thread nD τ).loc main_arg0)) (m ((c : Thread nD τ).loc main_arg1)) (m ((c : Thread nD τ).loc main_arg2))
          (m ((c : Thread nD τ).loc main_arg3)) r j := by
  rw [pay2_apply]
  unfold mixed
  rw [blk4 m c t i j (ix2 (r.castLE (by decide)) j) hr rfl, blk6 m c t 5 j, Fin.sum_univ_four,
    blk5 m c t 0 i (ix2 0 (r.castLE (by decide))) rfl hr, blk5 m c t 1 i (ix2 1 (r.castLE (by decide))) rfl hr,
    blk5 m c t 2 i (ix2 2 (r.castLE (by decide))) rfl hr, blk5 m c t 3 i (ix2 3 (r.castLE (by decide))) rfl hr]
  have e0 : (fun l => iblk m c 0 t (ix2 i l)) = fun l => m ((c : Thread nD τ).loc main_arg0) (ix2 ⟨(0 : Fin 4).val * 2048 + r.val, by have := r.isLt; omega⟩ l) :=
    funext fun l => blk0 m c t i l _ (by rw [← hr]; rfl) rfl
  have e1 : (fun l => iblk m c 1 t (ix2 i l)) = fun l => m ((c : Thread nD τ).loc main_arg0) (ix2 ⟨(1 : Fin 4).val * 2048 + r.val, by have := r.isLt; show 1 * 2048 + r.val < 8192; omega⟩ l) :=
    funext fun l => blk1 m c t i l _ (by rw [← hr]; rfl) rfl
  have e2 : (fun l => iblk m c 2 t (ix2 i l)) = fun l => m ((c : Thread nD τ).loc main_arg0) (ix2 ⟨(2 : Fin 4).val * 2048 + r.val, by have := r.isLt; show 2 * 2048 + r.val < 8192; omega⟩ l) :=
    funext fun l => blk2 m c t i l _ (by rw [← hr]; rfl) rfl
  have e3 : (fun l => iblk m c 3 t (ix2 i l)) = fun l => m ((c : Thread nD τ).loc main_arg0) (ix2 ⟨(3 : Fin 4).val * 2048 + r.val, by have := r.isLt; show 3 * 2048 + r.val < 8192; omega⟩ l) :=
    funext fun l => blk3 m c t i l _ (by rw [← hr]; rfl) rfl
  rw [e0, e1, e2, e3]
  rfl

theorem ld0 (X : Vec Ideal S8x512 .f32) : View.ld X r0_0 = X := View.ld_unit_zero (S := S8x512) hz2 _ X
theorem ld1 (X : Vec Ideal S512x512 .i32) : View.ld X r0_1 = X := View.ld_unit_zero (S := S512x512) hz2 _ X
theorem ld2 (X : Vec Ideal S1x6x1024 .f32) : View.ld X r0_2 = X := View.ld_unit_zero (S := S1x6x1024) hz3 _ X
theorem ld3 (X : Vec Ideal S512x1024 .f32) : View.ld X r0_3 = X := View.ld_unit_zero (S := S512x1024) hz2 _ X
theorem ld4 (X : Vec Ideal S1x1024 .f32) : View.ld X r0_4 = X := View.ld_unit_zero (S := S1x1024) hz2 _ X

theorem canon3 (X : Vec Ideal S512x1024 .f32) : View.canon [(⟨r0_3, X⟩ : View.Piece (Elt Ideal) S512x1024 .f32)] = X :=
  View.canon_unit_zero (S := S512x1024) hz2 _ X

theorem result_lt (yg : S8192x512.Idx → BitVec 32) (x1 : S16384x1024.Idx → EReal) (g : S8x16384.Idx → EReal) (md : S4x6x1024.Idx → EReal)
    (fg : S1x1024.Idx → EReal) (r : Fin 2048) (j : Fin 1024) :
    result yg x1 g md fg (r.castLE (by decide)) j = mixed yg x1 g md r j
      * Ideal.rsqrt (Ideal.div (∑ k : Fin 1024, mixed yg x1 g md r k * mixed yg x1 g md r k)
          (Ideal.ofBits .f32 0x44800000#32) + Ideal.ofBits .f32 0x358637BD#32) * fg (ix2 0 j) := by
  unfold result
  rw [dif_pos (show (r.castLE (by decide) : Fin 16384).val < 2048 from r.isLt)]
  rfl

theorem kernel_apply (v0 : Vec Ideal S8x512 .f32) (v5 v12 v20 v28 : Vec Ideal S512x512 .i32) (v35 : Vec Ideal S1x6x1024 .f32) (v37 : Vec Ideal S512x1024 .f32)
    (v52 : Vec Ideal S1x1024 .f32) (i : Fin 512) (j : Fin 1024) :
    k0_pay1 (k0_pay2 v0 v5 v12 v20 v28 v35 v37) (k0_pay3 v0 v5 v12 v20 v28 v35 v37) v52 (ix2 i j)
      = k0_pay2 v0 v5 v12 v20 v28 v35 v37 (ix2 i j)
        * Ideal.rsqrt (Ideal.div (∑ k : Fin 1024, k0_pay2 v0 v5 v12 v20 v28 v35 v37 (ix2 i k) * k0_pay2 v0 v5 v12 v20 v28 v35 v37 (ix2 i k))
          (Ideal.ofBits .f32 0x44800000#32) + Ideal.ofBits .f32 0x358637BD#32) * v52 (ix2 0 j) := by
  unfold k0_pay1 k0_pay3
  generalize k0_pay2 v0 v5 v12 v20 v28 v35 v37 = u
  pointwise

theorem out_apply (c : Dev nD) (t : Fin cfg0.N) (i : Fin 512) (j : Fin 1024) (r : Fin 2048) (hr : r.val = t.val * 512 + i.val) :
    out0_8 (F := Ideal) (iblk m c 0 t) (iblk m c 1 t) (iblk m c 2 t) (iblk m c 3 t) (iblk m c 4 t) (iblk m c 5 t) (iblk m c 6 t) (iblk m c 7 t) (ix2 i j)
      = G m c (ix2 (r.castLE (by decide)) j) := by
  unfold out0_8
  rw [ld0, ld1, ld1, ld1, ld1, ld2, ld3, ld4, canon3]
  refine (kernel_apply _ _ _ _ _ _ _ _ i j).trans ?_
  rw [mixed_blk m c t i j r hr, Finset.sum_congr rfl fun k _ => by rw [mixed_blk m c t i k r hr],
    blk7 m c t 0 j (ix2 0 j) rfl rfl]
  exact (result_lt _ _ _ _ _ r j).symm

theorem flushed_eq (c : Dev nD) (t : Fin cfg0.N) : (dats m 0 c).flushed 8 t = ((cfg0.win 8).blk t).view.read (Elt Ideal) (G m c) := by
  rw [Cert.KernelIdeal.Value.flushed8]
  funext x
  obtain ⟨a00, a01, a10, a11, a20, a21, a30, a31, a40, a41, a50, a51, a60, a61, a62, a70, a71, a80, a81, ht⟩ := idx_facts t
  have h0 : (x 0).val < 512 := (x 0).isLt
  have h1 : (x 1).val < 1024 := (x 1).isLt
  have e : ix2 (⟨(x 0).val, h0⟩ : Fin 512) (⟨(x 1).val, h1⟩ : Fin 1024) = x := funext fun a => by
    match a with
    | ⟨0, _⟩ => rfl
    | ⟨1, _⟩ => rfl
  have h := out_apply m c t ⟨(x 0).val, h0⟩ ⟨(x 1).val, h1⟩ ⟨t.val * 512 + (x 0).val, by omega⟩ rfl
  rw [e] at h
  refine h.trans (congrArg (G m c) (funext fun a => Fin.ext ?_))
  match a with
  | ⟨0, _⟩ =>
    show t.val * 512 + (x 0).val = win0_8.index t 0 * 512 + 1 * (x 0).val
    rw [a80]; omega
  | ⟨1, _⟩ =>
    show (x 1).val = win0_8.index t 1 * 1024 + 1 * (x 1).val
    rw [a81]; omega

theorem mem_blk (t : Fin cfg0.N) (i : S16384x1024.Idx) :
    i ∈ ((cfg0.win 8).blk t).view.set ↔ t.val * 512 ≤ (i 0).val ∧ (i 0).val < t.val * 512 + 512 := by
  show i ∈ ((View.whole main_v0).slice (win0_8.rect t)).set ↔ _
  rw [View.set_slice_whole, Rect.mem_set_unit]
  obtain ⟨a00, a01, a10, a11, a20, a21, a30, a31, a40, a41, a50, a51, a60, a61, a62, a70, a71, a80, a81, ht⟩ := idx_facts t
  have h1 : (i 1).val < 1024 := (i 1).isLt
  constructor
  · intro h
    have := h 0
    change win0_8.index t 0 * 512 ≤ (i 0).val ∧ (i 0).val < win0_8.index t 0 * 512 + 512 at this
    rw [a80] at this; exact this
  · intro h a
    match a with
    | ⟨0, _⟩ =>
      show win0_8.index t 0 * 512 ≤ (i 0).val ∧ (i 0).val < win0_8.index t 0 * 512 + 512
      rw [a80]; exact h
    | ⟨1, _⟩ =>
      show win0_8.index t 1 * 1024 ≤ (i 1).val ∧ (i 1).val < win0_8.index t 1 * 1024 + 1024
      rw [a81, Nat.zero_mul, Nat.zero_add]
      exact ⟨Nat.zero_le _, h1⟩

theorem entry (c : Dev nD) : V m c main_v0 = m ((c : Thread nD τ).loc main_arg1) := by
  show StableHlo.after hostOps0 (fun b => m (c, b)) _ = _
  unfold hostOps0
  after_results_simp
  rfl

theorem final (c : Dev nD) : (dats m 0 c).arrAt 8 cfg0.N = G m c := by
  funext i
  rw [(dats m 0 c).arrAt_eq_piecewise 8 (G m c) (fun t _ => flushed_eq m c t) i]
  split
  · rfl
  · rename_i h
    have h0 : ¬ (i 0).val < 2048 := fun hlt => by
      refine h ⟨⟨(i 0).val / 512, by show _ < grid0.N; rw [N_0]; omega⟩, flush0_8 _, ?_⟩
      rw [mem_blk]
      dsimp only
      omega
    rw [A_eq]
    refine (congrFun (entry m c) i).trans ?_
    unfold G result
    rw [dif_neg h0]
    exact congrArg _ (funext fun a => by
      match a with
      | ⟨0, _⟩ => rfl
      | ⟨1, _⟩ => rfl)

/-- The kernel's run: the result at `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.KernelIdeal.Value.run_blocks m ρ)

end Cert.Combine

namespace Cert.CombineRef

open Idealize.ShloMosaic Idealize.ShloMosaic.TcCoe Idealize.SL.Sem
open Cert.ReferenceIdeal

variable (m : (ℓ : Loc nD τ sig) → Buf (Elt Ideal) ℓ) (ρ : Dev nD → PrngReg)

/-- The reference's frame at any float instance. -/
theorem frame {F : FTy → Type} [FloatOps F] (m : (ℓ : Loc nD τ sig) → Buf (Elt F) ℓ) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems rfl r.2⟩) (Cert.ReferenceIdeal.Value.run m ρ)

/-- The reference's result is the same function of its arguments. -/
theorem value (c : Dev nD) (i : S16384x1024.Idx) :
    Cert.ReferenceIdeal.Value.res_main_v33 m c i
      = Cert.Combine.result (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  rw [Cert.ReferenceIdeal.Read.val_main_v33_eq]
  refine Eq.trans (congrArg _ (funext fun a => ?_)) (Cert.Combine.ref_apply _ _ _ _ _ (i 0) (i 1))
  match a with
  | ⟨0, _⟩ => rfl
  | ⟨1, _⟩ => rfl

end Cert.CombineRef

end
-- ==== Proof.ValRef.lean ====
/-
  The reference's expert layer at one element.
-/
module

public import proofs.«01_k».proof.Proof.ValPay
public import proofs.«01_k».proof.Proof.Combine
public import proofs.«01_k».proof.Proof.MoeWords
public import proofs.«01_k».proof.Proof.Gen.Reference2Ideal.Read

@[expose] public section

noncomputable section

namespace Cert.MoeVal

open Idealize.ShloMosaic Idealize.ShloMosaic.TcCoe
open Cert.Reference2Ideal Cert.Reference2Ideal.Gen Cert.Reference2Ideal.Read

theorem ref_gu (x1 : S65536x512.Idx → BitVec 32) (x2 : S32x1024x2048.Idx → EReal) (x3 : S32x2048.Idx → EReal) (R : Fin 65536) (e : Fin 32) (f : Fin 2048) :
    val_main_v23 (F := Ideal) x1 x2 x3 (ix3 R e f) = gu (fun l => x1 (ix2 R l)) (fun q f => x2 (ix3 e q f)) (fun f => x3 (ix2 e f)) f := by
  unfold gu
  simp only [← Cert.Combine.low_half, ← Cert.Combine.high_half]
  pointwise [val_main_c, val_main_v13, val_main_v14, val_main_v15, val_main_c_0, val_main_v16, val_main_v17, val_main_v18, val_main_v19, val_main_v20, val_main_v21, val_main_v22, val_main_v23]
  rfl

/-- The reference's gated activation. -/
def swiR (g l : EReal) : EReal :=
  min g (Ideal.ofBits .f32 0x40E00000#32) * Ideal.div 1 (1 + Ideal.exp (-(Ideal.ofBits .f32 0x3FD9DB23#32 * min g (Ideal.ofBits .f32 0x40E00000#32))))
  * (min (Ideal.ofBits .f32 0x40E00000#32) (max (Ideal.ofBits .f32 0xC0E00000#32) l) + 1)

theorem ref_act (x1 : S65536x512.Idx → BitVec 32) (x2 : S32x1024x2048.Idx → EReal) (x3 : S32x2048.Idx → EReal) (R : Fin 65536) (e : Fin 32) (j : Fin 1024) :
    val_main_v40 (F := Ideal) x1 x2 x3 (ix3 R e j) = swiR (val_main_v23 (F := Ideal) x1 x2 x3 (ix3 R e ⟨j.val, by omega⟩)) (val_main_v23 (F := Ideal) x1 x2 x3 (ix3 R e ⟨1024 + j.val, by omega⟩)) := by
  unfold swiR
  generalize hy : val_main_v23 (F := Ideal) x1 x2 x3 = y
  pointwise [hy, val_main_v24, val_main_v25, val_main_cst, val_main_v26, val_main_v27, val_main_cst_1, val_main_cst_2, val_main_call1_v0, val_main_call1_v1, val_main_call1_v2, val_main_call1_v3, val_main_call1_v4, val_main_v28, val_main_cst_3, val_main_v29, val_main_v30, val_main_v31, val_main_v32, val_main_cst_4, val_main_v33, val_main_v34, val_main_cst_5, val_main_v35, val_main_v36, val_main_v37, val_main_cst_6, val_main_v38, val_main_v39, val_main_v40]
  rfl

theorem ref_y (x1 : S65536x512.Idx → BitVec 32) (x2 : S32x1024x2048.Idx → EReal) (x3 : S32x2048.Idx → EReal) (x4 : S32x1024x1024.Idx → EReal) (x5 : S32x1024.Idx → EReal)
    (e : Fin 32) (R : Fin 65536) (d : Fin 1024) :
    val_main_v44 (F := Ideal) x1 x2 x3 x4 x5 (ix3 e R d) = (∑ j : Fin 1024, val_main_v40 (F := Ideal) x1 x2 x3 (ix3 R e j) * x4 (ix3 e j d)) + x5 (ix2 e d) := by
  generalize hy : val_main_v40 (F := Ideal) x1 x2 x3 = y
  pointwise [hy, val_main_v41, val_main_v42, val_main_v43, val_main_v44]

theorem neg_const : Ideal.ofBits .f32 0xBFD9DB23#32 = -Ideal.ofBits .f32 0x3FD9DB23#32 := by
  have a1 : (0xBFD9DB23#32).extractLsb' (8 + 23) 1 = 1#1 := by decide
  have a2 : ((0xBFD9DB23#32).extractLsb' 23 8).toNat = 127 := by decide
  have a3 : ((0xBFD9DB23#32).extractLsb' 0 23).toNat = 5888803 := by decide
  have b1 : (0x3FD9DB23#32).extractLsb' (8 + 23) 1 = 0#1 := by decide
  have b2 : ((0x3FD9DB23#32).extractLsb' 23 8).toNat = 127 := by decide
  have b3 : ((0x3FD9DB23#32).extractLsb' 0 23).toNat = 5888803 := by decide
  show Ideal.ieee 8 23 (0xBFD9DB23#32) = -Ideal.ieee 8 23 (0x3FD9DB23#32)
  unfold Ideal.ieee
  rw [a1, a2, a3, b1, b2, b3]
  rw [if_neg (show ¬ (127 = 2 ^ 8 - 1) by decide), if_neg (show ¬ (127 = 0) by decide), if_neg (show ¬ (127 = 2 ^ 8 - 1) by decide), if_neg (show ¬ (127 = 0) by decide), ← EReal.coe_neg]
  refine congrArg _ ?_
  simp

theorem exp_nonneg (x : EReal) : 0 ≤ Ideal.exp x := by
  induction x using EReal.rec with
  | bot => exact le_rfl
  | top => exact le_top
  | coe r => exact EReal.coe_nonneg.mpr (Real.exp_pos r).le

theorem swi_eq (g l : EReal) : swiR g l = swi g l := by
  unfold swiR swi
  generalize min g (Ideal.ofBits .f32 0x40E00000#32) = a
  rw [neg_const, EReal.neg_mul]
  have h := exp_nonneg (-(Ideal.ofBits .f32 0x3FD9DB23#32 * a))
  generalize Ideal.exp (-(Ideal.ofBits .f32 0x3FD9DB23#32 * a)) = x at h
  have h0 : (1 : EReal) + x ≠ 0 := by
    have h1 : (1 : EReal) ≤ 1 + x := le_add_of_nonneg_right h
    exact (lt_of_lt_of_le one_pos h1).ne'
  unfold Ideal.div
  rw [if_neg h0, if_neg h0, one_mul]

/-- The reference's expert `e` on row `R`, read at one column. -/
theorem ref_ffn (x1 : S65536x512.Idx → BitVec 32) (x2 : S32x1024x2048.Idx → EReal) (x3 : S32x2048.Idx → EReal) (x4 : S32x1024x1024.Idx → EReal) (x5 : S32x1024.Idx → EReal)
    (e : Fin 32) (R : Fin 65536) (d : Fin 1024) :
    val_main_v44 (F := Ideal) x1 x2 x3 x4 x5 (ix3 e R d) = ffn (fun l => x1 (ix2 R l)) (fun q f => x2 (ix3 e q f)) (fun f => x3 (ix2 e f))
      (fun j d => x4 (ix3 e j d)) (fun d => x5 (ix2 e d)) d := by
  rw [ref_y]
  unfold ffn
  refine congrArg (· + x5 (ix2 e d)) (Finset.sum_congr rfl fun j _ => ?_)
  rw [ref_act, ref_gu, ref_gu, swi_eq]

open Cert.MoeNat
open Cert.Kernel2.Moe (cC tEnds w_ends w_c S_lt)

theorem ref_ends (C : S32.Idx → BitVec 32) (hs : S (cC C) 32 = 65536) (e : Fin 32) : val_main_v0 (F := Ideal) C (ix1 e) = BitVec.ofNat 32 (S (cC C) (e.val + 1)) := by
  have h : val_main_v0 (F := Ideal) C = tEnds C := rfl
  rw [h]
  exact w_ends C hs e

theorem ref_test (C : S32.Idx → BitVec 32) (e : Fin 32) (R : Fin 65536) :
    val_main_v12 (F := Ideal) C (ix2 e R) = IntOp.andi (IntOp.cmpi .sge (BitVec.ofNat 32 R.val) (val_main_v0 (F := Ideal) C (ix1 e) - C (ix1 e)))
      (IntOp.cmpi .slt (BitVec.ofNat 32 R.val) (val_main_v0 (F := Ideal) C (ix1 e))) := by
  generalize hy : val_main_v0 (F := Ideal) C = y
  pointwise [hy, val_main_v1, val_main_v2, val_main_v3, val_main_v4, val_main_v5, val_main_v6, val_main_v7, val_main_v8, val_main_v9, val_main_v10, val_main_v11, val_main_v12]
  rfl

theorem ref_sum (C : S32.Idx → BitVec 32) (x1 : S65536x512.Idx → BitVec 32) (x2 : S32x1024x2048.Idx → EReal) (x3 : S32x2048.Idx → EReal) (x4 : S32x1024x1024.Idx → EReal)
    (x5 : S32x1024.Idx → EReal) (R : Fin 65536) (d : Fin 1024) :
    val_main_v48 (F := Ideal) C x1 x2 x3 x4 x5 (ix2 R d)
      = ∑ e : Fin 32, if val_main_v12 (F := Ideal) C (ix2 e R) = 1#1 then val_main_v44 (F := Ideal) x1 x2 x3 x4 x5 (ix3 e R d) else 0 := by
  generalize hy : val_main_v44 (F := Ideal) x1 x2 x3 x4 x5 = y
  generalize ht : val_main_v12 (F := Ideal) C = t
  pointwise [hy, ht, val_main_v45, val_main_cst_7, val_main_call2_v0, val_main_call2_v1, val_main_call2_v2, val_main_v46, val_main_cst_8, val_main_v47, val_main_v48]
  refine Finset.sum_congr rfl fun e _ => ?_
  have hz : id (constant (F := Ideal) S_ .f32 0#32) ix0 = (0 : EReal) := Ideal.ofBits_zero .f32
  rw [hz]
  rfl

open Idealize.ShloMosaic.WordCmp in
theorem ref_mine (C : S32.Idx → BitVec 32) (hs : S (cC C) 32 = 65536) (e : Fin 32) (R : Fin 65536) :
    val_main_v12 (F := Ideal) C (ix2 e R) = 1#1 ↔ S (cC C) e.val ≤ R.val ∧ R.val < S (cC C) (e.val + 1) := by
  have h : S (cC C) (e.val + 1) = S (cC C) e.val + cC C e.val := ps_succ _ _
  have h1 := S_lt C hs e.val (by omega)
  have h2 := S_lt C hs (e.val + 1) (by omega)
  have hR := R.isLt
  have e1 : BitVec.ofNat 32 (S (cC C) (e.val + 1)) - C (ix1 e) = BitVec.ofNat 32 (S (cC C) e.val) := by
    have hc : C (ix1 e) = BitVec.ofNat 32 (cC C e.val) := w_c C hs e
    rw [hc, h]
    apply BitVec.eq_of_toNat_eq
    rw [BitVec.toNat_sub, BitVec.toNat_ofNat, BitVec.toNat_ofNat, BitVec.toNat_ofNat]
    omega
  have e2 : IntOp.cmpi .sge (BitVec.ofNat 32 R.val) (BitVec.ofNat 32 (S (cC C) e.val)) = BitVec.ofBool (decide (S (cC C) e.val ≤ R.val)) := by
    have h3 : IntOp.cmpi .sle (BitVec.ofNat 32 (S (cC C) e.val)) (BitVec.ofNat 32 R.val) = BitVec.ofBool (decide (S (cC C) e.val ≤ R.val)) :=
      cmpi_sle_ofNat (w := 32) (by omega) (by omega)
    exact h3
  rw [ref_test, ref_ends C hs, e1, e2, cmpi_slt_ofNat (w := 32) (by omega) (by omega)]
  unfold IntOp.andi
  by_cases ha : S (cC C) e.val ≤ R.val <;> by_cases hb : R.val < S (cC C) (e.val + 1) <;> simp [ha, hb]

/-- The reference: row `R` is computed by the one expert whose rows it is among. -/
theorem ref_value (C : S32.Idx → BitVec 32) (hs : S (cC C) 32 = 65536) (x1 : S65536x512.Idx → BitVec 32) (x2 : S32x1024x2048.Idx → EReal) (x3 : S32x2048.Idx → EReal)
    (x4 : S32x1024x1024.Idx → EReal) (x5 : S32x1024.Idx → EReal) (R : Fin 65536) (d : Fin 1024) (e : Fin 32)
    (h1 : S (cC C) e.val ≤ R.val) (h2 : R.val < S (cC C) (e.val + 1)) :
    val_main_v48 (F := Ideal) C x1 x2 x3 x4 x5 (ix2 R d) = ffn (fun l => x1 (ix2 R l)) (fun q f => x2 (ix3 e q f)) (fun f => x3 (ix2 e f))
      (fun j d => x4 (ix3 e j d)) (fun d => x5 (ix2 e d)) d := by
  rw [ref_sum, Finset.sum_eq_single e, if_pos ((ref_mine C hs e R).mpr ⟨h1, h2⟩), ref_ffn]
  · intro e' _ hne
    rw [if_neg]
    intro hm
    have h := (ref_mine C hs e' R).mp hm
    exact hne (Fin.ext (ps_unique (cC C) h.1 h.2 h1 h2))
  · intro h
    exact absurd (Finset.mem_univ e) h

end Cert.MoeVal
-- ==== Proof.ValSeq.lean ====
/-
  A run over the work items, on numbers: a block's rows after its last item hold what their items computed.
-/
module

public import proofs.«01_k».proof.Proof.MoeNat

@[expose] public section

namespace Cert.MoeVal

open Cert.MoeNat

variable (c : ℕ → ℕ) (hs : S c 32 = 65536)
include hs

theorem bk_le {j k : ℕ} (h : j ≤ k) : bk c j ≤ bk c k := monotone_nat_of_le_succ (bk_mono c hs) h

/-- After item `k`, a row some item of its block up to `k` owns holds that row's value. -/
theorem seq_inv {α : Type} (out : ℕ → Fin 512 → α) (G : ℕ → α)
    (hin : ∀ k, k < 160 → ∀ r : Fin 512, lo c k ≤ r.val → r.val < hi c k → out k r = G (bk c k * 512 + r.val))
    (hout : ∀ k, k + 1 < 160 → ∀ r : Fin 512, ¬ (lo c (k + 1) ≤ r.val ∧ r.val < hi c (k + 1)) → ¬ nb c (k + 1) → out (k + 1) r = out k r)
    (r : Fin 512) : ∀ k, k < 160 → ∀ j, j ≤ k → bk c j = bk c k → lo c j ≤ r.val → r.val < hi c j → out k r = G (bk c k * 512 + r.val) := by
  intro k
  induction k with
  | zero =>
    intro h0 j hj _ h1 h2
    obtain rfl : j = 0 := by omega
    exact hin 0 h0 r h1 h2
  | succ n ih =>
    intro hn j hj hb h1 h2
    by_cases hr : lo c (n + 1) ≤ r.val ∧ r.val < hi c (n + 1)
    · exact hin (n + 1) hn r hr.1 hr.2
    · have hj' : j ≤ n := by
        by_contra hlt
        obtain rfl : j = n + 1 := by omega
        exact hr ⟨h1, h2⟩
      have b1 := bk_le c hs hj'
      have b2 := bk_mono c hs n
      have b3 : bk c (n + 1) = bk c n := by omega
      have hnb : ¬ nb c (n + 1) := fun h => by
        rcases h.2 with h | h
        · omega
        · exact h b3
      rw [hout n hn r hr hnb, b3]
      exact ih (by omega) j hj' (by omega) h1 h2

/-- A row of the block of an item after which the block changes, or of the last item, holds its value. -/
theorem seq_final {α : Type} (out : ℕ → Fin 512 → α) (G : ℕ → α)
    (hin : ∀ k, k < 160 → ∀ r : Fin 512, lo c k ≤ r.val → r.val < hi c k → out k r = G (bk c k * 512 + r.val))
    (hout : ∀ k, k + 1 < 160 → ∀ r : Fin 512, ¬ (lo c (k + 1) ≤ r.val ∧ r.val < hi c (k + 1)) → ¬ nb c (k + 1) → out (k + 1) r = out k r)
    (t : ℕ) (ht : t < 160) (hl : t + 1 = 160 ∨ bk c (t + 1) ≠ bk c t) (r : Fin 512) : out t r = G (bk c t * 512 + r.val) := by
  have hb := bk_lt c hs t
  have hr := r.isLt
  obtain ⟨e, he, h1, h2⟩ := ps_find c 32 (bk c t * 512 + r.val) (by have : ps c 32 = 65536 := hs; omega)
  obtain ⟨j, hj, _, _, hbj, h3, h4⟩ := row_item c hs (R := bk c t * 512 + r.val) (by omega) he h1 h2
  have hbj' : bk c j = bk c t := by omega
  refine seq_inv c hs out G hin hout r t ht j ?_ hbj' (by omega) (by omega)
  by_contra hlt
  have b1 := bk_le c hs (show t + 1 ≤ j by omega)
  have b2 := bk_mono c hs t
  rcases hl with hl | hl
  · omega
  · exact hl (by omega)

/-- Every row's block has an item after which it changes, or the last one. -/
theorem seq_cover (R : ℕ) (hR : R < 65536) : ∃ t, t < 160 ∧ bk c t = R / 512 ∧ (t + 1 = 160 ∨ bk c (t + 1) ≠ bk c t) := by
  obtain ⟨e, he, h1, h2⟩ := ps_find c 32 R (by have : ps c 32 = 65536 := hs; omega)
  obtain ⟨j, hj, _, _, hbj, _, _⟩ := row_item c hs hR he h1 h2
  have key : ∀ n k, k + n = 159 → ∃ t, t < 160 ∧ bk c t = bk c k ∧ (t + 1 = 160 ∨ bk c (t + 1) ≠ bk c t) := by
    intro n
    induction n with
    | zero => exact fun k hk => ⟨k, by omega, rfl, Or.inl (by omega)⟩
    | succ n ih =>
      intro k hk
      by_cases h : bk c (k + 1) = bk c k
      · obtain ⟨t, a, b, d⟩ := ih (k + 1) (by omega)
        exact ⟨t, a, b.trans h, d⟩
      · exact ⟨k, by omega, rfl, Or.inr h⟩
  obtain ⟨t, a, b, d⟩ := key (159 - j) j (by omega)
  exact ⟨t, a, b.trans hbj, d⟩

end Cert.MoeVal
-- ==== Proof.ValOut.lean ====
/-
  What the expert kernel leaves of its result: the reference's value at the kernel's arguments.
-/
module

public import proofs.«01_k».proof.Proof.ValStep
public import proofs.«01_k».proof.Proof.ValWin
public import proofs.«01_k».proof.Proof.ValRef
public import proofs.«01_k».proof.Proof.ValSeq
public import Idealize.ShloMosaic.Lib.Pipeline.ValueKit.Geometry

@[expose] public section

set_option maxRecDepth 16384

noncomputable section

namespace Cert.MoeVal

open Idealize.ShloMosaic Idealize.ShloMosaic.TcCoe Idealize.ShloMosaic.StableHlo
open Cert.Kernel2Ideal Cert.Kernel2Ideal.Gen Cert.Kernel2Ideal.Moe
open Cert.Kernel2.Moe (cC tBlk tExp tLo tHi tInit w_blk w_exp w_lo w_hi w_init ex_lt toNat_small one_of_if)
open Cert.MoeNat

theorem pt_ix (k : ℕ) (hk : k < 160) : pt k = ix1 (⟨k, hk⟩ : Fin 160) := by
  funext a
  obtain rfl : a = 0 := Subsingleton.elim _ _
  exact Fin.ext (Nat.mod_eq_of_lt hk)

variable (m : (ℓ : Loc nD τ sig) → Buf (Elt Ideal) ℓ)

/-! ## The words of item `k`, as numbers -/

section words

variable (hs : S (cC (cnts m 0)) 32 = 65536) (k : ℕ) (hk : k < 160)
include hs hk

theorem n1 : (tw1 m (pt k)).toNat = bk (cC (cnts m 0)) k := by
  have h : tw1 m = tBlk (cnts m 0) := V_tBlk m 0
  rw [h, pt_ix k hk]
  exact (congrArg BitVec.toNat (w_blk (cnts m 0) hs ⟨k, hk⟩)).trans (toNat_small (cnts m 0) hs (bk_lt _ hs k) (by decide))

theorem n2 : (tw2 m (pt k)).toNat = ex (cC (cnts m 0)) k := by
  have h : tw2 m = tExp (cnts m 0) := V_tExp m 0
  rw [h, pt_ix k hk]
  exact (congrArg BitVec.toNat (w_exp (cnts m 0) hs ⟨k, hk⟩)).trans (toNat_small (cnts m 0) hs (ex_lt _ hs k) (by decide))

theorem n3 : (tw3 m (pt k)).toNat = lo (cC (cnts m 0)) k := by
  have hl := lo_le (cC (cnts m 0)) hs k
  have h : tw3 m = tLo (cnts m 0) := V_tLo m 0
  rw [h, pt_ix k hk]
  exact (congrArg BitVec.toNat (w_lo (cnts m 0) hs ⟨k, hk⟩)).trans (toNat_small (cnts m 0) hs (show lo (cC (cnts m 0)) k < 513 by omega) (by decide))

theorem n4 : (tw4 m (pt k)).toNat = hi (cC (cnts m 0)) k := by
  have hl := lo_le (cC (cnts m 0)) hs k
  have h : tw4 m = tHi (cnts m 0) := V_tHi m 0
  rw [h, pt_ix k hk]
  exact (congrArg BitVec.toNat (w_hi (cnts m 0) hs ⟨k, hk⟩)).trans (toNat_small (cnts m 0) hs (show hi (cC (cnts m 0)) k < 513 by omega) (by decide))

theorem n6 (h1 : tw6 m (pt k) = 1#32) : nb (cC (cnts m 0)) k := by
  have h : tw6 m = tInit (cnts m 0) := V_tInit m 0
  rw [h, pt_ix k hk] at h1
  exact one_of_if ((w_init (cnts m 0) hs ⟨k, hk⟩).symm.trans h1)

end words

/-! ## One row of item `k` -/

/-- The reference's value at the kernel's arguments. -/
def G : S65536x1024.Idx → EReal :=
  Cert.Reference2Ideal.Read.val_main_v48 (F := Ideal) (m (((0 : Dev nD) : Thread nD τ).loc main_arg0)) (m (((0 : Dev nD) : Thread nD τ).loc main_arg1)) (m (((0 : Dev nD) : Thread nD τ).loc main_arg2))
    (m (((0 : Dev nD) : Thread nD τ).loc main_arg3)) (m (((0 : Dev nD) : Thread nD τ).loc main_arg4)) (m (((0 : Dev nD) : Thread nD τ).loc main_arg5))

theorem ffn_congr (x x' : Fin 512 → BitVec 32) (wg wg' : Fin 1024 → Fin 2048 → EReal) (bg bg' : Fin 2048 → EReal) (wd wd' : Fin 1024 → Fin 1024 → EReal) (bd bd' : Fin 1024 → EReal)
    (d : Fin 1024) (hx : ∀ l, x l = x' l) (hwg : ∀ q f, wg q f = wg' q f) (hbg : ∀ f, bg f = bg' f) (hwd : ∀ j d, wd j d = wd' j d) (hbd : ∀ d, bd d = bd' d) :
    ffn x wg bg wd bd d = ffn x' wg' bg' wd' bd' d := by
  obtain rfl : x = x' := funext hx
  obtain rfl : wg = wg' := funext fun q => funext (hwg q)
  obtain rfl : bg = bg' := funext hbg
  obtain rfl : wd = wd' := funext fun q => funext (hwd q)
  obtain rfl : bd = bd' := funext hbd
  rfl

section row

variable (hO : Ok m) (hs : S (cC (cnts m 0)) 32 = 65536) (k : ℕ) (hk : k < 160)
include hs hk

theorem tF_pt : pt (tF m hO k).val = pt k := pt_mod k

theorem x_row (r : Fin 512) (R : Fin 65536) (hR : bk (cC (cnts m 0)) k * 512 + r.val = R.val) (l : Fin 512) :
    (iblk m hO 0 0 (tF m hO k) : S512x512.Idx → BitVec 32) (ix2 r l) = (m (((0 : Dev nD) : Thread nD τ).loc main_arg1) : S65536x512.Idx → BitVec 32) (ix2 R l) := by
  have h := read0 m hO (tF m hO k) (V m 0 main_arg1) r l R (by rw [tF_pt m hO hs k hk, n1 m hs k hk]; exact hR)
  exact h.trans (congrFun (V_main_arg1 m 0) _)

theorem bg_row (f : Fin 2048) :
    (iblk m hO 0 1 (tF m hO k) : S1x1x2048.Idx → EReal) (ix3 0 0 f)
      = (m (((0 : Dev nD) : Thread nD τ).loc main_arg3) : S32x2048.Idx → EReal) (ix2 ⟨ex (cC (cnts m 0)) k, ex_lt _ hs k⟩ f) := by
  have h := read1 m hO (tF m hO k) (V m 0 main_v95) f ⟨ex (cC (cnts m 0)) k, ex_lt _ hs k⟩ (by rw [tF_pt m hO hs k hk, n2 m hs k hk])
  exact h.trans ((congrFun (V_bg m 0) _).trans (spread_bg _ _ f))

theorem bd_row (f : Fin 1024) :
    (iblk m hO 0 2 (tF m hO k) : S1x1x1024.Idx → EReal) (ix3 0 0 f)
      = (m (((0 : Dev nD) : Thread nD τ).loc main_arg5) : S32x1024.Idx → EReal) (ix2 ⟨ex (cC (cnts m 0)) k, ex_lt _ hs k⟩ f) := by
  have h := read2 m hO (tF m hO k) (V m 0 main_v96) f ⟨ex (cC (cnts m 0)) k, ex_lt _ hs k⟩ (by rw [tF_pt m hO hs k hk, n2 m hs k hk])
  exact h.trans ((congrFun (V_bd m 0) _).trans (spread_bd _ _ f))

theorem e_row : eF (tw2 m (pt k)) = ⟨ex (cC (cnts m 0)) k, ex_lt _ hs k⟩ := by
  have h := ex_lt _ hs k
  refine Fin.ext ?_
  show (tw2 m (pt k)).toNat % 32 = _
  rw [n2 m hs k hk]
  exact Nat.mod_eq_of_lt h

theorem wg_row (q : Fin 1024) (f : Fin 2048) :
    slabG (V m 0 main_arg2) (eF (tw2 m (pt k))) (ix3 0 q f)
      = (m (((0 : Dev nD) : Thread nD τ).loc main_arg2) : S32x1024x2048.Idx → EReal) (ix3 ⟨ex (cC (cnts m 0)) k, ex_lt _ hs k⟩ q f) := by
  rw [e_row m hs k hk]
  exact congrFun (V_main_arg2 m 0) (ix3 ⟨ex (cC (cnts m 0)) k, ex_lt _ hs k⟩ q f)

theorem wd_row (q : Fin 1024) (f : Fin 1024) :
    slabD (V m 0 main_arg4) (eF (tw2 m (pt k))) (ix3 0 q f)
      = (m (((0 : Dev nD) : Thread nD τ).loc main_arg4) : S32x1024x1024.Idx → EReal) (ix3 ⟨ex (cC (cnts m 0)) k, ex_lt _ hs k⟩ q f) := by
  rw [e_row m hs k hk]
  exact congrFun (V_main_arg4 m 0) (ix3 ⟨ex (cC (cnts m 0)) k, ex_lt _ hs k⟩ q f)

/-- A row the item owns: what the item computes of it is the reference's row. -/
theorem row_is (r : Fin 512) (d : Fin 1024) (R : Fin 65536) (hR : bk (cC (cnts m 0)) k * 512 + r.val = R.val)
    (h1 : lo (cC (cnts m 0)) k ≤ r.val) (h2 : r.val < hi (cC (cnts m 0)) k) :
    rowVal (iblk m hO 0 0 (tF m hO k)) (iblk m hO 0 1 (tF m hO k)) (iblk m hO 0 2 (tF m hO k)) (slabG (V m 0 main_arg2) (eF (tw2 m (pt k)))) (slabD (V m 0 main_arg4) (eF (tw2 m (pt k)))) r d
      = G m (ix2 R d) := by
  have hr := r.isLt
  have hi := item_row (cC (cnts m 0)) hs (R := R.val) (k := k) (by omega) (by omega) (by omega)
  refine Eq.trans ?_ (ref_value (cnts m 0) hs (m (((0 : Dev nD) : Thread nD τ).loc main_arg1)) (m (((0 : Dev nD) : Thread nD τ).loc main_arg2)) (m (((0 : Dev nD) : Thread nD τ).loc main_arg3))
    (m (((0 : Dev nD) : Thread nD τ).loc main_arg4)) (m (((0 : Dev nD) : Thread nD τ).loc main_arg5)) R d ⟨ex (cC (cnts m 0)) k, ex_lt _ hs k⟩ hi.1 hi.2).symm
  exact ffn_congr _ _ _ _ _ _ _ _ _ _ d (x_row m hO hs k hk r R hR) (wg_row m hs k hk) (bg_row m hO hs k hk) (wd_row m hs k hk) (bd_row m hO hs k hk)

end row

/-! ## The output rows item by item -/

section out

variable (hO : Ok m) (hS : SchedM m) (hs : S (cC (cnts m 0)) 32 = 65536)
include hs

theorem step_in (k : ℕ) (hk : k < 160) (O : S512x1024.Idx → EReal) (r : Fin 512) (d : Fin 1024) (R : Fin 65536) (hR : bk (cC (cnts m 0)) k * 512 + r.val = R.val)
    (h1 : lo (cC (cnts m 0)) k ≤ r.val) (h2 : r.val < hi (cC (cnts m 0)) k) : stepN m hO hS 0 k O (ix2 r d) = G m (ix2 R d) := by
  have h := stAll_apply (tw8 m (pt k)) (tw3 m (pt k)) (tw4 m (pt k)) (chk7_at hS k) (iblk m hO 0 0 (tF m hO k)) (iblk m hO 0 1 (tF m hO k)) (iblk m hO 0 2 (tF m hO k))
    (slabG (V m 0 main_arg2) (eF (tw2 m (pt k)))) (slabD (V m 0 main_arg4) (eF (tw2 m (pt k)))) (hS.lo_hi k hk) (hS.hi k hk) (startOut (tw6 m (pt k)) O) r d
  rw [n3 m hs k hk, n4 m hs k hk] at h
  exact h.trans ((if_pos ⟨h1, h2⟩).trans (row_is m hO hs k hk r d R hR h1 h2))

theorem step_out (k : ℕ) (hk : k < 160) (O : S512x1024.Idx → EReal) (r : Fin 512) (d : Fin 1024)
    (h1 : ¬ (lo (cC (cnts m 0)) k ≤ r.val ∧ r.val < hi (cC (cnts m 0)) k)) (h2 : ¬ nb (cC (cnts m 0)) k) : stepN m hO hS 0 k O (ix2 r d) = O (ix2 r d) := by
  have h := stAll_apply (tw8 m (pt k)) (tw3 m (pt k)) (tw4 m (pt k)) (chk7_at hS k) (iblk m hO 0 0 (tF m hO k)) (iblk m hO 0 1 (tF m hO k)) (iblk m hO 0 2 (tF m hO k))
    (slabG (V m 0 main_arg2) (eF (tw2 m (pt k)))) (slabD (V m 0 main_arg4) (eF (tw2 m (pt k)))) (hS.lo_hi k hk) (hS.hi k hk) (startOut (tw6 m (pt k)) O) r d
  rw [n3 m hs k hk, n4 m hs k hk] at h
  have h3 : startOut (F := Ideal) (tw6 m (pt k)) O = O := by
    unfold startOut
    exact if_neg fun hc => h2 (n6 m hs k hk ((init_iff _).mp hc))
  exact h.trans ((if_neg h1).trans (congrFun h3 _))

/-- Row `R` of the result, column `d`, over all numbers. -/
def Gn (d : Fin 1024) (R : ℕ) : EReal := if h : R < 65536 then G m (ix2 ⟨R, h⟩ d) else 0

omit hs in
theorem Gn_at (d : Fin 1024) (R : Fin 65536) : Gn m d R.val = G m (ix2 R d) := dif_pos R.isLt

theorem out_in (k : ℕ) (hk : k < 160) (r : Fin 512) (d : Fin 1024) (h1 : lo (cC (cnts m 0)) k ≤ r.val) (h2 : r.val < hi (cC (cnts m 0)) k) :
    outN m hO hS 0 k (ix2 r d) = Gn m d (bk (cC (cnts m 0)) k * 512 + r.val) := by
  have hb := bk_lt (cC (cnts m 0)) hs k
  have hr := r.isLt
  have hg := Gn_at m d ⟨bk (cC (cnts m 0)) k * 512 + r.val, by omega⟩
  cases k with
  | zero => exact (step_in m hO hS hs 0 hk _ r d ⟨bk (cC (cnts m 0)) 0 * 512 + r.val, by omega⟩ rfl h1 h2).trans hg.symm
  | succ n => exact (step_in m hO hS hs (n + 1) hk _ r d ⟨bk (cC (cnts m 0)) (n + 1) * 512 + r.val, by omega⟩ rfl h1 h2).trans hg.symm

theorem out_last (t : ℕ) (ht : t < 160) (hl : t + 1 = 160 ∨ bk (cC (cnts m 0)) (t + 1) ≠ bk (cC (cnts m 0)) t) (r : Fin 512) (d : Fin 1024) (R : Fin 65536)
    (hR : bk (cC (cnts m 0)) t * 512 + r.val = R.val) : outN m hO hS 0 t (ix2 r d) = G m (ix2 R d) := by
  have h := seq_final (cC (cnts m 0)) hs (fun k r => outN m hO hS 0 k (ix2 r d)) (Gn m d) (fun k hk r h1 h2 => out_in m hO hS hs k hk r d h1 h2)
    (fun k hk r h1 h2 => step_out m hO hS hs (k + 1) hk _ r d h1 h2) t ht hl r
  refine h.trans ?_
  rw [hR]
  exact Gn_at m d R

/-! ## The result -/

omit hs in
theorem same_of_index (t : Fin (cfgM m hO).N) (h1 : t.val + 1 < (cfgM m hO).N) (h : tw1 m (pt (t.val + 1)) = tw1 m (pt t.val)) :
    ((cfgM m hO).win 3).index ⟨t.val + 1, h1⟩ = ((cfgM m hO).win 3).index t := by
  rw [index3, index3, show tw1 m (pt (⟨t.val + 1, h1⟩ : Fin (cfgM m hO).N).val) = tw1 m (pt t.val) from h]

omit hs in
theorem vec2_zero (a b : ℕ) (v w : Fin 2 → ℕ) (h : v = w) (hv : v = ![a, 0]) (hw : w = ![b, 0]) : a = b := by
  subst hv
  exact congrFun (h.trans hw) 0

theorem flush_last (t : Fin (cfgM m hO).N) (hf : ((cfgM m hO).win 3).flush t = true) : t.val + 1 = 160 ∨ bk (cC (cnts m 0)) (t.val + 1) ≠ bk (cC (cnts m 0)) t.val := by
  have hN := N_eq m hO
  rcases (Pipeline.Window.flush_out _ rfl _).mp hf with h1 | ⟨h1, h2⟩
  · exact Or.inl (h1.trans hN)
  · have h1' : t.val + 1 < 160 := lt_of_lt_of_eq h1 hN
    refine Or.inr fun he => h2 (same_of_index m hO t h1 (BitVec.eq_of_toNat_eq ?_))
    rw [n1 m hs (t.val + 1) (by omega), n1 m hs t.val (by omega), he]

theorem last_flush (t : Fin (cfgM m hO).N) (hl : t.val + 1 = 160 ∨ bk (cC (cnts m 0)) (t.val + 1) ≠ bk (cC (cnts m 0)) t.val) : ((cfgM m hO).win 3).flush t = true := by
  have hN := N_eq m hO
  refine (Pipeline.Window.flush_out _ rfl _).mpr ?_
  rcases hl with h | h
  · exact Or.inl (h.trans hN.symm)
  · by_cases h1 : t.val + 1 < (cfgM m hO).N
    · have h1' : t.val + 1 < 160 := lt_of_lt_of_eq h1 hN
      refine Or.inr ⟨h1, fun he => h ?_⟩
      have e := vec2_zero _ _ _ _ he (index3 m hO ⟨t.val + 1, h1⟩) (index3 m hO t)
      rw [n1 m hs (t.val + 1) (by omega), n1 m hs t.val (by omega)] at e
      exact e
    · exact Or.inl (le_antisymm t.isLt (not_lt.mp h1))

omit hs in
theorem emb3 (t : Fin (cfgM m hO).N) (R : Fin 65536) (d : Fin 1024) (i : Fin 512) (hR : (tw1 m (pt t.val)).toNat * 512 + i.val = R.val) :
    (((cfgM m hO).win 3).blk t).view.emb (ix2 i d) = (ix2 R d : S65536x1024.Idx) := by
  have h0 := at0 _ _ _ 512 i.val R.val (index3 m hO t) hR
  have h1 := at1 _ _ 1024 d.val (index3 m hO t)
  refine funext fun a => Fin.ext ?_
  match a with
  | ⟨0, _⟩ => exact h0
  | ⟨1, _⟩ => exact h1

omit hs in
theorem split2 (y : S512x1024.Idx) : ∃ (i : Fin 512) (d : Fin 1024), y = ix2 i d :=
  ⟨y 0, y 1, funext fun a => by
    match a with
    | ⟨0, _⟩ => rfl
    | ⟨1, _⟩ => rfl⟩

omit hs in
theorem split2' (y : S65536x1024.Idx) : ∃ (i : Fin 65536) (d : Fin 1024), y = ix2 i d :=
  ⟨y 0, y 1, funext fun a => by
    match a with
    | ⟨0, _⟩ => rfl
    | ⟨1, _⟩ => rfl⟩

theorem flushed_at (t : Fin (cfgM m hO).N) (hf : ((cfgM m hO).win 3).flush t = true) (y : S512x1024.Idx) :
    ((dats m hO hS 0 0).after 3 t : S512x1024.Idx → EReal) y = G m ((((cfgM m hO).win 3).blk t).view.emb y) := by
  obtain ⟨i, d, rfl⟩ := split2 y
  have ht := lt_N m hO t
  have hb := bk_lt (cC (cnts m 0)) hs t.val
  have hi := i.isLt
  have e := emb3 m hO t ⟨bk (cC (cnts m 0)) t.val * 512 + i.val, by omega⟩ d i (by rw [n1 m hs t.val ht])
  refine Eq.trans ?_ (congrArg (G m) e).symm
  exact (congrFun (after0_3 m hO hS 0 t) _).trans (out_last m hO hS hs t.val ht (flush_last m hO hs t hf) i d _ rfl)

theorem final : (dats m hO hS 0 0).arrAt 3 (cfgM m hO).N = G m := by
  refine Pipeline.Dat.arrAt_eq_of_emb (dats m hO hS 0 0) 3 (G m) (fun t hf y => flushed_at m hO hS hs t hf y) fun i => ?_
  obtain ⟨R, d, rfl⟩ := split2' i
  obtain ⟨t, ht, hb, hl⟩ := seq_cover (cC (cnts m 0)) hs R.val R.isLt
  have hN := N_eq m hO
  have hR := R.isLt
  refine ⟨⟨t, by omega⟩, last_flush m hO hs ⟨t, by omega⟩ hl, mem3 m hO ⟨t, by omega⟩ R d ⟨R.val % 512, by omega⟩ ?_⟩
  show (tw1 m (pt t)).toNat * 512 + R.val % 512 = R.val
  rw [n1 m hs t ht, hb]
  omega

end out

end Cert.MoeVal

end
-- ==== Proof.ValRun.lean ====
/-
  The expert kernel's run with its result, and the reference's run.
-/
module

public import proofs.«01_k».proof.Proof.ValOut
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.MoeVal

open Idealize.ShloMosaic Idealize.ShloMosaic.TcCoe Idealize.SL.Sem
open Cert.Kernel2Ideal Cert.Kernel2Ideal.Gen Cert.Kernel2Ideal.Moe
open Cert.Kernel2.Moe (cC)
open Cert.MoeNat

variable (m : (ℓ : Loc nD τ sig) → Buf (Elt Ideal) ℓ) (ρ : Dev nD → PrngReg)

/-- The result as the claim's buffer, core by core (there is one core). -/
def Gc (c : Dev nD) : Buf (Elt Ideal) ((c.tc : Thread nD τ).loc main_v97) :=
  Cert.Reference2Ideal.Read.val_main_v48 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The kernel's run: the result at the reference's value, the arguments unchanged. -/
theorem run (hs : S (cC (cnts m 0)) 32 = 65536) : θ_run defs (onTc (τ := τ) (main (F := Ideal))) ⟨m, fun _ => 0, ρ⟩ fun r => ∀ c : Dev nD,
      r.2.mem ((c.tc : Thread nD τ).loc main_v97) = Gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain rfl : c = 0 := Subsingleton.elim _ _
    exact ⟨(h.1 0).1.trans (final m (ok_of m (schedM_of m hs)) (schedM_of m hs) hs), (h.1 0).2⟩) (run_args m ρ (ok_of m (schedM_of m hs)) (schedM_of m hs))

end Cert.MoeVal

namespace Cert.MoeRef

open Idealize.ShloMosaic Idealize.ShloMosaic.TcCoe Idealize.SL.Sem
open Cert.Reference2Ideal

/-- The reference's frame at any float instance. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems rfl r.2⟩) (Cert.Reference2Ideal.Value.run m ρ)

end Cert.MoeRef

end
-- ==== Proof.ModVal.lean ====
/-
  The modulation call at the ideal instance: each row of the conditioning through `silu`, times the modulation
  weights, plus the bias, block of 1024 columns by block.
-/
module

public import proofs.«01_k».proof.Defs
public import proofs.«01_k».proof.Proof.Gen.Kernel3Ideal.Value
public import proofs.«01_k».proof.Proof.Gen.Reference3Ideal.Read
public import proofs.«01_k».proof.Proof.ValRef
public import Idealize.ShloMosaic.Lib.Pointwise
public import Idealize.ShloMosaic.Lib.Quiescent

@[expose] public section

noncomputable section

namespace Cert.Mod

open Idealize.ShloMosaic Idealize.ShloMosaic.TcCoe Idealize.SL.Sem
open Cert.Kernel3Ideal Cert.Kernel3Ideal.Gen

/-- One value through `silu`. -/
def silu (x : EReal) : EReal := Ideal.div x (1 + Ideal.exp (-x))

/-- The quotient is the product with the reciprocal: the denominator is at least one. -/
theorem silu_mul (x : EReal) : x * Ideal.div 1 (1 + Ideal.exp (-x)) = silu x := by
  unfold silu
  have h := Cert.MoeVal.exp_nonneg (-x)
  generalize Ideal.exp (-x) = y at h
  have h0 : (1 : EReal) + y ≠ 0 := by
    have h1 : (1 : EReal) ≤ 1 + y := le_add_of_nonneg_right h
    exact (lt_of_lt_of_le one_pos h1).ne'
  unfold Ideal.div
  rw [if_neg h0, if_neg h0, one_mul]

/-- One element of the result. -/
def modv (X : S8x1024.Idx → EReal) (W : S1024x6144.Idx → EReal) (B : S1x6144.Idx → EReal) (i : Fin 8) (J : Fin 6144) : EReal :=
  (∑ k : Fin 1024, silu (X (ix2 i k)) * W (ix2 k J)) + B (ix2 0 J)

theorem pay_apply (x : Vec Ideal S8x1024 .f32) (w : Vec Ideal S1024x1024 .f32) (b : Vec Ideal S1x1024 .f32) (i : Fin 8) (j : Fin 1024) :
    k0_pay1 x w b (ix2 i j) = (∑ k : Fin 1024, silu (x (ix2 i k)) * w (ix2 k j)) + b (ix2 0 j) := by
  unfold silu
  unfold_payloads
  pointwise
  simp only [sub_eq_add_neg, zero_add]

section
open Cert.Reference3Ideal.Read

theorem ref_apply (x0 : S4x1024.Idx → EReal) (x1 : S1024.Idx → EReal) (x2 : S1x1024x6144.Idx → EReal) (x3 : S1x6144.Idx → EReal) (i : Fin 8) (J : Fin 6144) :
    val_main_v9 (F := Ideal) x0 x1 x2 x3 (ix2 i J) = modv (val_main_v2 (F := Ideal) x0 x1) (val_main_v4 (F := Ideal) x2) (val_main_v7 (F := Ideal) x3) i J := by
  unfold modv
  generalize hX : val_main_v2 (F := Ideal) x0 x1 = X
  generalize hW : val_main_v4 (F := Ideal) x2 = W
  generalize hB : val_main_v7 (F := Ideal) x3 = B
  simp only [← silu_mul]
  pointwise [hX, hW, hB, val_main_call0_v0, val_main_call0_v1, val_main_call0_cst, val_main_call0_v2, val_main_call0_v3, val_main_call0_cst_0, val_main_call0_v4, val_main_call0_v5, val_main_v3, val_main_v5, val_main_v8, val_main_v9]

end

variable (m : (ℓ : Loc nD τ sig) → Buf (Elt Ideal) ℓ) (ρ : Dev nD → PrngReg)

theorem idx_facts : ∀ t : Fin cfg0.N, win0_0.index t 0 = 0 ∧ win0_0.index t 1 = 0 ∧ win0_1.index t 0 = 0 ∧ win0_1.index t 1 = t.val
    ∧ win0_2.index t 0 = 0 ∧ win0_2.index t 1 = t.val ∧ win0_3.index t 0 = 0 ∧ win0_3.index t 1 = t.val ∧ t.val < 6 :=
  (by decide +kernel : ∀ t : Fin grid0.N, win0_0.index t 0 = 0 ∧ win0_0.index t 1 = 0 ∧ win0_1.index t 0 = 0 ∧ win0_1.index t 1 = t.val
    ∧ win0_2.index t 0 = 0 ∧ win0_2.index t 1 = t.val ∧ win0_3.index t 0 = 0 ∧ win0_3.index t 1 = t.val ∧ t.val < 6)

theorem blk0 (c : Dev nD) (t : Fin cfg0.N) (X : S8x1024.Idx → EReal) (hX : V m c main_v2 = X) (i : Fin 8) (k : Fin 1024) :
    iblk m c 0 t (ix2 i k) = X (ix2 i k) := by
  obtain ⟨a00, a01, a10, a11, a20, a21, a30, a31, ht⟩ := idx_facts t
  unfold iblk
  refine (congrFun hX _).trans (congrArg _ (funext fun a => Fin.ext ?_))
  match a with
  | ⟨0, _⟩ =>
    show win0_0.index t 0 * 8 + 1 * i.val = i.val
    rw [a00]; omega
  | ⟨1, _⟩ =>
    show win0_0.index t 1 * 1024 + 1 * k.val = k.val
    rw [a01]; omega

theorem blk1 (c : Dev nD) (t : Fin cfg0.N) (W : S1024x6144.Idx → EReal) (hW : V m c main_v3 = W) (k : Fin 1024) (j : Fin 1024) (J : Fin 6144)
    (hJ : J.val = t.val * 1024 + j.val) : iblk m c 1 t (ix2 k j) = W (ix2 k J) := by
  obtain ⟨a00, a01, a10, a11, a20, a21, a30, a31, ht⟩ := idx_facts t
  unfold iblk
  refine (congrFun hW _).trans (congrArg _ (funext fun a => Fin.ext ?_))
  match a with
  | ⟨0, _⟩ =>
    show win0_1.index t 0 * 1024 + 1 * k.val = k.val
    rw [a10]; omega
  | ⟨1, _⟩ =>
    show win0_1.index t 1 * 1024 + 1 * j.val = J.val
    rw [a11, hJ]; omega

theorem blk2 (c : Dev nD) (t : Fin cfg0.N) (B : S1x6144.Idx → EReal) (hB : V m c main_v5 = B) (j : Fin 1024) (J : Fin 6144)
    (hJ : J.val = t.val * 1024 + j.val) : iblk m c 2 t (ix2 (0 : Fin 1) j) = B (ix2 (0 : Fin 1) J) := by
  obtain ⟨a00, a01, a10, a11, a20, a21, a30, a31, ht⟩ := idx_facts t
  unfold iblk
  refine (congrFun hB _).trans (congrArg _ (funext fun a => Fin.ext ?_))
  match a with
  | ⟨0, _⟩ =>
    show win0_2.index t 0 * 1 + 1 * 0 = 0
    rw [a20]
  | ⟨1, _⟩ =>
    show win0_2.index t 1 * 1024 + 1 * j.val = J.val
    rw [a21, hJ]; omega

theorem mem_blk (t : Fin cfg0.N) (i : S8x6144.Idx) :
    i ∈ ((cfg0.win 3).blk t).view.set ↔ t.val * 1024 ≤ (i 1).val ∧ (i 1).val < t.val * 1024 + 1024 := by
  show i ∈ ((View.whole main_v6).slice (win0_3.rect t)).set ↔ _
  rw [View.set_slice_whole, Rect.mem_set_unit]
  obtain ⟨a00, a01, a10, a11, a20, a21, a30, a31, ht⟩ := idx_facts t
  have h0 : (i 0).val < 8 := (i 0).isLt
  constructor
  · intro h
    have := h 1
    change win0_3.index t 1 * 1024 ≤ (i 1).val ∧ (i 1).val < win0_3.index t 1 * 1024 + 1024 at this
    rw [a31] at this; exact this
  · intro h a
    match a with
    | ⟨0, _⟩ =>
      show win0_3.index t 0 * 8 ≤ (i 0).val ∧ (i 0).val < win0_3.index t 0 * 8 + 8
      rw [a30, Nat.zero_mul, Nat.zero_add]
      exact ⟨Nat.zero_le _, h0⟩
    | ⟨1, _⟩ =>
      show win0_3.index t 1 * 1024 ≤ (i 1).val ∧ (i 1).val < win0_3.index t 1 * 1024 + 1024
      rw [a31]; exact h

theorem hz2 : (![0, 0] : Fin 2 → Nat) = fun _ => 0 := funext fun a => by fin_cases a <;> rfl

theorem ld0 (X : Vec Ideal S8x1024 .f32) : View.ld X r0_0 = X := View.ld_unit_zero (S := S8x1024) hz2 _ X
theorem ld1 (X : Vec Ideal S1024x1024 .f32) : View.ld X r0_1 = X := View.ld_unit_zero (S := S1024x1024) hz2 _ X
theorem ld2 (X : Vec Ideal S1x1024 .f32) : View.ld X r0_2 = X := View.ld_unit_zero (S := S1x1024) hz2 _ X

theorem canon0 (X : Vec Ideal S8x1024 .f32) : View.canon [(⟨r0_0, X⟩ : View.Piece (Elt Ideal) S8x1024 .f32)] = X :=
  View.canon_unit_zero (S := S8x1024) hz2 _ X

section
variable (c : Dev nD) (X : S8x1024.Idx → EReal) (hX : V m c main_v2 = X) (W : S1024x6144.Idx → EReal) (hW : V m c main_v3 = W)
  (B : S1x6144.Idx → EReal) (hB : V m c main_v5 = B)

/-- The result of the run, from the arrays the call is entered with. -/
def Gx (X : S8x1024.Idx → EReal) (W : S1024x6144.Idx → EReal) (B : S1x6144.Idx → EReal) : S8x6144.Idx → EReal := fun i => modv X W B (i 0) (i 1)

include hX hW hB

theorem out_apply (t : Fin cfg0.N) (i : Fin 8) (j : Fin 1024) (J : Fin 6144) (hJ : J.val = t.val * 1024 + j.val) :
    out0_3 (F := Ideal) (iblk m c 0 t) (iblk m c 1 t) (iblk m c 2 t) (ix2 i j) = Gx X W B (ix2 i J) := by
  unfold out0_3
  rw [ld0, ld1, ld2, canon0]
  refine (pay_apply _ _ _ i j).trans ?_
  show _ = modv X W B i J
  unfold modv
  rw [blk2 m c t B hB j J hJ]
  refine congrArg (· + B (ix2 (0 : Fin 1) J)) (Finset.sum_congr rfl fun k _ => ?_)
  rw [blk0 m c t X hX i k, blk1 m c t W hW k j J hJ]

theorem flushed_eq (t : Fin cfg0.N) : (dats m 0 c).flushed 3 t = ((cfg0.win 3).blk t).view.read (Elt Ideal) (Gx X W B) := by
  rw [Cert.Kernel3Ideal.Value.flushed3]
  funext x
  obtain ⟨a00, a01, a10, a11, a20, a21, a30, a31, ht⟩ := idx_facts t
  have h0 : (x 0).val < 8 := (x 0).isLt
  have h1 : (x 1).val < 1024 := (x 1).isLt
  have e : ix2 (⟨(x 0).val, h0⟩ : Fin 8) (⟨(x 1).val, h1⟩ : Fin 1024) = x := funext fun a => by
    match a with
    | ⟨0, _⟩ => rfl
    | ⟨1, _⟩ => rfl
  have h := out_apply m c X hX W hW B hB t ⟨(x 0).val, h0⟩ ⟨(x 1).val, h1⟩ ⟨t.val * 1024 + (x 1).val, by omega⟩ rfl
  rw [e] at h
  refine h.trans (congrArg (Gx X W B) (funext fun a => Fin.ext ?_))
  match a with
  | ⟨0, _⟩ =>
    show (x 0).val = win0_3.index t 0 * 8 + 1 * (x 0).val
    rw [a30]; omega
  | ⟨1, _⟩ =>
    show t.val * 1024 + (x 1).val = win0_3.index t 1 * 1024 + 1 * (x 1).val
    rw [a31]; omega

theorem final : (dats m 0 c).arrAt 3 cfg0.N = Gx X W B := by
  funext i
  rw [(dats m 0 c).arrAt_eq_piecewise 3 (Gx X W B) (fun t _ => flushed_eq m c X hX W hW B hB t) i]
  split
  · rfl
  · rename_i h
    have h0 : (i 0).val < 8 := (i 0).isLt
    have h1 : (i 1).val < 6144 := (i 1).isLt
    refine absurd ⟨⟨(i 1).val / 1024, by show _ < grid0.N; rw [N_0]; omega⟩, flush0_3 _, ?_⟩ h
    rw [mem_blk]
    dsimp only
    omega

end

open Cert.Reference3Ideal.Read in
/-- The conditioning rows the call is entered with. -/
theorem V_cc (c : Dev nD) : V m c main_v2 = val_main_v2 (F := Ideal) (m ((c : Thread nD τ).loc main_arg0)) (m ((c : Thread nD τ).loc main_arg1)) := by
  show StableHlo.after hostOps0 (fun b => m (c, b)) _ = _
  unfold hostOps0
  after_results_simp
  rfl

open Cert.Reference3Ideal.Read in
/-- The weights the call is entered with. -/
theorem V_w (c : Dev nD) : V m c main_v3 = val_main_v4 (F := Ideal) (m ((c : Thread nD τ).loc main_arg2)) := by
  show StableHlo.after hostOps0 (fun b => m (c, b)) _ = _
  unfold hostOps0
  after_results_simp
  rfl

open Cert.Reference3Ideal.Read in
/-- The bias the call is entered with. -/
theorem V_b (c : Dev nD) : V m c main_v5 = val_main_v7 (F := Ideal) (m ((c : Thread nD τ).loc main_arg3)) := by
  show StableHlo.after hostOps0 (fun b => m (c, b)) _ = _
  unfold hostOps0
  after_results_simp
  rfl

/-- The result of the run. -/
def G (c : Dev nD) : Buf (Elt Ideal) ((c : Thread nD τ).loc main_v6) :=
  Cert.Reference3Ideal.Read.val_main_v9 (F := Ideal) (m ((c : Thread nD τ).loc main_arg0)) (m ((c : Thread nD τ).loc main_arg1))
    (m ((c : Thread nD τ).loc main_arg2)) (m ((c : Thread nD τ).loc main_arg3))

theorem final_G (c : Dev nD) : (dats m 0 c).arrAt 3 cfg0.N = G m c := by
  refine (final m c _ (V_cc m c) _ (V_w m c) _ (V_b m c)).trans (funext fun i => ?_)
  refine (ref_apply _ _ _ _ (i 0) (i 1)).symm.trans (congrArg _ (funext fun a => ?_))
  match a with
  | ⟨0, _⟩ => rfl
  | ⟨1, _⟩ => rfl

/-- The kernel's run: the result at `G`, the arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_G m c), (h c).2⟩) (Cert.Kernel3Ideal.Value.run_blocks m ρ)

end Cert.Mod

namespace Cert.ModRef

open Idealize.ShloMosaic Idealize.ShloMosaic.TcCoe Idealize.SL.Sem
open Cert.Reference3Ideal

/-- The reference's frame at any float instance. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems rfl r.2⟩) (Cert.Reference3Ideal.Value.run m ρ)

end Cert.ModRef

end
-- ==== Proof.lean ====
module

public import proofs.«01_k».proof.Defs
public import proofs.«01_k».proof.Proof.Gen.Kernel
public import proofs.«01_k».proof.Proof.MoePre
public import proofs.«01_k».proof.Proof.ValRun
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Reference2Ideal
public import proofs.«01_k».proof.Proof.Gen.Reference2Ideal.Run
public import proofs.«01_k».proof.Proof.Gen.Reference2Ideal.Read
public import proofs.«01_k».proof.Proof.IMoePre
public import proofs.«01_k».proof.Proof.Gen.Kernel2
public import proofs.«01_k».proof.Proof.Gen.Kernel2Ideal
public import proofs.«01_k».proof.Proof.Gen.Pre_counts_ok
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Combine
public import proofs.«01_k».proof.Proof.ModVal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel2.Gen.facts, Cert.Kernel2Ideal.Gen.facts, Cert.Reference2Ideal.Gen.facts, Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Pre_counts_ok.Gen.facts,
  fun m ρ hp => Cert.Kernel2.Moe.frame m ρ (Cert.Kernel2.Moe.schedM_of m (Cert.Kernel2.Moe.sum_of_pre _ _ _ _ _ _ (hp 0))),
  fun m ρ hp => Cert.Kernel2Ideal.Moe.frame m ρ (Cert.Kernel2Ideal.Moe.schedM_of m (Cert.Kernel2.Moe.sum_of_pre _ _ _ _ _ _ (hp 0))),
  fun m ρ _ => Cert.MoeRef.frame m ρ, fun m ρ _ => Cert.MoeRef.frame m ρ,
  fun m ρ _ => Cert.Kernel.Gen.frame m ρ, fun m ρ _ => Cert.KernelIdeal.Gen.frame m ρ, fun m ρ _ => Cert.CombineRef.frame ρ m,
  fun m ρ _ => Cert.Kernel3.Gen.frame m ρ, fun m ρ _ => Cert.Kernel3Ideal.Gen.frame m ρ, fun m ρ _ => Cert.ModRef.frame m ρ, fun m ρ _ => Cert.Kernel4.Gen.frame m ρ,
  trivial,
  fun m g m' g' hp hag => ⟨fun c => Cert.MoeVal.Gc m c, Cert.MoeVal.run m g (Cert.Kernel2.Moe.sum_of_pre _ _ _ _ _ _ (hp 0)),
    (θ_run Cert.Reference2Ideal.defs _ _).mono (fun r h c => ⟨(h c).1.trans ((Cert.Reference2Ideal.Read.val_main_v48_eq m' c).trans (by
      rw [(hag c).1, (hag c).2.1, (hag c).2.2.1, (hag c).2.2.2.1, (hag c).2.2.2.2.1, (hag c).2.2.2.2.2]; rfl)), (h c).2⟩) (Cert.Reference2Ideal.Value.run m' g')⟩,
  trivial,
  fun m g m' g' _ hag => ⟨fun c => Cert.Combine.G m c, Cert.Combine.run m g, (θ_run Cert.ReferenceIdeal.defs _ _).mono (fun r h c => ⟨(h c).1.trans (funext fun i => by rw [Cert.CombineRef.value, (hag c).1, (hag c).2.1, (hag c).2.2.1, (hag c).2.2.2.1, (hag c).2.2.2.2]; rfl), (h c).2⟩) (Cert.ReferenceIdeal.Value.run m' g')⟩,
  trivial,
  fun m g m' g' _ hag => ⟨fun c => Cert.Mod.G m c, Cert.Mod.run m g, (θ_run Cert.Reference3Ideal.defs _ _).mono (fun r h c => ⟨(h c).1.trans ((Cert.Reference3Ideal.Read.val_main_v9_eq _ _ _ _).trans (by
    rw [(hag c).1, (hag c).2.1, (hag c).2.2.1, (hag c).2.2.2]; rfl)), (h c).2⟩) (Cert.Reference3Ideal.Value.run m' g')⟩⟩

end Cert.Proof

end
